-- ==== Defs.lean ====
def Pre_Kernel [hPre_indices_in_range : Cert.Pre_indices_in_range.Facts] (m : (ℓ : Loc Cert.Kernel.nD Cert.Kernel.τ Cert.Kernel.sig) → Buf (Elt Bits) ℓ) : Prop :=
  ∀ c : Dev Cert.Kernel.nD,
    (Cert.Pre_indices_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_range [hPre_indices_in_range : Cert.Pre_indices_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Argmin (m : (ℓ : Loc Cert.Argmin.nD Cert.Argmin.τ Cert.Argmin.sig) → Buf (Elt Bits) ℓ) : Prop :=
  True

def Pre_ArgminIdeal (m : (ℓ : Loc Cert.ArgminIdeal.nD Cert.ArgminIdeal.τ Cert.ArgminIdeal.sig) → Buf (Elt Ideal) ℓ) : Prop :=
  True

def Pre_ArgminIdeal_finite [hPre_finite : Cert.Pre_finite.Facts] (m : (ℓ : Loc Cert.ArgminIdeal.nD Cert.ArgminIdeal.τ Cert.ArgminIdeal.sig) → Buf (Elt Ideal) ℓ) : Prop :=
  ∀ c : Dev Cert.ArgminIdeal.nD,
    (Cert.Pre_finite.fn (F := Ideal) (m ((c.tc : Thread Cert.ArgminIdeal.nD Cert.ArgminIdeal.τ).loc Cert.ArgminIdeal.main_arg0)) (m ((c.tc : Thread Cert.ArgminIdeal.nD Cert.ArgminIdeal.τ).loc Cert.ArgminIdeal.main_arg1))) = (fun _ => 1#1)

def Pre_ArgminReferenceIdeal (m : (ℓ : Loc Cert.ArgminReferenceIdeal.nD Cert.ArgminReferenceIdeal.τ Cert.ArgminReferenceIdeal.sig) → Buf (Elt Ideal) ℓ) : Prop :=
  True

def Pre_ArgminReferenceIdeal_finite [hPre_finite : Cert.Pre_finite.Facts] (m : (ℓ : Loc Cert.ArgminReferenceIdeal.nD Cert.ArgminReferenceIdeal.τ Cert.ArgminReferenceIdeal.sig) → Buf (Elt Ideal) ℓ) : Prop :=
  ∀ c : Dev Cert.ArgminReferenceIdeal.nD,
    (Cert.Pre_finite.fn (F := Ideal) (m ((c.tc : Thread Cert.ArgminReferenceIdeal.nD Cert.ArgminReferenceIdeal.τ).loc Cert.ArgminReferenceIdeal.main_arg0)) (m ((c.tc : Thread Cert.ArgminReferenceIdeal.nD Cert.ArgminReferenceIdeal.τ).loc Cert.ArgminReferenceIdeal.main_arg1))) = (fun _ => 1#1)

def quiescent_Kernel [hKernel : Cert.Kernel.Facts] [hPre_indices_in_range : Cert.Pre_indices_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_indices_in_range [hReferenceIdeal : Cert.ReferenceIdeal.Facts] [hPre_indices_in_range : Cert.Pre_indices_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Argmin [hArgmin : Cert.Argmin.Facts] : Prop :=
  ∀ (m : (ℓ : Loc Cert.Argmin.nD Cert.Argmin.τ Cert.Argmin.sig) → Buf (Elt Bits) ℓ) (g : Dev Cert.Argmin.nD → PrngReg), Pre_Argmin m →
    θ_run (Cert.Argmin.defs (F := Bits)) (onTc (τ := Cert.Argmin.τ) (Cert.Argmin.main (F := Bits))) ⟨m, fun _ => 0, g⟩ (fun r => (∀ c : Dev Cert.Argmin.nD,
      r.2.mem ((c.tc : Thread Cert.Argmin.nD Cert.Argmin.τ).loc Cert.Argmin.main_arg0) = m ((c.tc : Thread Cert.Argmin.nD Cert.Argmin.τ).loc Cert.Argmin.main_arg0)
      ∧ r.2.mem ((c.tc : Thread Cert.Argmin.nD Cert.Argmin.τ).loc Cert.Argmin.main_arg1) = m ((c.tc : Thread Cert.Argmin.nD Cert.Argmin.τ).loc Cert.Argmin.main_arg1))
      ∧ r.2.sem = fun _ => 0)

def quiescent_ArgminIdeal [hArgminIdeal : Cert.ArgminIdeal.Facts] : Prop :=
  ∀ (m : (ℓ : Loc Cert.ArgminIdeal.nD Cert.ArgminIdeal.τ Cert.ArgminIdeal.sig) → Buf (Elt Ideal) ℓ) (g : Dev Cert.ArgminIdeal.nD → PrngReg), Pre_ArgminIdeal m →
    θ_run (Cert.ArgminIdeal.defs (F := Ideal)) (onTc (τ := Cert.ArgminIdeal.τ) (Cert.ArgminIdeal.main (F := Ideal))) ⟨m, fun _ => 0, g⟩ (fun r => (∀ c : Dev Cert.ArgminIdeal.nD,
      r.2.mem ((c.tc : Thread Cert.ArgminIdeal.nD Cert.ArgminIdeal.τ).loc Cert.ArgminIdeal.main_arg0) = m ((c.tc : Thread Cert.ArgminIdeal.nD Cert.ArgminIdeal.τ).loc Cert.ArgminIdeal.main_arg0)
      ∧ r.2.mem ((c.tc : Thread Cert.ArgminIdeal.nD Cert.ArgminIdeal.τ).loc Cert.ArgminIdeal.main_arg1) = m ((c.tc : Thread Cert.ArgminIdeal.nD Cert.ArgminIdeal.τ).loc Cert.ArgminIdeal.main_arg1))
      ∧ r.2.sem = fun _ => 0)

def quiescent_ArgminIdeal_pre_finite [hArgminIdeal : Cert.ArgminIdeal.Facts] [hPre_finite : Cert.Pre_finite.Facts] : Prop :=
  ∀ (m : (ℓ : Loc Cert.ArgminIdeal.nD Cert.ArgminIdeal.τ Cert.ArgminIdeal.sig) → Buf (Elt Ideal) ℓ) (g : Dev Cert.ArgminIdeal.nD → PrngReg), Pre_ArgminIdeal_finite m →
    θ_run (Cert.ArgminIdeal.defs (F := Ideal)) (onTc (τ := Cert.ArgminIdeal.τ) (Cert.ArgminIdeal.main (F := Ideal))) ⟨m, fun _ => 0, g⟩ (fun r => (∀ c : Dev Cert.ArgminIdeal.nD,
      r.2.mem ((c.tc : Thread Cert.ArgminIdeal.nD Cert.ArgminIdeal.τ).loc Cert.ArgminIdeal.main_arg0) = m ((c.tc : Thread Cert.ArgminIdeal.nD Cert.ArgminIdeal.τ).loc Cert.ArgminIdeal.main_arg0)
      ∧ r.2.mem ((c.tc : Thread Cert.ArgminIdeal.nD Cert.ArgminIdeal.τ).loc Cert.ArgminIdeal.main_arg1) = m ((c.tc : Thread Cert.ArgminIdeal.nD Cert.ArgminIdeal.τ).loc Cert.ArgminIdeal.main_arg1))
      ∧ r.2.sem = fun _ => 0)

def quiescent_ArgminReferenceIdeal [hArgminReferenceIdeal : Cert.ArgminReferenceIdeal.Facts] : Prop :=
  ∀ (m : (ℓ : Loc Cert.ArgminReferenceIdeal.nD Cert.ArgminReferenceIdeal.τ Cert.ArgminReferenceIdeal.sig) → Buf (Elt Ideal) ℓ) (g : Dev Cert.ArgminReferenceIdeal.nD → PrngReg), Pre_ArgminReferenceIdeal m →
    θ_run (Cert.ArgminReferenceIdeal.defs (F := Ideal)) (onTc (τ := Cert.ArgminReferenceIdeal.τ) (Cert.ArgminReferenceIdeal.main (F := Ideal))) ⟨m, fun _ => 0, g⟩ (fun r => (∀ c : Dev Cert.ArgminReferenceIdeal.nD,
      r.2.mem ((c.tc : Thread Cert.ArgminReferenceIdeal.nD Cert.ArgminReferenceIdeal.τ).loc Cert.ArgminReferenceIdeal.main_arg0) = m ((c.tc : Thread Cert.ArgminReferenceIdeal.nD Cert.ArgminReferenceIdeal.τ).loc Cert.ArgminReferenceIdeal.main_arg0)
      ∧ r.2.mem ((c.tc : Thread Cert.ArgminReferenceIdeal.nD Cert.ArgminReferenceIdeal.τ).loc Cert.ArgminReferenceIdeal.main_arg1) = m ((c.tc : Thread Cert.ArgminReferenceIdeal.nD Cert.ArgminReferenceIdeal.τ).loc Cert.ArgminReferenceIdeal.main_arg1))
      ∧ r.2.sem = fun _ => 0)

def quiescent_ArgminReferenceIdeal_pre_finite [hArgminReferenceIdeal : Cert.ArgminReferenceIdeal.Facts] [hPre_finite : Cert.Pre_finite.Facts] : Prop :=
  ∀ (m : (ℓ : Loc Cert.ArgminReferenceIdeal.nD Cert.ArgminReferenceIdeal.τ Cert.ArgminReferenceIdeal.sig) → Buf (Elt Ideal) ℓ) (g : Dev Cert.ArgminReferenceIdeal.nD → PrngReg), Pre_ArgminReferenceIdeal_finite m →
    θ_run (Cert.ArgminReferenceIdeal.defs (F := Ideal)) (onTc (τ := Cert.ArgminReferenceIdeal.τ) (Cert.ArgminReferenceIdeal.main (F := Ideal))) ⟨m, fun _ => 0, g⟩ (fun r => (∀ c : Dev Cert.ArgminReferenceIdeal.nD,
      r.2.mem ((c.tc : Thread Cert.ArgminReferenceIdeal.nD Cert.ArgminReferenceIdeal.τ).loc Cert.ArgminReferenceIdeal.main_arg0) = m ((c.tc : Thread Cert.ArgminReferenceIdeal.nD Cert.ArgminReferenceIdeal.τ).loc Cert.ArgminReferenceIdeal.main_arg0)
      ∧ r.2.mem ((c.tc : Thread Cert.ArgminReferenceIdeal.nD Cert.ArgminReferenceIdeal.τ).loc Cert.ArgminReferenceIdeal.main_arg1) = m ((c.tc : Thread Cert.ArgminReferenceIdeal.nD Cert.ArgminReferenceIdeal.τ).loc Cert.ArgminReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Argmin_ArgminIdeal : Prop :=
  True

def algebraic_ArgminIdeal_ArgminReferenceIdeal_pre_finite [hArgminIdeal : Cert.ArgminIdeal.Facts] [hArgminReferenceIdeal : Cert.ArgminReferenceIdeal.Facts] [hPre_finite : Cert.Pre_finite.Facts] : Prop :=
  ∀ (m : (ℓ : Loc Cert.ArgminIdeal.nD Cert.ArgminIdeal.τ Cert.ArgminIdeal.sig) → Buf (Elt Ideal) ℓ) (g : Dev Cert.ArgminIdeal.nD → PrngReg)
    (m' : (ℓ : Loc Cert.ArgminReferenceIdeal.nD Cert.ArgminReferenceIdeal.τ Cert.ArgminReferenceIdeal.sig) → Buf (Elt Ideal) ℓ) (g' : Dev Cert.ArgminReferenceIdeal.nD → PrngReg), Pre_ArgminIdeal_finite m →
    (∀ c : Dev Cert.ArgminIdeal.nD,
      m' ((c.tc : Thread Cert.ArgminReferenceIdeal.nD Cert.ArgminReferenceIdeal.τ).loc Cert.ArgminReferenceIdeal.main_arg0) = m ((c.tc : Thread Cert.ArgminIdeal.nD Cert.ArgminIdeal.τ).loc Cert.ArgminIdeal.main_arg0)
      ∧ m' ((c.tc : Thread Cert.ArgminReferenceIdeal.nD Cert.ArgminReferenceIdeal.τ).loc Cert.ArgminReferenceIdeal.main_arg1) = m ((c.tc : Thread Cert.ArgminIdeal.nD Cert.ArgminIdeal.τ).loc Cert.ArgminIdeal.main_arg1)) →
    ∃ (v0 : (c : Dev Cert.ArgminIdeal.nD) → Buf (Elt Ideal) ((c.tc : Thread Cert.ArgminIdeal.nD Cert.ArgminIdeal.τ).loc Cert.ArgminIdeal.main_v18)) (v1 : (c : Dev Cert.ArgminIdeal.nD) → Buf (Elt Ideal) ((c.tc : Thread Cert.ArgminIdeal.nD Cert.ArgminIdeal.τ).loc Cert.ArgminIdeal.main_v15)),
      θ_run (Cert.ArgminIdeal.defs (F := Ideal)) (onTc (τ := Cert.ArgminIdeal.τ) (Cert.ArgminIdeal.main (F := Ideal))) ⟨m, fun _ => 0, g⟩ (fun r => ∀ c : Dev Cert.ArgminIdeal.nD,
          r.2.mem ((c.tc : Thread Cert.ArgminIdeal.nD Cert.ArgminIdeal.τ).loc Cert.ArgminIdeal.main_v18) = v0 c
          ∧ r.2.mem ((c.tc : Thread Cert.ArgminIdeal.nD Cert.ArgminIdeal.τ).loc Cert.ArgminIdeal.main_v15) = v1 c
          ∧ r.2.mem ((c.tc : Thread Cert.ArgminIdeal.nD Cert.ArgminIdeal.τ).loc Cert.ArgminIdeal.main_arg0) = m ((c.tc : Thread Cert.ArgminIdeal.nD Cert.ArgminIdeal.τ).loc Cert.ArgminIdeal.main_arg0)
          ∧ r.2.mem ((c.tc : Thread Cert.ArgminIdeal.nD Cert.ArgminIdeal.τ).loc Cert.ArgminIdeal.main_arg1) = m ((c.tc : Thread Cert.ArgminIdeal.nD Cert.ArgminIdeal.τ).loc Cert.ArgminIdeal.main_arg1))
      ∧ θ_run (Cert.ArgminReferenceIdeal.defs (F := Ideal)) (onTc (τ := Cert.ArgminReferenceIdeal.τ) (Cert.ArgminReferenceIdeal.main (F := Ideal))) ⟨m', fun _ => 0, g'⟩ (fun r => ∀ c : Dev Cert.ArgminReferenceIdeal.nD,
          r.2.mem ((c.tc : Thread Cert.ArgminReferenceIdeal.nD Cert.ArgminReferenceIdeal.τ).loc Cert.ArgminReferenceIdeal.main_v25) = v0 c
          ∧ r.2.mem ((c.tc : Thread Cert.ArgminReferenceIdeal.nD Cert.ArgminReferenceIdeal.τ).loc Cert.ArgminReferenceIdeal.main_v26) = v1 c
          ∧ r.2.mem ((c.tc : Thread Cert.ArgminReferenceIdeal.nD Cert.ArgminReferenceIdeal.τ).loc Cert.ArgminReferenceIdeal.main_arg0) = m' ((c.tc : Thread Cert.ArgminReferenceIdeal.nD Cert.ArgminReferenceIdeal.τ).loc Cert.ArgminReferenceIdeal.main_arg0)
          ∧ r.2.mem ((c.tc : Thread Cert.ArgminReferenceIdeal.nD Cert.ArgminReferenceIdeal.τ).loc Cert.ArgminReferenceIdeal.main_arg1) = m' ((c.tc : Thread Cert.ArgminReferenceIdeal.nD Cert.ArgminReferenceIdeal.τ).loc Cert.ArgminReferenceIdeal.main_arg1))

def Claim : Prop :=
  ∃ (hKernel : Cert.Kernel.Facts) (hKernelIdeal : Cert.KernelIdeal.Facts) (hReferenceIdeal : Cert.ReferenceIdeal.Facts) (hArgmin : Cert.Argmin.Facts) (hArgminIdeal : Cert.ArgminIdeal.Facts) (hArgminReferenceIdeal : Cert.ArgminReferenceIdeal.Facts) (hPre_indices_in_range : Cert.Pre_indices_in_range.Facts) (hPre_finite : Cert.Pre_finite.Facts),
    quiescent_Kernel (hKernel := hKernel) (hPre_indices_in_range := hPre_indices_in_range)
    ∧ quiescent_KernelIdeal (hKernelIdeal := hKernelIdeal) (hPre_indices_in_range := hPre_indices_in_range)
    ∧ quiescent_ReferenceIdeal (hReferenceIdeal := hReferenceIdeal)
    ∧ quiescent_ReferenceIdeal_pre_indices_in_range (hReferenceIdeal := hReferenceIdeal) (hPre_indices_in_range := hPre_indices_in_range)
    ∧ quiescent_Argmin (hArgmin := hArgmin)
    ∧ quiescent_ArgminIdeal (hArgminIdeal := hArgminIdeal)
    ∧ quiescent_ArgminIdeal_pre_finite (hArgminIdeal := hArgminIdeal) (hPre_finite := hPre_finite)
    ∧ quiescent_ArgminReferenceIdeal (hArgminReferenceIdeal := hArgminReferenceIdeal)
    ∧ quiescent_ArgminReferenceIdeal_pre_finite (hArgminReferenceIdeal := hArgminReferenceIdeal) (hPre_finite := hPre_finite)
    ∧ preserves_Kernel_KernelIdeal
    ∧ algebraic_KernelIdeal_ReferenceIdeal (hKernelIdeal := hKernelIdeal) (hReferenceIdeal := hReferenceIdeal) (hPre_indices_in_range := hPre_indices_in_range)
    ∧ preserves_Argmin_ArgminIdeal
    ∧ algebraic_ArgminIdeal_ArgminReferenceIdeal_pre_finite (hArgminIdeal := hArgminIdeal) (hArgminReferenceIdeal := hArgminReferenceIdeal) (hPre_finite := hPre_finite)
-- ==== Pre_finite.lean ====
abbrev S64x128x32x32 : Shape := ⟨4, ![64, 128, 32, 32]⟩
abbrev S16x512x8 : Shape := ⟨3, ![16, 512, 8]⟩
abbrev S_ : Shape := ⟨0, ![]⟩

class Facts : Prop where
  bcast_S_S64x128x32x32 : S_.BroadcastsInDim S64x128x32x32 (![] : Fin 0 → Fin S64x128x32x32.rank)
  reducesTo_S64x128x32x32_S_d0_1_2_3 : S64x128x32x32.ReducesTo [0, 1, 2, 3] S_
  h_S_ : 0 < S_.numel
  bcast_S_S16x512x8 : S_.BroadcastsInDim S16x512x8 (![] : Fin 0 → Fin S16x512x8.rank)
  reducesTo_S16x512x8_S_d0_1_2 : S16x512x8.ReducesTo [0, 1, 2] S_

variable [Facts]

def fn {F : FTy → Type} [FloatOps F] (main_arg0 : FVec F S64x128x32x32 .f32) (main_arg1 : FVec F S16x512x8 .f32) : IVec S_ 1 :=
  let main_v0 : FVec F S64x128x32x32 .f32 := Host.absf main_arg0
  let main_cst : FVec F S_ .f32 := constant S_ .f32 0x7F800000#32
  let main_v1 : FVec F S64x128x32x32 .f32 := broadcastInDim S64x128x32x32 ![] bcast_S_S64x128x32x32 main_cst
  let main_v2 : IVec S64x128x32x32 1 := cmpf .olt main_v0 main_v1
  let main_c : IVec S_ 1 := constantI S_ 1 1#1
  let main_v3 : IVec S_ 1 := (fun x v => Host.reduce IntOp.andi x v reducesTo_S64x128x32x32_S_d0_1_2_3 h_S_) main_v2 main_c
  let main_v4 : FVec F S16x512x8 .f32 := Host.absf main_arg1
  let main_cst_0 : FVec F S_ .f32 := constant S_ .f32 0x7F800000#32
  let main_v5 : FVec F S16x512x8 .f32 := broadcastInDim S16x512x8 ![] bcast_S_S16x512x8 main_cst_0
  let main_v6 : IVec S16x512x8 1 := cmpf .olt main_v4 main_v5
  let main_c_1 : IVec S_ 1 := constantI S_ 1 1#1
  let main_v7 : IVec S_ 1 := (fun x v => Host.reduce IntOp.andi x v reducesTo_S16x512x8_S_d0_1_2 h_S_) main_v6 main_c_1
  let main_v8 : IVec S_ 1 := andi main_v3 main_v7
  main_v8
-- ==== Pre_indices_in_range.lean ====
abbrev S64x128x32x32 : Shape := ⟨4, ![64, 128, 32, 32]⟩
abbrev S16x512x8 : Shape := ⟨3, ![16, 512, 8]⟩
abbrev S64x32x32x16 : Shape := ⟨4, ![64, 32, 32, 16]⟩
abbrev S_ : Shape := ⟨0, ![]⟩

class Facts : Prop where
  bcast_S_S64x32x32x16 : S_.BroadcastsInDim S64x32x32x16 (![] : Fin 0 → Fin S64x32x32x16.rank)
  reducesTo_S64x32x32x16_S_d0_1_2_3 : S64x32x32x16.ReducesTo [0, 1, 2, 3] S_
  h_S_ : 0 < S_.numel

variable [Facts]

def fn {F : FTy → Type} [FloatOps F] (main_arg0 : FVec F S64x128x32x32 .f32) (main_arg1 : FVec F S16x512x8 .f32) (main_arg2 : IVec S64x32x32x16 32) : IVec S_ 1 :=
  let main_c : IVec S_ 32 := constantI S_ 32 0#32
  let main_v0 : IVec S64x32x32x16 32 := broadcastInDim S64x32x32x16 ![] bcast_S_S64x32x32x16 main_c
  let main_v1 : IVec S64x32x32x16 1 := cmpi .sge main_arg2 main_v0
  let main_c_0 : IVec S_ 32 := constantI S_ 32 512#32
  let main_v2 : IVec S64x32x32x16 32 := broadcastInDim S64x32x32x16 ![] bcast_S_S64x32x32x16 main_c_0
  let main_v3 : IVec S64x32x32x16 1 := cmpi .slt main_arg2 main_v2
  let main_v4 : IVec S64x32x32x16 1 := andi main_v1 main_v3
  let main_c_1 : IVec S_ 1 := constantI S_ 1 1#1
  let main_v5 : IVec S_ 1 := (fun x v => Host.reduce IntOp.andi x v reducesTo_S64x32x32x16_S_d0_1_2_3 h_S_) main_v4 main_c_1
  main_v5
-- ==== Kernel.lean ====
abbrev S64x128x32x32 : Shape := ⟨4, ![64, 128, 32, 32]⟩
abbrev S16x512x8 : Shape := ⟨3, ![16, 512, 8]⟩
abbrev S64x32x32x16 : Shape := ⟨4, ![64, 32, 32, 16]⟩
abbrev S64x128x1024 : Shape := ⟨3, ![64, 128, 1024]⟩
abbrev S65536 : Shape := ⟨1, ![65536]⟩
abbrev S16 : Shape := ⟨1, ![16]⟩
abbrev S_ : Shape := ⟨0, ![]⟩
abbrev S64x1024x16 : Shape := ⟨3, ![64, 1024, 16]⟩
abbrev S32x128x1024 : Shape := ⟨3, ![32, 128, 1024]⟩
abbrev S32x1024x16 : Shape := ⟨3, ![32, 1024, 16]⟩
abbrev S1x1x16 : Shape := ⟨3, ![1, 1, 16]⟩
abbrev S524288 : Shape := ⟨1, ![524288]⟩
abbrev S4194304 : Shape := ⟨1, ![4194304]⟩
abbrev S4096 : Shape := ⟨1, ![4096]⟩
abbrev S32768 : Shape := ⟨1, ![32768]⟩
abbrev S1x128x1024 : Shape := ⟨3, ![1, 128, 1024]⟩
abbrev S131072 : Shape := ⟨1, ![131072]⟩
abbrev S128x1024 : Shape := ⟨2, ![128, 1024]⟩
abbrev S1024x128 : Shape := ⟨2, ![1024, 128]⟩

abbrev nBuf : Table → Nat
  | .hbm => 28
  | .local .tc .vmem => 12
  | .local .scVector .vmem => 6
  | _ => 0

abbrev bufTy : (tb : Table) → Fin (nBuf tb) → BufTy
  | .hbm, ⟨0, _⟩ => ⟨S64x128x32x32, .f32⟩
  | .hbm, ⟨1, _⟩ => ⟨S16x512x8, .f32⟩
  | .hbm, ⟨2, _⟩ => ⟨S64x32x32x16, .i32⟩
  | .hbm, ⟨3, _⟩ => ⟨S64x128x1024, .f32⟩
  | .hbm, ⟨4, _⟩ => ⟨S65536, .f32⟩
  | .hbm, ⟨5, _⟩ => ⟨S16, .i32⟩
  | .hbm, ⟨6, _⟩ => ⟨S_, .i32⟩
  | .hbm, ⟨7, _⟩ => ⟨S16, .i32⟩
  | .hbm, ⟨8, _⟩ => ⟨S16, .i32⟩
  | .hbm, ⟨9, _⟩ => ⟨S64x1024x16, .i32⟩
  | .hbm, ⟨10, _⟩ => ⟨S32x128x1024, .f32⟩
  | .hbm, ⟨11, _⟩ => ⟨S32x1024x16, .i32⟩
  | .hbm, ⟨12, _⟩ => ⟨S1x1x16, .i32⟩
  | .hbm, ⟨13, _⟩ => ⟨S32x1024x16, .i32⟩
  | .hbm, ⟨14, _⟩ => ⟨S32x1024x16, .i32⟩
  | .hbm, ⟨15, _⟩ => ⟨S524288, .i32⟩
  | .hbm, ⟨16, _⟩ => ⟨S4194304, .f32⟩
  | .hbm, ⟨17, _⟩ => ⟨S32x128x1024, .f32⟩
  | .hbm, ⟨18, _⟩ => ⟨S32x128x1024, .f32⟩
  | .hbm, ⟨19, _⟩ => ⟨S32x1024x16, .i32⟩
  | .hbm, ⟨20, _⟩ => ⟨S1x1x16, .i32⟩
  | .hbm, ⟨21, _⟩ => ⟨S32x1024x16, .i32⟩
  | .hbm, ⟨22, _⟩ => ⟨S32x1024x16, .i32⟩
  | .hbm, ⟨23, _⟩ => ⟨S524288, .i32⟩
  | .hbm, ⟨24, _⟩ => ⟨S4194304, .f32⟩
  | .hbm, ⟨25, _⟩ => ⟨S32x128x1024, .f32⟩
  | .hbm, ⟨26, _⟩ => ⟨S64x128x1024, .f32⟩
  | .hbm, ⟨27, _⟩ => ⟨S64x128x32x32, .f32⟩
  | .local .tc .vmem, ⟨0, _⟩ => ⟨S1x128x1024, .f32⟩
  | .local .tc .vmem, ⟨1, _⟩ => ⟨S1x128x1024, .f32⟩
  | .local .tc .vmem, ⟨2, _⟩ => ⟨S131072, .f32⟩
  | .local .tc .vmem, ⟨3, _⟩ => ⟨S131072, .f32⟩
  | .local .tc .vmem, ⟨4, _⟩ => ⟨S1x128x1024, .f32⟩
  | .local .tc .vmem, ⟨5, _⟩ => ⟨S1x128x1024, .f32⟩
  | .local .tc .vmem, ⟨6, _⟩ => ⟨S1x128x1024, .f32⟩
  | .local .tc .vmem, ⟨7, _⟩ => ⟨S1x128x1024, .f32⟩
  | .local .tc .vmem, ⟨8, _⟩ => ⟨S131072, .f32⟩
  | .local .tc .vmem, ⟨9, _⟩ => ⟨S131072, .f32⟩
  | .local .tc .vmem, ⟨10, _⟩ => ⟨S1x128x1024, .f32⟩
  | .local .tc .vmem, ⟨11, _⟩ => ⟨S1x128x1024, .f32⟩
  | .local .scVector .vmem, ⟨0, _⟩ => ⟨S65536, .f32⟩
  | .local .scVector .vmem, ⟨1, _⟩ => ⟨S4096, .i32⟩
  | .local .scVector .vmem, ⟨2, _⟩ => ⟨S32768, .f32⟩
  | .local .scVector .vmem, ⟨3, _⟩ => ⟨S65536, .f32⟩
  | .local .scVector .vmem, ⟨4, _⟩ => ⟨S4096, .i32⟩
  | .local .scVector .vmem, ⟨5, _⟩ => ⟨S32768, .f32⟩
  | _, _ => ⟨S64x128x32x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | ⟨13, _⟩ => false
  | ⟨14, _⟩ => true
  | ⟨15, _⟩ => true
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v1_scv : Ref sig .scVector := ⟨.hbm, 4, rfl⟩
abbrev main_v11_scv : Ref sig .scVector := ⟨.hbm, 15, rfl⟩
abbrev main_v12_scv : Ref sig .scVector := ⟨.hbm, 16, rfl⟩
abbrev main_v19_scv : Ref sig .scVector := ⟨.hbm, 23, rfl⟩
abbrev main_v20_scv : Ref sig .scVector := ⟨.hbm, 24, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc3_stg0_0 : Ref sig .tc := ⟨.vmem, 6, rfl⟩
abbrev cc3_stg0_1 : Ref sig .tc := ⟨.vmem, 7, rfl⟩
abbrev cc3_stg1_0 : Ref sig .tc := ⟨.vmem, 8, rfl⟩
abbrev cc3_stg1_1 : Ref sig .tc := ⟨.vmem, 9, rfl⟩
abbrev cc3_stg2_0 : Ref sig .tc := ⟨.vmem, 10, rfl⟩
abbrev cc3_stg2_1 : Ref sig .tc := ⟨.vmem, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc2_scratch0 : Ref sig .scVector := ⟨.vmem, 3, rfl⟩
abbrev cc2_scratch1 : Ref sig .scVector := ⟨.vmem, 4, rfl⟩
abbrev cc2_scratch2 : Ref sig .scVector := ⟨.vmem, 5, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc3_sem0_0 : DmaSem sig := 14
abbrev cc3_sem0_1 : DmaSem sig := 15
abbrev cc3_sem1_0 : DmaSem sig := 16
abbrev cc3_sem1_1 : DmaSem sig := 17
abbrev cc3_sem2_0 : DmaSem sig := 18
abbrev cc3_sem2_1 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c4_i32 : BitVec 32 := 4#32
  let v3 : BitVec 32 := Scalar.addi c0_i32_0 c4_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v4 : BitVec 32 := Scalar.muli v1 c1024_i32
  let c0_i32_0 : BitVec 32 := 0#32
  let c1_i32 : BitVec 32 := 1#32
  let arg9 : BitVec 32 := Scf.iv c0_i32_0 c1_i32 k0_t1
  let c256_i32 : BitVec 32 := 256#32
  let v5 : BitVec 32 := Scalar.muli arg9 c256_i32
  let v6 : BitVec 32 := Scalar.addi v4 v5
  let c16_i32 : BitVec 32 := 16#32
  let v7 : BitVec 32 := Scalar.muli v6 c16_i32
  ![v7.toNat]
@[reducible] def k0_t2_loop : Scf.Loop 32 :=
  let c0_i32_3 : BitVec 32 := 0#32
  let c16_i32_4 : BitVec 32 := 16#32
  let v8 : BitVec 32 := Scalar.addi c0_i32_3 c16_i32_4
  let c1_i32_5 : BitVec 32 := 1#32
  ⟨c0_i32_3, v8, c1_i32_5⟩
def k0_off2 (k0_t2 : Fin k0_t2_loop.trips) : Fin 1 → Nat :=
  let c0_i32_3 : BitVec 32 := 0#32
  let c1_i32_5 : BitVec 32 := 1#32
  let arg10 : BitVec 32 := Scf.iv c0_i32_3 c1_i32_5 k0_t2
  let c16_i32_7 : BitVec 32 := 16#32
  let v10 : BitVec 32 := Scalar.muli arg10 c16_i32_7
  let c0_i32_8 : BitVec 32 := 0#32
  let v11 : BitVec 32 := Scalar.addi v10 c0_i32_8
  let c16_i32_9 : BitVec 32 := 16#32
  let v12 : BitVec 32 := Scalar.muli v11 c16_i32_9
  let v13 : Index := Scalar.indexCast v12
  ![v13.toNat]

def k0_chk1 (v23 : IVec S16 32) : Prop :=
  (∀ a x, ((![v23] : Fin 1 → IVec S16 32) a x).toNat < S65536.size a)
theorem k0_idx1_inb : ∀ (v23 : IVec S16 32) (k0_hw1 : k0_chk1 v23), ∀ a x, ((![v23] : Fin 1 → IVec S16 32) a x).toNat < S65536.size a := fun v23 k0_hw1 => k0_hw1

def k0_chk2 (v26 : IVec S16 32) : Prop :=
  (∀ a x, ((![v26] : Fin 1 → IVec S16 32) a x).toNat < S32768.size a)
theorem k0_idx2_inb : ∀ (v26 : IVec S16 32) (k0_hw2 : k0_chk2 v26), ∀ a x, ((![v26] : Fin 1 → IVec S16 32) a x).toNat < S32768.size a := fun v26 k0_hw2 => k0_hw2

def k0_chk3 (v28 : IVec S16 32) : Prop :=
  (∀ a x, ((![v28] : Fin 1 → IVec S16 32) a x).toNat < S65536.size a)
theorem k0_idx3_inb : ∀ (v28 : IVec S16 32) (k0_hw3 : k0_chk3 v28), ∀ a x, ((![v28] : Fin 1 → IVec S16 32) a x).toNat < S65536.size a := fun v28 k0_hw3 => k0_hw3

def k0_chk4 (v31 : IVec S16 32) : Prop :=
  (∀ a x, ((![v31] : Fin 1 → IVec S16 32) a x).toNat < S32768.size a)
theorem k0_idx4_inb : ∀ (v31 : IVec S16 32) (k0_hw4 : k0_chk4 v31), ∀ a x, ((![v31] : Fin 1 → IVec S16 32) a x).toNat < S32768.size a := fun v31 k0_hw4 => k0_hw4

def k0_chk5 (v33 : IVec S16 32) : Prop :=
  (∀ a x, ((![v33] : Fin 1 → IVec S16 32) a x).toNat < S65536.size a)
theorem k0_idx5_inb : ∀ (v33 : IVec S16 32) (k0_hw5 : k0_chk5 v33), ∀ a x, ((![v33] : Fin 1 → IVec S16 32) a x).toNat < S65536.size a := fun v33 k0_hw5 => k0_hw5

def k0_chk6 (v36 : IVec S16 32) : Prop :=
  (∀ a x, ((![v36] : Fin 1 → IVec S16 32) a x).toNat < S32768.size a)
theorem k0_idx6_inb : ∀ (v36 : IVec S16 32) (k0_hw6 : k0_chk6 v36), ∀ a x, ((![v36] : Fin 1 → IVec S16 32) a x).toNat < S32768.size a := fun v36 k0_hw6 => k0_hw6

def k0_chk7 (v38 : IVec S16 32) : Prop :=
  (∀ a x, ((![v38] : Fin 1 → IVec S16 32) a x).toNat < S65536.size a)
theorem k0_idx7_inb : ∀ (v38 : IVec S16 32) (k0_hw7 : k0_chk7 v38), ∀ a x, ((![v38] : Fin 1 → IVec S16 32) a x).toNat < S65536.size a := fun v38 k0_hw7 => k0_hw7

def k0_chk8 (v41 : IVec S16 32) : Prop :=
  (∀ a x, ((![v41] : Fin 1 → IVec S16 32) a x).toNat < S32768.size a)
theorem k0_idx8_inb : ∀ (v41 : IVec S16 32) (k0_hw8 : k0_chk8 v41), ∀ a x, ((![v41] : Fin 1 → IVec S16 32) a x).toNat < S32768.size a := fun v41 k0_hw8 => k0_hw8

def k0_chk9 (v43 : IVec S16 32) : Prop :=
  (∀ a x, ((![v43] : Fin 1 → IVec S16 32) a x).toNat < S65536.size a)
theorem k0_idx9_inb : ∀ (v43 : IVec S16 32) (k0_hw9 : k0_chk9 v43), ∀ a x, ((![v43] : Fin 1 → IVec S16 32) a x).toNat < S65536.size a := fun v43 k0_hw9 => k0_hw9

def k0_chk10 (v46 : IVec S16 32) : Prop :=
  (∀ a x, ((![v46] : Fin 1 → IVec S16 32) a x).toNat < S32768.size a)
theorem k0_idx10_inb : ∀ (v46 : IVec S16 32) (k0_hw10 : k0_chk10 v46), ∀ a x, ((![v46] : Fin 1 → IVec S16 32) a x).toNat < S32768.size a := fun v46 k0_hw10 => k0_hw10

def k0_chk11 (v48 : IVec S16 32) : Prop :=
  (∀ a x, ((![v48] : Fin 1 → IVec S16 32) a x).toNat < S65536.size a)
theorem k0_idx11_inb : ∀ (v48 : IVec S16 32) (k0_hw11 : k0_chk11 v48), ∀ a x, ((![v48] : Fin 1 → IVec S16 32) a x).toNat < S65536.size a := fun v48 k0_hw11 => k0_hw11

def k0_chk12 (v51 : IVec S16 32) : Prop :=
  (∀ a x, ((![v51] : Fin 1 → IVec S16 32) a x).toNat < S32768.size a)
theorem k0_idx12_inb : ∀ (v51 : IVec S16 32) (k0_hw12 : k0_chk12 v51), ∀ a x, ((![v51] : Fin 1 → IVec S16 32) a x).toNat < S32768.size a := fun v51 k0_hw12 => k0_hw12

def k0_chk13 (v53 : IVec S16 32) : Prop :=
  (∀ a x, ((![v53] : Fin 1 → IVec S16 32) a x).toNat < S65536.size a)
theorem k0_idx13_inb : ∀ (v53 : IVec S16 32) (k0_hw13 : k0_chk13 v53), ∀ a x, ((![v53] : Fin 1 → IVec S16 32) a x).toNat < S65536.size a := fun v53 k0_hw13 => k0_hw13

def k0_chk14 (v56 : IVec S16 32) : Prop :=
  (∀ a x, ((![v56] : Fin 1 → IVec S16 32) a x).toNat < S32768.size a)
theorem k0_idx14_inb : ∀ (v56 : IVec S16 32) (k0_hw14 : k0_chk14 v56), ∀ a x, ((![v56] : Fin 1 → IVec S16 32) a x).toNat < S32768.size a := fun v56 k0_hw14 => k0_hw14

def k0_chk15 (v58 : IVec S16 32) : Prop :=
  (∀ a x, ((![v58] : Fin 1 → IVec S16 32) a x).toNat < S65536.size a)
theorem k0_idx15_inb : ∀ (v58 : IVec S16 32) (k0_hw15 : k0_chk15 v58), ∀ a x, ((![v58] : Fin 1 → IVec S16 32) a x).toNat < S65536.size a := fun v58 k0_hw15 => k0_hw15

def k0_chk16 (v61 : IVec S16 32) : Prop :=
  (∀ a x, ((![v61] : Fin 1 → IVec S16 32) a x).toNat < S32768.size a)
theorem k0_idx16_inb : ∀ (v61 : IVec S16 32) (k0_hw16 : k0_chk16 v61), ∀ a x, ((![v61] : Fin 1 → IVec S16 32) a x).toNat < S32768.size a := fun v61 k0_hw16 => k0_hw16
def k0_off3 (k0_t2 : Fin k0_t2_loop.trips) : Fin 1 → Nat :=
  let c0_i32_3 : BitVec 32 := 0#32
  let c1_i32_5 : BitVec 32 := 1#32
  let arg10 : BitVec 32 := Scf.iv c0_i32_3 c1_i32_5 k0_t2
  let c16_i32_24 : BitVec 32 := 16#32
  let v62 : BitVec 32 := Scalar.muli arg10 c16_i32_24
  let c1_i32_25 : BitVec 32 := 1#32
  let v63 : BitVec 32 := Scalar.addi v62 c1_i32_25
  let c16_i32_26 : BitVec 32 := 16#32
  let v64 : BitVec 32 := Scalar.muli v63 c16_i32_26
  let v65 : Index := Scalar.indexCast v64
  ![v65.toNat]

def k0_chk17 (v75 : IVec S16 32) : Prop :=
  (∀ a x, ((![v75] : Fin 1 → IVec S16 32) a x).toNat < S65536.size a)
theorem k0_idx17_inb : ∀ (v75 : IVec S16 32) (k0_hw17 : k0_chk17 v75), ∀ a x, ((![v75] : Fin 1 → IVec S16 32) a x).toNat < S65536.size a := fun v75 k0_hw17 => k0_hw17

def k0_chk18 (v78 : IVec S16 32) : Prop :=
  (∀ a x, ((![v78] : Fin 1 → IVec S16 32) a x).toNat < S32768.size a)
theorem k0_idx18_inb : ∀ (v78 : IVec S16 32) (k0_hw18 : k0_chk18 v78), ∀ a x, ((![v78] : Fin 1 → IVec S16 32) a x).toNat < S32768.size a := fun v78 k0_hw18 => k0_hw18

def k0_chk19 (v80 : IVec S16 32) : Prop :=
  (∀ a x, ((![v80] : Fin 1 → IVec S16 32) a x).toNat < S65536.size a)
theorem k0_idx19_inb : ∀ (v80 : IVec S16 32) (k0_hw19 : k0_chk19 v80), ∀ a x, ((![v80] : Fin 1 → IVec S16 32) a x).toNat < S65536.size a := fun v80 k0_hw19 => k0_hw19

def k0_chk20 (v83 : IVec S16 32) : Prop :=
  (∀ a x, ((![v83] : Fin 1 → IVec S16 32) a x).toNat < S32768.size a)
theorem k0_idx20_inb : ∀ (v83 : IVec S16 32) (k0_hw20 : k0_chk20 v83), ∀ a x, ((![v83] : Fin 1 → IVec S16 32) a x).toNat < S32768.size a := fun v83 k0_hw20 => k0_hw20

def k0_chk21 (v85 : IVec S16 32) : Prop :=
  (∀ a x, ((![v85] : Fin 1 → IVec S16 32) a x).toNat < S65536.size a)
theorem k0_idx21_inb : ∀ (v85 : IVec S16 32) (k0_hw21 : k0_chk21 v85), ∀ a x, ((![v85] : Fin 1 → IVec S16 32) a x).toNat < S65536.size a := fun v85 k0_hw21 => k0_hw21

def k0_chk22 (v88 : IVec S16 32) : Prop :=
  (∀ a x, ((![v88] : Fin 1 → IVec S16 32) a x).toNat < S32768.size a)
theorem k0_idx22_inb : ∀ (v88 : IVec S16 32) (k0_hw22 : k0_chk22 v88), ∀ a x, ((![v88] : Fin 1 → IVec S16 32) a x).toNat < S32768.size a := fun v88 k0_hw22 => k0_hw22

def k0_chk23 (v90 : IVec S16 32) : Prop :=
  (∀ a x, ((![v90] : Fin 1 → IVec S16 32) a x).toNat < S65536.size a)
theorem k0_idx23_inb : ∀ (v90 : IVec S16 32) (k0_hw23 : k0_chk23 v90), ∀ a x, ((![v90] : Fin 1 → IVec S16 32) a x).toNat < S65536.size a := fun v90 k0_hw23 => k0_hw23

def k0_chk24 (v93 : IVec S16 32) : Prop :=
  (∀ a x, ((![v93] : Fin 1 → IVec S16 32) a x).toNat < S32768.size a)
theorem k0_idx24_inb : ∀ (v93 : IVec S16 32) (k0_hw24 : k0_chk24 v93), ∀ a x, ((![v93] : Fin 1 → IVec S16 32) a x).toNat < S32768.size a := fun v93 k0_hw24 => k0_hw24

def k0_chk25 (v95 : IVec S16 32) : Prop :=
  (∀ a x, ((![v95] : Fin 1 → IVec S16 32) a x).toNat < S65536.size a)
theorem k0_idx25_inb : ∀ (v95 : IVec S16 32) (k0_hw25 : k0_chk25 v95), ∀ a x, ((![v95] : Fin 1 → IVec S16 32) a x).toNat < S65536.size a := fun v95 k0_hw25 => k0_hw25

def k0_chk26 (v98 : IVec S16 32) : Prop :=
  (∀ a x, ((![v98] : Fin 1 → IVec S16 32) a x).toNat < S32768.size a)
theorem k0_idx26_inb : ∀ (v98 : IVec S16 32) (k0_hw26 : k0_chk26 v98), ∀ a x, ((![v98] : Fin 1 → IVec S16 32) a x).toNat < S32768.size a := fun v98 k0_hw26 => k0_hw26

def k0_chk27 (v100 : IVec S16 32) : Prop :=
  (∀ a x, ((![v100] : Fin 1 → IVec S16 32) a x).toNat < S65536.size a)
theorem k0_idx27_inb : ∀ (v100 : IVec S16 32) (k0_hw27 : k0_chk27 v100), ∀ a x, ((![v100] : Fin 1 → IVec S16 32) a x).toNat < S65536.size a := fun v100 k0_hw27 => k0_hw27

def k0_chk28 (v103 : IVec S16 32) : Prop :=
  (∀ a x, ((![v103] : Fin 1 → IVec S16 32) a x).toNat < S32768.size a)
theorem k0_idx28_inb : ∀ (v103 : IVec S16 32) (k0_hw28 : k0_chk28 v103), ∀ a x, ((![v103] : Fin 1 → IVec S16 32) a x).toNat < S32768.size a := fun v103 k0_hw28 => k0_hw28

def k0_chk29 (v105 : IVec S16 32) : Prop :=
  (∀ a x, ((![v105] : Fin 1 → IVec S16 32) a x).toNat < S65536.size a)
theorem k0_idx29_inb : ∀ (v105 : IVec S16 32) (k0_hw29 : k0_chk29 v105), ∀ a x, ((![v105] : Fin 1 → IVec S16 32) a x).toNat < S65536.size a := fun v105 k0_hw29 => k0_hw29

def k0_chk30 (v108 : IVec S16 32) : Prop :=
  (∀ a x, ((![v108] : Fin 1 → IVec S16 32) a x).toNat < S32768.size a)
theorem k0_idx30_inb : ∀ (v108 : IVec S16 32) (k0_hw30 : k0_chk30 v108), ∀ a x, ((![v108] : Fin 1 → IVec S16 32) a x).toNat < S32768.size a := fun v108 k0_hw30 => k0_hw30

def k0_chk31 (v110 : IVec S16 32) : Prop :=
  (∀ a x, ((![v110] : Fin 1 → IVec S16 32) a x).toNat < S65536.size a)
theorem k0_idx31_inb : ∀ (v110 : IVec S16 32) (k0_hw31 : k0_chk31 v110), ∀ a x, ((![v110] : Fin 1 → IVec S16 32) a x).toNat < S65536.size a := fun v110 k0_hw31 => k0_hw31

def k0_chk32 (v113 : IVec S16 32) : Prop :=
  (∀ a x, ((![v113] : Fin 1 → IVec S16 32) a x).toNat < S32768.size a)
theorem k0_idx32_inb : ∀ (v113 : IVec S16 32) (k0_hw32 : k0_chk32 v113), ∀ a x, ((![v113] : Fin 1 → IVec S16 32) a x).toNat < S32768.size a := fun v113 k0_hw32 => k0_hw32
def k0_off4 (k0_t2 : Fin k0_t2_loop.trips) : Fin 1 → Nat :=
  let c0_i32_3 : BitVec 32 := 0#32
  let c1_i32_5 : BitVec 32 := 1#32
  let arg10 : BitVec 32 := Scf.iv c0_i32_3 c1_i32_5 k0_t2
  let c16_i32_46 : BitVec 32 := 16#32
  let v114 : BitVec 32 := Scalar.muli arg10 c16_i32_46
  let c2_i32_47 : BitVec 32 := 2#32
  let v115 : BitVec 32 := Scalar.addi v114 c2_i32_47
  let c16_i32_48 : BitVec 32 := 16#32
  let v116 : BitVec 32 := Scalar.muli v115 c16_i32_48
  let v117 : Index := Scalar.indexCast v116
  ![v117.toNat]

def k0_chk33 (v127 : IVec S16 32) : Prop :=
  (∀ a x, ((![v127] : Fin 1 → IVec S16 32) a x).toNat < S65536.size a)
theorem k0_idx33_inb : ∀ (v127 : IVec S16 32) (k0_hw33 : k0_chk33 v127), ∀ a x, ((![v127] : Fin 1 → IVec S16 32) a x).toNat < S65536.size a := fun v127 k0_hw33 => k0_hw33

def k0_chk34 (v130 : IVec S16 32) : Prop :=
  (∀ a x, ((![v130] : Fin 1 → IVec S16 32) a x).toNat < S32768.size a)
theorem k0_idx34_inb : ∀ (v130 : IVec S16 32) (k0_hw34 : k0_chk34 v130), ∀ a x, ((![v130] : Fin 1 → IVec S16 32) a x).toNat < S32768.size a := fun v130 k0_hw34 => k0_hw34

def k0_chk35 (v132 : IVec S16 32) : Prop :=
  (∀ a x, ((![v132] : Fin 1 → IVec S16 32) a x).toNat < S65536.size a)
theorem k0_idx35_inb : ∀ (v132 : IVec S16 32) (k0_hw35 : k0_chk35 v132), ∀ a x, ((![v132] : Fin 1 → IVec S16 32) a x).toNat < S65536.size a := fun v132 k0_hw35 => k0_hw35

def k0_chk36 (v135 : IVec S16 32) : Prop :=
  (∀ a x, ((![v135] : Fin 1 → IVec S16 32) a x).toNat < S32768.size a)
theorem k0_idx36_inb : ∀ (v135 : IVec S16 32) (k0_hw36 : k0_chk36 v135), ∀ a x, ((![v135] : Fin 1 → IVec S16 32) a x).toNat < S32768.size a := fun v135 k0_hw36 => k0_hw36

def k0_chk37 (v137 : IVec S16 32) : Prop :=
  (∀ a x, ((![v137] : Fin 1 → IVec S16 32) a x).toNat < S65536.size a)
theorem k0_idx37_inb : ∀ (v137 : IVec S16 32) (k0_hw37 : k0_chk37 v137), ∀ a x, ((![v137] : Fin 1 → IVec S16 32) a x).toNat < S65536.size a := fun v137 k0_hw37 => k0_hw37

def k0_chk38 (v140 : IVec S16 32) : Prop :=
  (∀ a x, ((![v140] : Fin 1 → IVec S16 32) a x).toNat < S32768.size a)
theorem k0_idx38_inb : ∀ (v140 : IVec S16 32) (k0_hw38 : k0_chk38 v140), ∀ a x, ((![v140] : Fin 1 → IVec S16 32) a x).toNat < S32768.size a := fun v140 k0_hw38 => k0_hw38

def k0_chk39 (v142 : IVec S16 32) : Prop :=
  (∀ a x, ((![v142] : Fin 1 → IVec S16 32) a x).toNat < S65536.size a)
theorem k0_idx39_inb : ∀ (v142 : IVec S16 32) (k0_hw39 : k0_chk39 v142), ∀ a x, ((![v142] : Fin 1 → IVec S16 32) a x).toNat < S65536.size a := fun v142 k0_hw39 => k0_hw39

def k0_chk40 (v145 : IVec S16 32) : Prop :=
  (∀ a x, ((![v145] : Fin 1 → IVec S16 32) a x).toNat < S32768.size a)
theorem k0_idx40_inb : ∀ (v145 : IVec S16 32) (k0_hw40 : k0_chk40 v145), ∀ a x, ((![v145] : Fin 1 → IVec S16 32) a x).toNat < S32768.size a := fun v145 k0_hw40 => k0_hw40

def k0_chk41 (v147 : IVec S16 32) : Prop :=
  (∀ a x, ((![v147] : Fin 1 → IVec S16 32) a x).toNat < S65536.size a)
theorem k0_idx41_inb : ∀ (v147 : IVec S16 32) (k0_hw41 : k0_chk41 v147), ∀ a x, ((![v147] : Fin 1 → IVec S16 32) a x).toNat < S65536.size a := fun v147 k0_hw41 => k0_hw41

def k0_chk42 (v150 : IVec S16 32) : Prop :=
  (∀ a x, ((![v150] : Fin 1 → IVec S16 32) a x).toNat < S32768.size a)
theorem k0_idx42_inb : ∀ (v150 : IVec S16 32) (k0_hw42 : k0_chk42 v150), ∀ a x, ((![v150] : Fin 1 → IVec S16 32) a x).toNat < S32768.size a := fun v150 k0_hw42 => k0_hw42

def k0_chk43 (v152 : IVec S16 32) : Prop :=
  (∀ a x, ((![v152] : Fin 1 → IVec S16 32) a x).toNat < S65536.size a)
theorem k0_idx43_inb : ∀ (v152 : IVec S16 32) (k0_hw43 : k0_chk43 v152), ∀ a x, ((![v152] : Fin 1 → IVec S16 32) a x).toNat < S65536.size a := fun v152 k0_hw43 => k0_hw43

def k0_chk44 (v155 : IVec S16 32) : Prop :=
  (∀ a x, ((![v155] : Fin 1 → IVec S16 32) a x).toNat < S32768.size a)
theorem k0_idx44_inb : ∀ (v155 : IVec S16 32) (k0_hw44 : k0_chk44 v155), ∀ a x, ((![v155] : Fin 1 → IVec S16 32) a x).toNat < S32768.size a := fun v155 k0_hw44 => k0_hw44

def k0_chk45 (v157 : IVec S16 32) : Prop :=
  (∀ a x, ((![v157] : Fin 1 → IVec S16 32) a x).toNat < S65536.size a)
theorem k0_idx45_inb : ∀ (v157 : IVec S16 32) (k0_hw45 : k0_chk45 v157), ∀ a x, ((![v157] : Fin 1 → IVec S16 32) a x).toNat < S65536.size a := fun v157 k0_hw45 => k0_hw45

def k0_chk46 (v160 : IVec S16 32) : Prop :=
  (∀ a x, ((![v160] : Fin 1 → IVec S16 32) a x).toNat < S32768.size a)
theorem k0_idx46_inb : ∀ (v160 : IVec S16 32) (k0_hw46 : k0_chk46 v160), ∀ a x, ((![v160] : Fin 1 → IVec S16 32) a x).toNat < S32768.size a := fun v160 k0_hw46 => k0_hw46

def k0_chk47 (v162 : IVec S16 32) : Prop :=
  (∀ a x, ((![v162] : Fin 1 → IVec S16 32) a x).toNat < S65536.size a)
theorem k0_idx47_inb : ∀ (v162 : IVec S16 32) (k0_hw47 : k0_chk47 v162), ∀ a x, ((![v162] : Fin 1 → IVec S16 32) a x).toNat < S65536.size a := fun v162 k0_hw47 => k0_hw47

def k0_chk48 (v165 : IVec S16 32) : Prop :=
  (∀ a x, ((![v165] : Fin 1 → IVec S16 32) a x).toNat < S32768.size a)
theorem k0_idx48_inb : ∀ (v165 : IVec S16 32) (k0_hw48 : k0_chk48 v165), ∀ a x, ((![v165] : Fin 1 → IVec S16 32) a x).toNat < S32768.size a := fun v165 k0_hw48 => k0_hw48
def k0_off5 (k0_t2 : Fin k0_t2_loop.trips) : Fin 1 → Nat :=
  let c0_i32_3 : BitVec 32 := 0#32
  let c1_i32_5 : BitVec 32 := 1#32
  let arg10 : BitVec 32 := Scf.iv c0_i32_3 c1_i32_5 k0_t2
  let c16_i32_68 : BitVec 32 := 16#32
  let v166 : BitVec 32 := Scalar.muli arg10 c16_i32_68
  let c3_i32_69 : BitVec 32 := 3#32
  let v167 : BitVec 32 := Scalar.addi v166 c3_i32_69
  let c16_i32_70 : BitVec 32 := 16#32
  let v168 : BitVec 32 := Scalar.muli v167 c16_i32_70
  let v169 : Index := Scalar.indexCast v168
  ![v169.toNat]

def k0_chk49 (v179 : IVec S16 32) : Prop :=
  (∀ a x, ((![v179] : Fin 1 → IVec S16 32) a x).toNat < S65536.size a)
theorem k0_idx49_inb : ∀ (v179 : IVec S16 32) (k0_hw49 : k0_chk49 v179), ∀ a x, ((![v179] : Fin 1 → IVec S16 32) a x).toNat < S65536.size a := fun v179 k0_hw49 => k0_hw49

def k0_chk50 (v182 : IVec S16 32) : Prop :=
  (∀ a x, ((![v182] : Fin 1 → IVec S16 32) a x).toNat < S32768.size a)
theorem k0_idx50_inb : ∀ (v182 : IVec S16 32) (k0_hw50 : k0_chk50 v182), ∀ a x, ((![v182] : Fin 1 → IVec S16 32) a x).toNat < S32768.size a := fun v182 k0_hw50 => k0_hw50

def k0_chk51 (v184 : IVec S16 32) : Prop :=
  (∀ a x, ((![v184] : Fin 1 → IVec S16 32) a x).toNat < S65536.size a)
theorem k0_idx51_inb : ∀ (v184 : IVec S16 32) (k0_hw51 : k0_chk51 v184), ∀ a x, ((![v184] : Fin 1 → IVec S16 32) a x).toNat < S65536.size a := fun v184 k0_hw51 => k0_hw51

def k0_chk52 (v187 : IVec S16 32) : Prop :=
  (∀ a x, ((![v187] : Fin 1 → IVec S16 32) a x).toNat < S32768.size a)
theorem k0_idx52_inb : ∀ (v187 : IVec S16 32) (k0_hw52 : k0_chk52 v187), ∀ a x, ((![v187] : Fin 1 → IVec S16 32) a x).toNat < S32768.size a := fun v187 k0_hw52 => k0_hw52

def k0_chk53 (v189 : IVec S16 32) : Prop :=
  (∀ a x, ((![v189] : Fin 1 → IVec S16 32) a x).toNat < S65536.size a)
theorem k0_idx53_inb : ∀ (v189 : IVec S16 32) (k0_hw53 : k0_chk53 v189), ∀ a x, ((![v189] : Fin 1 → IVec S16 32) a x).toNat < S65536.size a := fun v189 k0_hw53 => k0_hw53

def k0_chk54 (v192 : IVec S16 32) : Prop :=
  (∀ a x, ((![v192] : Fin 1 → IVec S16 32) a x).toNat < S32768.size a)
theorem k0_idx54_inb : ∀ (v192 : IVec S16 32) (k0_hw54 : k0_chk54 v192), ∀ a x, ((![v192] : Fin 1 → IVec S16 32) a x).toNat < S32768.size a := fun v192 k0_hw54 => k0_hw54

def k0_chk55 (v194 : IVec S16 32) : Prop :=
  (∀ a x, ((![v194] : Fin 1 → IVec S16 32) a x).toNat < S65536.size a)
theorem k0_idx55_inb : ∀ (v194 : IVec S16 32) (k0_hw55 : k0_chk55 v194), ∀ a x, ((![v194] : Fin 1 → IVec S16 32) a x).toNat < S65536.size a := fun v194 k0_hw55 => k0_hw55

def k0_chk56 (v197 : IVec S16 32) : Prop :=
  (∀ a x, ((![v197] : Fin 1 → IVec S16 32) a x).toNat < S32768.size a)
theorem k0_idx56_inb : ∀ (v197 : IVec S16 32) (k0_hw56 : k0_chk56 v197), ∀ a x, ((![v197] : Fin 1 → IVec S16 32) a x).toNat < S32768.size a := fun v197 k0_hw56 => k0_hw56

def k0_chk57 (v199 : IVec S16 32) : Prop :=
  (∀ a x, ((![v199] : Fin 1 → IVec S16 32) a x).toNat < S65536.size a)
theorem k0_idx57_inb : ∀ (v199 : IVec S16 32) (k0_hw57 : k0_chk57 v199), ∀ a x, ((![v199] : Fin 1 → IVec S16 32) a x).toNat < S65536.size a := fun v199 k0_hw57 => k0_hw57

def k0_chk58 (v202 : IVec S16 32) : Prop :=
  (∀ a x, ((![v202] : Fin 1 → IVec S16 32) a x).toNat < S32768.size a)
theorem k0_idx58_inb : ∀ (v202 : IVec S16 32) (k0_hw58 : k0_chk58 v202), ∀ a x, ((![v202] : Fin 1 → IVec S16 32) a x).toNat < S32768.size a := fun v202 k0_hw58 => k0_hw58

def k0_chk59 (v204 : IVec S16 32) : Prop :=
  (∀ a x, ((![v204] : Fin 1 → IVec S16 32) a x).toNat < S65536.size a)
theorem k0_idx59_inb : ∀ (v204 : IVec S16 32) (k0_hw59 : k0_chk59 v204), ∀ a x, ((![v204] : Fin 1 → IVec S16 32) a x).toNat < S65536.size a := fun v204 k0_hw59 => k0_hw59

def k0_chk60 (v207 : IVec S16 32) : Prop :=
  (∀ a x, ((![v207] : Fin 1 → IVec S16 32) a x).toNat < S32768.size a)
theorem k0_idx60_inb : ∀ (v207 : IVec S16 32) (k0_hw60 : k0_chk60 v207), ∀ a x, ((![v207] : Fin 1 → IVec S16 32) a x).toNat < S32768.size a := fun v207 k0_hw60 => k0_hw60

def k0_chk61 (v209 : IVec S16 32) : Prop :=
  (∀ a x, ((![v209] : Fin 1 → IVec S16 32) a x).toNat < S65536.size a)
theorem k0_idx61_inb : ∀ (v209 : IVec S16 32) (k0_hw61 : k0_chk61 v209), ∀ a x, ((![v209] : Fin 1 → IVec S16 32) a x).toNat < S65536.size a := fun v209 k0_hw61 => k0_hw61

def k0_chk62 (v212 : IVec S16 32) : Prop :=
  (∀ a x, ((![v212] : Fin 1 → IVec S16 32) a x).toNat < S32768.size a)
theorem k0_idx62_inb : ∀ (v212 : IVec S16 32) (k0_hw62 : k0_chk62 v212), ∀ a x, ((![v212] : Fin 1 → IVec S16 32) a x).toNat < S32768.size a := fun v212 k0_hw62 => k0_hw62

def k0_chk63 (v214 : IVec S16 32) : Prop :=
  (∀ a x, ((![v214] : Fin 1 → IVec S16 32) a x).toNat < S65536.size a)
theorem k0_idx63_inb : ∀ (v214 : IVec S16 32) (k0_hw63 : k0_chk63 v214), ∀ a x, ((![v214] : Fin 1 → IVec S16 32) a x).toNat < S65536.size a := fun v214 k0_hw63 => k0_hw63

def k0_chk64 (v217 : IVec S16 32) : Prop :=
  (∀ a x, ((![v217] : Fin 1 → IVec S16 32) a x).toNat < S32768.size a)
theorem k0_idx64_inb : ∀ (v217 : IVec S16 32) (k0_hw64 : k0_chk64 v217), ∀ a x, ((![v217] : Fin 1 → IVec S16 32) a x).toNat < S32768.size a := fun v217 k0_hw64 => k0_hw64
def k0_off6 (k0_t2 : Fin k0_t2_loop.trips) : Fin 1 → Nat :=
  let c0_i32_3 : BitVec 32 := 0#32
  let c1_i32_5 : BitVec 32 := 1#32
  let arg10 : BitVec 32 := Scf.iv c0_i32_3 c1_i32_5 k0_t2
  let c16_i32_90 : BitVec 32 := 16#32
  let v218 : BitVec 32 := Scalar.muli arg10 c16_i32_90
  let c4_i32_91 : BitVec 32 := 4#32
  let v219 : BitVec 32 := Scalar.addi v218 c4_i32_91
  let c16_i32_92 : BitVec 32 := 16#32
  let v220 : BitVec 32 := Scalar.muli v219 c16_i32_92
  let v221 : Index := Scalar.indexCast v220
  ![v221.toNat]

def k0_chk65 (v231 : IVec S16 32) : Prop :=
  (∀ a x, ((![v231] : Fin 1 → IVec S16 32) a x).toNat < S65536.size a)
theorem k0_idx65_inb : ∀ (v231 : IVec S16 32) (k0_hw65 : k0_chk65 v231), ∀ a x, ((![v231] : Fin 1 → IVec S16 32) a x).toNat < S65536.size a := fun v231 k0_hw65 => k0_hw65

def k0_chk66 (v234 : IVec S16 32) : Prop :=
  (∀ a x, ((![v234] : Fin 1 → IVec S16 32) a x).toNat < S32768.size a)
theorem k0_idx66_inb : ∀ (v234 : IVec S16 32) (k0_hw66 : k0_chk66 v234), ∀ a x, ((![v234] : Fin 1 → IVec S16 32) a x).toNat < S32768.size a := fun v234 k0_hw66 => k0_hw66

def k0_chk67 (v236 : IVec S16 32) : Prop :=
  (∀ a x, ((![v236] : Fin 1 → IVec S16 32) a x).toNat < S65536.size a)
theorem k0_idx67_inb : ∀ (v236 : IVec S16 32) (k0_hw67 : k0_chk67 v236), ∀ a x, ((![v236] : Fin 1 → IVec S16 32) a x).toNat < S65536.size a := fun v236 k0_hw67 => k0_hw67

def k0_chk68 (v239 : IVec S16 32) : Prop :=
  (∀ a x, ((![v239] : Fin 1 → IVec S16 32) a x).toNat < S32768.size a)
theorem k0_idx68_inb : ∀ (v239 : IVec S16 32) (k0_hw68 : k0_chk68 v239), ∀ a x, ((![v239] : Fin 1 → IVec S16 32) a x).toNat < S32768.size a := fun v239 k0_hw68 => k0_hw68

def k0_chk69 (v241 : IVec S16 32) : Prop :=
  (∀ a x, ((![v241] : Fin 1 → IVec S16 32) a x).toNat < S65536.size a)
theorem k0_idx69_inb : ∀ (v241 : IVec S16 32) (k0_hw69 : k0_chk69 v241), ∀ a x, ((![v241] : Fin 1 → IVec S16 32) a x).toNat < S65536.size a := fun v241 k0_hw69 => k0_hw69

def k0_chk70 (v244 : IVec S16 32) : Prop :=
  (∀ a x, ((![v244] : Fin 1 → IVec S16 32) a x).toNat < S32768.size a)
theorem k0_idx70_inb : ∀ (v244 : IVec S16 32) (k0_hw70 : k0_chk70 v244), ∀ a x, ((![v244] : Fin 1 → IVec S16 32) a x).toNat < S32768.size a := fun v244 k0_hw70 => k0_hw70

def k0_chk71 (v246 : IVec S16 32) : Prop :=
  (∀ a x, ((![v246] : Fin 1 → IVec S16 32) a x).toNat < S65536.size a)
theorem k0_idx71_inb : ∀ (v246 : IVec S16 32) (k0_hw71 : k0_chk71 v246), ∀ a x, ((![v246] : Fin 1 → IVec S16 32) a x).toNat < S65536.size a := fun v246 k0_hw71 => k0_hw71

def k0_chk72 (v249 : IVec S16 32) : Prop :=
  (∀ a x, ((![v249] : Fin 1 → IVec S16 32) a x).toNat < S32768.size a)
theorem k0_idx72_inb : ∀ (v249 : IVec S16 32) (k0_hw72 : k0_chk72 v249), ∀ a x, ((![v249] : Fin 1 → IVec S16 32) a x).toNat < S32768.size a := fun v249 k0_hw72 => k0_hw72

def k0_chk73 (v251 : IVec S16 32) : Prop :=
  (∀ a x, ((![v251] : Fin 1 → IVec S16 32) a x).toNat < S65536.size a)
theorem k0_idx73_inb : ∀ (v251 : IVec S16 32) (k0_hw73 : k0_chk73 v251), ∀ a x, ((![v251] : Fin 1 → IVec S16 32) a x).toNat < S65536.size a := fun v251 k0_hw73 => k0_hw73

def k0_chk74 (v254 : IVec S16 32) : Prop :=
  (∀ a x, ((![v254] : Fin 1 → IVec S16 32) a x).toNat < S32768.size a)
theorem k0_idx74_inb : ∀ (v254 : IVec S16 32) (k0_hw74 : k0_chk74 v254), ∀ a x, ((![v254] : Fin 1 → IVec S16 32) a x).toNat < S32768.size a := fun v254 k0_hw74 => k0_hw74

def k0_chk75 (v256 : IVec S16 32) : Prop :=
  (∀ a x, ((![v256] : Fin 1 → IVec S16 32) a x).toNat < S65536.size a)
theorem k0_idx75_inb : ∀ (v256 : IVec S16 32) (k0_hw75 : k0_chk75 v256), ∀ a x, ((![v256] : Fin 1 → IVec S16 32) a x).toNat < S65536.size a := fun v256 k0_hw75 => k0_hw75

def k0_chk76 (v259 : IVec S16 32) : Prop :=
  (∀ a x, ((![v259] : Fin 1 → IVec S16 32) a x).toNat < S32768.size a)
theorem k0_idx76_inb : ∀ (v259 : IVec S16 32) (k0_hw76 : k0_chk76 v259), ∀ a x, ((![v259] : Fin 1 → IVec S16 32) a x).toNat < S32768.size a := fun v259 k0_hw76 => k0_hw76

def k0_chk77 (v261 : IVec S16 32) : Prop :=
  (∀ a x, ((![v261] : Fin 1 → IVec S16 32) a x).toNat < S65536.size a)
theorem k0_idx77_inb : ∀ (v261 : IVec S16 32) (k0_hw77 : k0_chk77 v261), ∀ a x, ((![v261] : Fin 1 → IVec S16 32) a x).toNat < S65536.size a := fun v261 k0_hw77 => k0_hw77

def k0_chk78 (v264 : IVec S16 32) : Prop :=
  (∀ a x, ((![v264] : Fin 1 → IVec S16 32) a x).toNat < S32768.size a)
theorem k0_idx78_inb : ∀ (v264 : IVec S16 32) (k0_hw78 : k0_chk78 v264), ∀ a x, ((![v264] : Fin 1 → IVec S16 32) a x).toNat < S32768.size a := fun v264 k0_hw78 => k0_hw78

def k0_chk79 (v266 : IVec S16 32) : Prop :=
  (∀ a x, ((![v266] : Fin 1 → IVec S16 32) a x).toNat < S65536.size a)
theorem k0_idx79_inb : ∀ (v266 : IVec S16 32) (k0_hw79 : k0_chk79 v266), ∀ a x, ((![v266] : Fin 1 → IVec S16 32) a x).toNat < S65536.size a := fun v266 k0_hw79 => k0_hw79

def k0_chk80 (v269 : IVec S16 32) : Prop :=
  (∀ a x, ((![v269] : Fin 1 → IVec S16 32) a x).toNat < S32768.size a)
theorem k0_idx80_inb : ∀ (v269 : IVec S16 32) (k0_hw80 : k0_chk80 v269), ∀ a x, ((![v269] : Fin 1 → IVec S16 32) a x).toNat < S32768.size a := fun v269 k0_hw80 => k0_hw80
def k0_off7 (k0_t2 : Fin k0_t2_loop.trips) : Fin 1 → Nat :=
  let c0_i32_3 : BitVec 32 := 0#32
  let c1_i32_5 : BitVec 32 := 1#32
  let arg10 : BitVec 32 := Scf.iv c0_i32_3 c1_i32_5 k0_t2
  let c16_i32_112 : BitVec 32 := 16#32
  let v270 : BitVec 32 := Scalar.muli arg10 c16_i32_112
  let c5_i32_113 : BitVec 32 := 5#32
  let v271 : BitVec 32 := Scalar.addi v270 c5_i32_113
  let c16_i32_114 : BitVec 32 := 16#32
  let v272 : BitVec 32 := Scalar.muli v271 c16_i32_114
  let v273 : Index := Scalar.indexCast v272
  ![v273.toNat]

def k0_chk81 (v283 : IVec S16 32) : Prop :=
  (∀ a x, ((![v283] : Fin 1 → IVec S16 32) a x).toNat < S65536.size a)
theorem k0_idx81_inb : ∀ (v283 : IVec S16 32) (k0_hw81 : k0_chk81 v283), ∀ a x, ((![v283] : Fin 1 → IVec S16 32) a x).toNat < S65536.size a := fun v283 k0_hw81 => k0_hw81

def k0_chk82 (v286 : IVec S16 32) : Prop :=
  (∀ a x, ((![v286] : Fin 1 → IVec S16 32) a x).toNat < S32768.size a)
theorem k0_idx82_inb : ∀ (v286 : IVec S16 32) (k0_hw82 : k0_chk82 v286), ∀ a x, ((![v286] : Fin 1 → IVec S16 32) a x).toNat < S32768.size a := fun v286 k0_hw82 => k0_hw82

def k0_chk83 (v288 : IVec S16 32) : Prop :=
  (∀ a x, ((![v288] : Fin 1 → IVec S16 32) a x).toNat < S65536.size a)
theorem k0_idx83_inb : ∀ (v288 : IVec S16 32) (k0_hw83 : k0_chk83 v288), ∀ a x, ((![v288] : Fin 1 → IVec S16 32) a x).toNat < S65536.size a := fun v288 k0_hw83 => k0_hw83

def k0_chk84 (v291 : IVec S16 32) : Prop :=
  (∀ a x, ((![v291] : Fin 1 → IVec S16 32) a x).toNat < S32768.size a)
theorem k0_idx84_inb : ∀ (v291 : IVec S16 32) (k0_hw84 : k0_chk84 v291), ∀ a x, ((![v291] : Fin 1 → IVec S16 32) a x).toNat < S32768.size a := fun v291 k0_hw84 => k0_hw84

def k0_chk85 (v293 : IVec S16 32) : Prop :=
  (∀ a x, ((![v293] : Fin 1 → IVec S16 32) a x).toNat < S65536.size a)
theorem k0_idx85_inb : ∀ (v293 : IVec S16 32) (k0_hw85 : k0_chk85 v293), ∀ a x, ((![v293] : Fin 1 → IVec S16 32) a x).toNat < S65536.size a := fun v293 k0_hw85 => k0_hw85

def k0_chk86 (v296 : IVec S16 32) : Prop :=
  (∀ a x, ((![v296] : Fin 1 → IVec S16 32) a x).toNat < S32768.size a)
theorem k0_idx86_inb : ∀ (v296 : IVec S16 32) (k0_hw86 : k0_chk86 v296), ∀ a x, ((![v296] : Fin 1 → IVec S16 32) a x).toNat < S32768.size a := fun v296 k0_hw86 => k0_hw86

def k0_chk87 (v298 : IVec S16 32) : Prop :=
  (∀ a x, ((![v298] : Fin 1 → IVec S16 32) a x).toNat < S65536.size a)
theorem k0_idx87_inb : ∀ (v298 : IVec S16 32) (k0_hw87 : k0_chk87 v298), ∀ a x, ((![v298] : Fin 1 → IVec S16 32) a x).toNat < S65536.size a := fun v298 k0_hw87 => k0_hw87

def k0_chk88 (v301 : IVec S16 32) : Prop :=
  (∀ a x, ((![v301] : Fin 1 → IVec S16 32) a x).toNat < S32768.size a)
theorem k0_idx88_inb : ∀ (v301 : IVec S16 32) (k0_hw88 : k0_chk88 v301), ∀ a x, ((![v301] : Fin 1 → IVec S16 32) a x).toNat < S32768.size a := fun v301 k0_hw88 => k0_hw88

def k0_chk89 (v303 : IVec S16 32) : Prop :=
  (∀ a x, ((![v303] : Fin 1 → IVec S16 32) a x).toNat < S65536.size a)
theorem k0_idx89_inb : ∀ (v303 : IVec S16 32) (k0_hw89 : k0_chk89 v303), ∀ a x, ((![v303] : Fin 1 → IVec S16 32) a x).toNat < S65536.size a := fun v303 k0_hw89 => k0_hw89

def k0_chk90 (v306 : IVec S16 32) : Prop :=
  (∀ a x, ((![v306] : Fin 1 → IVec S16 32) a x).toNat < S32768.size a)
theorem k0_idx90_inb : ∀ (v306 : IVec S16 32) (k0_hw90 : k0_chk90 v306), ∀ a x, ((![v306] : Fin 1 → IVec S16 32) a x).toNat < S32768.size a := fun v306 k0_hw90 => k0_hw90

def k0_chk91 (v308 : IVec S16 32) : Prop :=
  (∀ a x, ((![v308] : Fin 1 → IVec S16 32) a x).toNat < S65536.size a)
theorem k0_idx91_inb : ∀ (v308 : IVec S16 32) (k0_hw91 : k0_chk91 v308), ∀ a x, ((![v308] : Fin 1 → IVec S16 32) a x).toNat < S65536.size a := fun v308 k0_hw91 => k0_hw91

def k0_chk92 (v311 : IVec S16 32) : Prop :=
  (∀ a x, ((![v311] : Fin 1 → IVec S16 32) a x).toNat < S32768.size a)
theorem k0_idx92_inb : ∀ (v311 : IVec S16 32) (k0_hw92 : k0_chk92 v311), ∀ a x, ((![v311] : Fin 1 → IVec S16 32) a x).toNat < S32768.size a := fun v311 k0_hw92 => k0_hw92

def k0_chk93 (v313 : IVec S16 32) : Prop :=
  (∀ a x, ((![v313] : Fin 1 → IVec S16 32) a x).toNat < S65536.size a)
theorem k0_idx93_inb : ∀ (v313 : IVec S16 32) (k0_hw93 : k0_chk93 v313), ∀ a x, ((![v313] : Fin 1 → IVec S16 32) a x).toNat < S65536.size a := fun v313 k0_hw93 => k0_hw93

def k0_chk94 (v316 : IVec S16 32) : Prop :=
  (∀ a x, ((![v316] : Fin 1 → IVec S16 32) a x).toNat < S32768.size a)
theorem k0_idx94_inb : ∀ (v316 : IVec S16 32) (k0_hw94 : k0_chk94 v316), ∀ a x, ((![v316] : Fin 1 → IVec S16 32) a x).toNat < S32768.size a := fun v316 k0_hw94 => k0_hw94

def k0_chk95 (v318 : IVec S16 32) : Prop :=
  (∀ a x, ((![v318] : Fin 1 → IVec S16 32) a x).toNat < S65536.size a)
theorem k0_idx95_inb : ∀ (v318 : IVec S16 32) (k0_hw95 : k0_chk95 v318), ∀ a x, ((![v318] : Fin 1 → IVec S16 32) a x).toNat < S65536.size a := fun v318 k0_hw95 => k0_hw95

def k0_chk96 (v321 : IVec S16 32) : Prop :=
  (∀ a x, ((![v321] : Fin 1 → IVec S16 32) a x).toNat < S32768.size a)
theorem k0_idx96_inb : ∀ (v321 : IVec S16 32) (k0_hw96 : k0_chk96 v321), ∀ a x, ((![v321] : Fin 1 → IVec S16 32) a x).toNat < S32768.size a := fun v321 k0_hw96 => k0_hw96
def k0_off8 (k0_t2 : Fin k0_t2_loop.trips) : Fin 1 → Nat :=
  let c0_i32_3 : BitVec 32 := 0#32
  let c1_i32_5 : BitVec 32 := 1#32
  let arg10 : BitVec 32 := Scf.iv c0_i32_3 c1_i32_5 k0_t2
  let c16_i32_134 : BitVec 32 := 16#32
  let v322 : BitVec 32 := Scalar.muli arg10 c16_i32_134
  let c6_i32_135 : BitVec 32 := 6#32
  let v323 : BitVec 32 := Scalar.addi v322 c6_i32_135
  let c16_i32_136 : BitVec 32 := 16#32
  let v324 : BitVec 32 := Scalar.muli v323 c16_i32_136
  let v325 : Index := Scalar.indexCast v324
  ![v325.toNat]

def k0_chk97 (v335 : IVec S16 32) : Prop :=
  (∀ a x, ((![v335] : Fin 1 → IVec S16 32) a x).toNat < S65536.size a)
theorem k0_idx97_inb : ∀ (v335 : IVec S16 32) (k0_hw97 : k0_chk97 v335), ∀ a x, ((![v335] : Fin 1 → IVec S16 32) a x).toNat < S65536.size a := fun v335 k0_hw97 => k0_hw97

def k0_chk98 (v338 : IVec S16 32) : Prop :=
  (∀ a x, ((![v338] : Fin 1 → IVec S16 32) a x).toNat < S32768.size a)
theorem k0_idx98_inb : ∀ (v338 : IVec S16 32) (k0_hw98 : k0_chk98 v338), ∀ a x, ((![v338] : Fin 1 → IVec S16 32) a x).toNat < S32768.size a := fun v338 k0_hw98 => k0_hw98

def k0_chk99 (v340 : IVec S16 32) : Prop :=
  (∀ a x, ((![v340] : Fin 1 → IVec S16 32) a x).toNat < S65536.size a)
theorem k0_idx99_inb : ∀ (v340 : IVec S16 32) (k0_hw99 : k0_chk99 v340), ∀ a x, ((![v340] : Fin 1 → IVec S16 32) a x).toNat < S65536.size a := fun v340 k0_hw99 => k0_hw99

def k0_chk100 (v343 : IVec S16 32) : Prop :=
  (∀ a x, ((![v343] : Fin 1 → IVec S16 32) a x).toNat < S32768.size a)
theorem k0_idx100_inb : ∀ (v343 : IVec S16 32) (k0_hw100 : k0_chk100 v343), ∀ a x, ((![v343] : Fin 1 → IVec S16 32) a x).toNat < S32768.size a := fun v343 k0_hw100 => k0_hw100

def k0_chk101 (v345 : IVec S16 32) : Prop :=
  (∀ a x, ((![v345] : Fin 1 → IVec S16 32) a x).toNat < S65536.size a)
theorem k0_idx101_inb : ∀ (v345 : IVec S16 32) (k0_hw101 : k0_chk101 v345), ∀ a x, ((![v345] : Fin 1 → IVec S16 32) a x).toNat < S65536.size a := fun v345 k0_hw101 => k0_hw101

def k0_chk102 (v348 : IVec S16 32) : Prop :=
  (∀ a x, ((![v348] : Fin 1 → IVec S16 32) a x).toNat < S32768.size a)
theorem k0_idx102_inb : ∀ (v348 : IVec S16 32) (k0_hw102 : k0_chk102 v348), ∀ a x, ((![v348] : Fin 1 → IVec S16 32) a x).toNat < S32768.size a := fun v348 k0_hw102 => k0_hw102

def k0_chk103 (v350 : IVec S16 32) : Prop :=
  (∀ a x, ((![v350] : Fin 1 → IVec S16 32) a x).toNat < S65536.size a)
theorem k0_idx103_inb : ∀ (v350 : IVec S16 32) (k0_hw103 : k0_chk103 v350), ∀ a x, ((![v350] : Fin 1 → IVec S16 32) a x).toNat < S65536.size a := fun v350 k0_hw103 => k0_hw103

def k0_chk104 (v353 : IVec S16 32) : Prop :=
  (∀ a x, ((![v353] : Fin 1 → IVec S16 32) a x).toNat < S32768.size a)
theorem k0_idx104_inb : ∀ (v353 : IVec S16 32) (k0_hw104 : k0_chk104 v353), ∀ a x, ((![v353] : Fin 1 → IVec S16 32) a x).toNat < S32768.size a := fun v353 k0_hw104 => k0_hw104

def k0_chk105 (v355 : IVec S16 32) : Prop :=
  (∀ a x, ((![v355] : Fin 1 → IVec S16 32) a x).toNat < S65536.size a)
theorem k0_idx105_inb : ∀ (v355 : IVec S16 32) (k0_hw105 : k0_chk105 v355), ∀ a x, ((![v355] : Fin 1 → IVec S16 32) a x).toNat < S65536.size a := fun v355 k0_hw105 => k0_hw105

def k0_chk106 (v358 : IVec S16 32) : Prop :=
  (∀ a x, ((![v358] : Fin 1 → IVec S16 32) a x).toNat < S32768.size a)
theorem k0_idx106_inb : ∀ (v358 : IVec S16 32) (k0_hw106 : k0_chk106 v358), ∀ a x, ((![v358] : Fin 1 → IVec S16 32) a x).toNat < S32768.size a := fun v358 k0_hw106 => k0_hw106

def k0_chk107 (v360 : IVec S16 32) : Prop :=
  (∀ a x, ((![v360] : Fin 1 → IVec S16 32) a x).toNat < S65536.size a)
theorem k0_idx107_inb : ∀ (v360 : IVec S16 32) (k0_hw107 : k0_chk107 v360), ∀ a x, ((![v360] : Fin 1 → IVec S16 32) a x).toNat < S65536.size a := fun v360 k0_hw107 => k0_hw107

def k0_chk108 (v363 : IVec S16 32) : Prop :=
  (∀ a x, ((![v363] : Fin 1 → IVec S16 32) a x).toNat < S32768.size a)
theorem k0_idx108_inb : ∀ (v363 : IVec S16 32) (k0_hw108 : k0_chk108 v363), ∀ a x, ((![v363] : Fin 1 → IVec S16 32) a x).toNat < S32768.size a := fun v363 k0_hw108 => k0_hw108

def k0_chk109 (v365 : IVec S16 32) : Prop :=
  (∀ a x, ((![v365] : Fin 1 → IVec S16 32) a x).toNat < S65536.size a)
theorem k0_idx109_inb : ∀ (v365 : IVec S16 32) (k0_hw109 : k0_chk109 v365), ∀ a x, ((![v365] : Fin 1 → IVec S16 32) a x).toNat < S65536.size a := fun v365 k0_hw109 => k0_hw109

def k0_chk110 (v368 : IVec S16 32) : Prop :=
  (∀ a x, ((![v368] : Fin 1 → IVec S16 32) a x).toNat < S32768.size a)
theorem k0_idx110_inb : ∀ (v368 : IVec S16 32) (k0_hw110 : k0_chk110 v368), ∀ a x, ((![v368] : Fin 1 → IVec S16 32) a x).toNat < S32768.size a := fun v368 k0_hw110 => k0_hw110

def k0_chk111 (v370 : IVec S16 32) : Prop :=
  (∀ a x, ((![v370] : Fin 1 → IVec S16 32) a x).toNat < S65536.size a)
theorem k0_idx111_inb : ∀ (v370 : IVec S16 32) (k0_hw111 : k0_chk111 v370), ∀ a x, ((![v370] : Fin 1 → IVec S16 32) a x).toNat < S65536.size a := fun v370 k0_hw111 => k0_hw111

def k0_chk112 (v373 : IVec S16 32) : Prop :=
  (∀ a x, ((![v373] : Fin 1 → IVec S16 32) a x).toNat < S32768.size a)
theorem k0_idx112_inb : ∀ (v373 : IVec S16 32) (k0_hw112 : k0_chk112 v373), ∀ a x, ((![v373] : Fin 1 → IVec S16 32) a x).toNat < S32768.size a := fun v373 k0_hw112 => k0_hw112
def k0_off9 (k0_t2 : Fin k0_t2_loop.trips) : Fin 1 → Nat :=
  let c0_i32_3 : BitVec 32 := 0#32
  let c1_i32_5 : BitVec 32 := 1#32
  let arg10 : BitVec 32 := Scf.iv c0_i32_3 c1_i32_5 k0_t2
  let c16_i32_156 : BitVec 32 := 16#32
  let v374 : BitVec 32 := Scalar.muli arg10 c16_i32_156
  let c7_i32_157 : BitVec 32 := 7#32
  let v375 : BitVec 32 := Scalar.addi v374 c7_i32_157
  let c16_i32_158 : BitVec 32 := 16#32
  let v376 : BitVec 32 := Scalar.muli v375 c16_i32_158
  let v377 : Index := Scalar.indexCast v376
  ![v377.toNat]

def k0_chk113 (v387 : IVec S16 32) : Prop :=
  (∀ a x, ((![v387] : Fin 1 → IVec S16 32) a x).toNat < S65536.size a)
theorem k0_idx113_inb : ∀ (v387 : IVec S16 32) (k0_hw113 : k0_chk113 v387), ∀ a x, ((![v387] : Fin 1 → IVec S16 32) a x).toNat < S65536.size a := fun v387 k0_hw113 => k0_hw113

def k0_chk114 (v390 : IVec S16 32) : Prop :=
  (∀ a x, ((![v390] : Fin 1 → IVec S16 32) a x).toNat < S32768.size a)
theorem k0_idx114_inb : ∀ (v390 : IVec S16 32) (k0_hw114 : k0_chk114 v390), ∀ a x, ((![v390] : Fin 1 → IVec S16 32) a x).toNat < S32768.size a := fun v390 k0_hw114 => k0_hw114

def k0_chk115 (v392 : IVec S16 32) : Prop :=
  (∀ a x, ((![v392] : Fin 1 → IVec S16 32) a x).toNat < S65536.size a)
theorem k0_idx115_inb : ∀ (v392 : IVec S16 32) (k0_hw115 : k0_chk115 v392), ∀ a x, ((![v392] : Fin 1 → IVec S16 32) a x).toNat < S65536.size a := fun v392 k0_hw115 => k0_hw115

def k0_chk116 (v395 : IVec S16 32) : Prop :=
  (∀ a x, ((![v395] : Fin 1 → IVec S16 32) a x).toNat < S32768.size a)
theorem k0_idx116_inb : ∀ (v395 : IVec S16 32) (k0_hw116 : k0_chk116 v395), ∀ a x, ((![v395] : Fin 1 → IVec S16 32) a x).toNat < S32768.size a := fun v395 k0_hw116 => k0_hw116

def k0_chk117 (v397 : IVec S16 32) : Prop :=
  (∀ a x, ((![v397] : Fin 1 → IVec S16 32) a x).toNat < S65536.size a)
theorem k0_idx117_inb : ∀ (v397 : IVec S16 32) (k0_hw117 : k0_chk117 v397), ∀ a x, ((![v397] : Fin 1 → IVec S16 32) a x).toNat < S65536.size a := fun v397 k0_hw117 => k0_hw117

def k0_chk118 (v400 : IVec S16 32) : Prop :=
  (∀ a x, ((![v400] : Fin 1 → IVec S16 32) a x).toNat < S32768.size a)
theorem k0_idx118_inb : ∀ (v400 : IVec S16 32) (k0_hw118 : k0_chk118 v400), ∀ a x, ((![v400] : Fin 1 → IVec S16 32) a x).toNat < S32768.size a := fun v400 k0_hw118 => k0_hw118

def k0_chk119 (v402 : IVec S16 32) : Prop :=
  (∀ a x, ((![v402] : Fin 1 → IVec S16 32) a x).toNat < S65536.size a)
theorem k0_idx119_inb : ∀ (v402 : IVec S16 32) (k0_hw119 : k0_chk119 v402), ∀ a x, ((![v402] : Fin 1 → IVec S16 32) a x).toNat < S65536.size a := fun v402 k0_hw119 => k0_hw119

def k0_chk120 (v405 : IVec S16 32) : Prop :=
  (∀ a x, ((![v405] : Fin 1 → IVec S16 32) a x).toNat < S32768.size a)
theorem k0_idx120_inb : ∀ (v405 : IVec S16 32) (k0_hw120 : k0_chk120 v405), ∀ a x, ((![v405] : Fin 1 → IVec S16 32) a x).toNat < S32768.size a := fun v405 k0_hw120 => k0_hw120

def k0_chk121 (v407 : IVec S16 32) : Prop :=
  (∀ a x, ((![v407] : Fin 1 → IVec S16 32) a x).toNat < S65536.size a)
theorem k0_idx121_inb : ∀ (v407 : IVec S16 32) (k0_hw121 : k0_chk121 v407), ∀ a x, ((![v407] : Fin 1 → IVec S16 32) a x).toNat < S65536.size a := fun v407 k0_hw121 => k0_hw121

def k0_chk122 (v410 : IVec S16 32) : Prop :=
  (∀ a x, ((![v410] : Fin 1 → IVec S16 32) a x).toNat < S32768.size a)
theorem k0_idx122_inb : ∀ (v410 : IVec S16 32) (k0_hw122 : k0_chk122 v410), ∀ a x, ((![v410] : Fin 1 → IVec S16 32) a x).toNat < S32768.size a := fun v410 k0_hw122 => k0_hw122

def k0_chk123 (v412 : IVec S16 32) : Prop :=
  (∀ a x, ((![v412] : Fin 1 → IVec S16 32) a x).toNat < S65536.size a)
theorem k0_idx123_inb : ∀ (v412 : IVec S16 32) (k0_hw123 : k0_chk123 v412), ∀ a x, ((![v412] : Fin 1 → IVec S16 32) a x).toNat < S65536.size a := fun v412 k0_hw123 => k0_hw123

def k0_chk124 (v415 : IVec S16 32) : Prop :=
  (∀ a x, ((![v415] : Fin 1 → IVec S16 32) a x).toNat < S32768.size a)
theorem k0_idx124_inb : ∀ (v415 : IVec S16 32) (k0_hw124 : k0_chk124 v415), ∀ a x, ((![v415] : Fin 1 → IVec S16 32) a x).toNat < S32768.size a := fun v415 k0_hw124 => k0_hw124

def k0_chk125 (v417 : IVec S16 32) : Prop :=
  (∀ a x, ((![v417] : Fin 1 → IVec S16 32) a x).toNat < S65536.size a)
theorem k0_idx125_inb : ∀ (v417 : IVec S16 32) (k0_hw125 : k0_chk125 v417), ∀ a x, ((![v417] : Fin 1 → IVec S16 32) a x).toNat < S65536.size a := fun v417 k0_hw125 => k0_hw125

def k0_chk126 (v420 : IVec S16 32) : Prop :=
  (∀ a x, ((![v420] : Fin 1 → IVec S16 32) a x).toNat < S32768.size a)
theorem k0_idx126_inb : ∀ (v420 : IVec S16 32) (k0_hw126 : k0_chk126 v420), ∀ a x, ((![v420] : Fin 1 → IVec S16 32) a x).toNat < S32768.size a := fun v420 k0_hw126 => k0_hw126

def k0_chk127 (v422 : IVec S16 32) : Prop :=
  (∀ a x, ((![v422] : Fin 1 → IVec S16 32) a x).toNat < S65536.size a)
theorem k0_idx127_inb : ∀ (v422 : IVec S16 32) (k0_hw127 : k0_chk127 v422), ∀ a x, ((![v422] : Fin 1 → IVec S16 32) a x).toNat < S65536.size a := fun v422 k0_hw127 => k0_hw127

def k0_chk128 (v425 : IVec S16 32) : Prop :=
  (∀ a x, ((![v425] : Fin 1 → IVec S16 32) a x).toNat < S32768.size a)
theorem k0_idx128_inb : ∀ (v425 : IVec S16 32) (k0_hw128 : k0_chk128 v425), ∀ a x, ((![v425] : Fin 1 → IVec S16 32) a x).toNat < S32768.size a := fun v425 k0_hw128 => k0_hw128
def k0_off10 (k0_t2 : Fin k0_t2_loop.trips) : Fin 1 → Nat :=
  let c0_i32_3 : BitVec 32 := 0#32
  let c1_i32_5 : BitVec 32 := 1#32
  let arg10 : BitVec 32 := Scf.iv c0_i32_3 c1_i32_5 k0_t2
  let c16_i32_178 : BitVec 32 := 16#32
  let v426 : BitVec 32 := Scalar.muli arg10 c16_i32_178
  let c8_i32_179 : BitVec 32 := 8#32
  let v427 : BitVec 32 := Scalar.addi v426 c8_i32_179
  let c16_i32_180 : BitVec 32 := 16#32
  let v428 : BitVec 32 := Scalar.muli v427 c16_i32_180
  let v429 : Index := Scalar.indexCast v428
  ![v429.toNat]

def k0_chk129 (v439 : IVec S16 32) : Prop :=
  (∀ a x, ((![v439] : Fin 1 → IVec S16 32) a x).toNat < S65536.size a)
theorem k0_idx129_inb : ∀ (v439 : IVec S16 32) (k0_hw129 : k0_chk129 v439), ∀ a x, ((![v439] : Fin 1 → IVec S16 32) a x).toNat < S65536.size a := fun v439 k0_hw129 => k0_hw129

def k0_chk130 (v442 : IVec S16 32) : Prop :=
  (∀ a x, ((![v442] : Fin 1 → IVec S16 32) a x).toNat < S32768.size a)
theorem k0_idx130_inb : ∀ (v442 : IVec S16 32) (k0_hw130 : k0_chk130 v442), ∀ a x, ((![v442] : Fin 1 → IVec S16 32) a x).toNat < S32768.size a := fun v442 k0_hw130 => k0_hw130

def k0_chk131 (v444 : IVec S16 32) : Prop :=
  (∀ a x, ((![v444] : Fin 1 → IVec S16 32) a x).toNat < S65536.size a)
theorem k0_idx131_inb : ∀ (v444 : IVec S16 32) (k0_hw131 : k0_chk131 v444), ∀ a x, ((![v444] : Fin 1 → IVec S16 32) a x).toNat < S65536.size a := fun v444 k0_hw131 => k0_hw131

def k0_chk132 (v447 : IVec S16 32) : Prop :=
  (∀ a x, ((![v447] : Fin 1 → IVec S16 32) a x).toNat < S32768.size a)
theorem k0_idx132_inb : ∀ (v447 : IVec S16 32) (k0_hw132 : k0_chk132 v447), ∀ a x, ((![v447] : Fin 1 → IVec S16 32) a x).toNat < S32768.size a := fun v447 k0_hw132 => k0_hw132

def k0_chk133 (v449 : IVec S16 32) : Prop :=
  (∀ a x, ((![v449] : Fin 1 → IVec S16 32) a x).toNat < S65536.size a)
theorem k0_idx133_inb : ∀ (v449 : IVec S16 32) (k0_hw133 : k0_chk133 v449), ∀ a x, ((![v449] : Fin 1 → IVec S16 32) a x).toNat < S65536.size a := fun v449 k0_hw133 => k0_hw133

def k0_chk134 (v452 : IVec S16 32) : Prop :=
  (∀ a x, ((![v452] : Fin 1 → IVec S16 32) a x).toNat < S32768.size a)
theorem k0_idx134_inb : ∀ (v452 : IVec S16 32) (k0_hw134 : k0_chk134 v452), ∀ a x, ((![v452] : Fin 1 → IVec S16 32) a x).toNat < S32768.size a := fun v452 k0_hw134 => k0_hw134

def k0_chk135 (v454 : IVec S16 32) : Prop :=
  (∀ a x, ((![v454] : Fin 1 → IVec S16 32) a x).toNat < S65536.size a)
theorem k0_idx135_inb : ∀ (v454 : IVec S16 32) (k0_hw135 : k0_chk135 v454), ∀ a x, ((![v454] : Fin 1 → IVec S16 32) a x).toNat < S65536.size a := fun v454 k0_hw135 => k0_hw135

def k0_chk136 (v457 : IVec S16 32) : Prop :=
  (∀ a x, ((![v457] : Fin 1 → IVec S16 32) a x).toNat < S32768.size a)
theorem k0_idx136_inb : ∀ (v457 : IVec S16 32) (k0_hw136 : k0_chk136 v457), ∀ a x, ((![v457] : Fin 1 → IVec S16 32) a x).toNat < S32768.size a := fun v457 k0_hw136 => k0_hw136

def k0_chk137 (v459 : IVec S16 32) : Prop :=
  (∀ a x, ((![v459] : Fin 1 → IVec S16 32) a x).toNat < S65536.size a)
theorem k0_idx137_inb : ∀ (v459 : IVec S16 32) (k0_hw137 : k0_chk137 v459), ∀ a x, ((![v459] : Fin 1 → IVec S16 32) a x).toNat < S65536.size a := fun v459 k0_hw137 => k0_hw137

def k0_chk138 (v462 : IVec S16 32) : Prop :=
  (∀ a x, ((![v462] : Fin 1 → IVec S16 32) a x).toNat < S32768.size a)
theorem k0_idx138_inb : ∀ (v462 : IVec S16 32) (k0_hw138 : k0_chk138 v462), ∀ a x, ((![v462] : Fin 1 → IVec S16 32) a x).toNat < S32768.size a := fun v462 k0_hw138 => k0_hw138

def k0_chk139 (v464 : IVec S16 32) : Prop :=
  (∀ a x, ((![v464] : Fin 1 → IVec S16 32) a x).toNat < S65536.size a)
theorem k0_idx139_inb : ∀ (v464 : IVec S16 32) (k0_hw139 : k0_chk139 v464), ∀ a x, ((![v464] : Fin 1 → IVec S16 32) a x).toNat < S65536.size a := fun v464 k0_hw139 => k0_hw139

def k0_chk140 (v467 : IVec S16 32) : Prop :=
  (∀ a x, ((![v467] : Fin 1 → IVec S16 32) a x).toNat < S32768.size a)
theorem k0_idx140_inb : ∀ (v467 : IVec S16 32) (k0_hw140 : k0_chk140 v467), ∀ a x, ((![v467] : Fin 1 → IVec S16 32) a x).toNat < S32768.size a := fun v467 k0_hw140 => k0_hw140

def k0_chk141 (v469 : IVec S16 32) : Prop :=
  (∀ a x, ((![v469] : Fin 1 → IVec S16 32) a x).toNat < S65536.size a)
theorem k0_idx141_inb : ∀ (v469 : IVec S16 32) (k0_hw141 : k0_chk141 v469), ∀ a x, ((![v469] : Fin 1 → IVec S16 32) a x).toNat < S65536.size a := fun v469 k0_hw141 => k0_hw141

def k0_chk142 (v472 : IVec S16 32) : Prop :=
  (∀ a x, ((![v472] : Fin 1 → IVec S16 32) a x).toNat < S32768.size a)
theorem k0_idx142_inb : ∀ (v472 : IVec S16 32) (k0_hw142 : k0_chk142 v472), ∀ a x, ((![v472] : Fin 1 → IVec S16 32) a x).toNat < S32768.size a := fun v472 k0_hw142 => k0_hw142

def k0_chk143 (v474 : IVec S16 32) : Prop :=
  (∀ a x, ((![v474] : Fin 1 → IVec S16 32) a x).toNat < S65536.size a)
theorem k0_idx143_inb : ∀ (v474 : IVec S16 32) (k0_hw143 : k0_chk143 v474), ∀ a x, ((![v474] : Fin 1 → IVec S16 32) a x).toNat < S65536.size a := fun v474 k0_hw143 => k0_hw143

def k0_chk144 (v477 : IVec S16 32) : Prop :=
  (∀ a x, ((![v477] : Fin 1 → IVec S16 32) a x).toNat < S32768.size a)
theorem k0_idx144_inb : ∀ (v477 : IVec S16 32) (k0_hw144 : k0_chk144 v477), ∀ a x, ((![v477] : Fin 1 → IVec S16 32) a x).toNat < S32768.size a := fun v477 k0_hw144 => k0_hw144
def k0_off11 (k0_t2 : Fin k0_t2_loop.trips) : Fin 1 → Nat :=
  let c0_i32_3 : BitVec 32 := 0#32
  let c1_i32_5 : BitVec 32 := 1#32
  let arg10 : BitVec 32 := Scf.iv c0_i32_3 c1_i32_5 k0_t2
  let c16_i32_200 : BitVec 32 := 16#32
  let v478 : BitVec 32 := Scalar.muli arg10 c16_i32_200
  let c9_i32 : BitVec 32 := 9#32
  let v479 : BitVec 32 := Scalar.addi v478 c9_i32
  let c16_i32_201 : BitVec 32 := 16#32
  let v480 : BitVec 32 := Scalar.muli v479 c16_i32_201
  let v481 : Index := Scalar.indexCast v480
  ![v481.toNat]

def k0_chk145 (v491 : IVec S16 32) : Prop :=
  (∀ a x, ((![v491] : Fin 1 → IVec S16 32) a x).toNat < S65536.size a)
theorem k0_idx145_inb : ∀ (v491 : IVec S16 32) (k0_hw145 : k0_chk145 v491), ∀ a x, ((![v491] : Fin 1 → IVec S16 32) a x).toNat < S65536.size a := fun v491 k0_hw145 => k0_hw145

def k0_chk146 (v494 : IVec S16 32) : Prop :=
  (∀ a x, ((![v494] : Fin 1 → IVec S16 32) a x).toNat < S32768.size a)
theorem k0_idx146_inb : ∀ (v494 : IVec S16 32) (k0_hw146 : k0_chk146 v494), ∀ a x, ((![v494] : Fin 1 → IVec S16 32) a x).toNat < S32768.size a := fun v494 k0_hw146 => k0_hw146

def k0_chk147 (v496 : IVec S16 32) : Prop :=
  (∀ a x, ((![v496] : Fin 1 → IVec S16 32) a x).toNat < S65536.size a)
theorem k0_idx147_inb : ∀ (v496 : IVec S16 32) (k0_hw147 : k0_chk147 v496), ∀ a x, ((![v496] : Fin 1 → IVec S16 32) a x).toNat < S65536.size a := fun v496 k0_hw147 => k0_hw147

def k0_chk148 (v499 : IVec S16 32) : Prop :=
  (∀ a x, ((![v499] : Fin 1 → IVec S16 32) a x).toNat < S32768.size a)
theorem k0_idx148_inb : ∀ (v499 : IVec S16 32) (k0_hw148 : k0_chk148 v499), ∀ a x, ((![v499] : Fin 1 → IVec S16 32) a x).toNat < S32768.size a := fun v499 k0_hw148 => k0_hw148

def k0_chk149 (v501 : IVec S16 32) : Prop :=
  (∀ a x, ((![v501] : Fin 1 → IVec S16 32) a x).toNat < S65536.size a)
theorem k0_idx149_inb : ∀ (v501 : IVec S16 32) (k0_hw149 : k0_chk149 v501), ∀ a x, ((![v501] : Fin 1 → IVec S16 32) a x).toNat < S65536.size a := fun v501 k0_hw149 => k0_hw149

def k0_chk150 (v504 : IVec S16 32) : Prop :=
  (∀ a x, ((![v504] : Fin 1 → IVec S16 32) a x).toNat < S32768.size a)
theorem k0_idx150_inb : ∀ (v504 : IVec S16 32) (k0_hw150 : k0_chk150 v504), ∀ a x, ((![v504] : Fin 1 → IVec S16 32) a x).toNat < S32768.size a := fun v504 k0_hw150 => k0_hw150

def k0_chk151 (v506 : IVec S16 32) : Prop :=
  (∀ a x, ((![v506] : Fin 1 → IVec S16 32) a x).toNat < S65536.size a)
theorem k0_idx151_inb : ∀ (v506 : IVec S16 32) (k0_hw151 : k0_chk151 v506), ∀ a x, ((![v506] : Fin 1 → IVec S16 32) a x).toNat < S65536.size a := fun v506 k0_hw151 => k0_hw151

def k0_chk152 (v509 : IVec S16 32) : Prop :=
  (∀ a x, ((![v509] : Fin 1 → IVec S16 32) a x).toNat < S32768.size a)
theorem k0_idx152_inb : ∀ (v509 : IVec S16 32) (k0_hw152 : k0_chk152 v509), ∀ a x, ((![v509] : Fin 1 → IVec S16 32) a x).toNat < S32768.size a := fun v509 k0_hw152 => k0_hw152

def k0_chk153 (v511 : IVec S16 32) : Prop :=
  (∀ a x, ((![v511] : Fin 1 → IVec S16 32) a x).toNat < S65536.size a)
theorem k0_idx153_inb : ∀ (v511 : IVec S16 32) (k0_hw153 : k0_chk153 v511), ∀ a x, ((![v511] : Fin 1 → IVec S16 32) a x).toNat < S65536.size a := fun v511 k0_hw153 => k0_hw153

def k0_chk154 (v514 : IVec S16 32) : Prop :=
  (∀ a x, ((![v514] : Fin 1 → IVec S16 32) a x).toNat < S32768.size a)
theorem k0_idx154_inb : ∀ (v514 : IVec S16 32) (k0_hw154 : k0_chk154 v514), ∀ a x, ((![v514] : Fin 1 → IVec S16 32) a x).toNat < S32768.size a := fun v514 k0_hw154 => k0_hw154

def k0_chk155 (v516 : IVec S16 32) : Prop :=
  (∀ a x, ((![v516] : Fin 1 → IVec S16 32) a x).toNat < S65536.size a)
theorem k0_idx155_inb : ∀ (v516 : IVec S16 32) (k0_hw155 : k0_chk155 v516), ∀ a x, ((![v516] : Fin 1 → IVec S16 32) a x).toNat < S65536.size a := fun v516 k0_hw155 => k0_hw155

def k0_chk156 (v519 : IVec S16 32) : Prop :=
  (∀ a x, ((![v519] : Fin 1 → IVec S16 32) a x).toNat < S32768.size a)
theorem k0_idx156_inb : ∀ (v519 : IVec S16 32) (k0_hw156 : k0_chk156 v519), ∀ a x, ((![v519] : Fin 1 → IVec S16 32) a x).toNat < S32768.size a := fun v519 k0_hw156 => k0_hw156

def k0_chk157 (v521 : IVec S16 32) : Prop :=
  (∀ a x, ((![v521] : Fin 1 → IVec S16 32) a x).toNat < S65536.size a)
theorem k0_idx157_inb : ∀ (v521 : IVec S16 32) (k0_hw157 : k0_chk157 v521), ∀ a x, ((![v521] : Fin 1 → IVec S16 32) a x).toNat < S65536.size a := fun v521 k0_hw157 => k0_hw157

def k0_chk158 (v524 : IVec S16 32) : Prop :=
  (∀ a x, ((![v524] : Fin 1 → IVec S16 32) a x).toNat < S32768.size a)
theorem k0_idx158_inb : ∀ (v524 : IVec S16 32) (k0_hw158 : k0_chk158 v524), ∀ a x, ((![v524] : Fin 1 → IVec S16 32) a x).toNat < S32768.size a := fun v524 k0_hw158 => k0_hw158

def k0_chk159 (v526 : IVec S16 32) : Prop :=
  (∀ a x, ((![v526] : Fin 1 → IVec S16 32) a x).toNat < S65536.size a)
theorem k0_idx159_inb : ∀ (v526 : IVec S16 32) (k0_hw159 : k0_chk159 v526), ∀ a x, ((![v526] : Fin 1 → IVec S16 32) a x).toNat < S65536.size a := fun v526 k0_hw159 => k0_hw159

def k0_chk160 (v529 : IVec S16 32) : Prop :=
  (∀ a x, ((![v529] : Fin 1 → IVec S16 32) a x).toNat < S32768.size a)
theorem k0_idx160_inb : ∀ (v529 : IVec S16 32) (k0_hw160 : k0_chk160 v529), ∀ a x, ((![v529] : Fin 1 → IVec S16 32) a x).toNat < S32768.size a := fun v529 k0_hw160 => k0_hw160
def k0_off12 (k0_t2 : Fin k0_t2_loop.trips) : Fin 1 → Nat :=
  let c0_i32_3 : BitVec 32 := 0#32
  let c1_i32_5 : BitVec 32 := 1#32
  let arg10 : BitVec 32 := Scf.iv c0_i32_3 c1_i32_5 k0_t2
  let c16_i32_221 : BitVec 32 := 16#32
  let v530 : BitVec 32 := Scalar.muli arg10 c16_i32_221
  let c10_i32 : BitVec 32 := 10#32
  let v531 : BitVec 32 := Scalar.addi v530 c10_i32
  let c16_i32_222 : BitVec 32 := 16#32
  let v532 : BitVec 32 := Scalar.muli v531 c16_i32_222
  let v533 : Index := Scalar.indexCast v532
  ![v533.toNat]

def k0_chk161 (v543 : IVec S16 32) : Prop :=
  (∀ a x, ((![v543] : Fin 1 → IVec S16 32) a x).toNat < S65536.size a)
theorem k0_idx161_inb : ∀ (v543 : IVec S16 32) (k0_hw161 : k0_chk161 v543), ∀ a x, ((![v543] : Fin 1 → IVec S16 32) a x).toNat < S65536.size a := fun v543 k0_hw161 => k0_hw161

def k0_chk162 (v546 : IVec S16 32) : Prop :=
  (∀ a x, ((![v546] : Fin 1 → IVec S16 32) a x).toNat < S32768.size a)
theorem k0_idx162_inb : ∀ (v546 : IVec S16 32) (k0_hw162 : k0_chk162 v546), ∀ a x, ((![v546] : Fin 1 → IVec S16 32) a x).toNat < S32768.size a := fun v546 k0_hw162 => k0_hw162

def k0_chk163 (v548 : IVec S16 32) : Prop :=
  (∀ a x, ((![v548] : Fin 1 → IVec S16 32) a x).toNat < S65536.size a)
theorem k0_idx163_inb : ∀ (v548 : IVec S16 32) (k0_hw163 : k0_chk163 v548), ∀ a x, ((![v548] : Fin 1 → IVec S16 32) a x).toNat < S65536.size a := fun v548 k0_hw163 => k0_hw163

def k0_chk164 (v551 : IVec S16 32) : Prop :=
  (∀ a x, ((![v551] : Fin 1 → IVec S16 32) a x).toNat < S32768.size a)
theorem k0_idx164_inb : ∀ (v551 : IVec S16 32) (k0_hw164 : k0_chk164 v551), ∀ a x, ((![v551] : Fin 1 → IVec S16 32) a x).toNat < S32768.size a := fun v551 k0_hw164 => k0_hw164

def k0_chk165 (v553 : IVec S16 32) : Prop :=
  (∀ a x, ((![v553] : Fin 1 → IVec S16 32) a x).toNat < S65536.size a)
theorem k0_idx165_inb : ∀ (v553 : IVec S16 32) (k0_hw165 : k0_chk165 v553), ∀ a x, ((![v553] : Fin 1 → IVec S16 32) a x).toNat < S65536.size a := fun v553 k0_hw165 => k0_hw165

def k0_chk166 (v556 : IVec S16 32) : Prop :=
  (∀ a x, ((![v556] : Fin 1 → IVec S16 32) a x).toNat < S32768.size a)
theorem k0_idx166_inb : ∀ (v556 : IVec S16 32) (k0_hw166 : k0_chk166 v556), ∀ a x, ((![v556] : Fin 1 → IVec S16 32) a x).toNat < S32768.size a := fun v556 k0_hw166 => k0_hw166

def k0_chk167 (v558 : IVec S16 32) : Prop :=
  (∀ a x, ((![v558] : Fin 1 → IVec S16 32) a x).toNat < S65536.size a)
theorem k0_idx167_inb : ∀ (v558 : IVec S16 32) (k0_hw167 : k0_chk167 v558), ∀ a x, ((![v558] : Fin 1 → IVec S16 32) a x).toNat < S65536.size a := fun v558 k0_hw167 => k0_hw167

def k0_chk168 (v561 : IVec S16 32) : Prop :=
  (∀ a x, ((![v561] : Fin 1 → IVec S16 32) a x).toNat < S32768.size a)
theorem k0_idx168_inb : ∀ (v561 : IVec S16 32) (k0_hw168 : k0_chk168 v561), ∀ a x, ((![v561] : Fin 1 → IVec S16 32) a x).toNat < S32768.size a := fun v561 k0_hw168 => k0_hw168

def k0_chk169 (v563 : IVec S16 32) : Prop :=
  (∀ a x, ((![v563] : Fin 1 → IVec S16 32) a x).toNat < S65536.size a)
theorem k0_idx169_inb : ∀ (v563 : IVec S16 32) (k0_hw169 : k0_chk169 v563), ∀ a x, ((![v563] : Fin 1 → IVec S16 32) a x).toNat < S65536.size a := fun v563 k0_hw169 => k0_hw169

def k0_chk170 (v566 : IVec S16 32) : Prop :=
  (∀ a x, ((![v566] : Fin 1 → IVec S16 32) a x).toNat < S32768.size a)
theorem k0_idx170_inb : ∀ (v566 : IVec S16 32) (k0_hw170 : k0_chk170 v566), ∀ a x, ((![v566] : Fin 1 → IVec S16 32) a x).toNat < S32768.size a := fun v566 k0_hw170 => k0_hw170

def k0_chk171 (v568 : IVec S16 32) : Prop :=
  (∀ a x, ((![v568] : Fin 1 → IVec S16 32) a x).toNat < S65536.size a)
theorem k0_idx171_inb : ∀ (v568 : IVec S16 32) (k0_hw171 : k0_chk171 v568), ∀ a x, ((![v568] : Fin 1 → IVec S16 32) a x).toNat < S65536.size a := fun v568 k0_hw171 => k0_hw171

def k0_chk172 (v571 : IVec S16 32) : Prop :=
  (∀ a x, ((![v571] : Fin 1 → IVec S16 32) a x).toNat < S32768.size a)
theorem k0_idx172_inb : ∀ (v571 : IVec S16 32) (k0_hw172 : k0_chk172 v571), ∀ a x, ((![v571] : Fin 1 → IVec S16 32) a x).toNat < S32768.size a := fun v571 k0_hw172 => k0_hw172

def k0_chk173 (v573 : IVec S16 32) : Prop :=
  (∀ a x, ((![v573] : Fin 1 → IVec S16 32) a x).toNat < S65536.size a)
theorem k0_idx173_inb : ∀ (v573 : IVec S16 32) (k0_hw173 : k0_chk173 v573), ∀ a x, ((![v573] : Fin 1 → IVec S16 32) a x).toNat < S65536.size a := fun v573 k0_hw173 => k0_hw173

def k0_chk174 (v576 : IVec S16 32) : Prop :=
  (∀ a x, ((![v576] : Fin 1 → IVec S16 32) a x).toNat < S32768.size a)
theorem k0_idx174_inb : ∀ (v576 : IVec S16 32) (k0_hw174 : k0_chk174 v576), ∀ a x, ((![v576] : Fin 1 → IVec S16 32) a x).toNat < S32768.size a := fun v576 k0_hw174 => k0_hw174

def k0_chk175 (v578 : IVec S16 32) : Prop :=
  (∀ a x, ((![v578] : Fin 1 → IVec S16 32) a x).toNat < S65536.size a)
theorem k0_idx175_inb : ∀ (v578 : IVec S16 32) (k0_hw175 : k0_chk175 v578), ∀ a x, ((![v578] : Fin 1 → IVec S16 32) a x).toNat < S65536.size a := fun v578 k0_hw175 => k0_hw175

def k0_chk176 (v581 : IVec S16 32) : Prop :=
  (∀ a x, ((![v581] : Fin 1 → IVec S16 32) a x).toNat < S32768.size a)
theorem k0_idx176_inb : ∀ (v581 : IVec S16 32) (k0_hw176 : k0_chk176 v581), ∀ a x, ((![v581] : Fin 1 → IVec S16 32) a x).toNat < S32768.size a := fun v581 k0_hw176 => k0_hw176
def k0_off13 (k0_t2 : Fin k0_t2_loop.trips) : Fin 1 → Nat :=
  let c0_i32_3 : BitVec 32 := 0#32
  let c1_i32_5 : BitVec 32 := 1#32
  let arg10 : BitVec 32 := Scf.iv c0_i32_3 c1_i32_5 k0_t2
  let c16_i32_242 : BitVec 32 := 16#32
  let v582 : BitVec 32 := Scalar.muli arg10 c16_i32_242
  let c11_i32 : BitVec 32 := 11#32
  let v583 : BitVec 32 := Scalar.addi v582 c11_i32
  let c16_i32_243 : BitVec 32 := 16#32
  let v584 : BitVec 32 := Scalar.muli v583 c16_i32_243
  let v585 : Index := Scalar.indexCast v584
  ![v585.toNat]

def k0_chk177 (v595 : IVec S16 32) : Prop :=
  (∀ a x, ((![v595] : Fin 1 → IVec S16 32) a x).toNat < S65536.size a)
theorem k0_idx177_inb : ∀ (v595 : IVec S16 32) (k0_hw177 : k0_chk177 v595), ∀ a x, ((![v595] : Fin 1 → IVec S16 32) a x).toNat < S65536.size a := fun v595 k0_hw177 => k0_hw177

def k0_chk178 (v598 : IVec S16 32) : Prop :=
  (∀ a x, ((![v598] : Fin 1 → IVec S16 32) a x).toNat < S32768.size a)
theorem k0_idx178_inb : ∀ (v598 : IVec S16 32) (k0_hw178 : k0_chk178 v598), ∀ a x, ((![v598] : Fin 1 → IVec S16 32) a x).toNat < S32768.size a := fun v598 k0_hw178 => k0_hw178

def k0_chk179 (v600 : IVec S16 32) : Prop :=
  (∀ a x, ((![v600] : Fin 1 → IVec S16 32) a x).toNat < S65536.size a)
theorem k0_idx179_inb : ∀ (v600 : IVec S16 32) (k0_hw179 : k0_chk179 v600), ∀ a x, ((![v600] : Fin 1 → IVec S16 32) a x).toNat < S65536.size a := fun v600 k0_hw179 => k0_hw179

def k0_chk180 (v603 : IVec S16 32) : Prop :=
  (∀ a x, ((![v603] : Fin 1 → IVec S16 32) a x).toNat < S32768.size a)
theorem k0_idx180_inb : ∀ (v603 : IVec S16 32) (k0_hw180 : k0_chk180 v603), ∀ a x, ((![v603] : Fin 1 → IVec S16 32) a x).toNat < S32768.size a := fun v603 k0_hw180 => k0_hw180

def k0_chk181 (v605 : IVec S16 32) : Prop :=
  (∀ a x, ((![v605] : Fin 1 → IVec S16 32) a x).toNat < S65536.size a)
theorem k0_idx181_inb : ∀ (v605 : IVec S16 32) (k0_hw181 : k0_chk181 v605), ∀ a x, ((![v605] : Fin 1 → IVec S16 32) a x).toNat < S65536.size a := fun v605 k0_hw181 => k0_hw181

def k0_chk182 (v608 : IVec S16 32) : Prop :=
  (∀ a x, ((![v608] : Fin 1 → IVec S16 32) a x).toNat < S32768.size a)
theorem k0_idx182_inb : ∀ (v608 : IVec S16 32) (k0_hw182 : k0_chk182 v608), ∀ a x, ((![v608] : Fin 1 → IVec S16 32) a x).toNat < S32768.size a := fun v608 k0_hw182 => k0_hw182

def k0_chk183 (v610 : IVec S16 32) : Prop :=
  (∀ a x, ((![v610] : Fin 1 → IVec S16 32) a x).toNat < S65536.size a)
theorem k0_idx183_inb : ∀ (v610 : IVec S16 32) (k0_hw183 : k0_chk183 v610), ∀ a x, ((![v610] : Fin 1 → IVec S16 32) a x).toNat < S65536.size a := fun v610 k0_hw183 => k0_hw183

def k0_chk184 (v613 : IVec S16 32) : Prop :=
  (∀ a x, ((![v613] : Fin 1 → IVec S16 32) a x).toNat < S32768.size a)
theorem k0_idx184_inb : ∀ (v613 : IVec S16 32) (k0_hw184 : k0_chk184 v613), ∀ a x, ((![v613] : Fin 1 → IVec S16 32) a x).toNat < S32768.size a := fun v613 k0_hw184 => k0_hw184

def k0_chk185 (v615 : IVec S16 32) : Prop :=
  (∀ a x, ((![v615] : Fin 1 → IVec S16 32) a x).toNat < S65536.size a)
theorem k0_idx185_inb : ∀ (v615 : IVec S16 32) (k0_hw185 : k0_chk185 v615), ∀ a x, ((![v615] : Fin 1 → IVec S16 32) a x).toNat < S65536.size a := fun v615 k0_hw185 => k0_hw185

def k0_chk186 (v618 : IVec S16 32) : Prop :=
  (∀ a x, ((![v618] : Fin 1 → IVec S16 32) a x).toNat < S32768.size a)
theorem k0_idx186_inb : ∀ (v618 : IVec S16 32) (k0_hw186 : k0_chk186 v618), ∀ a x, ((![v618] : Fin 1 → IVec S16 32) a x).toNat < S32768.size a := fun v618 k0_hw186 => k0_hw186

def k0_chk187 (v620 : IVec S16 32) : Prop :=
  (∀ a x, ((![v620] : Fin 1 → IVec S16 32) a x).toNat < S65536.size a)
theorem k0_idx187_inb : ∀ (v620 : IVec S16 32) (k0_hw187 : k0_chk187 v620), ∀ a x, ((![v620] : Fin 1 → IVec S16 32) a x).toNat < S65536.size a := fun v620 k0_hw187 => k0_hw187

def k0_chk188 (v623 : IVec S16 32) : Prop :=
  (∀ a x, ((![v623] : Fin 1 → IVec S16 32) a x).toNat < S32768.size a)
theorem k0_idx188_inb : ∀ (v623 : IVec S16 32) (k0_hw188 : k0_chk188 v623), ∀ a x, ((![v623] : Fin 1 → IVec S16 32) a x).toNat < S32768.size a := fun v623 k0_hw188 => k0_hw188

def k0_chk189 (v625 : IVec S16 32) : Prop :=
  (∀ a x, ((![v625] : Fin 1 → IVec S16 32) a x).toNat < S65536.size a)
theorem k0_idx189_inb : ∀ (v625 : IVec S16 32) (k0_hw189 : k0_chk189 v625), ∀ a x, ((![v625] : Fin 1 → IVec S16 32) a x).toNat < S65536.size a := fun v625 k0_hw189 => k0_hw189

def k0_chk190 (v628 : IVec S16 32) : Prop :=
  (∀ a x, ((![v628] : Fin 1 → IVec S16 32) a x).toNat < S32768.size a)
theorem k0_idx190_inb : ∀ (v628 : IVec S16 32) (k0_hw190 : k0_chk190 v628), ∀ a x, ((![v628] : Fin 1 → IVec S16 32) a x).toNat < S32768.size a := fun v628 k0_hw190 => k0_hw190

def k0_chk191 (v630 : IVec S16 32) : Prop :=
  (∀ a x, ((![v630] : Fin 1 → IVec S16 32) a x).toNat < S65536.size a)
theorem k0_idx191_inb : ∀ (v630 : IVec S16 32) (k0_hw191 : k0_chk191 v630), ∀ a x, ((![v630] : Fin 1 → IVec S16 32) a x).toNat < S65536.size a := fun v630 k0_hw191 => k0_hw191

def k0_chk192 (v633 : IVec S16 32) : Prop :=
  (∀ a x, ((![v633] : Fin 1 → IVec S16 32) a x).toNat < S32768.size a)
theorem k0_idx192_inb : ∀ (v633 : IVec S16 32) (k0_hw192 : k0_chk192 v633), ∀ a x, ((![v633] : Fin 1 → IVec S16 32) a x).toNat < S32768.size a := fun v633 k0_hw192 => k0_hw192
def k0_off14 (k0_t2 : Fin k0_t2_loop.trips) : Fin 1 → Nat :=
  let c0_i32_3 : BitVec 32 := 0#32
  let c1_i32_5 : BitVec 32 := 1#32
  let arg10 : BitVec 32 := Scf.iv c0_i32_3 c1_i32_5 k0_t2
  let c16_i32_263 : BitVec 32 := 16#32
  let v634 : BitVec 32 := Scalar.muli arg10 c16_i32_263
  let c12_i32 : BitVec 32 := 12#32
  let v635 : BitVec 32 := Scalar.addi v634 c12_i32
  let c16_i32_264 : BitVec 32 := 16#32
  let v636 : BitVec 32 := Scalar.muli v635 c16_i32_264
  let v637 : Index := Scalar.indexCast v636
  ![v637.toNat]

def k0_chk193 (v647 : IVec S16 32) : Prop :=
  (∀ a x, ((![v647] : Fin 1 → IVec S16 32) a x).toNat < S65536.size a)
theorem k0_idx193_inb : ∀ (v647 : IVec S16 32) (k0_hw193 : k0_chk193 v647), ∀ a x, ((![v647] : Fin 1 → IVec S16 32) a x).toNat < S65536.size a := fun v647 k0_hw193 => k0_hw193

def k0_chk194 (v650 : IVec S16 32) : Prop :=
  (∀ a x, ((![v650] : Fin 1 → IVec S16 32) a x).toNat < S32768.size a)
theorem k0_idx194_inb : ∀ (v650 : IVec S16 32) (k0_hw194 : k0_chk194 v650), ∀ a x, ((![v650] : Fin 1 → IVec S16 32) a x).toNat < S32768.size a := fun v650 k0_hw194 => k0_hw194

def k0_chk195 (v652 : IVec S16 32) : Prop :=
  (∀ a x, ((![v652] : Fin 1 → IVec S16 32) a x).toNat < S65536.size a)
theorem k0_idx195_inb : ∀ (v652 : IVec S16 32) (k0_hw195 : k0_chk195 v652), ∀ a x, ((![v652] : Fin 1 → IVec S16 32) a x).toNat < S65536.size a := fun v652 k0_hw195 => k0_hw195

def k0_chk196 (v655 : IVec S16 32) : Prop :=
  (∀ a x, ((![v655] : Fin 1 → IVec S16 32) a x).toNat < S32768.size a)
theorem k0_idx196_inb : ∀ (v655 : IVec S16 32) (k0_hw196 : k0_chk196 v655), ∀ a x, ((![v655] : Fin 1 → IVec S16 32) a x).toNat < S32768.size a := fun v655 k0_hw196 => k0_hw196

def k0_chk197 (v657 : IVec S16 32) : Prop :=
  (∀ a x, ((![v657] : Fin 1 → IVec S16 32) a x).toNat < S65536.size a)
theorem k0_idx197_inb : ∀ (v657 : IVec S16 32) (k0_hw197 : k0_chk197 v657), ∀ a x, ((![v657] : Fin 1 → IVec S16 32) a x).toNat < S65536.size a := fun v657 k0_hw197 => k0_hw197

def k0_chk198 (v660 : IVec S16 32) : Prop :=
  (∀ a x, ((![v660] : Fin 1 → IVec S16 32) a x).toNat < S32768.size a)
theorem k0_idx198_inb : ∀ (v660 : IVec S16 32) (k0_hw198 : k0_chk198 v660), ∀ a x, ((![v660] : Fin 1 → IVec S16 32) a x).toNat < S32768.size a := fun v660 k0_hw198 => k0_hw198

def k0_chk199 (v662 : IVec S16 32) : Prop :=
  (∀ a x, ((![v662] : Fin 1 → IVec S16 32) a x).toNat < S65536.size a)
theorem k0_idx199_inb : ∀ (v662 : IVec S16 32) (k0_hw199 : k0_chk199 v662), ∀ a x, ((![v662] : Fin 1 → IVec S16 32) a x).toNat < S65536.size a := fun v662 k0_hw199 => k0_hw199

def k0_chk200 (v665 : IVec S16 32) : Prop :=
  (∀ a x, ((![v665] : Fin 1 → IVec S16 32) a x).toNat < S32768.size a)
theorem k0_idx200_inb : ∀ (v665 : IVec S16 32) (k0_hw200 : k0_chk200 v665), ∀ a x, ((![v665] : Fin 1 → IVec S16 32) a x).toNat < S32768.size a := fun v665 k0_hw200 => k0_hw200

def k0_chk201 (v667 : IVec S16 32) : Prop :=
  (∀ a x, ((![v667] : Fin 1 → IVec S16 32) a x).toNat < S65536.size a)
theorem k0_idx201_inb : ∀ (v667 : IVec S16 32) (k0_hw201 : k0_chk201 v667), ∀ a x, ((![v667] : Fin 1 → IVec S16 32) a x).toNat < S65536.size a := fun v667 k0_hw201 => k0_hw201

def k0_chk202 (v670 : IVec S16 32) : Prop :=
  (∀ a x, ((![v670] : Fin 1 → IVec S16 32) a x).toNat < S32768.size a)
theorem k0_idx202_inb : ∀ (v670 : IVec S16 32) (k0_hw202 : k0_chk202 v670), ∀ a x, ((![v670] : Fin 1 → IVec S16 32) a x).toNat < S32768.size a := fun v670 k0_hw202 => k0_hw202

def k0_chk203 (v672 : IVec S16 32) : Prop :=
  (∀ a x, ((![v672] : Fin 1 → IVec S16 32) a x).toNat < S65536.size a)
theorem k0_idx203_inb : ∀ (v672 : IVec S16 32) (k0_hw203 : k0_chk203 v672), ∀ a x, ((![v672] : Fin 1 → IVec S16 32) a x).toNat < S65536.size a := fun v672 k0_hw203 => k0_hw203

def k0_chk204 (v675 : IVec S16 32) : Prop :=
  (∀ a x, ((![v675] : Fin 1 → IVec S16 32) a x).toNat < S32768.size a)
theorem k0_idx204_inb : ∀ (v675 : IVec S16 32) (k0_hw204 : k0_chk204 v675), ∀ a x, ((![v675] : Fin 1 → IVec S16 32) a x).toNat < S32768.size a := fun v675 k0_hw204 => k0_hw204

def k0_chk205 (v677 : IVec S16 32) : Prop :=
  (∀ a x, ((![v677] : Fin 1 → IVec S16 32) a x).toNat < S65536.size a)
theorem k0_idx205_inb : ∀ (v677 : IVec S16 32) (k0_hw205 : k0_chk205 v677), ∀ a x, ((![v677] : Fin 1 → IVec S16 32) a x).toNat < S65536.size a := fun v677 k0_hw205 => k0_hw205

def k0_chk206 (v680 : IVec S16 32) : Prop :=
  (∀ a x, ((![v680] : Fin 1 → IVec S16 32) a x).toNat < S32768.size a)
theorem k0_idx206_inb : ∀ (v680 : IVec S16 32) (k0_hw206 : k0_chk206 v680), ∀ a x, ((![v680] : Fin 1 → IVec S16 32) a x).toNat < S32768.size a := fun v680 k0_hw206 => k0_hw206

def k0_chk207 (v682 : IVec S16 32) : Prop :=
  (∀ a x, ((![v682] : Fin 1 → IVec S16 32) a x).toNat < S65536.size a)
theorem k0_idx207_inb : ∀ (v682 : IVec S16 32) (k0_hw207 : k0_chk207 v682), ∀ a x, ((![v682] : Fin 1 → IVec S16 32) a x).toNat < S65536.size a := fun v682 k0_hw207 => k0_hw207

def k0_chk208 (v685 : IVec S16 32) : Prop :=
  (∀ a x, ((![v685] : Fin 1 → IVec S16 32) a x).toNat < S32768.size a)
theorem k0_idx208_inb : ∀ (v685 : IVec S16 32) (k0_hw208 : k0_chk208 v685), ∀ a x, ((![v685] : Fin 1 → IVec S16 32) a x).toNat < S32768.size a := fun v685 k0_hw208 => k0_hw208
def k0_off15 (k0_t2 : Fin k0_t2_loop.trips) : Fin 1 → Nat :=
  let c0_i32_3 : BitVec 32 := 0#32
  let c1_i32_5 : BitVec 32 := 1#32
  let arg10 : BitVec 32 := Scf.iv c0_i32_3 c1_i32_5 k0_t2
  let c16_i32_284 : BitVec 32 := 16#32
  let v686 : BitVec 32 := Scalar.muli arg10 c16_i32_284
  let c13_i32 : BitVec 32 := 13#32
  let v687 : BitVec 32 := Scalar.addi v686 c13_i32
  let c16_i32_285 : BitVec 32 := 16#32
  let v688 : BitVec 32 := Scalar.muli v687 c16_i32_285
  let v689 : Index := Scalar.indexCast v688
  ![v689.toNat]

def k0_chk209 (v699 : IVec S16 32) : Prop :=
  (∀ a x, ((![v699] : Fin 1 → IVec S16 32) a x).toNat < S65536.size a)
theorem k0_idx209_inb : ∀ (v699 : IVec S16 32) (k0_hw209 : k0_chk209 v699), ∀ a x, ((![v699] : Fin 1 → IVec S16 32) a x).toNat < S65536.size a := fun v699 k0_hw209 => k0_hw209

def k0_chk210 (v702 : IVec S16 32) : Prop :=
  (∀ a x, ((![v702] : Fin 1 → IVec S16 32) a x).toNat < S32768.size a)
theorem k0_idx210_inb : ∀ (v702 : IVec S16 32) (k0_hw210 : k0_chk210 v702), ∀ a x, ((![v702] : Fin 1 → IVec S16 32) a x).toNat < S32768.size a := fun v702 k0_hw210 => k0_hw210

def k0_chk211 (v704 : IVec S16 32) : Prop :=
  (∀ a x, ((![v704] : Fin 1 → IVec S16 32) a x).toNat < S65536.size a)
theorem k0_idx211_inb : ∀ (v704 : IVec S16 32) (k0_hw211 : k0_chk211 v704), ∀ a x, ((![v704] : Fin 1 → IVec S16 32) a x).toNat < S65536.size a := fun v704 k0_hw211 => k0_hw211

def k0_chk212 (v707 : IVec S16 32) : Prop :=
  (∀ a x, ((![v707] : Fin 1 → IVec S16 32) a x).toNat < S32768.size a)
theorem k0_idx212_inb : ∀ (v707 : IVec S16 32) (k0_hw212 : k0_chk212 v707), ∀ a x, ((![v707] : Fin 1 → IVec S16 32) a x).toNat < S32768.size a := fun v707 k0_hw212 => k0_hw212

def k0_chk213 (v709 : IVec S16 32) : Prop :=
  (∀ a x, ((![v709] : Fin 1 → IVec S16 32) a x).toNat < S65536.size a)
theorem k0_idx213_inb : ∀ (v709 : IVec S16 32) (k0_hw213 : k0_chk213 v709), ∀ a x, ((![v709] : Fin 1 → IVec S16 32) a x).toNat < S65536.size a := fun v709 k0_hw213 => k0_hw213

def k0_chk214 (v712 : IVec S16 32) : Prop :=
  (∀ a x, ((![v712] : Fin 1 → IVec S16 32) a x).toNat < S32768.size a)
theorem k0_idx214_inb : ∀ (v712 : IVec S16 32) (k0_hw214 : k0_chk214 v712), ∀ a x, ((![v712] : Fin 1 → IVec S16 32) a x).toNat < S32768.size a := fun v712 k0_hw214 => k0_hw214

def k0_chk215 (v714 : IVec S16 32) : Prop :=
  (∀ a x, ((![v714] : Fin 1 → IVec S16 32) a x).toNat < S65536.size a)
theorem k0_idx215_inb : ∀ (v714 : IVec S16 32) (k0_hw215 : k0_chk215 v714), ∀ a x, ((![v714] : Fin 1 → IVec S16 32) a x).toNat < S65536.size a := fun v714 k0_hw215 => k0_hw215

def k0_chk216 (v717 : IVec S16 32) : Prop :=
  (∀ a x, ((![v717] : Fin 1 → IVec S16 32) a x).toNat < S32768.size a)
theorem k0_idx216_inb : ∀ (v717 : IVec S16 32) (k0_hw216 : k0_chk216 v717), ∀ a x, ((![v717] : Fin 1 → IVec S16 32) a x).toNat < S32768.size a := fun v717 k0_hw216 => k0_hw216

def k0_chk217 (v719 : IVec S16 32) : Prop :=
  (∀ a x, ((![v719] : Fin 1 → IVec S16 32) a x).toNat < S65536.size a)
theorem k0_idx217_inb : ∀ (v719 : IVec S16 32) (k0_hw217 : k0_chk217 v719), ∀ a x, ((![v719] : Fin 1 → IVec S16 32) a x).toNat < S65536.size a := fun v719 k0_hw217 => k0_hw217

def k0_chk218 (v722 : IVec S16 32) : Prop :=
  (∀ a x, ((![v722] : Fin 1 → IVec S16 32) a x).toNat < S32768.size a)
theorem k0_idx218_inb : ∀ (v722 : IVec S16 32) (k0_hw218 : k0_chk218 v722), ∀ a x, ((![v722] : Fin 1 → IVec S16 32) a x).toNat < S32768.size a := fun v722 k0_hw218 => k0_hw218

def k0_chk219 (v724 : IVec S16 32) : Prop :=
  (∀ a x, ((![v724] : Fin 1 → IVec S16 32) a x).toNat < S65536.size a)
theorem k0_idx219_inb : ∀ (v724 : IVec S16 32) (k0_hw219 : k0_chk219 v724), ∀ a x, ((![v724] : Fin 1 → IVec S16 32) a x).toNat < S65536.size a := fun v724 k0_hw219 => k0_hw219

def k0_chk220 (v727 : IVec S16 32) : Prop :=
  (∀ a x, ((![v727] : Fin 1 → IVec S16 32) a x).toNat < S32768.size a)
theorem k0_idx220_inb : ∀ (v727 : IVec S16 32) (k0_hw220 : k0_chk220 v727), ∀ a x, ((![v727] : Fin 1 → IVec S16 32) a x).toNat < S32768.size a := fun v727 k0_hw220 => k0_hw220

def k0_chk221 (v729 : IVec S16 32) : Prop :=
  (∀ a x, ((![v729] : Fin 1 → IVec S16 32) a x).toNat < S65536.size a)
theorem k0_idx221_inb : ∀ (v729 : IVec S16 32) (k0_hw221 : k0_chk221 v729), ∀ a x, ((![v729] : Fin 1 → IVec S16 32) a x).toNat < S65536.size a := fun v729 k0_hw221 => k0_hw221

def k0_chk222 (v732 : IVec S16 32) : Prop :=
  (∀ a x, ((![v732] : Fin 1 → IVec S16 32) a x).toNat < S32768.size a)
theorem k0_idx222_inb : ∀ (v732 : IVec S16 32) (k0_hw222 : k0_chk222 v732), ∀ a x, ((![v732] : Fin 1 → IVec S16 32) a x).toNat < S32768.size a := fun v732 k0_hw222 => k0_hw222

def k0_chk223 (v734 : IVec S16 32) : Prop :=
  (∀ a x, ((![v734] : Fin 1 → IVec S16 32) a x).toNat < S65536.size a)
theorem k0_idx223_inb : ∀ (v734 : IVec S16 32) (k0_hw223 : k0_chk223 v734), ∀ a x, ((![v734] : Fin 1 → IVec S16 32) a x).toNat < S65536.size a := fun v734 k0_hw223 => k0_hw223

def k0_chk224 (v737 : IVec S16 32) : Prop :=
  (∀ a x, ((![v737] : Fin 1 → IVec S16 32) a x).toNat < S32768.size a)
theorem k0_idx224_inb : ∀ (v737 : IVec S16 32) (k0_hw224 : k0_chk224 v737), ∀ a x, ((![v737] : Fin 1 → IVec S16 32) a x).toNat < S32768.size a := fun v737 k0_hw224 => k0_hw224
def k0_off16 (k0_t2 : Fin k0_t2_loop.trips) : Fin 1 → Nat :=
  let c0_i32_3 : BitVec 32 := 0#32
  let c1_i32_5 : BitVec 32 := 1#32
  let arg10 : BitVec 32 := Scf.iv c0_i32_3 c1_i32_5 k0_t2
  let c16_i32_305 : BitVec 32 := 16#32
  let v738 : BitVec 32 := Scalar.muli arg10 c16_i32_305
  let c14_i32 : BitVec 32 := 14#32
  let v739 : BitVec 32 := Scalar.addi v738 c14_i32
  let c16_i32_306 : BitVec 32 := 16#32
  let v740 : BitVec 32 := Scalar.muli v739 c16_i32_306
  let v741 : Index := Scalar.indexCast v740
  ![v741.toNat]

def k0_chk225 (v751 : IVec S16 32) : Prop :=
  (∀ a x, ((![v751] : Fin 1 → IVec S16 32) a x).toNat < S65536.size a)
theorem k0_idx225_inb : ∀ (v751 : IVec S16 32) (k0_hw225 : k0_chk225 v751), ∀ a x, ((![v751] : Fin 1 → IVec S16 32) a x).toNat < S65536.size a := fun v751 k0_hw225 => k0_hw225

def k0_chk226 (v754 : IVec S16 32) : Prop :=
  (∀ a x, ((![v754] : Fin 1 → IVec S16 32) a x).toNat < S32768.size a)
theorem k0_idx226_inb : ∀ (v754 : IVec S16 32) (k0_hw226 : k0_chk226 v754), ∀ a x, ((![v754] : Fin 1 → IVec S16 32) a x).toNat < S32768.size a := fun v754 k0_hw226 => k0_hw226

def k0_chk227 (v756 : IVec S16 32) : Prop :=
  (∀ a x, ((![v756] : Fin 1 → IVec S16 32) a x).toNat < S65536.size a)
theorem k0_idx227_inb : ∀ (v756 : IVec S16 32) (k0_hw227 : k0_chk227 v756), ∀ a x, ((![v756] : Fin 1 → IVec S16 32) a x).toNat < S65536.size a := fun v756 k0_hw227 => k0_hw227

def k0_chk228 (v759 : IVec S16 32) : Prop :=
  (∀ a x, ((![v759] : Fin 1 → IVec S16 32) a x).toNat < S32768.size a)
theorem k0_idx228_inb : ∀ (v759 : IVec S16 32) (k0_hw228 : k0_chk228 v759), ∀ a x, ((![v759] : Fin 1 → IVec S16 32) a x).toNat < S32768.size a := fun v759 k0_hw228 => k0_hw228

def k0_chk229 (v761 : IVec S16 32) : Prop :=
  (∀ a x, ((![v761] : Fin 1 → IVec S16 32) a x).toNat < S65536.size a)
theorem k0_idx229_inb : ∀ (v761 : IVec S16 32) (k0_hw229 : k0_chk229 v761), ∀ a x, ((![v761] : Fin 1 → IVec S16 32) a x).toNat < S65536.size a := fun v761 k0_hw229 => k0_hw229

def k0_chk230 (v764 : IVec S16 32) : Prop :=
  (∀ a x, ((![v764] : Fin 1 → IVec S16 32) a x).toNat < S32768.size a)
theorem k0_idx230_inb : ∀ (v764 : IVec S16 32) (k0_hw230 : k0_chk230 v764), ∀ a x, ((![v764] : Fin 1 → IVec S16 32) a x).toNat < S32768.size a := fun v764 k0_hw230 => k0_hw230

def k0_chk231 (v766 : IVec S16 32) : Prop :=
  (∀ a x, ((![v766] : Fin 1 → IVec S16 32) a x).toNat < S65536.size a)
theorem k0_idx231_inb : ∀ (v766 : IVec S16 32) (k0_hw231 : k0_chk231 v766), ∀ a x, ((![v766] : Fin 1 → IVec S16 32) a x).toNat < S65536.size a := fun v766 k0_hw231 => k0_hw231

def k0_chk232 (v769 : IVec S16 32) : Prop :=
  (∀ a x, ((![v769] : Fin 1 → IVec S16 32) a x).toNat < S32768.size a)
theorem k0_idx232_inb : ∀ (v769 : IVec S16 32) (k0_hw232 : k0_chk232 v769), ∀ a x, ((![v769] : Fin 1 → IVec S16 32) a x).toNat < S32768.size a := fun v769 k0_hw232 => k0_hw232

def k0_chk233 (v771 : IVec S16 32) : Prop :=
  (∀ a x, ((![v771] : Fin 1 → IVec S16 32) a x).toNat < S65536.size a)
theorem k0_idx233_inb : ∀ (v771 : IVec S16 32) (k0_hw233 : k0_chk233 v771), ∀ a x, ((![v771] : Fin 1 → IVec S16 32) a x).toNat < S65536.size a := fun v771 k0_hw233 => k0_hw233

def k0_chk234 (v774 : IVec S16 32) : Prop :=
  (∀ a x, ((![v774] : Fin 1 → IVec S16 32) a x).toNat < S32768.size a)
theorem k0_idx234_inb : ∀ (v774 : IVec S16 32) (k0_hw234 : k0_chk234 v774), ∀ a x, ((![v774] : Fin 1 → IVec S16 32) a x).toNat < S32768.size a := fun v774 k0_hw234 => k0_hw234

def k0_chk235 (v776 : IVec S16 32) : Prop :=
  (∀ a x, ((![v776] : Fin 1 → IVec S16 32) a x).toNat < S65536.size a)
theorem k0_idx235_inb : ∀ (v776 : IVec S16 32) (k0_hw235 : k0_chk235 v776), ∀ a x, ((![v776] : Fin 1 → IVec S16 32) a x).toNat < S65536.size a := fun v776 k0_hw235 => k0_hw235

def k0_chk236 (v779 : IVec S16 32) : Prop :=
  (∀ a x, ((![v779] : Fin 1 → IVec S16 32) a x).toNat < S32768.size a)
theorem k0_idx236_inb : ∀ (v779 : IVec S16 32) (k0_hw236 : k0_chk236 v779), ∀ a x, ((![v779] : Fin 1 → IVec S16 32) a x).toNat < S32768.size a := fun v779 k0_hw236 => k0_hw236

def k0_chk237 (v781 : IVec S16 32) : Prop :=
  (∀ a x, ((![v781] : Fin 1 → IVec S16 32) a x).toNat < S65536.size a)
theorem k0_idx237_inb : ∀ (v781 : IVec S16 32) (k0_hw237 : k0_chk237 v781), ∀ a x, ((![v781] : Fin 1 → IVec S16 32) a x).toNat < S65536.size a := fun v781 k0_hw237 => k0_hw237

def k0_chk238 (v784 : IVec S16 32) : Prop :=
  (∀ a x, ((![v784] : Fin 1 → IVec S16 32) a x).toNat < S32768.size a)
theorem k0_idx238_inb : ∀ (v784 : IVec S16 32) (k0_hw238 : k0_chk238 v784), ∀ a x, ((![v784] : Fin 1 → IVec S16 32) a x).toNat < S32768.size a := fun v784 k0_hw238 => k0_hw238

def k0_chk239 (v786 : IVec S16 32) : Prop :=
  (∀ a x, ((![v786] : Fin 1 → IVec S16 32) a x).toNat < S65536.size a)
theorem k0_idx239_inb : ∀ (v786 : IVec S16 32) (k0_hw239 : k0_chk239 v786), ∀ a x, ((![v786] : Fin 1 → IVec S16 32) a x).toNat < S65536.size a := fun v786 k0_hw239 => k0_hw239

def k0_chk240 (v789 : IVec S16 32) : Prop :=
  (∀ a x, ((![v789] : Fin 1 → IVec S16 32) a x).toNat < S32768.size a)
theorem k0_idx240_inb : ∀ (v789 : IVec S16 32) (k0_hw240 : k0_chk240 v789), ∀ a x, ((![v789] : Fin 1 → IVec S16 32) a x).toNat < S32768.size a := fun v789 k0_hw240 => k0_hw240
def k0_off17 (k0_t2 : Fin k0_t2_loop.trips) : Fin 1 → Nat :=
  let c0_i32_3 : BitVec 32 := 0#32
  let c1_i32_5 : BitVec 32 := 1#32
  let arg10 : BitVec 32 := Scf.iv c0_i32_3 c1_i32_5 k0_t2
  let c16_i32_326 : BitVec 32 := 16#32
  let v790 : BitVec 32 := Scalar.muli arg10 c16_i32_326
  let c15_i32 : BitVec 32 := 15#32
  let v791 : BitVec 32 := Scalar.addi v790 c15_i32
  let c16_i32_327 : BitVec 32 := 16#32
  let v792 : BitVec 32 := Scalar.muli v791 c16_i32_327
  let v793 : Index := Scalar.indexCast v792
  ![v793.toNat]

def k0_chk241 (v803 : IVec S16 32) : Prop :=
  (∀ a x, ((![v803] : Fin 1 → IVec S16 32) a x).toNat < S65536.size a)
theorem k0_idx241_inb : ∀ (v803 : IVec S16 32) (k0_hw241 : k0_chk241 v803), ∀ a x, ((![v803] : Fin 1 → IVec S16 32) a x).toNat < S65536.size a := fun v803 k0_hw241 => k0_hw241

def k0_chk242 (v806 : IVec S16 32) : Prop :=
  (∀ a x, ((![v806] : Fin 1 → IVec S16 32) a x).toNat < S32768.size a)
theorem k0_idx242_inb : ∀ (v806 : IVec S16 32) (k0_hw242 : k0_chk242 v806), ∀ a x, ((![v806] : Fin 1 → IVec S16 32) a x).toNat < S32768.size a := fun v806 k0_hw242 => k0_hw242

def k0_chk243 (v808 : IVec S16 32) : Prop :=
  (∀ a x, ((![v808] : Fin 1 → IVec S16 32) a x).toNat < S65536.size a)
theorem k0_idx243_inb : ∀ (v808 : IVec S16 32) (k0_hw243 : k0_chk243 v808), ∀ a x, ((![v808] : Fin 1 → IVec S16 32) a x).toNat < S65536.size a := fun v808 k0_hw243 => k0_hw243

def k0_chk244 (v811 : IVec S16 32) : Prop :=
  (∀ a x, ((![v811] : Fin 1 → IVec S16 32) a x).toNat < S32768.size a)
theorem k0_idx244_inb : ∀ (v811 : IVec S16 32) (k0_hw244 : k0_chk244 v811), ∀ a x, ((![v811] : Fin 1 → IVec S16 32) a x).toNat < S32768.size a := fun v811 k0_hw244 => k0_hw244

def k0_chk245 (v813 : IVec S16 32) : Prop :=
  (∀ a x, ((![v813] : Fin 1 → IVec S16 32) a x).toNat < S65536.size a)
theorem k0_idx245_inb : ∀ (v813 : IVec S16 32) (k0_hw245 : k0_chk245 v813), ∀ a x, ((![v813] : Fin 1 → IVec S16 32) a x).toNat < S65536.size a := fun v813 k0_hw245 => k0_hw245

def k0_chk246 (v816 : IVec S16 32) : Prop :=
  (∀ a x, ((![v816] : Fin 1 → IVec S16 32) a x).toNat < S32768.size a)
theorem k0_idx246_inb : ∀ (v816 : IVec S16 32) (k0_hw246 : k0_chk246 v816), ∀ a x, ((![v816] : Fin 1 → IVec S16 32) a x).toNat < S32768.size a := fun v816 k0_hw246 => k0_hw246

def k0_chk247 (v818 : IVec S16 32) : Prop :=
  (∀ a x, ((![v818] : Fin 1 → IVec S16 32) a x).toNat < S65536.size a)
theorem k0_idx247_inb : ∀ (v818 : IVec S16 32) (k0_hw247 : k0_chk247 v818), ∀ a x, ((![v818] : Fin 1 → IVec S16 32) a x).toNat < S65536.size a := fun v818 k0_hw247 => k0_hw247

def k0_chk248 (v821 : IVec S16 32) : Prop :=
  (∀ a x, ((![v821] : Fin 1 → IVec S16 32) a x).toNat < S32768.size a)
theorem k0_idx248_inb : ∀ (v821 : IVec S16 32) (k0_hw248 : k0_chk248 v821), ∀ a x, ((![v821] : Fin 1 → IVec S16 32) a x).toNat < S32768.size a := fun v821 k0_hw248 => k0_hw248

def k0_chk249 (v823 : IVec S16 32) : Prop :=
  (∀ a x, ((![v823] : Fin 1 → IVec S16 32) a x).toNat < S65536.size a)
theorem k0_idx249_inb : ∀ (v823 : IVec S16 32) (k0_hw249 : k0_chk249 v823), ∀ a x, ((![v823] : Fin 1 → IVec S16 32) a x).toNat < S65536.size a := fun v823 k0_hw249 => k0_hw249

def k0_chk250 (v826 : IVec S16 32) : Prop :=
  (∀ a x, ((![v826] : Fin 1 → IVec S16 32) a x).toNat < S32768.size a)
theorem k0_idx250_inb : ∀ (v826 : IVec S16 32) (k0_hw250 : k0_chk250 v826), ∀ a x, ((![v826] : Fin 1 → IVec S16 32) a x).toNat < S32768.size a := fun v826 k0_hw250 => k0_hw250

def k0_chk251 (v828 : IVec S16 32) : Prop :=
  (∀ a x, ((![v828] : Fin 1 → IVec S16 32) a x).toNat < S65536.size a)
theorem k0_idx251_inb : ∀ (v828 : IVec S16 32) (k0_hw251 : k0_chk251 v828), ∀ a x, ((![v828] : Fin 1 → IVec S16 32) a x).toNat < S65536.size a := fun v828 k0_hw251 => k0_hw251

def k0_chk252 (v831 : IVec S16 32) : Prop :=
  (∀ a x, ((![v831] : Fin 1 → IVec S16 32) a x).toNat < S32768.size a)
theorem k0_idx252_inb : ∀ (v831 : IVec S16 32) (k0_hw252 : k0_chk252 v831), ∀ a x, ((![v831] : Fin 1 → IVec S16 32) a x).toNat < S32768.size a := fun v831 k0_hw252 => k0_hw252

def k0_chk253 (v833 : IVec S16 32) : Prop :=
  (∀ a x, ((![v833] : Fin 1 → IVec S16 32) a x).toNat < S65536.size a)
theorem k0_idx253_inb : ∀ (v833 : IVec S16 32) (k0_hw253 : k0_chk253 v833), ∀ a x, ((![v833] : Fin 1 → IVec S16 32) a x).toNat < S65536.size a := fun v833 k0_hw253 => k0_hw253

def k0_chk254 (v836 : IVec S16 32) : Prop :=
  (∀ a x, ((![v836] : Fin 1 → IVec S16 32) a x).toNat < S32768.size a)
theorem k0_idx254_inb : ∀ (v836 : IVec S16 32) (k0_hw254 : k0_chk254 v836), ∀ a x, ((![v836] : Fin 1 → IVec S16 32) a x).toNat < S32768.size a := fun v836 k0_hw254 => k0_hw254

def k0_chk255 (v838 : IVec S16 32) : Prop :=
  (∀ a x, ((![v838] : Fin 1 → IVec S16 32) a x).toNat < S65536.size a)
theorem k0_idx255_inb : ∀ (v838 : IVec S16 32) (k0_hw255 : k0_chk255 v838), ∀ a x, ((![v838] : Fin 1 → IVec S16 32) a x).toNat < S65536.size a := fun v838 k0_hw255 => k0_hw255

def k0_chk256 (v841 : IVec S16 32) : Prop :=
  (∀ a x, ((![v841] : Fin 1 → IVec S16 32) a x).toNat < S32768.size a)
theorem k0_idx256_inb : ∀ (v841 : IVec S16 32) (k0_hw256 : k0_chk256 v841), ∀ a x, ((![v841] : Fin 1 → IVec S16 32) a x).toNat < S32768.size a := fun v841 k0_hw256 => k0_hw256
def k0_off18 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v4 : BitVec 32 := Scalar.muli v1 c1024_i32
  let c0_i32_0 : BitVec 32 := 0#32
  let c1_i32 : BitVec 32 := 1#32
  let arg9 : BitVec 32 := Scf.iv c0_i32_0 c1_i32 k0_t1
  let c256_i32 : BitVec 32 := 256#32
  let v5 : BitVec 32 := Scalar.muli arg9 c256_i32
  let v6 : BitVec 32 := Scalar.addi v4 v5
  let c128_i32 : BitVec 32 := 128#32
  let v9 : BitVec 32 := Scalar.muli v6 c128_i32
  ![v9.toNat]
abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S131072 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![2, 16], ![false, false]⟩

@[reducible] def k2_t1_loop : Scf.Loop 32 :=
  let c0_i32_0 : BitVec 32 := 0#32
  let c4_i32 : BitVec 32 := 4#32
  let v3 : BitVec 32 := Scalar.addi c0_i32_0 c4_i32
  let c1_i32 : BitVec 32 := 1#32
  ⟨c0_i32_0, v3, c1_i32⟩
def k2_off1 (i : grid2.Coords) (k2_t1 : Fin k2_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v4 : BitVec 32 := Scalar.muli v1 c1024_i32
  let c0_i32_0 : BitVec 32 := 0#32
  let c1_i32 : BitVec 32 := 1#32
  let arg9 : BitVec 32 := Scf.iv c0_i32_0 c1_i32 k2_t1
  let c256_i32 : BitVec 32 := 256#32
  let v5 : BitVec 32 := Scalar.muli arg9 c256_i32
  let v6 : BitVec 32 := Scalar.addi v4 v5
  let c16_i32 : BitVec 32 := 16#32
  let v7 : BitVec 32 := Scalar.muli v6 c16_i32
  ![v7.toNat]
@[reducible] def k2_t2_loop : Scf.Loop 32 :=
  let c0_i32_3 : BitVec 32 := 0#32
  let c16_i32_4 : BitVec 32 := 16#32
  let v8 : BitVec 32 := Scalar.addi c0_i32_3 c16_i32_4
  let c1_i32_5 : BitVec 32 := 1#32
  ⟨c0_i32_3, v8, c1_i32_5⟩
def k2_off2 (k2_t2 : Fin k2_t2_loop.trips) : Fin 1 → Nat :=
  let c0_i32_3 : BitVec 32 := 0#32
  let c1_i32_5 : BitVec 32 := 1#32
  let arg10 : BitVec 32 := Scf.iv c0_i32_3 c1_i32_5 k2_t2
  let c16_i32_7 : BitVec 32 := 16#32
  let v10 : BitVec 32 := Scalar.muli arg10 c16_i32_7
  let c0_i32_8 : BitVec 32 := 0#32
  let v11 : BitVec 32 := Scalar.addi v10 c0_i32_8
  let c16_i32_9 : BitVec 32 := 16#32
  let v12 : BitVec 32 := Scalar.muli v11 c16_i32_9
  let v13 : Index := Scalar.indexCast v12
  ![v13.toNat]

def k2_chk1 (v23 : IVec S16 32) : Prop :=
  (∀ a x, ((![v23] : Fin 1 → IVec S16 32) a x).toNat < S65536.size a)
theorem k2_idx1_inb : ∀ (v23 : IVec S16 32) (k2_hw1 : k2_chk1 v23), ∀ a x, ((![v23] : Fin 1 → IVec S16 32) a x).toNat < S65536.size a := fun v23 k2_hw1 => k2_hw1

def k2_chk2 (v26 : IVec S16 32) : Prop :=
  (∀ a x, ((![v26] : Fin 1 → IVec S16 32) a x).toNat < S32768.size a)
theorem k2_idx2_inb : ∀ (v26 : IVec S16 32) (k2_hw2 : k2_chk2 v26), ∀ a x, ((![v26] : Fin 1 → IVec S16 32) a x).toNat < S32768.size a := fun v26 k2_hw2 => k2_hw2

def k2_chk3 (v28 : IVec S16 32) : Prop :=
  (∀ a x, ((![v28] : Fin 1 → IVec S16 32) a x).toNat < S65536.size a)
theorem k2_idx3_inb : ∀ (v28 : IVec S16 32) (k2_hw3 : k2_chk3 v28), ∀ a x, ((![v28] : Fin 1 → IVec S16 32) a x).toNat < S65536.size a := fun v28 k2_hw3 => k2_hw3

def k2_chk4 (v31 : IVec S16 32) : Prop :=
  (∀ a x, ((![v31] : Fin 1 → IVec S16 32) a x).toNat < S32768.size a)
theorem k2_idx4_inb : ∀ (v31 : IVec S16 32) (k2_hw4 : k2_chk4 v31), ∀ a x, ((![v31] : Fin 1 → IVec S16 32) a x).toNat < S32768.size a := fun v31 k2_hw4 => k2_hw4

def k2_chk5 (v33 : IVec S16 32) : Prop :=
  (∀ a x, ((![v33] : Fin 1 → IVec S16 32) a x).toNat < S65536.size a)
theorem k2_idx5_inb : ∀ (v33 : IVec S16 32) (k2_hw5 : k2_chk5 v33), ∀ a x, ((![v33] : Fin 1 → IVec S16 32) a x).toNat < S65536.size a := fun v33 k2_hw5 => k2_hw5

def k2_chk6 (v36 : IVec S16 32) : Prop :=
  (∀ a x, ((![v36] : Fin 1 → IVec S16 32) a x).toNat < S32768.size a)
theorem k2_idx6_inb : ∀ (v36 : IVec S16 32) (k2_hw6 : k2_chk6 v36), ∀ a x, ((![v36] : Fin 1 → IVec S16 32) a x).toNat < S32768.size a := fun v36 k2_hw6 => k2_hw6

def k2_chk7 (v38 : IVec S16 32) : Prop :=
  (∀ a x, ((![v38] : Fin 1 → IVec S16 32) a x).toNat < S65536.size a)
theorem k2_idx7_inb : ∀ (v38 : IVec S16 32) (k2_hw7 : k2_chk7 v38), ∀ a x, ((![v38] : Fin 1 → IVec S16 32) a x).toNat < S65536.size a := fun v38 k2_hw7 => k2_hw7

def k2_chk8 (v41 : IVec S16 32) : Prop :=
  (∀ a x, ((![v41] : Fin 1 → IVec S16 32) a x).toNat < S32768.size a)
theorem k2_idx8_inb : ∀ (v41 : IVec S16 32) (k2_hw8 : k2_chk8 v41), ∀ a x, ((![v41] : Fin 1 → IVec S16 32) a x).toNat < S32768.size a := fun v41 k2_hw8 => k2_hw8

def k2_chk9 (v43 : IVec S16 32) : Prop :=
  (∀ a x, ((![v43] : Fin 1 → IVec S16 32) a x).toNat < S65536.size a)
theorem k2_idx9_inb : ∀ (v43 : IVec S16 32) (k2_hw9 : k2_chk9 v43), ∀ a x, ((![v43] : Fin 1 → IVec S16 32) a x).toNat < S65536.size a := fun v43 k2_hw9 => k2_hw9

def k2_chk10 (v46 : IVec S16 32) : Prop :=
  (∀ a x, ((![v46] : Fin 1 → IVec S16 32) a x).toNat < S32768.size a)
theorem k2_idx10_inb : ∀ (v46 : IVec S16 32) (k2_hw10 : k2_chk10 v46), ∀ a x, ((![v46] : Fin 1 → IVec S16 32) a x).toNat < S32768.size a := fun v46 k2_hw10 => k2_hw10

def k2_chk11 (v48 : IVec S16 32) : Prop :=
  (∀ a x, ((![v48] : Fin 1 → IVec S16 32) a x).toNat < S65536.size a)
theorem k2_idx11_inb : ∀ (v48 : IVec S16 32) (k2_hw11 : k2_chk11 v48), ∀ a x, ((![v48] : Fin 1 → IVec S16 32) a x).toNat < S65536.size a := fun v48 k2_hw11 => k2_hw11

def k2_chk12 (v51 : IVec S16 32) : Prop :=
  (∀ a x, ((![v51] : Fin 1 → IVec S16 32) a x).toNat < S32768.size a)
theorem k2_idx12_inb : ∀ (v51 : IVec S16 32) (k2_hw12 : k2_chk12 v51), ∀ a x, ((![v51] : Fin 1 → IVec S16 32) a x).toNat < S32768.size a := fun v51 k2_hw12 => k2_hw12

def k2_chk13 (v53 : IVec S16 32) : Prop :=
  (∀ a x, ((![v53] : Fin 1 → IVec S16 32) a x).toNat < S65536.size a)
theorem k2_idx13_inb : ∀ (v53 : IVec S16 32) (k2_hw13 : k2_chk13 v53), ∀ a x, ((![v53] : Fin 1 → IVec S16 32) a x).toNat < S65536.size a := fun v53 k2_hw13 => k2_hw13

def k2_chk14 (v56 : IVec S16 32) : Prop :=
  (∀ a x, ((![v56] : Fin 1 → IVec S16 32) a x).toNat < S32768.size a)
theorem k2_idx14_inb : ∀ (v56 : IVec S16 32) (k2_hw14 : k2_chk14 v56), ∀ a x, ((![v56] : Fin 1 → IVec S16 32) a x).toNat < S32768.size a := fun v56 k2_hw14 => k2_hw14

def k2_chk15 (v58 : IVec S16 32) : Prop :=
  (∀ a x, ((![v58] : Fin 1 → IVec S16 32) a x).toNat < S65536.size a)
theorem k2_idx15_inb : ∀ (v58 : IVec S16 32) (k2_hw15 : k2_chk15 v58), ∀ a x, ((![v58] : Fin 1 → IVec S16 32) a x).toNat < S65536.size a := fun v58 k2_hw15 => k2_hw15

def k2_chk16 (v61 : IVec S16 32) : Prop :=
  (∀ a x, ((![v61] : Fin 1 → IVec S16 32) a x).toNat < S32768.size a)
theorem k2_idx16_inb : ∀ (v61 : IVec S16 32) (k2_hw16 : k2_chk16 v61), ∀ a x, ((![v61] : Fin 1 → IVec S16 32) a x).toNat < S32768.size a := fun v61 k2_hw16 => k2_hw16
def k2_off3 (k2_t2 : Fin k2_t2_loop.trips) : Fin 1 → Nat :=
  let c0_i32_3 : BitVec 32 := 0#32
  let c1_i32_5 : BitVec 32 := 1#32
  let arg10 : BitVec 32 := Scf.iv c0_i32_3 c1_i32_5 k2_t2
  let c16_i32_24 : BitVec 32 := 16#32
  let v62 : BitVec 32 := Scalar.muli arg10 c16_i32_24
  let c1_i32_25 : BitVec 32 := 1#32
  let v63 : BitVec 32 := Scalar.addi v62 c1_i32_25
  let c16_i32_26 : BitVec 32 := 16#32
  let v64 : BitVec 32 := Scalar.muli v63 c16_i32_26
  let v65 : Index := Scalar.indexCast v64
  ![v65.toNat]

def k2_chk17 (v75 : IVec S16 32) : Prop :=
  (∀ a x, ((![v75] : Fin 1 → IVec S16 32) a x).toNat < S65536.size a)
theorem k2_idx17_inb : ∀ (v75 : IVec S16 32) (k2_hw17 : k2_chk17 v75), ∀ a x, ((![v75] : Fin 1 → IVec S16 32) a x).toNat < S65536.size a := fun v75 k2_hw17 => k2_hw17

def k2_chk18 (v78 : IVec S16 32) : Prop :=
  (∀ a x, ((![v78] : Fin 1 → IVec S16 32) a x).toNat < S32768.size a)
theorem k2_idx18_inb : ∀ (v78 : IVec S16 32) (k2_hw18 : k2_chk18 v78), ∀ a x, ((![v78] : Fin 1 → IVec S16 32) a x).toNat < S32768.size a := fun v78 k2_hw18 => k2_hw18

def k2_chk19 (v80 : IVec S16 32) : Prop :=
  (∀ a x, ((![v80] : Fin 1 → IVec S16 32) a x).toNat < S65536.size a)
theorem k2_idx19_inb : ∀ (v80 : IVec S16 32) (k2_hw19 : k2_chk19 v80), ∀ a x, ((![v80] : Fin 1 → IVec S16 32) a x).toNat < S65536.size a := fun v80 k2_hw19 => k2_hw19

def k2_chk20 (v83 : IVec S16 32) : Prop :=
  (∀ a x, ((![v83] : Fin 1 → IVec S16 32) a x).toNat < S32768.size a)
theorem k2_idx20_inb : ∀ (v83 : IVec S16 32) (k2_hw20 : k2_chk20 v83), ∀ a x, ((![v83] : Fin 1 → IVec S16 32) a x).toNat < S32768.size a := fun v83 k2_hw20 => k2_hw20

def k2_chk21 (v85 : IVec S16 32) : Prop :=
  (∀ a x, ((![v85] : Fin 1 → IVec S16 32) a x).toNat < S65536.size a)
theorem k2_idx21_inb : ∀ (v85 : IVec S16 32) (k2_hw21 : k2_chk21 v85), ∀ a x, ((![v85] : Fin 1 → IVec S16 32) a x).toNat < S65536.size a := fun v85 k2_hw21 => k2_hw21

def k2_chk22 (v88 : IVec S16 32) : Prop :=
  (∀ a x, ((![v88] : Fin 1 → IVec S16 32) a x).toNat < S32768.size a)
theorem k2_idx22_inb : ∀ (v88 : IVec S16 32) (k2_hw22 : k2_chk22 v88), ∀ a x, ((![v88] : Fin 1 → IVec S16 32) a x).toNat < S32768.size a := fun v88 k2_hw22 => k2_hw22

def k2_chk23 (v90 : IVec S16 32) : Prop :=
  (∀ a x, ((![v90] : Fin 1 → IVec S16 32) a x).toNat < S65536.size a)
theorem k2_idx23_inb : ∀ (v90 : IVec S16 32) (k2_hw23 : k2_chk23 v90), ∀ a x, ((![v90] : Fin 1 → IVec S16 32) a x).toNat < S65536.size a := fun v90 k2_hw23 => k2_hw23

def k2_chk24 (v93 : IVec S16 32) : Prop :=
  (∀ a x, ((![v93] : Fin 1 → IVec S16 32) a x).toNat < S32768.size a)
theorem k2_idx24_inb : ∀ (v93 : IVec S16 32) (k2_hw24 : k2_chk24 v93), ∀ a x, ((![v93] : Fin 1 → IVec S16 32) a x).toNat < S32768.size a := fun v93 k2_hw24 => k2_hw24

def k2_chk25 (v95 : IVec S16 32) : Prop :=
  (∀ a x, ((![v95] : Fin 1 → IVec S16 32) a x).toNat < S65536.size a)
theorem k2_idx25_inb : ∀ (v95 : IVec S16 32) (k2_hw25 : k2_chk25 v95), ∀ a x, ((![v95] : Fin 1 → IVec S16 32) a x).toNat < S65536.size a := fun v95 k2_hw25 => k2_hw25

def k2_chk26 (v98 : IVec S16 32) : Prop :=
  (∀ a x, ((![v98] : Fin 1 → IVec S16 32) a x).toNat < S32768.size a)
theorem k2_idx26_inb : ∀ (v98 : IVec S16 32) (k2_hw26 : k2_chk26 v98), ∀ a x, ((![v98] : Fin 1 → IVec S16 32) a x).toNat < S32768.size a := fun v98 k2_hw26 => k2_hw26

def k2_chk27 (v100 : IVec S16 32) : Prop :=
  (∀ a x, ((![v100] : Fin 1 → IVec S16 32) a x).toNat < S65536.size a)
theorem k2_idx27_inb : ∀ (v100 : IVec S16 32) (k2_hw27 : k2_chk27 v100), ∀ a x, ((![v100] : Fin 1 → IVec S16 32) a x).toNat < S65536.size a := fun v100 k2_hw27 => k2_hw27

def k2_chk28 (v103 : IVec S16 32) : Prop :=
  (∀ a x, ((![v103] : Fin 1 → IVec S16 32) a x).toNat < S32768.size a)
theorem k2_idx28_inb : ∀ (v103 : IVec S16 32) (k2_hw28 : k2_chk28 v103), ∀ a x, ((![v103] : Fin 1 → IVec S16 32) a x).toNat < S32768.size a := fun v103 k2_hw28 => k2_hw28

def k2_chk29 (v105 : IVec S16 32) : Prop :=
  (∀ a x, ((![v105] : Fin 1 → IVec S16 32) a x).toNat < S65536.size a)
theorem k2_idx29_inb : ∀ (v105 : IVec S16 32) (k2_hw29 : k2_chk29 v105), ∀ a x, ((![v105] : Fin 1 → IVec S16 32) a x).toNat < S65536.size a := fun v105 k2_hw29 => k2_hw29

def k2_chk30 (v108 : IVec S16 32) : Prop :=
  (∀ a x, ((![v108] : Fin 1 → IVec S16 32) a x).toNat < S32768.size a)
theorem k2_idx30_inb : ∀ (v108 : IVec S16 32) (k2_hw30 : k2_chk30 v108), ∀ a x, ((![v108] : Fin 1 → IVec S16 32) a x).toNat < S32768.size a := fun v108 k2_hw30 => k2_hw30

def k2_chk31 (v110 : IVec S16 32) : Prop :=
  (∀ a x, ((![v110] : Fin 1 → IVec S16 32) a x).toNat < S65536.size a)
theorem k2_idx31_inb : ∀ (v110 : IVec S16 32) (k2_hw31 : k2_chk31 v110), ∀ a x, ((![v110] : Fin 1 → IVec S16 32) a x).toNat < S65536.size a := fun v110 k2_hw31 => k2_hw31

def k2_chk32 (v113 : IVec S16 32) : Prop :=
  (∀ a x, ((![v113] : Fin 1 → IVec S16 32) a x).toNat < S32768.size a)
theorem k2_idx32_inb : ∀ (v113 : IVec S16 32) (k2_hw32 : k2_chk32 v113), ∀ a x, ((![v113] : Fin 1 → IVec S16 32) a x).toNat < S32768.size a := fun v113 k2_hw32 => k2_hw32
def k2_off4 (k2_t2 : Fin k2_t2_loop.trips) : Fin 1 → Nat :=
  let c0_i32_3 : BitVec 32 := 0#32
  let c1_i32_5 : BitVec 32 := 1#32
  let arg10 : BitVec 32 := Scf.iv c0_i32_3 c1_i32_5 k2_t2
  let c16_i32_46 : BitVec 32 := 16#32
  let v114 : BitVec 32 := Scalar.muli arg10 c16_i32_46
  let c2_i32_47 : BitVec 32 := 2#32
  let v115 : BitVec 32 := Scalar.addi v114 c2_i32_47
  let c16_i32_48 : BitVec 32 := 16#32
  let v116 : BitVec 32 := Scalar.muli v115 c16_i32_48
  let v117 : Index := Scalar.indexCast v116
  ![v117.toNat]

def k2_chk33 (v127 : IVec S16 32) : Prop :=
  (∀ a x, ((![v127] : Fin 1 → IVec S16 32) a x).toNat < S65536.size a)
theorem k2_idx33_inb : ∀ (v127 : IVec S16 32) (k2_hw33 : k2_chk33 v127), ∀ a x, ((![v127] : Fin 1 → IVec S16 32) a x).toNat < S65536.size a := fun v127 k2_hw33 => k2_hw33

def k2_chk34 (v130 : IVec S16 32) : Prop :=
  (∀ a x, ((![v130] : Fin 1 → IVec S16 32) a x).toNat < S32768.size a)
theorem k2_idx34_inb : ∀ (v130 : IVec S16 32) (k2_hw34 : k2_chk34 v130), ∀ a x, ((![v130] : Fin 1 → IVec S16 32) a x).toNat < S32768.size a := fun v130 k2_hw34 => k2_hw34

def k2_chk35 (v132 : IVec S16 32) : Prop :=
  (∀ a x, ((![v132] : Fin 1 → IVec S16 32) a x).toNat < S65536.size a)
theorem k2_idx35_inb : ∀ (v132 : IVec S16 32) (k2_hw35 : k2_chk35 v132), ∀ a x, ((![v132] : Fin 1 → IVec S16 32) a x).toNat < S65536.size a := fun v132 k2_hw35 => k2_hw35

def k2_chk36 (v135 : IVec S16 32) : Prop :=
  (∀ a x, ((![v135] : Fin 1 → IVec S16 32) a x).toNat < S32768.size a)
theorem k2_idx36_inb : ∀ (v135 : IVec S16 32) (k2_hw36 : k2_chk36 v135), ∀ a x, ((![v135] : Fin 1 → IVec S16 32) a x).toNat < S32768.size a := fun v135 k2_hw36 => k2_hw36

def k2_chk37 (v137 : IVec S16 32) : Prop :=
  (∀ a x, ((![v137] : Fin 1 → IVec S16 32) a x).toNat < S65536.size a)
theorem k2_idx37_inb : ∀ (v137 : IVec S16 32) (k2_hw37 : k2_chk37 v137), ∀ a x, ((![v137] : Fin 1 → IVec S16 32) a x).toNat < S65536.size a := fun v137 k2_hw37 => k2_hw37

def k2_chk38 (v140 : IVec S16 32) : Prop :=
  (∀ a x, ((![v140] : Fin 1 → IVec S16 32) a x).toNat < S32768.size a)
theorem k2_idx38_inb : ∀ (v140 : IVec S16 32) (k2_hw38 : k2_chk38 v140), ∀ a x, ((![v140] : Fin 1 → IVec S16 32) a x).toNat < S32768.size a := fun v140 k2_hw38 => k2_hw38

def k2_chk39 (v142 : IVec S16 32) : Prop :=
  (∀ a x, ((![v142] : Fin 1 → IVec S16 32) a x).toNat < S65536.size a)
theorem k2_idx39_inb : ∀ (v142 : IVec S16 32) (k2_hw39 : k2_chk39 v142), ∀ a x, ((![v142] : Fin 1 → IVec S16 32) a x).toNat < S65536.size a := fun v142 k2_hw39 => k2_hw39

def k2_chk40 (v145 : IVec S16 32) : Prop :=
  (∀ a x, ((![v145] : Fin 1 → IVec S16 32) a x).toNat < S32768.size a)
theorem k2_idx40_inb : ∀ (v145 : IVec S16 32) (k2_hw40 : k2_chk40 v145), ∀ a x, ((![v145] : Fin 1 → IVec S16 32) a x).toNat < S32768.size a := fun v145 k2_hw40 => k2_hw40

def k2_chk41 (v147 : IVec S16 32) : Prop :=
  (∀ a x, ((![v147] : Fin 1 → IVec S16 32) a x).toNat < S65536.size a)
theorem k2_idx41_inb : ∀ (v147 : IVec S16 32) (k2_hw41 : k2_chk41 v147), ∀ a x, ((![v147] : Fin 1 → IVec S16 32) a x).toNat < S65536.size a := fun v147 k2_hw41 => k2_hw41

def k2_chk42 (v150 : IVec S16 32) : Prop :=
  (∀ a x, ((![v150] : Fin 1 → IVec S16 32) a x).toNat < S32768.size a)
theorem k2_idx42_inb : ∀ (v150 : IVec S16 32) (k2_hw42 : k2_chk42 v150), ∀ a x, ((![v150] : Fin 1 → IVec S16 32) a x).toNat < S32768.size a := fun v150 k2_hw42 => k2_hw42

def k2_chk43 (v152 : IVec S16 32) : Prop :=
  (∀ a x, ((![v152] : Fin 1 → IVec S16 32) a x).toNat < S65536.size a)
theorem k2_idx43_inb : ∀ (v152 : IVec S16 32) (k2_hw43 : k2_chk43 v152), ∀ a x, ((![v152] : Fin 1 → IVec S16 32) a x).toNat < S65536.size a := fun v152 k2_hw43 => k2_hw43

def k2_chk44 (v155 : IVec S16 32) : Prop :=
  (∀ a x, ((![v155] : Fin 1 → IVec S16 32) a x).toNat < S32768.size a)
theorem k2_idx44_inb : ∀ (v155 : IVec S16 32) (k2_hw44 : k2_chk44 v155), ∀ a x, ((![v155] : Fin 1 → IVec S16 32) a x).toNat < S32768.size a := fun v155 k2_hw44 => k2_hw44

def k2_chk45 (v157 : IVec S16 32) : Prop :=
  (∀ a x, ((![v157] : Fin 1 → IVec S16 32) a x).toNat < S65536.size a)
theorem k2_idx45_inb : ∀ (v157 : IVec S16 32) (k2_hw45 : k2_chk45 v157), ∀ a x, ((![v157] : Fin 1 → IVec S16 32) a x).toNat < S65536.size a := fun v157 k2_hw45 => k2_hw45

def k2_chk46 (v160 : IVec S16 32) : Prop :=
  (∀ a x, ((![v160] : Fin 1 → IVec S16 32) a x).toNat < S32768.size a)
theorem k2_idx46_inb : ∀ (v160 : IVec S16 32) (k2_hw46 : k2_chk46 v160), ∀ a x, ((![v160] : Fin 1 → IVec S16 32) a x).toNat < S32768.size a := fun v160 k2_hw46 => k2_hw46

def k2_chk47 (v162 : IVec S16 32) : Prop :=
  (∀ a x, ((![v162] : Fin 1 → IVec S16 32) a x).toNat < S65536.size a)
theorem k2_idx47_inb : ∀ (v162 : IVec S16 32) (k2_hw47 : k2_chk47 v162), ∀ a x, ((![v162] : Fin 1 → IVec S16 32) a x).toNat < S65536.size a := fun v162 k2_hw47 => k2_hw47

def k2_chk48 (v165 : IVec S16 32) : Prop :=
  (∀ a x, ((![v165] : Fin 1 → IVec S16 32) a x).toNat < S32768.size a)
theorem k2_idx48_inb : ∀ (v165 : IVec S16 32) (k2_hw48 : k2_chk48 v165), ∀ a x, ((![v165] : Fin 1 → IVec S16 32) a x).toNat < S32768.size a := fun v165 k2_hw48 => k2_hw48
def k2_off5 (k2_t2 : Fin k2_t2_loop.trips) : Fin 1 → Nat :=
  let c0_i32_3 : BitVec 32 := 0#32
  let c1_i32_5 : BitVec 32 := 1#32
  let arg10 : BitVec 32 := Scf.iv c0_i32_3 c1_i32_5 k2_t2
  let c16_i32_68 : BitVec 32 := 16#32
  let v166 : BitVec 32 := Scalar.muli arg10 c16_i32_68
  let c3_i32_69 : BitVec 32 := 3#32
  let v167 : BitVec 32 := Scalar.addi v166 c3_i32_69
  let c16_i32_70 : BitVec 32 := 16#32
  let v168 : BitVec 32 := Scalar.muli v167 c16_i32_70
  let v169 : Index := Scalar.indexCast v168
  ![v169.toNat]

def k2_chk49 (v179 : IVec S16 32) : Prop :=
  (∀ a x, ((![v179] : Fin 1 → IVec S16 32) a x).toNat < S65536.size a)
theorem k2_idx49_inb : ∀ (v179 : IVec S16 32) (k2_hw49 : k2_chk49 v179), ∀ a x, ((![v179] : Fin 1 → IVec S16 32) a x).toNat < S65536.size a := fun v179 k2_hw49 => k2_hw49

def k2_chk50 (v182 : IVec S16 32) : Prop :=
  (∀ a x, ((![v182] : Fin 1 → IVec S16 32) a x).toNat < S32768.size a)
theorem k2_idx50_inb : ∀ (v182 : IVec S16 32) (k2_hw50 : k2_chk50 v182), ∀ a x, ((![v182] : Fin 1 → IVec S16 32) a x).toNat < S32768.size a := fun v182 k2_hw50 => k2_hw50

def k2_chk51 (v184 : IVec S16 32) : Prop :=
  (∀ a x, ((![v184] : Fin 1 → IVec S16 32) a x).toNat < S65536.size a)
theorem k2_idx51_inb : ∀ (v184 : IVec S16 32) (k2_hw51 : k2_chk51 v184), ∀ a x, ((![v184] : Fin 1 → IVec S16 32) a x).toNat < S65536.size a := fun v184 k2_hw51 => k2_hw51

def k2_chk52 (v187 : IVec S16 32) : Prop :=
  (∀ a x, ((![v187] : Fin 1 → IVec S16 32) a x).toNat < S32768.size a)
theorem k2_idx52_inb : ∀ (v187 : IVec S16 32) (k2_hw52 : k2_chk52 v187), ∀ a x, ((![v187] : Fin 1 → IVec S16 32) a x).toNat < S32768.size a := fun v187 k2_hw52 => k2_hw52

def k2_chk53 (v189 : IVec S16 32) : Prop :=
  (∀ a x, ((![v189] : Fin 1 → IVec S16 32) a x).toNat < S65536.size a)
theorem k2_idx53_inb : ∀ (v189 : IVec S16 32) (k2_hw53 : k2_chk53 v189), ∀ a x, ((![v189] : Fin 1 → IVec S16 32) a x).toNat < S65536.size a := fun v189 k2_hw53 => k2_hw53

def k2_chk54 (v192 : IVec S16 32) : Prop :=
  (∀ a x, ((![v192] : Fin 1 → IVec S16 32) a x).toNat < S32768.size a)
theorem k2_idx54_inb : ∀ (v192 : IVec S16 32) (k2_hw54 : k2_chk54 v192), ∀ a x, ((![v192] : Fin 1 → IVec S16 32) a x).toNat < S32768.size a := fun v192 k2_hw54 => k2_hw54

def k2_chk55 (v194 : IVec S16 32) : Prop :=
  (∀ a x, ((![v194] : Fin 1 → IVec S16 32) a x).toNat < S65536.size a)
theorem k2_idx55_inb : ∀ (v194 : IVec S16 32) (k2_hw55 : k2_chk55 v194), ∀ a x, ((![v194] : Fin 1 → IVec S16 32) a x).toNat < S65536.size a := fun v194 k2_hw55 => k2_hw55

def k2_chk56 (v197 : IVec S16 32) : Prop :=
  (∀ a x, ((![v197] : Fin 1 → IVec S16 32) a x).toNat < S32768.size a)
theorem k2_idx56_inb : ∀ (v197 : IVec S16 32) (k2_hw56 : k2_chk56 v197), ∀ a x, ((![v197] : Fin 1 → IVec S16 32) a x).toNat < S32768.size a := fun v197 k2_hw56 => k2_hw56

def k2_chk57 (v199 : IVec S16 32) : Prop :=
  (∀ a x, ((![v199] : Fin 1 → IVec S16 32) a x).toNat < S65536.size a)
theorem k2_idx57_inb : ∀ (v199 : IVec S16 32) (k2_hw57 : k2_chk57 v199), ∀ a x, ((![v199] : Fin 1 → IVec S16 32) a x).toNat < S65536.size a := fun v199 k2_hw57 => k2_hw57

def k2_chk58 (v202 : IVec S16 32) : Prop :=
  (∀ a x, ((![v202] : Fin 1 → IVec S16 32) a x).toNat < S32768.size a)
theorem k2_idx58_inb : ∀ (v202 : IVec S16 32) (k2_hw58 : k2_chk58 v202), ∀ a x, ((![v202] : Fin 1 → IVec S16 32) a x).toNat < S32768.size a := fun v202 k2_hw58 => k2_hw58

def k2_chk59 (v204 : IVec S16 32) : Prop :=
  (∀ a x, ((![v204] : Fin 1 → IVec S16 32) a x).toNat < S65536.size a)
theorem k2_idx59_inb : ∀ (v204 : IVec S16 32) (k2_hw59 : k2_chk59 v204), ∀ a x, ((![v204] : Fin 1 → IVec S16 32) a x).toNat < S65536.size a := fun v204 k2_hw59 => k2_hw59

def k2_chk60 (v207 : IVec S16 32) : Prop :=
  (∀ a x, ((![v207] : Fin 1 → IVec S16 32) a x).toNat < S32768.size a)
theorem k2_idx60_inb : ∀ (v207 : IVec S16 32) (k2_hw60 : k2_chk60 v207), ∀ a x, ((![v207] : Fin 1 → IVec S16 32) a x).toNat < S32768.size a := fun v207 k2_hw60 => k2_hw60

def k2_chk61 (v209 : IVec S16 32) : Prop :=
  (∀ a x, ((![v209] : Fin 1 → IVec S16 32) a x).toNat < S65536.size a)
theorem k2_idx61_inb : ∀ (v209 : IVec S16 32) (k2_hw61 : k2_chk61 v209), ∀ a x, ((![v209] : Fin 1 → IVec S16 32) a x).toNat < S65536.size a := fun v209 k2_hw61 => k2_hw61

def k2_chk62 (v212 : IVec S16 32) : Prop :=
  (∀ a x, ((![v212] : Fin 1 → IVec S16 32) a x).toNat < S32768.size a)
theorem k2_idx62_inb : ∀ (v212 : IVec S16 32) (k2_hw62 : k2_chk62 v212), ∀ a x, ((![v212] : Fin 1 → IVec S16 32) a x).toNat < S32768.size a := fun v212 k2_hw62 => k2_hw62

def k2_chk63 (v214 : IVec S16 32) : Prop :=
  (∀ a x, ((![v214] : Fin 1 → IVec S16 32) a x).toNat < S65536.size a)
theorem k2_idx63_inb : ∀ (v214 : IVec S16 32) (k2_hw63 : k2_chk63 v214), ∀ a x, ((![v214] : Fin 1 → IVec S16 32) a x).toNat < S65536.size a := fun v214 k2_hw63 => k2_hw63

def k2_chk64 (v217 : IVec S16 32) : Prop :=
  (∀ a x, ((![v217] : Fin 1 → IVec S16 32) a x).toNat < S32768.size a)
theorem k2_idx64_inb : ∀ (v217 : IVec S16 32) (k2_hw64 : k2_chk64 v217), ∀ a x, ((![v217] : Fin 1 → IVec S16 32) a x).toNat < S32768.size a := fun v217 k2_hw64 => k2_hw64
def k2_off6 (k2_t2 : Fin k2_t2_loop.trips) : Fin 1 → Nat :=
  let c0_i32_3 : BitVec 32 := 0#32
  let c1_i32_5 : BitVec 32 := 1#32
  let arg10 : BitVec 32 := Scf.iv c0_i32_3 c1_i32_5 k2_t2
  let c16_i32_90 : BitVec 32 := 16#32
  let v218 : BitVec 32 := Scalar.muli arg10 c16_i32_90
  let c4_i32_91 : BitVec 32 := 4#32
  let v219 : BitVec 32 := Scalar.addi v218 c4_i32_91
  let c16_i32_92 : BitVec 32 := 16#32
  let v220 : BitVec 32 := Scalar.muli v219 c16_i32_92
  let v221 : Index := Scalar.indexCast v220
  ![v221.toNat]

def k2_chk65 (v231 : IVec S16 32) : Prop :=
  (∀ a x, ((![v231] : Fin 1 → IVec S16 32) a x).toNat < S65536.size a)
theorem k2_idx65_inb : ∀ (v231 : IVec S16 32) (k2_hw65 : k2_chk65 v231), ∀ a x, ((![v231] : Fin 1 → IVec S16 32) a x).toNat < S65536.size a := fun v231 k2_hw65 => k2_hw65

def k2_chk66 (v234 : IVec S16 32) : Prop :=
  (∀ a x, ((![v234] : Fin 1 → IVec S16 32) a x).toNat < S32768.size a)
theorem k2_idx66_inb : ∀ (v234 : IVec S16 32) (k2_hw66 : k2_chk66 v234), ∀ a x, ((![v234] : Fin 1 → IVec S16 32) a x).toNat < S32768.size a := fun v234 k2_hw66 => k2_hw66

def k2_chk67 (v236 : IVec S16 32) : Prop :=
  (∀ a x, ((![v236] : Fin 1 → IVec S16 32) a x).toNat < S65536.size a)
theorem k2_idx67_inb : ∀ (v236 : IVec S16 32) (k2_hw67 : k2_chk67 v236), ∀ a x, ((![v236] : Fin 1 → IVec S16 32) a x).toNat < S65536.size a := fun v236 k2_hw67 => k2_hw67

def k2_chk68 (v239 : IVec S16 32) : Prop :=
  (∀ a x, ((![v239] : Fin 1 → IVec S16 32) a x).toNat < S32768.size a)
theorem k2_idx68_inb : ∀ (v239 : IVec S16 32) (k2_hw68 : k2_chk68 v239), ∀ a x, ((![v239] : Fin 1 → IVec S16 32) a x).toNat < S32768.size a := fun v239 k2_hw68 => k2_hw68

def k2_chk69 (v241 : IVec S16 32) : Prop :=
  (∀ a x, ((![v241] : Fin 1 → IVec S16 32) a x).toNat < S65536.size a)
theorem k2_idx69_inb : ∀ (v241 : IVec S16 32) (k2_hw69 : k2_chk69 v241), ∀ a x, ((![v241] : Fin 1 → IVec S16 32) a x).toNat < S65536.size a := fun v241 k2_hw69 => k2_hw69

def k2_chk70 (v244 : IVec S16 32) : Prop :=
  (∀ a x, ((![v244] : Fin 1 → IVec S16 32) a x).toNat < S32768.size a)
theorem k2_idx70_inb : ∀ (v244 : IVec S16 32) (k2_hw70 : k2_chk70 v244), ∀ a x, ((![v244] : Fin 1 → IVec S16 32) a x).toNat < S32768.size a := fun v244 k2_hw70 => k2_hw70

def k2_chk71 (v246 : IVec S16 32) : Prop :=
  (∀ a x, ((![v246] : Fin 1 → IVec S16 32) a x).toNat < S65536.size a)
theorem k2_idx71_inb : ∀ (v246 : IVec S16 32) (k2_hw71 : k2_chk71 v246), ∀ a x, ((![v246] : Fin 1 → IVec S16 32) a x).toNat < S65536.size a := fun v246 k2_hw71 => k2_hw71

def k2_chk72 (v249 : IVec S16 32) : Prop :=
  (∀ a x, ((![v249] : Fin 1 → IVec S16 32) a x).toNat < S32768.size a)
theorem k2_idx72_inb : ∀ (v249 : IVec S16 32) (k2_hw72 : k2_chk72 v249), ∀ a x, ((![v249] : Fin 1 → IVec S16 32) a x).toNat < S32768.size a := fun v249 k2_hw72 => k2_hw72

def k2_chk73 (v251 : IVec S16 32) : Prop :=
  (∀ a x, ((![v251] : Fin 1 → IVec S16 32) a x).toNat < S65536.size a)
theorem k2_idx73_inb : ∀ (v251 : IVec S16 32) (k2_hw73 : k2_chk73 v251), ∀ a x, ((![v251] : Fin 1 → IVec S16 32) a x).toNat < S65536.size a := fun v251 k2_hw73 => k2_hw73

def k2_chk74 (v254 : IVec S16 32) : Prop :=
  (∀ a x, ((![v254] : Fin 1 → IVec S16 32) a x).toNat < S32768.size a)
theorem k2_idx74_inb : ∀ (v254 : IVec S16 32) (k2_hw74 : k2_chk74 v254), ∀ a x, ((![v254] : Fin 1 → IVec S16 32) a x).toNat < S32768.size a := fun v254 k2_hw74 => k2_hw74

def k2_chk75 (v256 : IVec S16 32) : Prop :=
  (∀ a x, ((![v256] : Fin 1 → IVec S16 32) a x).toNat < S65536.size a)
theorem k2_idx75_inb : ∀ (v256 : IVec S16 32) (k2_hw75 : k2_chk75 v256), ∀ a x, ((![v256] : Fin 1 → IVec S16 32) a x).toNat < S65536.size a := fun v256 k2_hw75 => k2_hw75

def k2_chk76 (v259 : IVec S16 32) : Prop :=
  (∀ a x, ((![v259] : Fin 1 → IVec S16 32) a x).toNat < S32768.size a)
theorem k2_idx76_inb : ∀ (v259 : IVec S16 32) (k2_hw76 : k2_chk76 v259), ∀ a x, ((![v259] : Fin 1 → IVec S16 32) a x).toNat < S32768.size a := fun v259 k2_hw76 => k2_hw76

def k2_chk77 (v261 : IVec S16 32) : Prop :=
  (∀ a x, ((![v261] : Fin 1 → IVec S16 32) a x).toNat < S65536.size a)
theorem k2_idx77_inb : ∀ (v261 : IVec S16 32) (k2_hw77 : k2_chk77 v261), ∀ a x, ((![v261] : Fin 1 → IVec S16 32) a x).toNat < S65536.size a := fun v261 k2_hw77 => k2_hw77

def k2_chk78 (v264 : IVec S16 32) : Prop :=
  (∀ a x, ((![v264] : Fin 1 → IVec S16 32) a x).toNat < S32768.size a)
theorem k2_idx78_inb : ∀ (v264 : IVec S16 32) (k2_hw78 : k2_chk78 v264), ∀ a x, ((![v264] : Fin 1 → IVec S16 32) a x).toNat < S32768.size a := fun v264 k2_hw78 => k2_hw78

def k2_chk79 (v266 : IVec S16 32) : Prop :=
  (∀ a x, ((![v266] : Fin 1 → IVec S16 32) a x).toNat < S65536.size a)
theorem k2_idx79_inb : ∀ (v266 : IVec S16 32) (k2_hw79 : k2_chk79 v266), ∀ a x, ((![v266] : Fin 1 → IVec S16 32) a x).toNat < S65536.size a := fun v266 k2_hw79 => k2_hw79

def k2_chk80 (v269 : IVec S16 32) : Prop :=
  (∀ a x, ((![v269] : Fin 1 → IVec S16 32) a x).toNat < S32768.size a)
theorem k2_idx80_inb : ∀ (v269 : IVec S16 32) (k2_hw80 : k2_chk80 v269), ∀ a x, ((![v269] : Fin 1 → IVec S16 32) a x).toNat < S32768.size a := fun v269 k2_hw80 => k2_hw80
def k2_off7 (k2_t2 : Fin k2_t2_loop.trips) : Fin 1 → Nat :=
  let c0_i32_3 : BitVec 32 := 0#32
  let c1_i32_5 : BitVec 32 := 1#32
  let arg10 : BitVec 32 := Scf.iv c0_i32_3 c1_i32_5 k2_t2
  let c16_i32_112 : BitVec 32 := 16#32
  let v270 : BitVec 32 := Scalar.muli arg10 c16_i32_112
  let c5_i32_113 : BitVec 32 := 5#32
  let v271 : BitVec 32 := Scalar.addi v270 c5_i32_113
  let c16_i32_114 : BitVec 32 := 16#32
  let v272 : BitVec 32 := Scalar.muli v271 c16_i32_114
  let v273 : Index := Scalar.indexCast v272
  ![v273.toNat]

def k2_chk81 (v283 : IVec S16 32) : Prop :=
  (∀ a x, ((![v283] : Fin 1 → IVec S16 32) a x).toNat < S65536.size a)
theorem k2_idx81_inb : ∀ (v283 : IVec S16 32) (k2_hw81 : k2_chk81 v283), ∀ a x, ((![v283] : Fin 1 → IVec S16 32) a x).toNat < S65536.size a := fun v283 k2_hw81 => k2_hw81

def k2_chk82 (v286 : IVec S16 32) : Prop :=
  (∀ a x, ((![v286] : Fin 1 → IVec S16 32) a x).toNat < S32768.size a)
theorem k2_idx82_inb : ∀ (v286 : IVec S16 32) (k2_hw82 : k2_chk82 v286), ∀ a x, ((![v286] : Fin 1 → IVec S16 32) a x).toNat < S32768.size a := fun v286 k2_hw82 => k2_hw82

def k2_chk83 (v288 : IVec S16 32) : Prop :=
  (∀ a x, ((![v288] : Fin 1 → IVec S16 32) a x).toNat < S65536.size a)
theorem k2_idx83_inb : ∀ (v288 : IVec S16 32) (k2_hw83 : k2_chk83 v288), ∀ a x, ((![v288] : Fin 1 → IVec S16 32) a x).toNat < S65536.size a := fun v288 k2_hw83 => k2_hw83

def k2_chk84 (v291 : IVec S16 32) : Prop :=
  (∀ a x, ((![v291] : Fin 1 → IVec S16 32) a x).toNat < S32768.size a)
theorem k2_idx84_inb : ∀ (v291 : IVec S16 32) (k2_hw84 : k2_chk84 v291), ∀ a x, ((![v291] : Fin 1 → IVec S16 32) a x).toNat < S32768.size a := fun v291 k2_hw84 => k2_hw84

def k2_chk85 (v293 : IVec S16 32) : Prop :=
  (∀ a x, ((![v293] : Fin 1 → IVec S16 32) a x).toNat < S65536.size a)
theorem k2_idx85_inb : ∀ (v293 : IVec S16 32) (k2_hw85 : k2_chk85 v293), ∀ a x, ((![v293] : Fin 1 → IVec S16 32) a x).toNat < S65536.size a := fun v293 k2_hw85 => k2_hw85

def k2_chk86 (v296 : IVec S16 32) : Prop :=
  (∀ a x, ((![v296] : Fin 1 → IVec S16 32) a x).toNat < S32768.size a)
theorem k2_idx86_inb : ∀ (v296 : IVec S16 32) (k2_hw86 : k2_chk86 v296), ∀ a x, ((![v296] : Fin 1 → IVec S16 32) a x).toNat < S32768.size a := fun v296 k2_hw86 => k2_hw86

def k2_chk87 (v298 : IVec S16 32) : Prop :=
  (∀ a x, ((![v298] : Fin 1 → IVec S16 32) a x).toNat < S65536.size a)
theorem k2_idx87_inb : ∀ (v298 : IVec S16 32) (k2_hw87 : k2_chk87 v298), ∀ a x, ((![v298] : Fin 1 → IVec S16 32) a x).toNat < S65536.size a := fun v298 k2_hw87 => k2_hw87

def k2_chk88 (v301 : IVec S16 32) : Prop :=
  (∀ a x, ((![v301] : Fin 1 → IVec S16 32) a x).toNat < S32768.size a)
theorem k2_idx88_inb : ∀ (v301 : IVec S16 32) (k2_hw88 : k2_chk88 v301), ∀ a x, ((![v301] : Fin 1 → IVec S16 32) a x).toNat < S32768.size a := fun v301 k2_hw88 => k2_hw88

def k2_chk89 (v303 : IVec S16 32) : Prop :=
  (∀ a x, ((![v303] : Fin 1 → IVec S16 32) a x).toNat < S65536.size a)
theorem k2_idx89_inb : ∀ (v303 : IVec S16 32) (k2_hw89 : k2_chk89 v303), ∀ a x, ((![v303] : Fin 1 → IVec S16 32) a x).toNat < S65536.size a := fun v303 k2_hw89 => k2_hw89

def k2_chk90 (v306 : IVec S16 32) : Prop :=
  (∀ a x, ((![v306] : Fin 1 → IVec S16 32) a x).toNat < S32768.size a)
theorem k2_idx90_inb : ∀ (v306 : IVec S16 32) (k2_hw90 : k2_chk90 v306), ∀ a x, ((![v306] : Fin 1 → IVec S16 32) a x).toNat < S32768.size a := fun v306 k2_hw90 => k2_hw90

def k2_chk91 (v308 : IVec S16 32) : Prop :=
  (∀ a x, ((![v308] : Fin 1 → IVec S16 32) a x).toNat < S65536.size a)
theorem k2_idx91_inb : ∀ (v308 : IVec S16 32) (k2_hw91 : k2_chk91 v308), ∀ a x, ((![v308] : Fin 1 → IVec S16 32) a x).toNat < S65536.size a := fun v308 k2_hw91 => k2_hw91

def k2_chk92 (v311 : IVec S16 32) : Prop :=
  (∀ a x, ((![v311] : Fin 1 → IVec S16 32) a x).toNat < S32768.size a)
theorem k2_idx92_inb : ∀ (v311 : IVec S16 32) (k2_hw92 : k2_chk92 v311), ∀ a x, ((![v311] : Fin 1 → IVec S16 32) a x).toNat < S32768.size a := fun v311 k2_hw92 => k2_hw92

def k2_chk93 (v313 : IVec S16 32) : Prop :=
  (∀ a x, ((![v313] : Fin 1 → IVec S16 32) a x).toNat < S65536.size a)
theorem k2_idx93_inb : ∀ (v313 : IVec S16 32) (k2_hw93 : k2_chk93 v313), ∀ a x, ((![v313] : Fin 1 → IVec S16 32) a x).toNat < S65536.size a := fun v313 k2_hw93 => k2_hw93

def k2_chk94 (v316 : IVec S16 32) : Prop :=
  (∀ a x, ((![v316] : Fin 1 → IVec S16 32) a x).toNat < S32768.size a)
theorem k2_idx94_inb : ∀ (v316 : IVec S16 32) (k2_hw94 : k2_chk94 v316), ∀ a x, ((![v316] : Fin 1 → IVec S16 32) a x).toNat < S32768.size a := fun v316 k2_hw94 => k2_hw94

def k2_chk95 (v318 : IVec S16 32) : Prop :=
  (∀ a x, ((![v318] : Fin 1 → IVec S16 32) a x).toNat < S65536.size a)
theorem k2_idx95_inb : ∀ (v318 : IVec S16 32) (k2_hw95 : k2_chk95 v318), ∀ a x, ((![v318] : Fin 1 → IVec S16 32) a x).toNat < S65536.size a := fun v318 k2_hw95 => k2_hw95

def k2_chk96 (v321 : IVec S16 32) : Prop :=
  (∀ a x, ((![v321] : Fin 1 → IVec S16 32) a x).toNat < S32768.size a)
theorem k2_idx96_inb : ∀ (v321 : IVec S16 32) (k2_hw96 : k2_chk96 v321), ∀ a x, ((![v321] : Fin 1 → IVec S16 32) a x).toNat < S32768.size a := fun v321 k2_hw96 => k2_hw96
def k2_off8 (k2_t2 : Fin k2_t2_loop.trips) : Fin 1 → Nat :=
  let c0_i32_3 : BitVec 32 := 0#32
  let c1_i32_5 : BitVec 32 := 1#32
  let arg10 : BitVec 32 := Scf.iv c0_i32_3 c1_i32_5 k2_t2
  let c16_i32_134 : BitVec 32 := 16#32
  let v322 : BitVec 32 := Scalar.muli arg10 c16_i32_134
  let c6_i32_135 : BitVec 32 := 6#32
  let v323 : BitVec 32 := Scalar.addi v322 c6_i32_135
  let c16_i32_136 : BitVec 32 := 16#32
  let v324 : BitVec 32 := Scalar.muli v323 c16_i32_136
  let v325 : Index := Scalar.indexCast v324
  ![v325.toNat]

def k2_chk97 (v335 : IVec S16 32) : Prop :=
  (∀ a x, ((![v335] : Fin 1 → IVec S16 32) a x).toNat < S65536.size a)
theorem k2_idx97_inb : ∀ (v335 : IVec S16 32) (k2_hw97 : k2_chk97 v335), ∀ a x, ((![v335] : Fin 1 → IVec S16 32) a x).toNat < S65536.size a := fun v335 k2_hw97 => k2_hw97

def k2_chk98 (v338 : IVec S16 32) : Prop :=
  (∀ a x, ((![v338] : Fin 1 → IVec S16 32) a x).toNat < S32768.size a)
theorem k2_idx98_inb : ∀ (v338 : IVec S16 32) (k2_hw98 : k2_chk98 v338), ∀ a x, ((![v338] : Fin 1 → IVec S16 32) a x).toNat < S32768.size a := fun v338 k2_hw98 => k2_hw98

def k2_chk99 (v340 : IVec S16 32) : Prop :=
  (∀ a x, ((![v340] : Fin 1 → IVec S16 32) a x).toNat < S65536.size a)
theorem k2_idx99_inb : ∀ (v340 : IVec S16 32) (k2_hw99 : k2_chk99 v340), ∀ a x, ((![v340] : Fin 1 → IVec S16 32) a x).toNat < S65536.size a := fun v340 k2_hw99 => k2_hw99

def k2_chk100 (v343 : IVec S16 32) : Prop :=
  (∀ a x, ((![v343] : Fin 1 → IVec S16 32) a x).toNat < S32768.size a)
theorem k2_idx100_inb : ∀ (v343 : IVec S16 32) (k2_hw100 : k2_chk100 v343), ∀ a x, ((![v343] : Fin 1 → IVec S16 32) a x).toNat < S32768.size a := fun v343 k2_hw100 => k2_hw100

def k2_chk101 (v345 : IVec S16 32) : Prop :=
  (∀ a x, ((![v345] : Fin 1 → IVec S16 32) a x).toNat < S65536.size a)
theorem k2_idx101_inb : ∀ (v345 : IVec S16 32) (k2_hw101 : k2_chk101 v345), ∀ a x, ((![v345] : Fin 1 → IVec S16 32) a x).toNat < S65536.size a := fun v345 k2_hw101 => k2_hw101

def k2_chk102 (v348 : IVec S16 32) : Prop :=
  (∀ a x, ((![v348] : Fin 1 → IVec S16 32) a x).toNat < S32768.size a)
theorem k2_idx102_inb : ∀ (v348 : IVec S16 32) (k2_hw102 : k2_chk102 v348), ∀ a x, ((![v348] : Fin 1 → IVec S16 32) a x).toNat < S32768.size a := fun v348 k2_hw102 => k2_hw102

def k2_chk103 (v350 : IVec S16 32) : Prop :=
  (∀ a x, ((![v350] : Fin 1 → IVec S16 32) a x).toNat < S65536.size a)
theorem k2_idx103_inb : ∀ (v350 : IVec S16 32) (k2_hw103 : k2_chk103 v350), ∀ a x, ((![v350] : Fin 1 → IVec S16 32) a x).toNat < S65536.size a := fun v350 k2_hw103 => k2_hw103

def k2_chk104 (v353 : IVec S16 32) : Prop :=
  (∀ a x, ((![v353] : Fin 1 → IVec S16 32) a x).toNat < S32768.size a)
theorem k2_idx104_inb : ∀ (v353 : IVec S16 32) (k2_hw104 : k2_chk104 v353), ∀ a x, ((![v353] : Fin 1 → IVec S16 32) a x).toNat < S32768.size a := fun v353 k2_hw104 => k2_hw104

def k2_chk105 (v355 : IVec S16 32) : Prop :=
  (∀ a x, ((![v355] : Fin 1 → IVec S16 32) a x).toNat < S65536.size a)
theorem k2_idx105_inb : ∀ (v355 : IVec S16 32) (k2_hw105 : k2_chk105 v355), ∀ a x, ((![v355] : Fin 1 → IVec S16 32) a x).toNat < S65536.size a := fun v355 k2_hw105 => k2_hw105

def k2_chk106 (v358 : IVec S16 32) : Prop :=
  (∀ a x, ((![v358] : Fin 1 → IVec S16 32) a x).toNat < S32768.size a)
theorem k2_idx106_inb : ∀ (v358 : IVec S16 32) (k2_hw106 : k2_chk106 v358), ∀ a x, ((![v358] : Fin 1 → IVec S16 32) a x).toNat < S32768.size a := fun v358 k2_hw106 => k2_hw106

def k2_chk107 (v360 : IVec S16 32) : Prop :=
  (∀ a x, ((![v360] : Fin 1 → IVec S16 32) a x).toNat < S65536.size a)
theorem k2_idx107_inb : ∀ (v360 : IVec S16 32) (k2_hw107 : k2_chk107 v360), ∀ a x, ((![v360] : Fin 1 → IVec S16 32) a x).toNat < S65536.size a := fun v360 k2_hw107 => k2_hw107

def k2_chk108 (v363 : IVec S16 32) : Prop :=
  (∀ a x, ((![v363] : Fin 1 → IVec S16 32) a x).toNat < S32768.size a)
theorem k2_idx108_inb : ∀ (v363 : IVec S16 32) (k2_hw108 : k2_chk108 v363), ∀ a x, ((![v363] : Fin 1 → IVec S16 32) a x).toNat < S32768.size a := fun v363 k2_hw108 => k2_hw108

def k2_chk109 (v365 : IVec S16 32) : Prop :=
  (∀ a x, ((![v365] : Fin 1 → IVec S16 32) a x).toNat < S65536.size a)
theorem k2_idx109_inb : ∀ (v365 : IVec S16 32) (k2_hw109 : k2_chk109 v365), ∀ a x, ((![v365] : Fin 1 → IVec S16 32) a x).toNat < S65536.size a := fun v365 k2_hw109 => k2_hw109

def k2_chk110 (v368 : IVec S16 32) : Prop :=
  (∀ a x, ((![v368] : Fin 1 → IVec S16 32) a x).toNat < S32768.size a)
theorem k2_idx110_inb : ∀ (v368 : IVec S16 32) (k2_hw110 : k2_chk110 v368), ∀ a x, ((![v368] : Fin 1 → IVec S16 32) a x).toNat < S32768.size a := fun v368 k2_hw110 => k2_hw110

def k2_chk111 (v370 : IVec S16 32) : Prop :=
  (∀ a x, ((![v370] : Fin 1 → IVec S16 32) a x).toNat < S65536.size a)
theorem k2_idx111_inb : ∀ (v370 : IVec S16 32) (k2_hw111 : k2_chk111 v370), ∀ a x, ((![v370] : Fin 1 → IVec S16 32) a x).toNat < S65536.size a := fun v370 k2_hw111 => k2_hw111

def k2_chk112 (v373 : IVec S16 32) : Prop :=
  (∀ a x, ((![v373] : Fin 1 → IVec S16 32) a x).toNat < S32768.size a)
theorem k2_idx112_inb : ∀ (v373 : IVec S16 32) (k2_hw112 : k2_chk112 v373), ∀ a x, ((![v373] : Fin 1 → IVec S16 32) a x).toNat < S32768.size a := fun v373 k2_hw112 => k2_hw112
def k2_off9 (k2_t2 : Fin k2_t2_loop.trips) : Fin 1 → Nat :=
  let c0_i32_3 : BitVec 32 := 0#32
  let c1_i32_5 : BitVec 32 := 1#32
  let arg10 : BitVec 32 := Scf.iv c0_i32_3 c1_i32_5 k2_t2
  let c16_i32_156 : BitVec 32 := 16#32
  let v374 : BitVec 32 := Scalar.muli arg10 c16_i32_156
  let c7_i32_157 : BitVec 32 := 7#32
  let v375 : BitVec 32 := Scalar.addi v374 c7_i32_157
  let c16_i32_158 : BitVec 32 := 16#32
  let v376 : BitVec 32 := Scalar.muli v375 c16_i32_158
  let v377 : Index := Scalar.indexCast v376
  ![v377.toNat]

def k2_chk113 (v387 : IVec S16 32) : Prop :=
  (∀ a x, ((![v387] : Fin 1 → IVec S16 32) a x).toNat < S65536.size a)
theorem k2_idx113_inb : ∀ (v387 : IVec S16 32) (k2_hw113 : k2_chk113 v387), ∀ a x, ((![v387] : Fin 1 → IVec S16 32) a x).toNat < S65536.size a := fun v387 k2_hw113 => k2_hw113

def k2_chk114 (v390 : IVec S16 32) : Prop :=
  (∀ a x, ((![v390] : Fin 1 → IVec S16 32) a x).toNat < S32768.size a)
theorem k2_idx114_inb : ∀ (v390 : IVec S16 32) (k2_hw114 : k2_chk114 v390), ∀ a x, ((![v390] : Fin 1 → IVec S16 32) a x).toNat < S32768.size a := fun v390 k2_hw114 => k2_hw114

def k2_chk115 (v392 : IVec S16 32) : Prop :=
  (∀ a x, ((![v392] : Fin 1 → IVec S16 32) a x).toNat < S65536.size a)
theorem k2_idx115_inb : ∀ (v392 : IVec S16 32) (k2_hw115 : k2_chk115 v392), ∀ a x, ((![v392] : Fin 1 → IVec S16 32) a x).toNat < S65536.size a := fun v392 k2_hw115 => k2_hw115

def k2_chk116 (v395 : IVec S16 32) : Prop :=
  (∀ a x, ((![v395] : Fin 1 → IVec S16 32) a x).toNat < S32768.size a)
theorem k2_idx116_inb : ∀ (v395 : IVec S16 32) (k2_hw116 : k2_chk116 v395), ∀ a x, ((![v395] : Fin 1 → IVec S16 32) a x).toNat < S32768.size a := fun v395 k2_hw116 => k2_hw116

def k2_chk117 (v397 : IVec S16 32) : Prop :=
  (∀ a x, ((![v397] : Fin 1 → IVec S16 32) a x).toNat < S65536.size a)
theorem k2_idx117_inb : ∀ (v397 : IVec S16 32) (k2_hw117 : k2_chk117 v397), ∀ a x, ((![v397] : Fin 1 → IVec S16 32) a x).toNat < S65536.size a := fun v397 k2_hw117 => k2_hw117

def k2_chk118 (v400 : IVec S16 32) : Prop :=
  (∀ a x, ((![v400] : Fin 1 → IVec S16 32) a x).toNat < S32768.size a)
theorem k2_idx118_inb : ∀ (v400 : IVec S16 32) (k2_hw118 : k2_chk118 v400), ∀ a x, ((![v400] : Fin 1 → IVec S16 32) a x).toNat < S32768.size a := fun v400 k2_hw118 => k2_hw118

def k2_chk119 (v402 : IVec S16 32) : Prop :=
  (∀ a x, ((![v402] : Fin 1 → IVec S16 32) a x).toNat < S65536.size a)
theorem k2_idx119_inb : ∀ (v402 : IVec S16 32) (k2_hw119 : k2_chk119 v402), ∀ a x, ((![v402] : Fin 1 → IVec S16 32) a x).toNat < S65536.size a := fun v402 k2_hw119 => k2_hw119

def k2_chk120 (v405 : IVec S16 32) : Prop :=
  (∀ a x, ((![v405] : Fin 1 → IVec S16 32) a x).toNat < S32768.size a)
theorem k2_idx120_inb : ∀ (v405 : IVec S16 32) (k2_hw120 : k2_chk120 v405), ∀ a x, ((![v405] : Fin 1 → IVec S16 32) a x).toNat < S32768.size a := fun v405 k2_hw120 => k2_hw120

def k2_chk121 (v407 : IVec S16 32) : Prop :=
  (∀ a x, ((![v407] : Fin 1 → IVec S16 32) a x).toNat < S65536.size a)
theorem k2_idx121_inb : ∀ (v407 : IVec S16 32) (k2_hw121 : k2_chk121 v407), ∀ a x, ((![v407] : Fin 1 → IVec S16 32) a x).toNat < S65536.size a := fun v407 k2_hw121 => k2_hw121

def k2_chk122 (v410 : IVec S16 32) : Prop :=
  (∀ a x, ((![v410] : Fin 1 → IVec S16 32) a x).toNat < S32768.size a)
theorem k2_idx122_inb : ∀ (v410 : IVec S16 32) (k2_hw122 : k2_chk122 v410), ∀ a x, ((![v410] : Fin 1 → IVec S16 32) a x).toNat < S32768.size a := fun v410 k2_hw122 => k2_hw122

def k2_chk123 (v412 : IVec S16 32) : Prop :=
  (∀ a x, ((![v412] : Fin 1 → IVec S16 32) a x).toNat < S65536.size a)
theorem k2_idx123_inb : ∀ (v412 : IVec S16 32) (k2_hw123 : k2_chk123 v412), ∀ a x, ((![v412] : Fin 1 → IVec S16 32) a x).toNat < S65536.size a := fun v412 k2_hw123 => k2_hw123

def k2_chk124 (v415 : IVec S16 32) : Prop :=
  (∀ a x, ((![v415] : Fin 1 → IVec S16 32) a x).toNat < S32768.size a)
theorem k2_idx124_inb : ∀ (v415 : IVec S16 32) (k2_hw124 : k2_chk124 v415), ∀ a x, ((![v415] : Fin 1 → IVec S16 32) a x).toNat < S32768.size a := fun v415 k2_hw124 => k2_hw124

def k2_chk125 (v417 : IVec S16 32) : Prop :=
  (∀ a x, ((![v417] : Fin 1 → IVec S16 32) a x).toNat < S65536.size a)
theorem k2_idx125_inb : ∀ (v417 : IVec S16 32) (k2_hw125 : k2_chk125 v417), ∀ a x, ((![v417] : Fin 1 → IVec S16 32) a x).toNat < S65536.size a := fun v417 k2_hw125 => k2_hw125

def k2_chk126 (v420 : IVec S16 32) : Prop :=
  (∀ a x, ((![v420] : Fin 1 → IVec S16 32) a x).toNat < S32768.size a)
theorem k2_idx126_inb : ∀ (v420 : IVec S16 32) (k2_hw126 : k2_chk126 v420), ∀ a x, ((![v420] : Fin 1 → IVec S16 32) a x).toNat < S32768.size a := fun v420 k2_hw126 => k2_hw126

def k2_chk127 (v422 : IVec S16 32) : Prop :=
  (∀ a x, ((![v422] : Fin 1 → IVec S16 32) a x).toNat < S65536.size a)
theorem k2_idx127_inb : ∀ (v422 : IVec S16 32) (k2_hw127 : k2_chk127 v422), ∀ a x, ((![v422] : Fin 1 → IVec S16 32) a x).toNat < S65536.size a := fun v422 k2_hw127 => k2_hw127

def k2_chk128 (v425 : IVec S16 32) : Prop :=
  (∀ a x, ((![v425] : Fin 1 → IVec S16 32) a x).toNat < S32768.size a)
theorem k2_idx128_inb : ∀ (v425 : IVec S16 32) (k2_hw128 : k2_chk128 v425), ∀ a x, ((![v425] : Fin 1 → IVec S16 32) a x).toNat < S32768.size a := fun v425 k2_hw128 => k2_hw128
def k2_off10 (k2_t2 : Fin k2_t2_loop.trips) : Fin 1 → Nat :=
  let c0_i32_3 : BitVec 32 := 0#32
  let c1_i32_5 : BitVec 32 := 1#32
  let arg10 : BitVec 32 := Scf.iv c0_i32_3 c1_i32_5 k2_t2
  let c16_i32_178 : BitVec 32 := 16#32
  let v426 : BitVec 32 := Scalar.muli arg10 c16_i32_178
  let c8_i32_179 : BitVec 32 := 8#32
  let v427 : BitVec 32 := Scalar.addi v426 c8_i32_179
  let c16_i32_180 : BitVec 32 := 16#32
  let v428 : BitVec 32 := Scalar.muli v427 c16_i32_180
  let v429 : Index := Scalar.indexCast v428
  ![v429.toNat]

def k2_chk129 (v439 : IVec S16 32) : Prop :=
  (∀ a x, ((![v439] : Fin 1 → IVec S16 32) a x).toNat < S65536.size a)
theorem k2_idx129_inb : ∀ (v439 : IVec S16 32) (k2_hw129 : k2_chk129 v439), ∀ a x, ((![v439] : Fin 1 → IVec S16 32) a x).toNat < S65536.size a := fun v439 k2_hw129 => k2_hw129

def k2_chk130 (v442 : IVec S16 32) : Prop :=
  (∀ a x, ((![v442] : Fin 1 → IVec S16 32) a x).toNat < S32768.size a)
theorem k2_idx130_inb : ∀ (v442 : IVec S16 32) (k2_hw130 : k2_chk130 v442), ∀ a x, ((![v442] : Fin 1 → IVec S16 32) a x).toNat < S32768.size a := fun v442 k2_hw130 => k2_hw130

def k2_chk131 (v444 : IVec S16 32) : Prop :=
  (∀ a x, ((![v444] : Fin 1 → IVec S16 32) a x).toNat < S65536.size a)
theorem k2_idx131_inb : ∀ (v444 : IVec S16 32) (k2_hw131 : k2_chk131 v444), ∀ a x, ((![v444] : Fin 1 → IVec S16 32) a x).toNat < S65536.size a := fun v444 k2_hw131 => k2_hw131

def k2_chk132 (v447 : IVec S16 32) : Prop :=
  (∀ a x, ((![v447] : Fin 1 → IVec S16 32) a x).toNat < S32768.size a)
theorem k2_idx132_inb : ∀ (v447 : IVec S16 32) (k2_hw132 : k2_chk132 v447), ∀ a x, ((![v447] : Fin 1 → IVec S16 32) a x).toNat < S32768.size a := fun v447 k2_hw132 => k2_hw132

def k2_chk133 (v449 : IVec S16 32) : Prop :=
  (∀ a x, ((![v449] : Fin 1 → IVec S16 32) a x).toNat < S65536.size a)
theorem k2_idx133_inb : ∀ (v449 : IVec S16 32) (k2_hw133 : k2_chk133 v449), ∀ a x, ((![v449] : Fin 1 → IVec S16 32) a x).toNat < S65536.size a := fun v449 k2_hw133 => k2_hw133

def k2_chk134 (v452 : IVec S16 32) : Prop :=
  (∀ a x, ((![v452] : Fin 1 → IVec S16 32) a x).toNat < S32768.size a)
theorem k2_idx134_inb : ∀ (v452 : IVec S16 32) (k2_hw134 : k2_chk134 v452), ∀ a x, ((![v452] : Fin 1 → IVec S16 32) a x).toNat < S32768.size a := fun v452 k2_hw134 => k2_hw134

def k2_chk135 (v454 : IVec S16 32) : Prop :=
  (∀ a x, ((![v454] : Fin 1 → IVec S16 32) a x).toNat < S65536.size a)
theorem k2_idx135_inb : ∀ (v454 : IVec S16 32) (k2_hw135 : k2_chk135 v454), ∀ a x, ((![v454] : Fin 1 → IVec S16 32) a x).toNat < S65536.size a := fun v454 k2_hw135 => k2_hw135

def k2_chk136 (v457 : IVec S16 32) : Prop :=
  (∀ a x, ((![v457] : Fin 1 → IVec S16 32) a x).toNat < S32768.size a)
theorem k2_idx136_inb : ∀ (v457 : IVec S16 32) (k2_hw136 : k2_chk136 v457), ∀ a x, ((![v457] : Fin 1 → IVec S16 32) a x).toNat < S32768.size a := fun v457 k2_hw136 => k2_hw136

def k2_chk137 (v459 : IVec S16 32) : Prop :=
  (∀ a x, ((![v459] : Fin 1 → IVec S16 32) a x).toNat < S65536.size a)
theorem k2_idx137_inb : ∀ (v459 : IVec S16 32) (k2_hw137 : k2_chk137 v459), ∀ a x, ((![v459] : Fin 1 → IVec S16 32) a x).toNat < S65536.size a := fun v459 k2_hw137 => k2_hw137

def k2_chk138 (v462 : IVec S16 32) : Prop :=
  (∀ a x, ((![v462] : Fin 1 → IVec S16 32) a x).toNat < S32768.size a)
theorem k2_idx138_inb : ∀ (v462 : IVec S16 32) (k2_hw138 : k2_chk138 v462), ∀ a x, ((![v462] : Fin 1 → IVec S16 32) a x).toNat < S32768.size a := fun v462 k2_hw138 => k2_hw138

def k2_chk139 (v464 : IVec S16 32) : Prop :=
  (∀ a x, ((![v464] : Fin 1 → IVec S16 32) a x).toNat < S65536.size a)
theorem k2_idx139_inb : ∀ (v464 : IVec S16 32) (k2_hw139 : k2_chk139 v464), ∀ a x, ((![v464] : Fin 1 → IVec S16 32) a x).toNat < S65536.size a := fun v464 k2_hw139 => k2_hw139

def k2_chk140 (v467 : IVec S16 32) : Prop :=
  (∀ a x, ((![v467] : Fin 1 → IVec S16 32) a x).toNat < S32768.size a)
theorem k2_idx140_inb : ∀ (v467 : IVec S16 32) (k2_hw140 : k2_chk140 v467), ∀ a x, ((![v467] : Fin 1 → IVec S16 32) a x).toNat < S32768.size a := fun v467 k2_hw140 => k2_hw140

def k2_chk141 (v469 : IVec S16 32) : Prop :=
  (∀ a x, ((![v469] : Fin 1 → IVec S16 32) a x).toNat < S65536.size a)
theorem k2_idx141_inb : ∀ (v469 : IVec S16 32) (k2_hw141 : k2_chk141 v469), ∀ a x, ((![v469] : Fin 1 → IVec S16 32) a x).toNat < S65536.size a := fun v469 k2_hw141 => k2_hw141

def k2_chk142 (v472 : IVec S16 32) : Prop :=
  (∀ a x, ((![v472] : Fin 1 → IVec S16 32) a x).toNat < S32768.size a)
theorem k2_idx142_inb : ∀ (v472 : IVec S16 32) (k2_hw142 : k2_chk142 v472), ∀ a x, ((![v472] : Fin 1 → IVec S16 32) a x).toNat < S32768.size a := fun v472 k2_hw142 => k2_hw142

def k2_chk143 (v474 : IVec S16 32) : Prop :=
  (∀ a x, ((![v474] : Fin 1 → IVec S16 32) a x).toNat < S65536.size a)
theorem k2_idx143_inb : ∀ (v474 : IVec S16 32) (k2_hw143 : k2_chk143 v474), ∀ a x, ((![v474] : Fin 1 → IVec S16 32) a x).toNat < S65536.size a := fun v474 k2_hw143 => k2_hw143

def k2_chk144 (v477 : IVec S16 32) : Prop :=
  (∀ a x, ((![v477] : Fin 1 → IVec S16 32) a x).toNat < S32768.size a)
theorem k2_idx144_inb : ∀ (v477 : IVec S16 32) (k2_hw144 : k2_chk144 v477), ∀ a x, ((![v477] : Fin 1 → IVec S16 32) a x).toNat < S32768.size a := fun v477 k2_hw144 => k2_hw144
def k2_off11 (k2_t2 : Fin k2_t2_loop.trips) : Fin 1 → Nat :=
  let c0_i32_3 : BitVec 32 := 0#32
  let c1_i32_5 : BitVec 32 := 1#32
  let arg10 : BitVec 32 := Scf.iv c0_i32_3 c1_i32_5 k2_t2
  let c16_i32_200 : BitVec 32 := 16#32
  let v478 : BitVec 32 := Scalar.muli arg10 c16_i32_200
  let c9_i32 : BitVec 32 := 9#32
  let v479 : BitVec 32 := Scalar.addi v478 c9_i32
  let c16_i32_201 : BitVec 32 := 16#32
  let v480 : BitVec 32 := Scalar.muli v479 c16_i32_201
  let v481 : Index := Scalar.indexCast v480
  ![v481.toNat]

def k2_chk145 (v491 : IVec S16 32) : Prop :=
  (∀ a x, ((![v491] : Fin 1 → IVec S16 32) a x).toNat < S65536.size a)
theorem k2_idx145_inb : ∀ (v491 : IVec S16 32) (k2_hw145 : k2_chk145 v491), ∀ a x, ((![v491] : Fin 1 → IVec S16 32) a x).toNat < S65536.size a := fun v491 k2_hw145 => k2_hw145

def k2_chk146 (v494 : IVec S16 32) : Prop :=
  (∀ a x, ((![v494] : Fin 1 → IVec S16 32) a x).toNat < S32768.size a)
theorem k2_idx146_inb : ∀ (v494 : IVec S16 32) (k2_hw146 : k2_chk146 v494), ∀ a x, ((![v494] : Fin 1 → IVec S16 32) a x).toNat < S32768.size a := fun v494 k2_hw146 => k2_hw146

def k2_chk147 (v496 : IVec S16 32) : Prop :=
  (∀ a x, ((![v496] : Fin 1 → IVec S16 32) a x).toNat < S65536.size a)
theorem k2_idx147_inb : ∀ (v496 : IVec S16 32) (k2_hw147 : k2_chk147 v496), ∀ a x, ((![v496] : Fin 1 → IVec S16 32) a x).toNat < S65536.size a := fun v496 k2_hw147 => k2_hw147

def k2_chk148 (v499 : IVec S16 32) : Prop :=
  (∀ a x, ((![v499] : Fin 1 → IVec S16 32) a x).toNat < S32768.size a)
theorem k2_idx148_inb : ∀ (v499 : IVec S16 32) (k2_hw148 : k2_chk148 v499), ∀ a x, ((![v499] : Fin 1 → IVec S16 32) a x).toNat < S32768.size a := fun v499 k2_hw148 => k2_hw148

def k2_chk149 (v501 : IVec S16 32) : Prop :=
  (∀ a x, ((![v501] : Fin 1 → IVec S16 32) a x).toNat < S65536.size a)
theorem k2_idx149_inb : ∀ (v501 : IVec S16 32) (k2_hw149 : k2_chk149 v501), ∀ a x, ((![v501] : Fin 1 → IVec S16 32) a x).toNat < S65536.size a := fun v501 k2_hw149 => k2_hw149

def k2_chk150 (v504 : IVec S16 32) : Prop :=
  (∀ a x, ((![v504] : Fin 1 → IVec S16 32) a x).toNat < S32768.size a)
theorem k2_idx150_inb : ∀ (v504 : IVec S16 32) (k2_hw150 : k2_chk150 v504), ∀ a x, ((![v504] : Fin 1 → IVec S16 32) a x).toNat < S32768.size a := fun v504 k2_hw150 => k2_hw150

def k2_chk151 (v506 : IVec S16 32) : Prop :=
  (∀ a x, ((![v506] : Fin 1 → IVec S16 32) a x).toNat < S65536.size a)
theorem k2_idx151_inb : ∀ (v506 : IVec S16 32) (k2_hw151 : k2_chk151 v506), ∀ a x, ((![v506] : Fin 1 → IVec S16 32) a x).toNat < S65536.size a := fun v506 k2_hw151 => k2_hw151

def k2_chk152 (v509 : IVec S16 32) : Prop :=
  (∀ a x, ((![v509] : Fin 1 → IVec S16 32) a x).toNat < S32768.size a)
theorem k2_idx152_inb : ∀ (v509 : IVec S16 32) (k2_hw152 : k2_chk152 v509), ∀ a x, ((![v509] : Fin 1 → IVec S16 32) a x).toNat < S32768.size a := fun v509 k2_hw152 => k2_hw152

def k2_chk153 (v511 : IVec S16 32) : Prop :=
  (∀ a x, ((![v511] : Fin 1 → IVec S16 32) a x).toNat < S65536.size a)
theorem k2_idx153_inb : ∀ (v511 : IVec S16 32) (k2_hw153 : k2_chk153 v511), ∀ a x, ((![v511] : Fin 1 → IVec S16 32) a x).toNat < S65536.size a := fun v511 k2_hw153 => k2_hw153

def k2_chk154 (v514 : IVec S16 32) : Prop :=
  (∀ a x, ((![v514] : Fin 1 → IVec S16 32) a x).toNat < S32768.size a)
theorem k2_idx154_inb : ∀ (v514 : IVec S16 32) (k2_hw154 : k2_chk154 v514), ∀ a x, ((![v514] : Fin 1 → IVec S16 32) a x).toNat < S32768.size a := fun v514 k2_hw154 => k2_hw154

def k2_chk155 (v516 : IVec S16 32) : Prop :=
  (∀ a x, ((![v516] : Fin 1 → IVec S16 32) a x).toNat < S65536.size a)
theorem k2_idx155_inb : ∀ (v516 : IVec S16 32) (k2_hw155 : k2_chk155 v516), ∀ a x, ((![v516] : Fin 1 → IVec S16 32) a x).toNat < S65536.size a := fun v516 k2_hw155 => k2_hw155

def k2_chk156 (v519 : IVec S16 32) : Prop :=
  (∀ a x, ((![v519] : Fin 1 → IVec S16 32) a x).toNat < S32768.size a)
theorem k2_idx156_inb : ∀ (v519 : IVec S16 32) (k2_hw156 : k2_chk156 v519), ∀ a x, ((![v519] : Fin 1 → IVec S16 32) a x).toNat < S32768.size a := fun v519 k2_hw156 => k2_hw156

def k2_chk157 (v521 : IVec S16 32) : Prop :=
  (∀ a x, ((![v521] : Fin 1 → IVec S16 32) a x).toNat < S65536.size a)
theorem k2_idx157_inb : ∀ (v521 : IVec S16 32) (k2_hw157 : k2_chk157 v521), ∀ a x, ((![v521] : Fin 1 → IVec S16 32) a x).toNat < S65536.size a := fun v521 k2_hw157 => k2_hw157

def k2_chk158 (v524 : IVec S16 32) : Prop :=
  (∀ a x, ((![v524] : Fin 1 → IVec S16 32) a x).toNat < S32768.size a)
theorem k2_idx158_inb : ∀ (v524 : IVec S16 32) (k2_hw158 : k2_chk158 v524), ∀ a x, ((![v524] : Fin 1 → IVec S16 32) a x).toNat < S32768.size a := fun v524 k2_hw158 => k2_hw158

def k2_chk159 (v526 : IVec S16 32) : Prop :=
  (∀ a x, ((![v526] : Fin 1 → IVec S16 32) a x).toNat < S65536.size a)
theorem k2_idx159_inb : ∀ (v526 : IVec S16 32) (k2_hw159 : k2_chk159 v526), ∀ a x, ((![v526] : Fin 1 → IVec S16 32) a x).toNat < S65536.size a := fun v526 k2_hw159 => k2_hw159

def k2_chk160 (v529 : IVec S16 32) : Prop :=
  (∀ a x, ((![v529] : Fin 1 → IVec S16 32) a x).toNat < S32768.size a)
theorem k2_idx160_inb : ∀ (v529 : IVec S16 32) (k2_hw160 : k2_chk160 v529), ∀ a x, ((![v529] : Fin 1 → IVec S16 32) a x).toNat < S32768.size a := fun v529 k2_hw160 => k2_hw160
def k2_off12 (k2_t2 : Fin k2_t2_loop.trips) : Fin 1 → Nat :=
  let c0_i32_3 : BitVec 32 := 0#32
  let c1_i32_5 : BitVec 32 := 1#32
  let arg10 : BitVec 32 := Scf.iv c0_i32_3 c1_i32_5 k2_t2
  let c16_i32_221 : BitVec 32 := 16#32
  let v530 : BitVec 32 := Scalar.muli arg10 c16_i32_221
  let c10_i32 : BitVec 32 := 10#32
  let v531 : BitVec 32 := Scalar.addi v530 c10_i32
  let c16_i32_222 : BitVec 32 := 16#32
  let v532 : BitVec 32 := Scalar.muli v531 c16_i32_222
  let v533 : Index := Scalar.indexCast v532
  ![v533.toNat]

def k2_chk161 (v543 : IVec S16 32) : Prop :=
  (∀ a x, ((![v543] : Fin 1 → IVec S16 32) a x).toNat < S65536.size a)
theorem k2_idx161_inb : ∀ (v543 : IVec S16 32) (k2_hw161 : k2_chk161 v543), ∀ a x, ((![v543] : Fin 1 → IVec S16 32) a x).toNat < S65536.size a := fun v543 k2_hw161 => k2_hw161

def k2_chk162 (v546 : IVec S16 32) : Prop :=
  (∀ a x, ((![v546] : Fin 1 → IVec S16 32) a x).toNat < S32768.size a)
theorem k2_idx162_inb : ∀ (v546 : IVec S16 32) (k2_hw162 : k2_chk162 v546), ∀ a x, ((![v546] : Fin 1 → IVec S16 32) a x).toNat < S32768.size a := fun v546 k2_hw162 => k2_hw162

def k2_chk163 (v548 : IVec S16 32) : Prop :=
  (∀ a x, ((![v548] : Fin 1 → IVec S16 32) a x).toNat < S65536.size a)
theorem k2_idx163_inb : ∀ (v548 : IVec S16 32) (k2_hw163 : k2_chk163 v548), ∀ a x, ((![v548] : Fin 1 → IVec S16 32) a x).toNat < S65536.size a := fun v548 k2_hw163 => k2_hw163

def k2_chk164 (v551 : IVec S16 32) : Prop :=
  (∀ a x, ((![v551] : Fin 1 → IVec S16 32) a x).toNat < S32768.size a)
theorem k2_idx164_inb : ∀ (v551 : IVec S16 32) (k2_hw164 : k2_chk164 v551), ∀ a x, ((![v551] : Fin 1 → IVec S16 32) a x).toNat < S32768.size a := fun v551 k2_hw164 => k2_hw164

def k2_chk165 (v553 : IVec S16 32) : Prop :=
  (∀ a x, ((![v553] : Fin 1 → IVec S16 32) a x).toNat < S65536.size a)
theorem k2_idx165_inb : ∀ (v553 : IVec S16 32) (k2_hw165 : k2_chk165 v553), ∀ a x, ((![v553] : Fin 1 → IVec S16 32) a x).toNat < S65536.size a := fun v553 k2_hw165 => k2_hw165

def k2_chk166 (v556 : IVec S16 32) : Prop :=
  (∀ a x, ((![v556] : Fin 1 → IVec S16 32) a x).toNat < S32768.size a)
theorem k2_idx166_inb : ∀ (v556 : IVec S16 32) (k2_hw166 : k2_chk166 v556), ∀ a x, ((![v556] : Fin 1 → IVec S16 32) a x).toNat < S32768.size a := fun v556 k2_hw166 => k2_hw166

def k2_chk167 (v558 : IVec S16 32) : Prop :=
  (∀ a x, ((![v558] : Fin 1 → IVec S16 32) a x).toNat < S65536.size a)
theorem k2_idx167_inb : ∀ (v558 : IVec S16 32) (k2_hw167 : k2_chk167 v558), ∀ a x, ((![v558] : Fin 1 → IVec S16 32) a x).toNat < S65536.size a := fun v558 k2_hw167 => k2_hw167

def k2_chk168 (v561 : IVec S16 32) : Prop :=
  (∀ a x, ((![v561] : Fin 1 → IVec S16 32) a x).toNat < S32768.size a)
theorem k2_idx168_inb : ∀ (v561 : IVec S16 32) (k2_hw168 : k2_chk168 v561), ∀ a x, ((![v561] : Fin 1 → IVec S16 32) a x).toNat < S32768.size a := fun v561 k2_hw168 => k2_hw168

def k2_chk169 (v563 : IVec S16 32) : Prop :=
  (∀ a x, ((![v563] : Fin 1 → IVec S16 32) a x).toNat < S65536.size a)
theorem k2_idx169_inb : ∀ (v563 : IVec S16 32) (k2_hw169 : k2_chk169 v563), ∀ a x, ((![v563] : Fin 1 → IVec S16 32) a x).toNat < S65536.size a := fun v563 k2_hw169 => k2_hw169

def k2_chk170 (v566 : IVec S16 32) : Prop :=
  (∀ a x, ((![v566] : Fin 1 → IVec S16 32) a x).toNat < S32768.size a)
theorem k2_idx170_inb : ∀ (v566 : IVec S16 32) (k2_hw170 : k2_chk170 v566), ∀ a x, ((![v566] : Fin 1 → IVec S16 32) a x).toNat < S32768.size a := fun v566 k2_hw170 => k2_hw170

def k2_chk171 (v568 : IVec S16 32) : Prop :=
  (∀ a x, ((![v568] : Fin 1 → IVec S16 32) a x).toNat < S65536.size a)
theorem k2_idx171_inb : ∀ (v568 : IVec S16 32) (k2_hw171 : k2_chk171 v568), ∀ a x, ((![v568] : Fin 1 → IVec S16 32) a x).toNat < S65536.size a := fun v568 k2_hw171 => k2_hw171

def k2_chk172 (v571 : IVec S16 32) : Prop :=
  (∀ a x, ((![v571] : Fin 1 → IVec S16 32) a x).toNat < S32768.size a)
theorem k2_idx172_inb : ∀ (v571 : IVec S16 32) (k2_hw172 : k2_chk172 v571), ∀ a x, ((![v571] : Fin 1 → IVec S16 32) a x).toNat < S32768.size a := fun v571 k2_hw172 => k2_hw172

def k2_chk173 (v573 : IVec S16 32) : Prop :=
  (∀ a x, ((![v573] : Fin 1 → IVec S16 32) a x).toNat < S65536.size a)
theorem k2_idx173_inb : ∀ (v573 : IVec S16 32) (k2_hw173 : k2_chk173 v573), ∀ a x, ((![v573] : Fin 1 → IVec S16 32) a x).toNat < S65536.size a := fun v573 k2_hw173 => k2_hw173

def k2_chk174 (v576 : IVec S16 32) : Prop :=
  (∀ a x, ((![v576] : Fin 1 → IVec S16 32) a x).toNat < S32768.size a)
theorem k2_idx174_inb : ∀ (v576 : IVec S16 32) (k2_hw174 : k2_chk174 v576), ∀ a x, ((![v576] : Fin 1 → IVec S16 32) a x).toNat < S32768.size a := fun v576 k2_hw174 => k2_hw174

def k2_chk175 (v578 : IVec S16 32) : Prop :=
  (∀ a x, ((![v578] : Fin 1 → IVec S16 32) a x).toNat < S65536.size a)
theorem k2_idx175_inb : ∀ (v578 : IVec S16 32) (k2_hw175 : k2_chk175 v578), ∀ a x, ((![v578] : Fin 1 → IVec S16 32) a x).toNat < S65536.size a := fun v578 k2_hw175 => k2_hw175

def k2_chk176 (v581 : IVec S16 32) : Prop :=
  (∀ a x, ((![v581] : Fin 1 → IVec S16 32) a x).toNat < S32768.size a)
theorem k2_idx176_inb : ∀ (v581 : IVec S16 32) (k2_hw176 : k2_chk176 v581), ∀ a x, ((![v581] : Fin 1 → IVec S16 32) a x).toNat < S32768.size a := fun v581 k2_hw176 => k2_hw176
def k2_off13 (k2_t2 : Fin k2_t2_loop.trips) : Fin 1 → Nat :=
  let c0_i32_3 : BitVec 32 := 0#32
  let c1_i32_5 : BitVec 32 := 1#32
  let arg10 : BitVec 32 := Scf.iv c0_i32_3 c1_i32_5 k2_t2
  let c16_i32_242 : BitVec 32 := 16#32
  let v582 : BitVec 32 := Scalar.muli arg10 c16_i32_242
  let c11_i32 : BitVec 32 := 11#32
  let v583 : BitVec 32 := Scalar.addi v582 c11_i32
  let c16_i32_243 : BitVec 32 := 16#32
  let v584 : BitVec 32 := Scalar.muli v583 c16_i32_243
  let v585 : Index := Scalar.indexCast v584
  ![v585.toNat]

def k2_chk177 (v595 : IVec S16 32) : Prop :=
  (∀ a x, ((![v595] : Fin 1 → IVec S16 32) a x).toNat < S65536.size a)
theorem k2_idx177_inb : ∀ (v595 : IVec S16 32) (k2_hw177 : k2_chk177 v595), ∀ a x, ((![v595] : Fin 1 → IVec S16 32) a x).toNat < S65536.size a := fun v595 k2_hw177 => k2_hw177

def k2_chk178 (v598 : IVec S16 32) : Prop :=
  (∀ a x, ((![v598] : Fin 1 → IVec S16 32) a x).toNat < S32768.size a)
theorem k2_idx178_inb : ∀ (v598 : IVec S16 32) (k2_hw178 : k2_chk178 v598), ∀ a x, ((![v598] : Fin 1 → IVec S16 32) a x).toNat < S32768.size a := fun v598 k2_hw178 => k2_hw178

def k2_chk179 (v600 : IVec S16 32) : Prop :=
  (∀ a x, ((![v600] : Fin 1 → IVec S16 32) a x).toNat < S65536.size a)
theorem k2_idx179_inb : ∀ (v600 : IVec S16 32) (k2_hw179 : k2_chk179 v600), ∀ a x, ((![v600] : Fin 1 → IVec S16 32) a x).toNat < S65536.size a := fun v600 k2_hw179 => k2_hw179

def k2_chk180 (v603 : IVec S16 32) : Prop :=
  (∀ a x, ((![v603] : Fin 1 → IVec S16 32) a x).toNat < S32768.size a)
theorem k2_idx180_inb : ∀ (v603 : IVec S16 32) (k2_hw180 : k2_chk180 v603), ∀ a x, ((![v603] : Fin 1 → IVec S16 32) a x).toNat < S32768.size a := fun v603 k2_hw180 => k2_hw180

def k2_chk181 (v605 : IVec S16 32) : Prop :=
  (∀ a x, ((![v605] : Fin 1 → IVec S16 32) a x).toNat < S65536.size a)
theorem k2_idx181_inb : ∀ (v605 : IVec S16 32) (k2_hw181 : k2_chk181 v605), ∀ a x, ((![v605] : Fin 1 → IVec S16 32) a x).toNat < S65536.size a := fun v605 k2_hw181 => k2_hw181

def k2_chk182 (v608 : IVec S16 32) : Prop :=
  (∀ a x, ((![v608] : Fin 1 → IVec S16 32) a x).toNat < S32768.size a)
theorem k2_idx182_inb : ∀ (v608 : IVec S16 32) (k2_hw182 : k2_chk182 v608), ∀ a x, ((![v608] : Fin 1 → IVec S16 32) a x).toNat < S32768.size a := fun v608 k2_hw182 => k2_hw182

def k2_chk183 (v610 : IVec S16 32) : Prop :=
  (∀ a x, ((![v610] : Fin 1 → IVec S16 32) a x).toNat < S65536.size a)
theorem k2_idx183_inb : ∀ (v610 : IVec S16 32) (k2_hw183 : k2_chk183 v610), ∀ a x, ((![v610] : Fin 1 → IVec S16 32) a x).toNat < S65536.size a := fun v610 k2_hw183 => k2_hw183

def k2_chk184 (v613 : IVec S16 32) : Prop :=
  (∀ a x, ((![v613] : Fin 1 → IVec S16 32) a x).toNat < S32768.size a)
theorem k2_idx184_inb : ∀ (v613 : IVec S16 32) (k2_hw184 : k2_chk184 v613), ∀ a x, ((![v613] : Fin 1 → IVec S16 32) a x).toNat < S32768.size a := fun v613 k2_hw184 => k2_hw184

def k2_chk185 (v615 : IVec S16 32) : Prop :=
  (∀ a x, ((![v615] : Fin 1 → IVec S16 32) a x).toNat < S65536.size a)
theorem k2_idx185_inb : ∀ (v615 : IVec S16 32) (k2_hw185 : k2_chk185 v615), ∀ a x, ((![v615] : Fin 1 → IVec S16 32) a x).toNat < S65536.size a := fun v615 k2_hw185 => k2_hw185

def k2_chk186 (v618 : IVec S16 32) : Prop :=
  (∀ a x, ((![v618] : Fin 1 → IVec S16 32) a x).toNat < S32768.size a)
theorem k2_idx186_inb : ∀ (v618 : IVec S16 32) (k2_hw186 : k2_chk186 v618), ∀ a x, ((![v618] : Fin 1 → IVec S16 32) a x).toNat < S32768.size a := fun v618 k2_hw186 => k2_hw186

def k2_chk187 (v620 : IVec S16 32) : Prop :=
  (∀ a x, ((![v620] : Fin 1 → IVec S16 32) a x).toNat < S65536.size a)
theorem k2_idx187_inb : ∀ (v620 : IVec S16 32) (k2_hw187 : k2_chk187 v620), ∀ a x, ((![v620] : Fin 1 → IVec S16 32) a x).toNat < S65536.size a := fun v620 k2_hw187 => k2_hw187

def k2_chk188 (v623 : IVec S16 32) : Prop :=
  (∀ a x, ((![v623] : Fin 1 → IVec S16 32) a x).toNat < S32768.size a)
theorem k2_idx188_inb : ∀ (v623 : IVec S16 32) (k2_hw188 : k2_chk188 v623), ∀ a x, ((![v623] : Fin 1 → IVec S16 32) a x).toNat < S32768.size a := fun v623 k2_hw188 => k2_hw188

def k2_chk189 (v625 : IVec S16 32) : Prop :=
  (∀ a x, ((![v625] : Fin 1 → IVec S16 32) a x).toNat < S65536.size a)
theorem k2_idx189_inb : ∀ (v625 : IVec S16 32) (k2_hw189 : k2_chk189 v625), ∀ a x, ((![v625] : Fin 1 → IVec S16 32) a x).toNat < S65536.size a := fun v625 k2_hw189 => k2_hw189

def k2_chk190 (v628 : IVec S16 32) : Prop :=
  (∀ a x, ((![v628] : Fin 1 → IVec S16 32) a x).toNat < S32768.size a)
theorem k2_idx190_inb : ∀ (v628 : IVec S16 32) (k2_hw190 : k2_chk190 v628), ∀ a x, ((![v628] : Fin 1 → IVec S16 32) a x).toNat < S32768.size a := fun v628 k2_hw190 => k2_hw190

def k2_chk191 (v630 : IVec S16 32) : Prop :=
  (∀ a x, ((![v630] : Fin 1 → IVec S16 32) a x).toNat < S65536.size a)
theorem k2_idx191_inb : ∀ (v630 : IVec S16 32) (k2_hw191 : k2_chk191 v630), ∀ a x, ((![v630] : Fin 1 → IVec S16 32) a x).toNat < S65536.size a := fun v630 k2_hw191 => k2_hw191

def k2_chk192 (v633 : IVec S16 32) : Prop :=
  (∀ a x, ((![v633] : Fin 1 → IVec S16 32) a x).toNat < S32768.size a)
theorem k2_idx192_inb : ∀ (v633 : IVec S16 32) (k2_hw192 : k2_chk192 v633), ∀ a x, ((![v633] : Fin 1 → IVec S16 32) a x).toNat < S32768.size a := fun v633 k2_hw192 => k2_hw192
def k2_off14 (k2_t2 : Fin k2_t2_loop.trips) : Fin 1 → Nat :=
  let c0_i32_3 : BitVec 32 := 0#32
  let c1_i32_5 : BitVec 32 := 1#32
  let arg10 : BitVec 32 := Scf.iv c0_i32_3 c1_i32_5 k2_t2
  let c16_i32_263 : BitVec 32 := 16#32
  let v634 : BitVec 32 := Scalar.muli arg10 c16_i32_263
  let c12_i32 : BitVec 32 := 12#32
  let v635 : BitVec 32 := Scalar.addi v634 c12_i32
  let c16_i32_264 : BitVec 32 := 16#32
  let v636 : BitVec 32 := Scalar.muli v635 c16_i32_264
  let v637 : Index := Scalar.indexCast v636
  ![v637.toNat]

def k2_chk193 (v647 : IVec S16 32) : Prop :=
  (∀ a x, ((![v647] : Fin 1 → IVec S16 32) a x).toNat < S65536.size a)
theorem k2_idx193_inb : ∀ (v647 : IVec S16 32) (k2_hw193 : k2_chk193 v647), ∀ a x, ((![v647] : Fin 1 → IVec S16 32) a x).toNat < S65536.size a := fun v647 k2_hw193 => k2_hw193

def k2_chk194 (v650 : IVec S16 32) : Prop :=
  (∀ a x, ((![v650] : Fin 1 → IVec S16 32) a x).toNat < S32768.size a)
theorem k2_idx194_inb : ∀ (v650 : IVec S16 32) (k2_hw194 : k2_chk194 v650), ∀ a x, ((![v650] : Fin 1 → IVec S16 32) a x).toNat < S32768.size a := fun v650 k2_hw194 => k2_hw194

def k2_chk195 (v652 : IVec S16 32) : Prop :=
  (∀ a x, ((![v652] : Fin 1 → IVec S16 32) a x).toNat < S65536.size a)
theorem k2_idx195_inb : ∀ (v652 : IVec S16 32) (k2_hw195 : k2_chk195 v652), ∀ a x, ((![v652] : Fin 1 → IVec S16 32) a x).toNat < S65536.size a := fun v652 k2_hw195 => k2_hw195

def k2_chk196 (v655 : IVec S16 32) : Prop :=
  (∀ a x, ((![v655] : Fin 1 → IVec S16 32) a x).toNat < S32768.size a)
theorem k2_idx196_inb : ∀ (v655 : IVec S16 32) (k2_hw196 : k2_chk196 v655), ∀ a x, ((![v655] : Fin 1 → IVec S16 32) a x).toNat < S32768.size a := fun v655 k2_hw196 => k2_hw196

def k2_chk197 (v657 : IVec S16 32) : Prop :=
  (∀ a x, ((![v657] : Fin 1 → IVec S16 32) a x).toNat < S65536.size a)
theorem k2_idx197_inb : ∀ (v657 : IVec S16 32) (k2_hw197 : k2_chk197 v657), ∀ a x, ((![v657] : Fin 1 → IVec S16 32) a x).toNat < S65536.size a := fun v657 k2_hw197 => k2_hw197

def k2_chk198 (v660 : IVec S16 32) : Prop :=
  (∀ a x, ((![v660] : Fin 1 → IVec S16 32) a x).toNat < S32768.size a)
theorem k2_idx198_inb : ∀ (v660 : IVec S16 32) (k2_hw198 : k2_chk198 v660), ∀ a x, ((![v660] : Fin 1 → IVec S16 32) a x).toNat < S32768.size a := fun v660 k2_hw198 => k2_hw198

def k2_chk199 (v662 : IVec S16 32) : Prop :=
  (∀ a x, ((![v662] : Fin 1 → IVec S16 32) a x).toNat < S65536.size a)
theorem k2_idx199_inb : ∀ (v662 : IVec S16 32) (k2_hw199 : k2_chk199 v662), ∀ a x, ((![v662] : Fin 1 → IVec S16 32) a x).toNat < S65536.size a := fun v662 k2_hw199 => k2_hw199

def k2_chk200 (v665 : IVec S16 32) : Prop :=
  (∀ a x, ((![v665] : Fin 1 → IVec S16 32) a x).toNat < S32768.size a)
theorem k2_idx200_inb : ∀ (v665 : IVec S16 32) (k2_hw200 : k2_chk200 v665), ∀ a x, ((![v665] : Fin 1 → IVec S16 32) a x).toNat < S32768.size a := fun v665 k2_hw200 => k2_hw200

def k2_chk201 (v667 : IVec S16 32) : Prop :=
  (∀ a x, ((![v667] : Fin 1 → IVec S16 32) a x).toNat < S65536.size a)
theorem k2_idx201_inb : ∀ (v667 : IVec S16 32) (k2_hw201 : k2_chk201 v667), ∀ a x, ((![v667] : Fin 1 → IVec S16 32) a x).toNat < S65536.size a := fun v667 k2_hw201 => k2_hw201

def k2_chk202 (v670 : IVec S16 32) : Prop :=
  (∀ a x, ((![v670] : Fin 1 → IVec S16 32) a x).toNat < S32768.size a)
theorem k2_idx202_inb : ∀ (v670 : IVec S16 32) (k2_hw202 : k2_chk202 v670), ∀ a x, ((![v670] : Fin 1 → IVec S16 32) a x).toNat < S32768.size a := fun v670 k2_hw202 => k2_hw202

def k2_chk203 (v672 : IVec S16 32) : Prop :=
  (∀ a x, ((![v672] : Fin 1 → IVec S16 32) a x).toNat < S65536.size a)
theorem k2_idx203_inb : ∀ (v672 : IVec S16 32) (k2_hw203 : k2_chk203 v672), ∀ a x, ((![v672] : Fin 1 → IVec S16 32) a x).toNat < S65536.size a := fun v672 k2_hw203 => k2_hw203

def k2_chk204 (v675 : IVec S16 32) : Prop :=
  (∀ a x, ((![v675] : Fin 1 → IVec S16 32) a x).toNat < S32768.size a)
theorem k2_idx204_inb : ∀ (v675 : IVec S16 32) (k2_hw204 : k2_chk204 v675), ∀ a x, ((![v675] : Fin 1 → IVec S16 32) a x).toNat < S32768.size a := fun v675 k2_hw204 => k2_hw204

def k2_chk205 (v677 : IVec S16 32) : Prop :=
  (∀ a x, ((![v677] : Fin 1 → IVec S16 32) a x).toNat < S65536.size a)
theorem k2_idx205_inb : ∀ (v677 : IVec S16 32) (k2_hw205 : k2_chk205 v677), ∀ a x, ((![v677] : Fin 1 → IVec S16 32) a x).toNat < S65536.size a := fun v677 k2_hw205 => k2_hw205

def k2_chk206 (v680 : IVec S16 32) : Prop :=
  (∀ a x, ((![v680] : Fin 1 → IVec S16 32) a x).toNat < S32768.size a)
theorem k2_idx206_inb : ∀ (v680 : IVec S16 32) (k2_hw206 : k2_chk206 v680), ∀ a x, ((![v680] : Fin 1 → IVec S16 32) a x).toNat < S32768.size a := fun v680 k2_hw206 => k2_hw206

def k2_chk207 (v682 : IVec S16 32) : Prop :=
  (∀ a x, ((![v682] : Fin 1 → IVec S16 32) a x).toNat < S65536.size a)
theorem k2_idx207_inb : ∀ (v682 : IVec S16 32) (k2_hw207 : k2_chk207 v682), ∀ a x, ((![v682] : Fin 1 → IVec S16 32) a x).toNat < S65536.size a := fun v682 k2_hw207 => k2_hw207

def k2_chk208 (v685 : IVec S16 32) : Prop :=
  (∀ a x, ((![v685] : Fin 1 → IVec S16 32) a x).toNat < S32768.size a)
theorem k2_idx208_inb : ∀ (v685 : IVec S16 32) (k2_hw208 : k2_chk208 v685), ∀ a x, ((![v685] : Fin 1 → IVec S16 32) a x).toNat < S32768.size a := fun v685 k2_hw208 => k2_hw208
def k2_off15 (k2_t2 : Fin k2_t2_loop.trips) : Fin 1 → Nat :=
  let c0_i32_3 : BitVec 32 := 0#32
  let c1_i32_5 : BitVec 32 := 1#32
  let arg10 : BitVec 32 := Scf.iv c0_i32_3 c1_i32_5 k2_t2
  let c16_i32_284 : BitVec 32 := 16#32
  let v686 : BitVec 32 := Scalar.muli arg10 c16_i32_284
  let c13_i32 : BitVec 32 := 13#32
  let v687 : BitVec 32 := Scalar.addi v686 c13_i32
  let c16_i32_285 : BitVec 32 := 16#32
  let v688 : BitVec 32 := Scalar.muli v687 c16_i32_285
  let v689 : Index := Scalar.indexCast v688
  ![v689.toNat]

def k2_chk209 (v699 : IVec S16 32) : Prop :=
  (∀ a x, ((![v699] : Fin 1 → IVec S16 32) a x).toNat < S65536.size a)
theorem k2_idx209_inb : ∀ (v699 : IVec S16 32) (k2_hw209 : k2_chk209 v699), ∀ a x, ((![v699] : Fin 1 → IVec S16 32) a x).toNat < S65536.size a := fun v699 k2_hw209 => k2_hw209

def k2_chk210 (v702 : IVec S16 32) : Prop :=
  (∀ a x, ((![v702] : Fin 1 → IVec S16 32) a x).toNat < S32768.size a)
theorem k2_idx210_inb : ∀ (v702 : IVec S16 32) (k2_hw210 : k2_chk210 v702), ∀ a x, ((![v702] : Fin 1 → IVec S16 32) a x).toNat < S32768.size a := fun v702 k2_hw210 => k2_hw210

def k2_chk211 (v704 : IVec S16 32) : Prop :=
  (∀ a x, ((![v704] : Fin 1 → IVec S16 32) a x).toNat < S65536.size a)
theorem k2_idx211_inb : ∀ (v704 : IVec S16 32) (k2_hw211 : k2_chk211 v704), ∀ a x, ((![v704] : Fin 1 → IVec S16 32) a x).toNat < S65536.size a := fun v704 k2_hw211 => k2_hw211

def k2_chk212 (v707 : IVec S16 32) : Prop :=
  (∀ a x, ((![v707] : Fin 1 → IVec S16 32) a x).toNat < S32768.size a)
theorem k2_idx212_inb : ∀ (v707 : IVec S16 32) (k2_hw212 : k2_chk212 v707), ∀ a x, ((![v707] : Fin 1 → IVec S16 32) a x).toNat < S32768.size a := fun v707 k2_hw212 => k2_hw212

def k2_chk213 (v709 : IVec S16 32) : Prop :=
  (∀ a x, ((![v709] : Fin 1 → IVec S16 32) a x).toNat < S65536.size a)
theorem k2_idx213_inb : ∀ (v709 : IVec S16 32) (k2_hw213 : k2_chk213 v709), ∀ a x, ((![v709] : Fin 1 → IVec S16 32) a x).toNat < S65536.size a := fun v709 k2_hw213 => k2_hw213

def k2_chk214 (v712 : IVec S16 32) : Prop :=
  (∀ a x, ((![v712] : Fin 1 → IVec S16 32) a x).toNat < S32768.size a)
theorem k2_idx214_inb : ∀ (v712 : IVec S16 32) (k2_hw214 : k2_chk214 v712), ∀ a x, ((![v712] : Fin 1 → IVec S16 32) a x).toNat < S32768.size a := fun v712 k2_hw214 => k2_hw214

def k2_chk215 (v714 : IVec S16 32) : Prop :=
  (∀ a x, ((![v714] : Fin 1 → IVec S16 32) a x).toNat < S65536.size a)
theorem k2_idx215_inb : ∀ (v714 : IVec S16 32) (k2_hw215 : k2_chk215 v714), ∀ a x, ((![v714] : Fin 1 → IVec S16 32) a x).toNat < S65536.size a := fun v714 k2_hw215 => k2_hw215

def k2_chk216 (v717 : IVec S16 32) : Prop :=
  (∀ a x, ((![v717] : Fin 1 → IVec S16 32) a x).toNat < S32768.size a)
theorem k2_idx216_inb : ∀ (v717 : IVec S16 32) (k2_hw216 : k2_chk216 v717), ∀ a x, ((![v717] : Fin 1 → IVec S16 32) a x).toNat < S32768.size a := fun v717 k2_hw216 => k2_hw216

def k2_chk217 (v719 : IVec S16 32) : Prop :=
  (∀ a x, ((![v719] : Fin 1 → IVec S16 32) a x).toNat < S65536.size a)
theorem k2_idx217_inb : ∀ (v719 : IVec S16 32) (k2_hw217 : k2_chk217 v719), ∀ a x, ((![v719] : Fin 1 → IVec S16 32) a x).toNat < S65536.size a := fun v719 k2_hw217 => k2_hw217

def k2_chk218 (v722 : IVec S16 32) : Prop :=
  (∀ a x, ((![v722] : Fin 1 → IVec S16 32) a x).toNat < S32768.size a)
theorem k2_idx218_inb : ∀ (v722 : IVec S16 32) (k2_hw218 : k2_chk218 v722), ∀ a x, ((![v722] : Fin 1 → IVec S16 32) a x).toNat < S32768.size a := fun v722 k2_hw218 => k2_hw218

def k2_chk219 (v724 : IVec S16 32) : Prop :=
  (∀ a x, ((![v724] : Fin 1 → IVec S16 32) a x).toNat < S65536.size a)
theorem k2_idx219_inb : ∀ (v724 : IVec S16 32) (k2_hw219 : k2_chk219 v724), ∀ a x, ((![v724] : Fin 1 → IVec S16 32) a x).toNat < S65536.size a := fun v724 k2_hw219 => k2_hw219

def k2_chk220 (v727 : IVec S16 32) : Prop :=
  (∀ a x, ((![v727] : Fin 1 → IVec S16 32) a x).toNat < S32768.size a)
theorem k2_idx220_inb : ∀ (v727 : IVec S16 32) (k2_hw220 : k2_chk220 v727), ∀ a x, ((![v727] : Fin 1 → IVec S16 32) a x).toNat < S32768.size a := fun v727 k2_hw220 => k2_hw220

def k2_chk221 (v729 : IVec S16 32) : Prop :=
  (∀ a x, ((![v729] : Fin 1 → IVec S16 32) a x).toNat < S65536.size a)
theorem k2_idx221_inb : ∀ (v729 : IVec S16 32) (k2_hw221 : k2_chk221 v729), ∀ a x, ((![v729] : Fin 1 → IVec S16 32) a x).toNat < S65536.size a := fun v729 k2_hw221 => k2_hw221

def k2_chk222 (v732 : IVec S16 32) : Prop :=
  (∀ a x, ((![v732] : Fin 1 → IVec S16 32) a x).toNat < S32768.size a)
theorem k2_idx222_inb : ∀ (v732 : IVec S16 32) (k2_hw222 : k2_chk222 v732), ∀ a x, ((![v732] : Fin 1 → IVec S16 32) a x).toNat < S32768.size a := fun v732 k2_hw222 => k2_hw222

def k2_chk223 (v734 : IVec S16 32) : Prop :=
  (∀ a x, ((![v734] : Fin 1 → IVec S16 32) a x).toNat < S65536.size a)
theorem k2_idx223_inb : ∀ (v734 : IVec S16 32) (k2_hw223 : k2_chk223 v734), ∀ a x, ((![v734] : Fin 1 → IVec S16 32) a x).toNat < S65536.size a := fun v734 k2_hw223 => k2_hw223

def k2_chk224 (v737 : IVec S16 32) : Prop :=
  (∀ a x, ((![v737] : Fin 1 → IVec S16 32) a x).toNat < S32768.size a)
theorem k2_idx224_inb : ∀ (v737 : IVec S16 32) (k2_hw224 : k2_chk224 v737), ∀ a x, ((![v737] : Fin 1 → IVec S16 32) a x).toNat < S32768.size a := fun v737 k2_hw224 => k2_hw224
def k2_off16 (k2_t2 : Fin k2_t2_loop.trips) : Fin 1 → Nat :=
  let c0_i32_3 : BitVec 32 := 0#32
  let c1_i32_5 : BitVec 32 := 1#32
  let arg10 : BitVec 32 := Scf.iv c0_i32_3 c1_i32_5 k2_t2
  let c16_i32_305 : BitVec 32 := 16#32
  let v738 : BitVec 32 := Scalar.muli arg10 c16_i32_305
  let c14_i32 : BitVec 32 := 14#32
  let v739 : BitVec 32 := Scalar.addi v738 c14_i32
  let c16_i32_306 : BitVec 32 := 16#32
  let v740 : BitVec 32 := Scalar.muli v739 c16_i32_306
  let v741 : Index := Scalar.indexCast v740
  ![v741.toNat]

def k2_chk225 (v751 : IVec S16 32) : Prop :=
  (∀ a x, ((![v751] : Fin 1 → IVec S16 32) a x).toNat < S65536.size a)
theorem k2_idx225_inb : ∀ (v751 : IVec S16 32) (k2_hw225 : k2_chk225 v751), ∀ a x, ((![v751] : Fin 1 → IVec S16 32) a x).toNat < S65536.size a := fun v751 k2_hw225 => k2_hw225

def k2_chk226 (v754 : IVec S16 32) : Prop :=
  (∀ a x, ((![v754] : Fin 1 → IVec S16 32) a x).toNat < S32768.size a)
theorem k2_idx226_inb : ∀ (v754 : IVec S16 32) (k2_hw226 : k2_chk226 v754), ∀ a x, ((![v754] : Fin 1 → IVec S16 32) a x).toNat < S32768.size a := fun v754 k2_hw226 => k2_hw226

def k2_chk227 (v756 : IVec S16 32) : Prop :=
  (∀ a x, ((![v756] : Fin 1 → IVec S16 32) a x).toNat < S65536.size a)
theorem k2_idx227_inb : ∀ (v756 : IVec S16 32) (k2_hw227 : k2_chk227 v756), ∀ a x, ((![v756] : Fin 1 → IVec S16 32) a x).toNat < S65536.size a := fun v756 k2_hw227 => k2_hw227

def k2_chk228 (v759 : IVec S16 32) : Prop :=
  (∀ a x, ((![v759] : Fin 1 → IVec S16 32) a x).toNat < S32768.size a)
theorem k2_idx228_inb : ∀ (v759 : IVec S16 32) (k2_hw228 : k2_chk228 v759), ∀ a x, ((![v759] : Fin 1 → IVec S16 32) a x).toNat < S32768.size a := fun v759 k2_hw228 => k2_hw228

def k2_chk229 (v761 : IVec S16 32) : Prop :=
  (∀ a x, ((![v761] : Fin 1 → IVec S16 32) a x).toNat < S65536.size a)
theorem k2_idx229_inb : ∀ (v761 : IVec S16 32) (k2_hw229 : k2_chk229 v761), ∀ a x, ((![v761] : Fin 1 → IVec S16 32) a x).toNat < S65536.size a := fun v761 k2_hw229 => k2_hw229

def k2_chk230 (v764 : IVec S16 32) : Prop :=
  (∀ a x, ((![v764] : Fin 1 → IVec S16 32) a x).toNat < S32768.size a)
theorem k2_idx230_inb : ∀ (v764 : IVec S16 32) (k2_hw230 : k2_chk230 v764), ∀ a x, ((![v764] : Fin 1 → IVec S16 32) a x).toNat < S32768.size a := fun v764 k2_hw230 => k2_hw230

def k2_chk231 (v766 : IVec S16 32) : Prop :=
  (∀ a x, ((![v766] : Fin 1 → IVec S16 32) a x).toNat < S65536.size a)
theorem k2_idx231_inb : ∀ (v766 : IVec S16 32) (k2_hw231 : k2_chk231 v766), ∀ a x, ((![v766] : Fin 1 → IVec S16 32) a x).toNat < S65536.size a := fun v766 k2_hw231 => k2_hw231

def k2_chk232 (v769 : IVec S16 32) : Prop :=
  (∀ a x, ((![v769] : Fin 1 → IVec S16 32) a x).toNat < S32768.size a)
theorem k2_idx232_inb : ∀ (v769 : IVec S16 32) (k2_hw232 : k2_chk232 v769), ∀ a x, ((![v769] : Fin 1 → IVec S16 32) a x).toNat < S32768.size a := fun v769 k2_hw232 => k2_hw232

def k2_chk233 (v771 : IVec S16 32) : Prop :=
  (∀ a x, ((![v771] : Fin 1 → IVec S16 32) a x).toNat < S65536.size a)
theorem k2_idx233_inb : ∀ (v771 : IVec S16 32) (k2_hw233 : k2_chk233 v771), ∀ a x, ((![v771] : Fin 1 → IVec S16 32) a x).toNat < S65536.size a := fun v771 k2_hw233 => k2_hw233

def k2_chk234 (v774 : IVec S16 32) : Prop :=
  (∀ a x, ((![v774] : Fin 1 → IVec S16 32) a x).toNat < S32768.size a)
theorem k2_idx234_inb : ∀ (v774 : IVec S16 32) (k2_hw234 : k2_chk234 v774), ∀ a x, ((![v774] : Fin 1 → IVec S16 32) a x).toNat < S32768.size a := fun v774 k2_hw234 => k2_hw234

def k2_chk235 (v776 : IVec S16 32) : Prop :=
  (∀ a x, ((![v776] : Fin 1 → IVec S16 32) a x).toNat < S65536.size a)
theorem k2_idx235_inb : ∀ (v776 : IVec S16 32) (k2_hw235 : k2_chk235 v776), ∀ a x, ((![v776] : Fin 1 → IVec S16 32) a x).toNat < S65536.size a := fun v776 k2_hw235 => k2_hw235

def k2_chk236 (v779 : IVec S16 32) : Prop :=
  (∀ a x, ((![v779] : Fin 1 → IVec S16 32) a x).toNat < S32768.size a)
theorem k2_idx236_inb : ∀ (v779 : IVec S16 32) (k2_hw236 : k2_chk236 v779), ∀ a x, ((![v779] : Fin 1 → IVec S16 32) a x).toNat < S32768.size a := fun v779 k2_hw236 => k2_hw236

def k2_chk237 (v781 : IVec S16 32) : Prop :=
  (∀ a x, ((![v781] : Fin 1 → IVec S16 32) a x).toNat < S65536.size a)
theorem k2_idx237_inb : ∀ (v781 : IVec S16 32) (k2_hw237 : k2_chk237 v781), ∀ a x, ((![v781] : Fin 1 → IVec S16 32) a x).toNat < S65536.size a := fun v781 k2_hw237 => k2_hw237

def k2_chk238 (v784 : IVec S16 32) : Prop :=
  (∀ a x, ((![v784] : Fin 1 → IVec S16 32) a x).toNat < S32768.size a)
theorem k2_idx238_inb : ∀ (v784 : IVec S16 32) (k2_hw238 : k2_chk238 v784), ∀ a x, ((![v784] : Fin 1 → IVec S16 32) a x).toNat < S32768.size a := fun v784 k2_hw238 => k2_hw238

def k2_chk239 (v786 : IVec S16 32) : Prop :=
  (∀ a x, ((![v786] : Fin 1 → IVec S16 32) a x).toNat < S65536.size a)
theorem k2_idx239_inb : ∀ (v786 : IVec S16 32) (k2_hw239 : k2_chk239 v786), ∀ a x, ((![v786] : Fin 1 → IVec S16 32) a x).toNat < S65536.size a := fun v786 k2_hw239 => k2_hw239

def k2_chk240 (v789 : IVec S16 32) : Prop :=
  (∀ a x, ((![v789] : Fin 1 → IVec S16 32) a x).toNat < S32768.size a)
theorem k2_idx240_inb : ∀ (v789 : IVec S16 32) (k2_hw240 : k2_chk240 v789), ∀ a x, ((![v789] : Fin 1 → IVec S16 32) a x).toNat < S32768.size a := fun v789 k2_hw240 => k2_hw240
def k2_off17 (k2_t2 : Fin k2_t2_loop.trips) : Fin 1 → Nat :=
  let c0_i32_3 : BitVec 32 := 0#32
  let c1_i32_5 : BitVec 32 := 1#32
  let arg10 : BitVec 32 := Scf.iv c0_i32_3 c1_i32_5 k2_t2
  let c16_i32_326 : BitVec 32 := 16#32
  let v790 : BitVec 32 := Scalar.muli arg10 c16_i32_326
  let c15_i32 : BitVec 32 := 15#32
  let v791 : BitVec 32 := Scalar.addi v790 c15_i32
  let c16_i32_327 : BitVec 32 := 16#32
  let v792 : BitVec 32 := Scalar.muli v791 c16_i32_327
  let v793 : Index := Scalar.indexCast v792
  ![v793.toNat]

def k2_chk241 (v803 : IVec S16 32) : Prop :=
  (∀ a x, ((![v803] : Fin 1 → IVec S16 32) a x).toNat < S65536.size a)
theorem k2_idx241_inb : ∀ (v803 : IVec S16 32) (k2_hw241 : k2_chk241 v803), ∀ a x, ((![v803] : Fin 1 → IVec S16 32) a x).toNat < S65536.size a := fun v803 k2_hw241 => k2_hw241

def k2_chk242 (v806 : IVec S16 32) : Prop :=
  (∀ a x, ((![v806] : Fin 1 → IVec S16 32) a x).toNat < S32768.size a)
theorem k2_idx242_inb : ∀ (v806 : IVec S16 32) (k2_hw242 : k2_chk242 v806), ∀ a x, ((![v806] : Fin 1 → IVec S16 32) a x).toNat < S32768.size a := fun v806 k2_hw242 => k2_hw242

def k2_chk243 (v808 : IVec S16 32) : Prop :=
  (∀ a x, ((![v808] : Fin 1 → IVec S16 32) a x).toNat < S65536.size a)
theorem k2_idx243_inb : ∀ (v808 : IVec S16 32) (k2_hw243 : k2_chk243 v808), ∀ a x, ((![v808] : Fin 1 → IVec S16 32) a x).toNat < S65536.size a := fun v808 k2_hw243 => k2_hw243

def k2_chk244 (v811 : IVec S16 32) : Prop :=
  (∀ a x, ((![v811] : Fin 1 → IVec S16 32) a x).toNat < S32768.size a)
theorem k2_idx244_inb : ∀ (v811 : IVec S16 32) (k2_hw244 : k2_chk244 v811), ∀ a x, ((![v811] : Fin 1 → IVec S16 32) a x).toNat < S32768.size a := fun v811 k2_hw244 => k2_hw244

def k2_chk245 (v813 : IVec S16 32) : Prop :=
  (∀ a x, ((![v813] : Fin 1 → IVec S16 32) a x).toNat < S65536.size a)
theorem k2_idx245_inb : ∀ (v813 : IVec S16 32) (k2_hw245 : k2_chk245 v813), ∀ a x, ((![v813] : Fin 1 → IVec S16 32) a x).toNat < S65536.size a := fun v813 k2_hw245 => k2_hw245

def k2_chk246 (v816 : IVec S16 32) : Prop :=
  (∀ a x, ((![v816] : Fin 1 → IVec S16 32) a x).toNat < S32768.size a)
theorem k2_idx246_inb : ∀ (v816 : IVec S16 32) (k2_hw246 : k2_chk246 v816), ∀ a x, ((![v816] : Fin 1 → IVec S16 32) a x).toNat < S32768.size a := fun v816 k2_hw246 => k2_hw246

def k2_chk247 (v818 : IVec S16 32) : Prop :=
  (∀ a x, ((![v818] : Fin 1 → IVec S16 32) a x).toNat < S65536.size a)
theorem k2_idx247_inb : ∀ (v818 : IVec S16 32) (k2_hw247 : k2_chk247 v818), ∀ a x, ((![v818] : Fin 1 → IVec S16 32) a x).toNat < S65536.size a := fun v818 k2_hw247 => k2_hw247

def k2_chk248 (v821 : IVec S16 32) : Prop :=
  (∀ a x, ((![v821] : Fin 1 → IVec S16 32) a x).toNat < S32768.size a)
theorem k2_idx248_inb : ∀ (v821 : IVec S16 32) (k2_hw248 : k2_chk248 v821), ∀ a x, ((![v821] : Fin 1 → IVec S16 32) a x).toNat < S32768.size a := fun v821 k2_hw248 => k2_hw248

def k2_chk249 (v823 : IVec S16 32) : Prop :=
  (∀ a x, ((![v823] : Fin 1 → IVec S16 32) a x).toNat < S65536.size a)
theorem k2_idx249_inb : ∀ (v823 : IVec S16 32) (k2_hw249 : k2_chk249 v823), ∀ a x, ((![v823] : Fin 1 → IVec S16 32) a x).toNat < S65536.size a := fun v823 k2_hw249 => k2_hw249

def k2_chk250 (v826 : IVec S16 32) : Prop :=
  (∀ a x, ((![v826] : Fin 1 → IVec S16 32) a x).toNat < S32768.size a)
theorem k2_idx250_inb : ∀ (v826 : IVec S16 32) (k2_hw250 : k2_chk250 v826), ∀ a x, ((![v826] : Fin 1 → IVec S16 32) a x).toNat < S32768.size a := fun v826 k2_hw250 => k2_hw250

def k2_chk251 (v828 : IVec S16 32) : Prop :=
  (∀ a x, ((![v828] : Fin 1 → IVec S16 32) a x).toNat < S65536.size a)
theorem k2_idx251_inb : ∀ (v828 : IVec S16 32) (k2_hw251 : k2_chk251 v828), ∀ a x, ((![v828] : Fin 1 → IVec S16 32) a x).toNat < S65536.size a := fun v828 k2_hw251 => k2_hw251

def k2_chk252 (v831 : IVec S16 32) : Prop :=
  (∀ a x, ((![v831] : Fin 1 → IVec S16 32) a x).toNat < S32768.size a)
theorem k2_idx252_inb : ∀ (v831 : IVec S16 32) (k2_hw252 : k2_chk252 v831), ∀ a x, ((![v831] : Fin 1 → IVec S16 32) a x).toNat < S32768.size a := fun v831 k2_hw252 => k2_hw252

def k2_chk253 (v833 : IVec S16 32) : Prop :=
  (∀ a x, ((![v833] : Fin 1 → IVec S16 32) a x).toNat < S65536.size a)
theorem k2_idx253_inb : ∀ (v833 : IVec S16 32) (k2_hw253 : k2_chk253 v833), ∀ a x, ((![v833] : Fin 1 → IVec S16 32) a x).toNat < S65536.size a := fun v833 k2_hw253 => k2_hw253

def k2_chk254 (v836 : IVec S16 32) : Prop :=
  (∀ a x, ((![v836] : Fin 1 → IVec S16 32) a x).toNat < S32768.size a)
theorem k2_idx254_inb : ∀ (v836 : IVec S16 32) (k2_hw254 : k2_chk254 v836), ∀ a x, ((![v836] : Fin 1 → IVec S16 32) a x).toNat < S32768.size a := fun v836 k2_hw254 => k2_hw254

def k2_chk255 (v838 : IVec S16 32) : Prop :=
  (∀ a x, ((![v838] : Fin 1 → IVec S16 32) a x).toNat < S65536.size a)
theorem k2_idx255_inb : ∀ (v838 : IVec S16 32) (k2_hw255 : k2_chk255 v838), ∀ a x, ((![v838] : Fin 1 → IVec S16 32) a x).toNat < S65536.size a := fun v838 k2_hw255 => k2_hw255

def k2_chk256 (v841 : IVec S16 32) : Prop :=
  (∀ a x, ((![v841] : Fin 1 → IVec S16 32) a x).toNat < S32768.size a)
theorem k2_idx256_inb : ∀ (v841 : IVec S16 32) (k2_hw256 : k2_chk256 v841), ∀ a x, ((![v841] : Fin 1 → IVec S16 32) a x).toNat < S32768.size a := fun v841 k2_hw256 => k2_hw256
def k2_off18 (i : grid2.Coords) (k2_t1 : Fin k2_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v4 : BitVec 32 := Scalar.muli v1 c1024_i32
  let c0_i32_0 : BitVec 32 := 0#32
  let c1_i32 : BitVec 32 := 1#32
  let arg9 : BitVec 32 := Scf.iv c0_i32_0 c1_i32 k2_t1
  let c256_i32 : BitVec 32 := 256#32
  let v5 : BitVec 32 := Scalar.muli arg9 c256_i32
  let v6 : BitVec 32 := Scalar.addi v4 v5
  let c128_i32 : BitVec 32 := 128#32
  let v9 : BitVec 32 := Scalar.muli v6 c128_i32
  ![v9.toNat]
abbrev grid3 : Pipeline.Grid := ⟨1, ![32], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 1 → Nat :=
  let arg0 : BitVec 32 := BitVec.ofNat 32 (i 0).val
  let c0_i32 : BitVec 32 := 0#32
  ![arg0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x128x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S131072 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x128x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S64x128x32x32 : Shape := ⟨4, ![64, 128, 32, 32]⟩
abbrev S16x512x8 : Shape := ⟨3, ![16, 512, 8]⟩
abbrev S64x32x32x16 : Shape := ⟨4, ![64, 32, 32, 16]⟩
abbrev S64x32x32x128 : Shape := ⟨4, ![64, 32, 32, 128]⟩
abbrev S65536x16x8 : Shape := ⟨3, ![65536, 16, 8]⟩
abbrev S65536x16 : Shape := ⟨2, ![65536, 16]⟩
abbrev S16x65536 : Shape := ⟨2, ![16, 65536]⟩
abbrev S16x65536x1 : Shape := ⟨3, ![16, 65536, 1]⟩
abbrev S_ : Shape := ⟨0, ![]⟩
abbrev S1 : Shape := ⟨1, ![1]⟩
abbrev S1x1x1 : Shape := ⟨3, ![1, 1, 1]⟩
abbrev S16x65536x8 : Shape := ⟨3, ![16, 65536, 8]⟩

abbrev nBuf : Space → Nat
  | .hbm => 35
  | .vmem => 0
  | .smem => 0
  | _ => 0

abbrev bufTy : (tb : Table) → Fin (tcTables nBuf tb) → BufTy
  | .hbm, ⟨0, _⟩ => ⟨S64x128x32x32, .f32⟩
  | .hbm, ⟨1, _⟩ => ⟨S16x512x8, .f32⟩
  | .hbm, ⟨2, _⟩ => ⟨S64x32x32x16, .i32⟩
  | .hbm, ⟨3, _⟩ => ⟨S64x32x32x128, .f32⟩
  | .hbm, ⟨4, _⟩ => ⟨S65536x16x8, .f32⟩
  | .hbm, ⟨5, _⟩ => ⟨S65536x16, .i32⟩
  | .hbm, ⟨6, _⟩ => ⟨S16x65536, .i32⟩
  | .hbm, ⟨7, _⟩ => ⟨S16x65536x1, .i32⟩
  | .hbm, ⟨8, _⟩ => ⟨S_, .i32⟩
  | .hbm, ⟨9, _⟩ => ⟨S16x65536x1, .i32⟩
  | .hbm, ⟨10, _⟩ => ⟨S16x65536x1, .i1⟩
  | .hbm, ⟨11, _⟩ => ⟨S_, .i32⟩
  | .hbm, ⟨12, _⟩ => ⟨S16x65536x1, .i32⟩
  | .hbm, ⟨13, _⟩ => ⟨S16x65536x1, .i32⟩
  | .hbm, ⟨14, _⟩ => ⟨S16x65536x1, .i32⟩
  | .hbm, ⟨15, _⟩ => ⟨S1, .i32⟩
  | .hbm, ⟨16, _⟩ => ⟨S_, .i32⟩
  | .hbm, ⟨17, _⟩ => ⟨S16x65536x1, .i32⟩
  | .hbm, ⟨18, _⟩ => ⟨S16x65536x1, .i1⟩
  | .hbm, ⟨19, _⟩ => ⟨S1x1x1, .i32⟩
  | .hbm, ⟨20, _⟩ => ⟨S16x65536x1, .i32⟩
  | .hbm, ⟨21, _⟩ => ⟨S16x65536x1, .i1⟩
  | .hbm, ⟨22, _⟩ => ⟨S16x65536x1, .i1⟩
  | .hbm, ⟨23, _⟩ => ⟨S_, .i1⟩
  | .hbm, ⟨24, _⟩ => ⟨S16x65536, .i1⟩
  | .hbm, ⟨25, _⟩ => ⟨S16x65536x8, .f32⟩
  | .hbm, ⟨26, _⟩ => ⟨S16x65536x8, .i1⟩
  | .hbm, ⟨27, _⟩ => ⟨S_, .f32⟩
  | .hbm, ⟨28, _⟩ => ⟨S16x65536x8, .f32⟩
  | .hbm, ⟨29, _⟩ => ⟨S16x65536x8, .f32⟩
  | .hbm, ⟨30, _⟩ => ⟨S65536x16x8, .f32⟩
  | .hbm, ⟨31, _⟩ => ⟨S65536x16x8, .f32⟩
  | .hbm, ⟨32, _⟩ => ⟨S65536x16x8, .f32⟩
  | .hbm, ⟨33, _⟩ => ⟨S64x32x32x128, .f32⟩
  | .hbm, ⟨34, _⟩ => ⟨S64x128x32x32, .f32⟩
  | _, _ => ⟨S64x128x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_c_2 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_c_3 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_cst : Ref sig .tc := ⟨.hbm, 27, rfl⟩
abbrev main_call0_v14 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩

abbrev nD : Nat := 1
abbrev τ : Topo := Topo.v7x

variable {F : FTy → Type} [FloatOps F]
-- ==== Argmin.lean ====
abbrev S64x128x32x32 : Shape := ⟨4, ![64, 128, 32, 32]⟩
abbrev S16x512x8 : Shape := ⟨3, ![16, 512, 8]⟩
abbrev S64x128x1024 : Shape := ⟨3, ![64, 128, 1024]⟩
abbrev S_ : Shape := ⟨0, ![]⟩
abbrev S16x512 : Shape := ⟨2, ![16, 512]⟩
abbrev S512x16 : Shape := ⟨2, ![512, 16]⟩
abbrev S32x128x1024 : Shape := ⟨3, ![32, 128, 1024]⟩
abbrev S32x16x1024 : Shape := ⟨3, ![32, 16, 1024]⟩
abbrev S1x1 : Shape := ⟨2, ![1, 1]⟩
abbrev S1x128x1024 : Shape := ⟨3, ![1, 128, 1024]⟩
abbrev S1x16x1024 : Shape := ⟨3, ![1, 16, 1024]⟩
abbrev S512x1024 : Shape := ⟨2, ![512, 1024]⟩
abbrev S128x1024 : Shape := ⟨2, ![128, 1024]⟩
abbrev S8x1024 : Shape := ⟨2, ![8, 1024]⟩
abbrev S1024 : Shape := ⟨1, ![1024]⟩
abbrev S1x512x8 : Shape := ⟨3, ![1, 512, 8]⟩
abbrev S512x8 : Shape := ⟨2, ![512, 8]⟩
abbrev S1x1024 : Shape := ⟨2, ![1, 1024]⟩
abbrev S8x1 : Shape := ⟨2, ![8, 1]⟩
abbrev S1x1x1024 : Shape := ⟨3, ![1, 1, 1024]⟩
abbrev S1 : Shape := ⟨1, ![1]⟩
abbrev S32x1024x16 : Shape := ⟨3, ![32, 1024, 16]⟩
abbrev S64x1024x16 : Shape := ⟨3, ![64, 1024, 16]⟩
abbrev S64x32x32x16 : Shape := ⟨4, ![64, 32, 32, 16]⟩

abbrev nBuf : Space → Nat
  | .hbm => 27
  | .vmem => 14
  | .smem => 2
  | _ => 0

abbrev bufTy : (tb : Table) → Fin (tcTables nBuf tb) → BufTy
  | .hbm, ⟨0, _⟩ => ⟨S64x128x32x32, .f32⟩
  | .hbm, ⟨1, _⟩ => ⟨S16x512x8, .f32⟩
  | .hbm, ⟨2, _⟩ => ⟨S64x128x1024, .f32⟩
  | .hbm, ⟨3, _⟩ => ⟨S16x512x8, .f32⟩
  | .hbm, ⟨4, _⟩ => ⟨S_, .f32⟩
  | .hbm, ⟨5, _⟩ => ⟨S16x512, .f32⟩
  | .hbm, ⟨6, _⟩ => ⟨S_, .f32⟩
  | .hbm, ⟨7, _⟩ => ⟨S16x512x8, .f32⟩
  | .hbm, ⟨8, _⟩ => ⟨S16x512x8, .f32⟩
  | .hbm, ⟨9, _⟩ => ⟨S512x16, .f32⟩
  | .hbm, ⟨10, _⟩ => ⟨S32x128x1024, .f32⟩
  | .hbm, ⟨11, _⟩ => ⟨S32x16x1024, .i32⟩
  | .hbm, ⟨12, _⟩ => ⟨S1x1, .f32⟩
  | .hbm, ⟨13, _⟩ => ⟨S32x1024x16, .i32⟩
  | .hbm, ⟨14, _⟩ => ⟨S_, .f32⟩
  | .hbm, ⟨15, _⟩ => ⟨S32x128x1024, .f32⟩
  | .hbm, ⟨16, _⟩ => ⟨S32x16x1024, .i32⟩
  | .hbm, ⟨17, _⟩ => ⟨S1x1, .f32⟩
  | .hbm, ⟨18, _⟩ => ⟨S32x1024x16, .i32⟩
  | .hbm, ⟨19, _⟩ => ⟨S_, .f32⟩
  | .hbm, ⟨20, _⟩ => ⟨S64x1024x16, .i32⟩
  | .hbm, ⟨21, _⟩ => ⟨S64x32x32x16, .i32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S1x128x1024, .f32⟩
  | .local _ .vmem, ⟨1, _⟩ => ⟨S1x128x1024, .f32⟩
  | .local _ .vmem, ⟨2, _⟩ => ⟨S16x512x8, .f32⟩
  | .local _ .vmem, ⟨3, _⟩ => ⟨S512x16, .f32⟩
  | .local _ .vmem, ⟨4, _⟩ => ⟨S1x16x1024, .i32⟩
  | .local _ .vmem, ⟨5, _⟩ => ⟨S1x16x1024, .i32⟩
  | .local _ .vmem, ⟨6, _⟩ => ⟨S512x1024, .f32⟩
  | .local _ .vmem, ⟨7, _⟩ => ⟨S1x128x1024, .f32⟩
  | .local _ .vmem, ⟨8, _⟩ => ⟨S1x128x1024, .f32⟩
  | .local _ .vmem, ⟨9, _⟩ => ⟨S16x512x8, .f32⟩
  | .local _ .vmem, ⟨10, _⟩ => ⟨S512x16, .f32⟩
  | .local _ .vmem, ⟨11, _⟩ => ⟨S1x16x1024, .i32⟩
  | .local _ .vmem, ⟨12, _⟩ => ⟨S1x16x1024, .i32⟩
  | .local _ .vmem, ⟨13, _⟩ => ⟨S512x1024, .f32⟩
  | .local _ .smem, ⟨0, _⟩ => ⟨S1x1, .f32⟩
  | .local _ .smem, ⟨1, _⟩ => ⟨S1x1, .f32⟩
  | _, _ => ⟨S64x128x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc0_stg4_0 : Ref sig .tc := ⟨.smem, 0, rfl⟩
abbrev cc1_stg4_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x512x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev grid1 : Pipeline.Grid := ⟨2, ![32, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16x512x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S512x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x16x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .smem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]
-- ==== ArgminReferenceIdeal.lean ====
abbrev S64x128x32x32 : Shape := ⟨4, ![64, 128, 32, 32]⟩
abbrev S16x512x8 : Shape := ⟨3, ![16, 512, 8]⟩
abbrev S64x32x32x128 : Shape := ⟨4, ![64, 32, 32, 128]⟩
abbrev S65536x16x8 : Shape := ⟨3, ![65536, 16, 8]⟩
abbrev S_ : Shape := ⟨0, ![]⟩
abbrev S65536x16 : Shape := ⟨2, ![65536, 16]⟩
abbrev S65536x16x1 : Shape := ⟨3, ![65536, 16, 1]⟩
abbrev S16x512 : Shape := ⟨2, ![16, 512]⟩
abbrev S1x16x512 : Shape := ⟨3, ![1, 16, 512]⟩
abbrev S16x512x65536 : Shape := ⟨3, ![16, 512, 65536]⟩
abbrev S65536x16x512 : Shape := ⟨3, ![65536, 16, 512]⟩
abbrev S16x65536 : Shape := ⟨2, ![16, 65536]⟩
abbrev S16x65536x1 : Shape := ⟨3, ![16, 65536, 1]⟩
abbrev S1 : Shape := ⟨1, ![1]⟩
abbrev S1x1x1 : Shape := ⟨3, ![1, 1, 1]⟩
abbrev S16x65536x8 : Shape := ⟨3, ![16, 65536, 8]⟩
abbrev S64x32x32x16 : Shape := ⟨4, ![64, 32, 32, 16]⟩

abbrev nBuf : Space → Nat
  | .hbm => 60
  | .vmem => 0
  | .smem => 0
  | _ => 0

abbrev bufTy : (tb : Table) → Fin (tcTables nBuf tb) → BufTy
  | .hbm, ⟨0, _⟩ => ⟨S64x128x32x32, .f32⟩
  | .hbm, ⟨1, _⟩ => ⟨S16x512x8, .f32⟩
  | .hbm, ⟨2, _⟩ => ⟨S64x32x32x128, .f32⟩
  | .hbm, ⟨3, _⟩ => ⟨S65536x16x8, .f32⟩
  | .hbm, ⟨4, _⟩ => ⟨S65536x16x8, .f32⟩
  | .hbm, ⟨5, _⟩ => ⟨S_, .f32⟩
  | .hbm, ⟨6, _⟩ => ⟨S65536x16, .f32⟩
  | .hbm, ⟨7, _⟩ => ⟨S65536x16x1, .f32⟩
  | .hbm, ⟨8, _⟩ => ⟨S16x512x8, .f32⟩
  | .hbm, ⟨9, _⟩ => ⟨S_, .f32⟩
  | .hbm, ⟨10, _⟩ => ⟨S16x512, .f32⟩
  | .hbm, ⟨11, _⟩ => ⟨S1x16x512, .f32⟩
  | .hbm, ⟨12, _⟩ => ⟨S16x512x65536, .f32⟩
  | .hbm, ⟨13, _⟩ => ⟨S65536x16x512, .f32⟩
  | .hbm, ⟨14, _⟩ => ⟨S65536x16x512, .f32⟩
  | .hbm, ⟨15, _⟩ => ⟨S65536x16x512, .f32⟩
  | .hbm, ⟨16, _⟩ => ⟨S65536x16x512, .f32⟩
  | .hbm, ⟨17, _⟩ => ⟨S_, .f32⟩
  | .hbm, ⟨18, _⟩ => ⟨S65536x16x512, .f32⟩
  | .hbm, ⟨19, _⟩ => ⟨S65536x16x512, .f32⟩
  | .hbm, ⟨20, _⟩ => ⟨S65536x16x512, .f32⟩
  | .hbm, ⟨21, _⟩ => ⟨S65536x16x512, .i32⟩
  | .hbm, ⟨22, _⟩ => ⟨S_, .f32⟩
  | .hbm, ⟨23, _⟩ => ⟨S_, .i32⟩
  | .hbm, ⟨24, _⟩ => ⟨S65536x16, .f32⟩
  | .hbm, ⟨25, _⟩ => ⟨S65536x16, .i32⟩
  | .hbm, ⟨26, _⟩ => ⟨S16x65536, .i32⟩
  | .hbm, ⟨27, _⟩ => ⟨S16x65536x1, .i32⟩
  | .hbm, ⟨28, _⟩ => ⟨S_, .i32⟩
  | .hbm, ⟨29, _⟩ => ⟨S16x65536x1, .i32⟩
  | .hbm, ⟨30, _⟩ => ⟨S16x65536x1, .i1⟩
  | .hbm, ⟨31, _⟩ => ⟨S_, .i32⟩
  | .hbm, ⟨32, _⟩ => ⟨S16x65536x1, .i32⟩
  | .hbm, ⟨33, _⟩ => ⟨S16x65536x1, .i32⟩
  | .hbm, ⟨34, _⟩ => ⟨S16x65536x1, .i32⟩
  | .hbm, ⟨35, _⟩ => ⟨S1, .i32⟩
  | .hbm, ⟨36, _⟩ => ⟨S_, .i32⟩
  | .hbm, ⟨37, _⟩ => ⟨S16x65536x1, .i32⟩
  | .hbm, ⟨38, _⟩ => ⟨S16x65536x1, .i1⟩
  | .hbm, ⟨39, _⟩ => ⟨S1x1x1, .i32⟩
  | .hbm, ⟨40, _⟩ => ⟨S16x65536x1, .i32⟩
  | .hbm, ⟨41, _⟩ => ⟨S16x65536x1, .i1⟩
  | .hbm, ⟨42, _⟩ => ⟨S16x65536x1, .i1⟩
  | .hbm, ⟨43, _⟩ => ⟨S_, .i1⟩
  | .hbm, ⟨44, _⟩ => ⟨S16x65536, .i1⟩
  | .hbm, ⟨45, _⟩ => ⟨S16x65536x8, .f32⟩
  | .hbm, ⟨46, _⟩ => ⟨S16x65536x8, .i1⟩
  | .hbm, ⟨47, _⟩ => ⟨S_, .f32⟩
  | .hbm, ⟨48, _⟩ => ⟨S16x65536x8, .f32⟩
  | .hbm, ⟨49, _⟩ => ⟨S16x65536x8, .f32⟩
  | .hbm, ⟨50, _⟩ => ⟨S65536x16x8, .f32⟩
  | .hbm, ⟨51, _⟩ => ⟨S65536x16x8, .f32⟩
  | .hbm, ⟨52, _⟩ => ⟨S65536x16x8, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S64x32x32x16, .i32⟩
  | _, _ => ⟨S64x128x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_c_2 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_c_3 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_cst : Ref sig .tc := ⟨.hbm, 47, rfl⟩
abbrev main_call1_v14 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_cst_2 : Ref sig .tc := ⟨.hbm, 53, rfl⟩
abbrev main_v23 : Ref sig .tc := ⟨.hbm, 54, rfl⟩
abbrev main_cst_3 : Ref sig .tc := ⟨.hbm, 55, rfl⟩
abbrev main_v24 : Ref sig .tc := ⟨.hbm, 56, rfl⟩
abbrev main_cst_4 : Ref sig .tc := ⟨.hbm, 57, rfl⟩
abbrev main_v25 : Ref sig .tc := ⟨.hbm, 58, rfl⟩
abbrev main_v26 : Ref sig .tc := ⟨.hbm, 59, rfl⟩

abbrev nD : Nat := 1
abbrev τ : Topo := Topo.v7x

variable {F : FTy → Type} [FloatOps F]
-- ==== Proof.ArgLaunch.lean ====
/-
  The run of the program of the two calls: what its result arrays hold at the end. The launch is set up as in the generated
  frame, and its last state is read at two more arrays.
-/
module

public import proofs.«01_k».proof.Proof.Gen.ArgminIdeal.Frame

@[expose] public section

set_option maxRecDepth 16384

noncomputable section

namespace Cert.ArgminIdeal.Row

open Cert.ArgminIdeal Cert.ArgminIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (m : (ℓ : Loc nD τ sig) → Buf (Elt F) ℓ) (ρ : Dev nD → PrngReg)

-- the launch theorem's implicit arguments are found by unfolding plain definitions in a metavariable's type
set_option backward.isDefEq.respectTransparency.types false in
/-- The program runs, its two results are what the last host operations leave, the arguments end unchanged, and no counter is up. -/
theorem run_main : θ_run defs (onTc (τ := τ) (main (F := F))) ⟨m, fun _ => 0, ρ⟩ (fun r => (∀ c : Dev nD,
      r.2.mem ((c.tc : Thread nD τ).loc main_v18) = W5 m ρ c (Proc.devRef .tc main_v18)
      ∧ r.2.mem ((c.tc : Thread nD τ).loc main_v15) = W5 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨h c _ (mem_uc main_v18 (by decide)), h c _ (mem_uc main_v15 (by decide)),
       (h c _ (mem_uc main_arg0 (by decide))).trans (W5_main_arg0 m ρ c),
       (h c _ (mem_uc main_arg1 (by decide))).trans (W5_main_arg1 m ρ c)⟩), funext fun g => hz g (.inr (no_unscoped g.2))⟩)

end Cert.ArgminIdeal.Row

end
-- ==== Proof.Row.lean ====
/-
  The argmin body in short form: for each codebook the store into the scratch, the distances tile by tile, the two
  running minima and their tile numbers, the row's minimum and the first code that attains it.
-/
module

public import proofs.«01_k».proof.Proof.Gen.ArgminIdeal.Launch
public import Idealize.ShloMosaic.Lib.Pipeline.FrameBody

@[expose] public section

set_option maxRecDepth 16384

noncomputable section

namespace Cert.ArgminIdeal.Row

open Cert.ArgminIdeal Cert.ArgminIdeal.Gen
open Idealize.ShloMosaic Idealize.ShloMosaic.TcCoe Idealize.SL.Sem

variable {F : FTy → Type} [FloatOps F]

/-- One tile's distances: the vectors' squares, the codes' squares, the product. -/
def dist (zs : FVec F S8x1024 .f32) (Q : ℕ → Vec F S8x1 .f32) (G : ℕ → Vec F S8x1024 .f32) (k : ℕ) : FVec F S8x1024 .f32 :=
  addf (addf zs (broadcastTo S8x1024 (shapeCast S8x1 (Q k) shapeCasts_S8x1_S8x1 : FVec F S8x1 .f32) broadcasts_S8x1_S8x1024)) (G k)

/-- The running minimum over the tiles from `o` on. -/
def best (d : ℕ → FVec F S8x1024 .f32) (o t : ℕ) : FVec F S8x1024 .f32 :=
  Nat.rec (d o) (fun t b => select (cmpf .olt (d (o + (t + 1))) b) (d (o + (t + 1))) b) t

/-- The tile at which the running minimum was met first. -/
def tile (d : ℕ → FVec F S8x1024 .f32) (o t : ℕ) : IVec S8x1024 32 :=
  Nat.rec (broadcast S8x1024 (BitVec.ofNat 32 o))
    (fun t b => select (cmpf .olt (d (o + (t + 1))) (best d o t)) (broadcast S8x1024 (BitVec.ofNat 32 (o + (t + 1)))) b) t

/-- The smaller of the two running minima. -/
def best2 (d : ℕ → FVec F S8x1024 .f32) : FVec F S8x1024 .f32 :=
  select (cmpf .olt (best d 32 31) (best d 0 31)) (best d 32 31) (best d 0 31)

/-- Its tile. -/
def tile2 (d : ℕ → FVec F S8x1024 .f32) : IVec S8x1024 32 :=
  select (cmpf .olt (best d 32 31) (best d 0 31)) (tile d 32 31) (tile d 0 31)

/-- The row's minimum. -/
def least (d : ℕ → FVec F S8x1024 .f32) : FVec F S1024 .f32 :=
  multiReduction .minimumf [0] S1024 (best2 d) 0x7F800000#32 reduces_S8x1024_S1024 (.inl rfl) rfl

/-- The first code that attains it. -/
def code (d : ℕ → FVec F S8x1024 .f32) : IVec S1x1x1024 32 :=
  shapeCast S1x1x1024 (multiReductionI .minsi [0] S1024
    (select (cmpf .oeq (best2 d) (broadcastTo S8x1024 (shapeCast S1x1024 (least d) shapeCasts_S1024_S1x1024 : FVec F S1x1024 .f32) broadcasts_S1x1024_S8x1024))
      (addi (muli (tile2 d) (broadcast S8x1024 8#32)) (iota .tc S8x1024 32 [0] iota_S8x1024_d0_w32)) (broadcast S8x1024 512#32))
    2147483647#32 reduces_S8x1024_S1024 rfl) shapeCasts_S1024_S1x1x1024

theorem slices_zb (n : Fin 16) : S128x1024.Slices ![8 * n.val, 0] S8x1024 := by
  revert n; decide

theorem inb_cb (n : Fin 16) : ∀ a, (![n.val, 0, 0] : Fin 3 → ℕ) a + S1x512x8.size a ≤ S16x512x8.size a := by
  revert n; decide

theorem inb_q (n : Fin 16) (k : ℕ) : ∀ a, (![8 * (k % 64), n.val] : Fin 2 → ℕ) a + S8x1.size a ≤ S512x16.size a := by
  have h : 8 * (k % 64) + 8 ≤ 512 := by omega
  have h' := n.isLt
  intro a; match a with
  | 0 => exact h
  | 1 => exact h'

theorem inb_g (k : ℕ) : ∀ a, (![8 * (k % 64), 0] : Fin 2 → ℕ) a + S8x1024.size a ≤ S512x1024.size a := by
  have h : 8 * (k % 64) + 8 ≤ 512 := by omega
  intro a; match a with
  | 0 => exact h
  | 1 => exact Nat.le_refl 1024

theorem inb_o (n : Fin 16) : ∀ a, (![0, n.val, 0] : Fin 3 → ℕ) a + S1x1x1024.size a ≤ S1x16x1024.size a := by
  revert n; decide

variable (arg2 : Memref sig .tc .vmem S1x128x1024 .f32) (harg2 : arg2.IsWhole) (arg3 : Memref sig .tc .vmem S16x512x8 .f32) (harg3 : arg3.IsWhole) (arg4 : Memref sig .tc .vmem S512x16 .f32) (harg4 : arg4.IsWhole) (arg7 : Memref sig .tc .vmem S512x1024 .f32)
  (x0 : Vec F S1x128x1024 .f32) (x1 : Vec F S16x512x8 .f32) (x2 : Vec F S512x16 .f32)

/-- The block of vectors as loaded. -/
def zb : FVec F S128x1024 .f32 :=
  shapeCast S128x1024 (View.readAt (Elt F) arg2.view (Rect.unit ![0, 0, 0] S1x128x1024.size inb_S1x128x1024_S1x128x1024_0_0_0).toLoadRect (harg2.unread x0)) shapeCasts_S1x128x1024_S128x1024

/-- The squared lengths of codebook `n`'s parts, along eight sublanes. -/
def zsq (n : Fin 16) : FVec F S8x1024 .f32 :=
  broadcastTo S8x1024 (shapeCast S1x1024 (shapeCast S1x1024 (multiReduction .add [0] S1024
    (extractStridedSlice S8x1024 ![8 * n.val, 0] (mulf (zb arg2 harg2 x0) (zb arg2 harg2 x0)) (slices_zb n))
    0x00000000#32 reduces_S8x1024_S1024 (.inl rfl) rfl) shapeCasts_S1024_S1x1024 : FVec F S1x1024 .f32) shapeCasts_S1x1024_S1x1024 : FVec F S1x1024 .f32) broadcasts_S1x1024_S8x1024

/-- The product stored into the scratch for codebook `n`. -/
def inter (n : Fin 16) : FVec F S512x1024 .f32 :=
  shapeCast S512x1024 (matmul dot_S512x8_S8x1024_S512x1024_1_0_0_1_n_n none
    (shapeCast S512x8 (View.readAt (Elt F) arg3.view (Rect.unit (s := S16x512x8) ![n.val, 0, 0] S1x512x8.size (inb_cb n)).toLoadRect (harg3.unread x1)) shapeCasts_S1x512x8_S512x8 : FVec F S512x8 .f32)
    (extractStridedSlice S8x1024 ![8 * n.val, 0] (zb arg2 harg2 x0) (slices_zb n)) (constant S512x1024 .f32 0x00000000#32)) shapeCasts_S512x1024_S512x1024

/-- The number `n` below sixteen. -/
def fin16 (n : ℕ) : Fin 16 := ⟨n % 16, Nat.mod_lt n (by decide)⟩

/-- The scratch's stores up to codebook `n`, the last first. -/
def stores (n : ℕ) : List (View.Piece (Elt F) S512x1024 .f32) :=
  Nat.rec [⟨Rect.unit ![0, 0] S512x1024.size inb_S512x1024_S512x1024_0_0, inter arg2 harg2 arg3 harg3 x0 x1 (fin16 0)⟩]
    (fun n L => ⟨Rect.unit ![0, 0] S512x1024.size inb_S512x1024_S512x1024_0_0, inter arg2 harg2 arg3 harg3 x0 x1 (fin16 (n + 1))⟩ :: L) n

/-- The distances of codebook `n`, from the loads. -/
def rowDist (n : ℕ) (k : ℕ) : FVec F S8x1024 .f32 :=
  dist (zsq arg2 harg2 x0 (fin16 n))
    (fun k => View.readAt (Elt F) arg4.view (Rect.unit (s := S512x16) ![8 * (k % 64), (fin16 n).val] S8x1.size (inb_q (fin16 n) k)).toLoadRect (harg4.unread x2))
    (fun k => arg7.view.readCov (stores arg2 harg2 arg3 harg3 x0 x1 n) (Rect.unit (s := S512x1024) ![8 * (k % 64), 0] S8x1024.size (inb_g k)).toLoadRect) k

/-- The stores into the block of indices up to codebook `n`, the last first. -/
def codes (n : ℕ) : List (View.Piece (Elt F) S1x16x1024 .i32) :=
  Nat.rec [⟨Rect.unit (s := S1x16x1024) ![0, (fin16 0).val, 0] S1x1x1024.size (inb_o (fin16 0)), code (rowDist arg2 harg2 arg3 harg3 arg4 harg4 arg7 x0 x1 x2 0)⟩]
    (fun n L => ⟨Rect.unit (s := S1x16x1024) ![0, (fin16 (n + 1)).val, 0] S1x1x1024.size (inb_o (fin16 (n + 1))), code (rowDist arg2 harg2 arg3 harg3 arg4 harg4 arg7 x0 x1 x2 (n + 1))⟩ :: L) n

/-- The sum of the rows' minima up to codebook `n`. -/
def leasts (n : ℕ) : FVec F S1024 .f32 :=
  Nat.rec (addf (broadcast S1024 (Scalar.ofBits .f32 0x00000000#32)) (least (rowDist arg2 harg2 arg3 harg3 arg4 harg4 arg7 x0 x1 x2 0)))
    (fun n L => addf L (least (rowDist arg2 harg2 arg3 harg3 arg4 harg4 arg7 x0 x1 x2 (n + 1)))) n

/-- What the body adds to the loss's word. -/
def lossSum : F .f32 :=
  extractAt ![0, 0] (shapeCast S1x1 (multiReduction .add [1] S1 (shapeCast S1x1024 (leasts arg2 harg2 arg3 harg3 arg4 harg4 arg7 x0 x1 x2 15) shapeCasts_S1024_S1x1024 : FVec F S1x1024 .f32) 0x00000000#32 reduces_S1x1024_S1 (.inl rfl) rfl) shapeCasts_S1_S1x1 : FVec F S1x1 .f32) inpos_S1x1_p0_0

end Cert.ArgminIdeal.Row

end
-- ==== Proof.RowEq.lean ====
/-
  The two calls' stores, as the launch's run writes them out, are the body's short form: for each call at the first
  point and at every later one, the block of indices and the loss's word.
-/
module

public import proofs.«01_k».proof.Proof.Row
public import proofs.«01_k».proof.Proof.Gen.ArgminIdeal.Frame

@[expose] public section

set_option maxRecDepth 16384

noncomputable section

namespace Cert.ArgminIdeal.Row

open Cert.ArgminIdeal Cert.ArgminIdeal.Gen
open Idealize.ShloMosaic Idealize.ShloMosaic.TcCoe Idealize.SL.Sem

variable {F : FTy → Type} [FloatOps F]

variable (arg2 : Memref sig .tc .vmem S1x128x1024 .f32) (harg2 : arg2.IsWhole) (arg3 : Memref sig .tc .vmem S16x512x8 .f32) (harg3 : arg3.IsWhole) (arg4 : Memref sig .tc .vmem S512x16 .f32) (harg4 : arg4.IsWhole) (arg7 : Memref sig .tc .vmem S512x1024 .f32)
  (x0 : Vec F S1x128x1024 .f32) (x1 : Vec F S16x512x8 .f32) (x2 : Vec F S512x16 .f32)

variable (arg5 : Memref sig .tc .vmem S1x16x1024 .i32) (harg5 : arg5.IsWhole) (arg6 : Memref sig .tc .smem S1x1 .f32) (harg6 : arg6.IsWhole) (harg7 : arg7.IsWhole)

/-- At the first point the block of indices gets the sixteen rows of codes. -/
theorem codes_A (c : Dev nD) (i : grid0.Coords) (hc0 : cond0_0 i) :
    (kernelRun0_A c i arg2 harg2 arg3 harg3 arg4 harg4 arg5 harg5 arg6 harg6 arg7 harg7 hc0 x0 x1 x2).1
      = codes arg2 harg2 arg3 harg3 arg4 harg4 arg7 x0 x1 x2 15 := by
  sl_kernel_rfl

/-- At every later point likewise. -/
theorem codes_B (c : Dev nD) (i : grid0.Coords) (hc0 : ¬cond0_0 i) (xo4 : Vec F S1x1 .f32) :
    (kernelRun0_B c i arg2 harg2 arg3 harg3 arg4 harg4 arg5 harg5 arg6 harg6 arg7 harg7 hc0 x0 x1 x2 xo4).1
      = codes arg2 harg2 arg3 harg3 arg4 harg4 arg7 x0 x1 x2 15 := by
  sl_kernel_rfl

/-- At the first point the loss's word is set to zero and the sum of the minima is added to it. -/
theorem loss_A (c : Dev nD) (i : grid0.Coords) (hc0 : cond0_0 i) :
    (kernelRun0_A c i arg2 harg2 arg3 harg3 arg4 harg4 arg5 harg5 arg6 harg6 arg7 harg7 hc0 x0 x1 x2).2.1
      = [⟨Rect.unit ![0, 0] ![1, 1] inb_S1x1_S1x1_0_0, fun _ => Scalar.addf (Scalar.ofBits .f32 0x00000000#32) (lossSum arg2 harg2 arg3 harg3 arg4 harg4 arg7 x0 x1 x2)⟩,
        ⟨Rect.unit ![0, 0] S1x1.size inb_S1x1_S1x1_0_0, fun _ => Scalar.ofBits .f32 0x00000000#32⟩] := by
  sl_kernel_rfl

/-- At every later point the sum is added to what stands there. -/
theorem loss_B (c : Dev nD) (i : grid0.Coords) (hc0 : ¬cond0_0 i) (xo4 : Vec F S1x1 .f32) :
    (kernelRun0_B c i arg2 harg2 arg3 harg3 arg4 harg4 arg5 harg5 arg6 harg6 arg7 harg7 hc0 x0 x1 x2 xo4).2.1
      = [⟨Rect.unit ![0, 0] ![1, 1] inb_S1x1_S1x1_0_0, fun _ => Scalar.addf
          (View.readAt (Elt F) arg6.view (Rect.unit ![0, 0] S1x1.size inb_S1x1_S1x1_0_0).toLoadRect (harg6.unread xo4) (Shape.Idx.first (by decide)))
          (lossSum arg2 harg2 arg3 harg3 arg4 harg4 arg7 x0 x1 x2)⟩] := by
  sl_kernel_rfl

/-- In the second call too the block of indices gets the sixteen rows of codes at the first point. -/
theorem codes_A₁ (c : Dev nD) (i : grid1.Coords) (hc0 : cond1_0 i) :
    (kernelRun1_A c i arg2 harg2 arg3 harg3 arg4 harg4 arg5 harg5 arg6 harg6 arg7 harg7 hc0 x0 x1 x2).1
      = codes arg2 harg2 arg3 harg3 arg4 harg4 arg7 x0 x1 x2 15 := by
  sl_kernel_rfl

/-- And at every later point. -/
theorem codes_B₁ (c : Dev nD) (i : grid1.Coords) (hc0 : ¬cond1_0 i) (xo4 : Vec F S1x1 .f32) :
    (kernelRun1_B c i arg2 harg2 arg3 harg3 arg4 harg4 arg5 harg5 arg6 harg6 arg7 harg7 hc0 x0 x1 x2 xo4).1
      = codes arg2 harg2 arg3 harg3 arg4 harg4 arg7 x0 x1 x2 15 := by
  sl_kernel_rfl

/-- In the second call too, at the first point the loss's word is set to zero and the sum of the minima is added to it. -/
theorem loss_A₁ (c : Dev nD) (i : grid1.Coords) (hc0 : cond1_0 i) :
    (kernelRun1_A c i arg2 harg2 arg3 harg3 arg4 harg4 arg5 harg5 arg6 harg6 arg7 harg7 hc0 x0 x1 x2).2.1
      = [⟨Rect.unit ![0, 0] ![1, 1] inb_S1x1_S1x1_0_0, fun _ => Scalar.addf (Scalar.ofBits .f32 0x00000000#32) (lossSum arg2 harg2 arg3 harg3 arg4 harg4 arg7 x0 x1 x2)⟩,
        ⟨Rect.unit ![0, 0] S1x1.size inb_S1x1_S1x1_0_0, fun _ => Scalar.ofBits .f32 0x00000000#32⟩] := by
  sl_kernel_rfl

/-- And at every later point the sum is added to what stands there. -/
theorem loss_B₁ (c : Dev nD) (i : grid1.Coords) (hc0 : ¬cond1_0 i) (xo4 : Vec F S1x1 .f32) :
    (kernelRun1_B c i arg2 harg2 arg3 harg3 arg4 harg4 arg5 harg5 arg6 harg6 arg7 harg7 hc0 x0 x1 x2 xo4).2.1
      = [⟨Rect.unit ![0, 0] ![1, 1] inb_S1x1_S1x1_0_0, fun _ => Scalar.addf
          (View.readAt (Elt F) arg6.view (Rect.unit ![0, 0] S1x1.size inb_S1x1_S1x1_0_0).toLoadRect (harg6.unread xo4) (Shape.Idx.first (by decide)))
          (lossSum arg2 harg2 arg3 harg3 arg4 harg4 arg7 x0 x1 x2)⟩] := by
  sl_kernel_rfl

end Cert.ArgminIdeal.Row

end
-- ==== Proof.First.lean ====
/-
  The first place at which a finite family of values is least, and the running minimum that finds it: a minimum is kept
  along the tiles with the tile at which it was met first, the smaller of two such minima is taken, and of the codes at
  which the row's minimum is attained the least one is kept.
-/
module

public import proofs.«01_k».proof.Proof.Row
public import Idealize.ShloMosaic.Lib.ValueIdx
public import Idealize.ShloMosaic.Lib.Pipeline.ValueKit
public import Idealize.ShloMosaic.PureOps.Ideal.Laws

@[expose] public section

noncomputable section

namespace Cert.ArgminIdeal.Row

open Cert.ArgminIdeal Cert.ArgminIdeal.Gen
open Idealize.ShloMosaic Idealize.ShloMosaic.TcCoe Idealize.SL.Sem

/-- `m` is the first place at which `D` is least. -/
def First {n : ℕ} (D : Fin n → EReal) (m : Fin n) : Prop := (∀ i, D m ≤ D i) ∧ ∀ i, i < m → D m < D i

/-- There is only one such place. -/
theorem First.unique {n : ℕ} {D : Fin n → EReal} {m m' : Fin n} (h : First D m) (h' : First D m') : m = m' := by
  rcases lt_trichotomy m m' with hlt | heq | hgt
  · exact absurd (h.1 m') (not_le.mpr (h'.2 m hlt))
  · exact heq
  · exact absurd (h'.1 m) (not_le.mpr (h.2 m' hgt))

/-- There is one. -/
theorem First.exists {n : ℕ} [NeZero n] (D : Fin n → EReal) : ∃ m, First D m := by
  obtain ⟨k, -, hk⟩ := Finset.exists_min_image (Finset.univ : Finset (Fin n)) D ⟨0, Finset.mem_univ _⟩
  have hex : ∃ m : Fin n, D m = D k := ⟨k, rfl⟩
  obtain ⟨m, hm, hmin⟩ : ∃ m : Fin n, D m = D k ∧ ∀ i, D i = D k → m ≤ i := by
    obtain ⟨m, hm, hmin⟩ := Finset.exists_min_image (Finset.univ.filter fun i => D i = D k) id ⟨k, by simp⟩
    exact ⟨m, by simpa using hm, fun i hi => hmin i (by simpa using hi)⟩
  refine ⟨m, fun i => hm ▸ hk i (Finset.mem_univ i), fun i hi => lt_of_le_of_ne (hm ▸ hk i (Finset.mem_univ i)) fun h => ?_⟩
  exact absurd (hmin i (h ▸ hm)) (not_le.mpr hi)

variable (d : ℕ → FVec Ideal S8x1024 .f32)

theorem cmp_olt (a b : EReal) : Ideal.cmp .olt a b = 1 ↔ a < b := by
  unfold Ideal.cmp
  by_cases h : a < b <;> simp [h]

theorem cmp_oeq (a b : EReal) : Ideal.cmp .oeq a b = 1 ↔ a = b := by
  unfold Ideal.cmp
  by_cases h : a = b <;> simp [h]

/-- The running minimum and its tile: the first tile at which the distance is least among those seen. -/
theorem best_spec (o t : ℕ) (i : S8x1024.Idx) :
    ∃ j, j ≤ t ∧ tile d o t i = BitVec.ofNat 32 (o + j) ∧ best d o t i = d (o + j) i
      ∧ (∀ k, k ≤ t → d (o + j) i ≤ d (o + k) i) ∧ ∀ k, k < j → d (o + j) i < d (o + k) i := by
  induction t with
  | zero => exact ⟨0, le_rfl, rfl, rfl, fun k hk => by rw [Nat.le_zero.mp hk], fun k hk => absurd hk (Nat.not_lt_zero k)⟩
  | succ t ih =>
    obtain ⟨j, hj, ht, hb, hle, hlt⟩ := ih
    have eb : best d o (t + 1) i = if Ideal.cmp .olt (d (o + (t + 1)) i) (best d o t i) = 1 then d (o + (t + 1)) i else best d o t i := rfl
    have et : tile d o (t + 1) i = if Ideal.cmp .olt (d (o + (t + 1)) i) (best d o t i) = 1 then BitVec.ofNat 32 (o + (t + 1)) else tile d o t i := rfl
    rw [eb, et, hb]
    simp only [cmp_olt]
    by_cases h : d (o + (t + 1)) i < d (o + j) i
    · simp only [if_pos h]
      refine ⟨t + 1, le_rfl, rfl, rfl, fun k hk => ?_, fun k hk => lt_of_lt_of_le h (hle k (by omega))⟩
      rcases Nat.lt_or_ge k (t + 1) with hk' | hk'
      · exact (lt_of_lt_of_le h (hle k (by omega))).le
      · rw [show k = t + 1 by omega]
    · simp only [if_neg h]
      refine ⟨j, by omega, ht, rfl, fun k hk => ?_, hlt⟩
      rcases Nat.lt_or_ge k (t + 1) with hk' | hk'
      · exact hle k (by omega)
      · rw [show k = t + 1 by omega]; exact not_lt.mp h

attribute [local irreducible] best tile

/-- The smaller of the two running minima: the first of all sixty-four tiles. -/
theorem best2_spec (i : S8x1024.Idx) :
    ∃ j, j < 64 ∧ tile2 d i = BitVec.ofNat 32 j ∧ best2 d i = d j i
      ∧ (∀ k, k < 64 → d j i ≤ d k i) ∧ ∀ k, k < j → d j i < d k i := by
  obtain ⟨j₀, hj₀, ht₀, hb₀, hle₀, hlt₀⟩ := best_spec d 0 31 i
  obtain ⟨j₁, hj₁, ht₁, hb₁, hle₁, hlt₁⟩ := best_spec d 32 31 i
  simp only [Nat.zero_add] at ht₀ hb₀ hle₀ hlt₀
  have eb : best2 d i = if Ideal.cmp .olt (best d 32 31 i) (best d 0 31 i) = 1 then best d 32 31 i else best d 0 31 i := rfl
  have et : tile2 d i = if Ideal.cmp .olt (best d 32 31 i) (best d 0 31 i) = 1 then tile d 32 31 i else tile d 0 31 i := rfl
  rw [eb, et, hb₀, hb₁]
  simp only [cmp_olt]
  have split : ∀ k, k < 64 → k ≤ 31 ∨ ∃ k', k' ≤ 31 ∧ k = 32 + k' := fun k hk => by
    rcases Nat.lt_or_ge k 32 with h | h
    · exact .inl (by omega)
    · exact .inr ⟨k - 32, by omega, by omega⟩
  by_cases h : d (32 + j₁) i < d j₀ i
  · simp only [if_pos h]
    refine ⟨32 + j₁, by omega, ht₁, rfl, fun k hk => ?_, fun k hk => ?_⟩
    · rcases split k hk with h' | ⟨k', h', rfl⟩
      · exact (lt_of_lt_of_le h (hle₀ k h')).le
      · exact hle₁ k' h'
    · rcases split k (by omega) with h' | ⟨k', h', rfl⟩
      · exact lt_of_lt_of_le h (hle₀ k h')
      · exact hlt₁ k' (by omega)
  · simp only [if_neg h]
    refine ⟨j₀, by omega, ht₀, rfl, fun k hk => ?_, hlt₀⟩
    rcases split k hk with h' | ⟨k', h', rfl⟩
    · exact hle₀ k h'
    · exact (not_lt.mp h).trans (hle₁ k' h')

/-- The number of code `m`'s tile, and its place in the tile. -/
def row (l : Fin 1024) (m : Fin 512) : EReal := d (m.val / 8) (ValueIdx.ix2 (⟨m.val % 8, Nat.mod_lt _ (by decide)⟩ : Fin 8) l)

theorem ofBits_inf : Ideal.ofBits .f32 0x7F800000#32 = ⊤ := by simp [Ideal.ofBits, Ideal.ieee]

/-- The row's minimum is a minimum of the eight sublanes'. -/
theorem least_spec (l : Fin 1024) :
    (∃ s : Fin 8, least d (ValueIdx.ix1 l) = best2 d (ValueIdx.ix2 s l)) ∧ ∀ s : Fin 8, least d (ValueIdx.ix1 l) ≤ best2 d (ValueIdx.ix2 s l) := by
  have e : least d (ValueIdx.ix1 l) = (Finset.univ : Finset (Fin 8)).inf fun s => best2 d (ValueIdx.ix2 s l) := by
    unfold least
    refine (multiReduction_minimumf_eq_fold _ _ _ _ _ _).trans ?_
    rw [reduces_S8x1024_S1024.fold_filter_drop_single]
    show Finset.fold min (Ideal.ofBits .f32 0x7F800000#32) _ _ = _
    rw [ofBits_inf]
    refine Finset.fold_congr fun s _ => congrArg (best2 d) ?_
    funext a
    match a with
    | ⟨0, _⟩ => rfl
    | ⟨1, _⟩ => rfl
  constructor
  · obtain ⟨s, -, hs⟩ := Finset.exists_mem_eq_inf (Finset.univ : Finset (Fin 8)) ⟨0, Finset.mem_univ _⟩ fun s => best2 d (ValueIdx.ix2 s l)
    exact ⟨s, e.trans hs⟩
  · intro s
    rw [e]
    exact Finset.inf_le (Finset.mem_univ s)

theorem toInt_minsi' (a b : BitVec 32) : (IntOp.minsi a b).toInt = min a.toInt b.toInt := by
  show (if a.slt b then a else b).toInt = _
  by_cases h : a.toInt < b.toInt
  · rw [show a.slt b = true from decide_eq_true h, if_pos rfl, min_eq_left h.le]
  · rw [show a.slt b = false from decide_eq_false h, if_neg Bool.false_ne_true, min_eq_right (not_lt.mp h)]

theorem toInt_ofNat_small {n : ℕ} (h : n < 2 ^ 31) : (BitVec.ofNat 32 n).toInt = n := by
  rw [BitVec.toInt_eq_toNat_of_lt (by rw [BitVec.toNat_ofNat]; omega), BitVec.toNat_ofNat, Nat.mod_eq_of_lt (by omega)]

/-- The least word of a family of words, one of which is `n` and none of which is below `n`. -/
theorem fold_minsi {m : ℕ} (f : Fin m → BitVec 32) (n : ℕ) (hn : n < 2 ^ 31) (hle : ∀ s, (n : ℤ) ≤ (f s).toInt)
    (hex : ∃ s, (f s).toInt = n) : (Finset.univ : Finset (Fin m)).fold IntOp.minsi 2147483647#32 f = BitVec.ofNat 32 n := by
  apply BitVec.eq_of_toInt_eq
  rw [toInt_ofNat_small hn, ← Finset.fold_hom (op' := min) toInt_minsi']
  apply le_antisymm
  · obtain ⟨s, hs⟩ := hex
    exact (Finset.fold_min_le _).mpr (.inr ⟨s, Finset.mem_univ _, hs.le⟩)
  · refine (Finset.le_fold_min _).mpr ⟨?_, fun s _ => hle s⟩
    have : (2147483647#32 : BitVec 32).toInt = 2147483647 := by decide
    rw [this]; omega

/-- What is written for a sublane: its code where the row's minimum is attained, 512 elsewhere. -/
theorem code_apply (l : Fin 1024) :
    code d (ValueIdx.ix3 (0 : Fin 1) (0 : Fin 1) l)
      = (Finset.univ : Finset (Fin 8)).fold IntOp.minsi 2147483647#32 fun s =>
          if best2 d (ValueIdx.ix2 s l) = least d (ValueIdx.ix1 l) then tile2 d (ValueIdx.ix2 s l) * 8#32 + BitVec.ofNat 32 s.val else 512#32 := by
  unfold code
  refine (shapeCast_apply _ _ _ (ValueIdx.ix1 l) (by rw [Shape.rowMajor_val_one, Shape.rowMajor_val_three]; show l.val = (0 * 1 + 0) * 1024 + l.val; omega)).trans ?_
  refine (multiReductionI_eq_fold _ _ _ _ _ _).trans ?_
  rw [reduces_S8x1024_S1024.fold_filter_drop_single]
  refine Finset.fold_congr fun (s : Fin 8) _ => ?_
  have e : reduces_S8x1024_S1024.lift (ValueIdx.ix1 l) s = ValueIdx.ix2 s l := by
    funext a
    match a with
    | ⟨0, _⟩ => rfl
    | ⟨1, _⟩ => rfl
  have e2 : (broadcastTo S8x1024 (shapeCast S1x1024 (least d) shapeCasts_S1024_S1x1024 : FVec Ideal S1x1024 .f32) broadcasts_S1x1024_S8x1024) (ValueIdx.ix2 s l) = least d (ValueIdx.ix1 l) := by
    rw [broadcastTo_apply _ _ _ (ValueIdx.ix2 (0 : Fin 1) l) (fun a => match a with | ⟨0, _⟩ => rfl | ⟨1, _⟩ => rfl),
      shapeCast_apply _ _ _ (ValueIdx.ix1 l) (by rw [Shape.rowMajor_val_one, Shape.rowMajor_val_two]; show l.val = 0 * 1024 + l.val; omega)]
  have key : ∀ v : EReal, v = least d (ValueIdx.ix1 l) →
      Scalar.select (Ideal.cmp .oeq (best2 d (ValueIdx.ix2 s l)) v) (tile2 d (ValueIdx.ix2 s l) * 8#32 + BitVec.ofNat 32 (0 * 8 + s.val)) 512#32
        = if best2 d (ValueIdx.ix2 s l) = least d (ValueIdx.ix1 l) then tile2 d (ValueIdx.ix2 s l) * 8#32 + BitVec.ofNat 32 s.val else 512#32 := by
    intro v hv
    rw [hv]
    rw [Nat.zero_mul, Nat.zero_add]
    unfold Scalar.select
    simp only [cmp_oeq]
  show Scalar.select _ _ _ = _
  rw [e]
  exact key _ e2

/-- The word written for a row is the first code at which the distance is least, and the row's minimum is the distance there. -/
theorem code_spec (l : Fin 1024) :
    ∃ m : Fin 512, First (row d l) m ∧ least d (ValueIdx.ix1 l) = row d l m
      ∧ code d (ValueIdx.ix3 (0 : Fin 1) (0 : Fin 1) l) = BitVec.ofNat 32 m.val := by
  obtain ⟨m, hm⟩ := First.exists (row d l)
  have hrow : ∀ (k : ℕ) (s : Fin 8) (hk : k < 64), row d l ⟨8 * k + s.val, by omega⟩ = d k (ValueIdx.ix2 s l) := fun k s hk => by
    have h1 : (8 * k + s.val) / 8 = k := by omega
    have h2 : (⟨(8 * k + s.val) % 8, Nat.mod_lt _ (by decide)⟩ : Fin 8) = s := Fin.ext (by show (8 * k + s.val) % 8 = s.val; omega)
    unfold row
    simp only [h1, h2]
  have hle : ∀ (k : ℕ) (s : Fin 8) (hk : k < 64), row d l m ≤ d k (ValueIdx.ix2 s l) := fun k s hk => hrow k s hk ▸ hm.1 _
  have hlt : ∀ (k : ℕ) (s : Fin 8) (hk : k < 64), 8 * k + s.val < m.val → row d l m < d k (ValueIdx.ix2 s l) :=
    fun k s hk h => hrow k s hk ▸ hm.2 _ h
  obtain ⟨⟨s₁, hs₁⟩, hs⟩ := least_spec d l
  have hmin : least d (ValueIdx.ix1 l) = row d l m := by
    apply le_antisymm
    · obtain ⟨j, hj, -, hb, hjle, -⟩ := best2_spec d (ValueIdx.ix2 (⟨m.val % 8, Nat.mod_lt _ (by decide)⟩ : Fin 8) l)
      exact (hs _).trans (hb ▸ hjle (m.val / 8) (by omega))
    · obtain ⟨j, hj, -, hb, -, -⟩ := best2_spec d (ValueIdx.ix2 s₁ l)
      rw [hs₁, hb]
      exact hle j s₁ hj
  refine ⟨m, hm, hmin, ?_⟩
  rw [code_apply]
  refine fold_minsi _ _ (by omega) (fun s => ?_) ⟨⟨m.val % 8, Nat.mod_lt _ (by decide)⟩, ?_⟩
  · obtain ⟨j, hj, ht, hb, -, -⟩ := best2_spec d (ValueIdx.ix2 s l)
    by_cases h : best2 d (ValueIdx.ix2 s l) = least d (ValueIdx.ix1 l)
    · rw [if_pos h, ht, ← BitVec.ofNat_mul, ← BitVec.ofNat_add, toInt_ofNat_small (by omega)]
      by_contra hc
      have := hlt j s hj (by omega)
      rw [← hmin, ← h, hb] at this
      exact lt_irrefl _ this
    · rw [if_neg h]
      have : (512#32 : BitVec 32).toInt = 512 := by decide
      omega
  · obtain ⟨j, hj, ht, hb, hjle, hjlt⟩ := best2_spec d (ValueIdx.ix2 (⟨m.val % 8, Nat.mod_lt _ (by decide)⟩ : Fin 8) l)
    have hbm : best2 d (ValueIdx.ix2 (⟨m.val % 8, Nat.mod_lt _ (by decide)⟩ : Fin 8) l) = row d l m :=
      le_antisymm (hb ▸ hjle (m.val / 8) (by omega)) (hb ▸ hle j _ hj)
    have hjm : j = m.val / 8 := by
      rcases lt_trichotomy j (m.val / 8) with h | h | h
      · have h1 := hlt j (⟨m.val % 8, Nat.mod_lt _ (by decide)⟩ : Fin 8) hj (by show 8 * j + m.val % 8 < m.val; omega)
        rw [← hb, hbm] at h1
        exact absurd h1 (lt_irrefl _)
      · exact h
      · have h1 := hjlt (m.val / 8) h
        rw [← hb, hbm] at h1
        exact absurd h1 (lt_irrefl _)
    rw [if_pos (hbm.trans hmin.symm), ht, ← BitVec.ofNat_mul, ← BitVec.ofNat_add, toInt_ofNat_small (by show j * 8 + m.val % 8 < _; omega)]
    show ((j * 8 + m.val % 8 : ℕ) : ℤ) = _
    omega

end Cert.ArgminIdeal.Row

end
-- ==== Proof.RowVal.lean ====
/-
  The body's short form read at an index at the ideal values: a row's distances as sums over the eight coordinates of a
  part, the block of indices as the rows of codes, and what is added to the loss's word as the sum of the rows' minima.
-/
module

public import proofs.«01_k».proof.Proof.First
public import Idealize.ShloMosaic.Lib.WholeRead
public import Idealize.ShloMosaic.Lib.VecWindow
public import Idealize.ShloMosaic.Lib.Pointwise.Contract

@[expose] public section

noncomputable section

namespace Cert.ArgminIdeal.Row

open Cert.ArgminIdeal Cert.ArgminIdeal.Gen
open Idealize.ShloMosaic Idealize.ShloMosaic.TcCoe Idealize.SL.Sem

variable (arg2 : Memref sig .tc .vmem S1x128x1024 .f32) (harg2 : arg2.IsWhole) (arg3 : Memref sig .tc .vmem S16x512x8 .f32) (harg3 : arg3.IsWhole) (arg4 : Memref sig .tc .vmem S512x16 .f32) (harg4 : arg4.IsWhole) (arg7 : Memref sig .tc .vmem S512x1024 .f32)
  (x0 : Vec Ideal S1x128x1024 .f32) (x1 : Vec Ideal S16x512x8 .f32) (x2 : Vec Ideal S512x16 .f32)

/-- Coordinate `e` of part `n`. -/
def part (n : Fin 16) (e : Fin 8) : Fin 128 := ⟨8 * n.val + e.val, by omega⟩

/-- The distance the body forms between part `n` of vector `l` and code `m`: the vector's square, the code's square as
    given, and the product with the code as given. -/
def formed (n : Fin 16) (l : Fin 1024) (m : Fin 512) : EReal :=
  ((∑ e : Fin 8, x0 (ValueIdx.ix3 (0 : Fin 1) (part n e) l) * x0 (ValueIdx.ix3 (0 : Fin 1) (part n e) l))
    + x2 (ValueIdx.ix2 m n))
  + ∑ e : Fin 8, x1 (ValueIdx.ix3 n m e) * x0 (ValueIdx.ix3 (0 : Fin 1) (part n e) l)

theorem zb_apply (r : Fin 128) (l : Fin 1024) : zb arg2 harg2 x0 (ValueIdx.ix2 r l) = x0 (ValueIdx.ix3 (0 : Fin 1) r l) := by
  unfold zb
  refine (shapeCast_apply _ _ _ (ValueIdx.ix3 (0 : Fin 1) r l) (by
    rw [Shape.rowMajor_val_three, Shape.rowMajor_val_two]; show (0 * 128 + r.val) * 1024 + l.val = r.val * 1024 + l.val; omega)).trans ?_
  refine (harg2.readAt_unread x0 _ _).trans (congrArg x0 (funext fun a => Fin.ext ?_))
  match a with
  | ⟨0, _⟩ => rfl
  | ⟨1, _⟩ => show 0 + 1 * r.val = r.val; omega
  | ⟨2, _⟩ => show 0 + 1 * l.val = l.val; omega

theorem zsq_apply (n : Fin 16) (s : Fin 8) (l : Fin 1024) :
    zsq arg2 harg2 x0 n (ValueIdx.ix2 s l)
      = ∑ e : Fin 8, x0 (ValueIdx.ix3 (0 : Fin 1) (part n e) l) * x0 (ValueIdx.ix3 (0 : Fin 1) (part n e) l) := by
  unfold zsq
  refine (broadcastTo_apply _ _ _ (ValueIdx.ix2 (0 : Fin 1) l) (fun a => match a with | ⟨0, _⟩ => rfl | ⟨1, _⟩ => rfl)).trans ?_
  refine (shapeCast_apply _ _ _ (ValueIdx.ix2 (0 : Fin 1) l) rfl).trans ?_
  refine (shapeCast_apply _ _ _ (ValueIdx.ix1 l) (by rw [Shape.rowMajor_val_one, Shape.rowMajor_val_two]; show l.val = 0 * 1024 + l.val; omega)).trans ?_
  refine (Ideal.multiReduction_add_single _ _ _ _ _ _).trans ?_
  refine Finset.sum_congr rfl fun (e : Fin 8) _ => ?_
  have h : extractStridedSlice S8x1024 ![8 * n.val, 0] (mulf (zb arg2 harg2 x0) (zb arg2 harg2 x0)) (slices_zb n) (reduces_S8x1024_S1024.lift (ValueIdx.ix1 l) e)
      = mulf (zb arg2 harg2 x0) (zb arg2 harg2 x0) (ValueIdx.ix2 (part n e) l) :=
    extractStridedSlice_apply _ _ _ _ _ (fun a => match a with
      | ⟨0, _⟩ => rfl
      | ⟨1, _⟩ => by show l.val = 0 + l.val; omega)
  refine h.trans ?_
  show zb arg2 harg2 x0 (ValueIdx.ix2 (part n e) l) * zb arg2 harg2 x0 (ValueIdx.ix2 (part n e) l) = _
  rw [zb_apply]

theorem inter_apply (n : Fin 16) (m : Fin 512) (l : Fin 1024) :
    inter arg2 harg2 arg3 harg3 x0 x1 n (ValueIdx.ix2 m l)
      = ∑ e : Fin 8, x1 (ValueIdx.ix3 n m e) * x0 (ValueIdx.ix3 (0 : Fin 1) (part n e) l) := by
  unfold inter
  refine (shapeCast_apply _ _ _ (ValueIdx.ix2 m l) rfl).trans ?_
  refine (Ideal.matmul_apply₁_of _ (a := 1) rfl (K := 8) rfl _ _ _ (ValueIdx.ix2 m l) (fun e => ValueIdx.ix2 m e) (fun e => ValueIdx.ix2 e l)
    (fun e => funext fun a => match a with | ⟨0, _⟩ => rfl | ⟨1, _⟩ => rfl)
    (fun e => funext fun a => match a with | ⟨0, _⟩ => rfl | ⟨1, _⟩ => rfl)).trans ?_
  show Ideal.ofBits .f32 0x00000000#32 + _ = _
  rw [Ideal.ofBits_zero_f32, zero_add]
  refine Finset.sum_congr rfl fun e _ => congrArg₂ (· * ·) ?_ ?_
  · refine (shapeCast_apply _ _ _ (ValueIdx.ix3 (0 : Fin 1) m e) (by
      rw [Shape.rowMajor_val_three, Shape.rowMajor_val_two]; show (0 * 512 + m.val) * 8 + e.val = m.val * 8 + e.val; omega)).trans ?_
    refine (harg3.readAt_unread x1 _ _).trans (congrArg x1 (funext fun a => Fin.ext ?_))
    match a with
    | ⟨0, _⟩ => rfl
    | ⟨1, _⟩ => show 0 + 1 * m.val = m.val; omega
    | ⟨2, _⟩ => show 0 + 1 * e.val = e.val; omega
  · refine (extractStridedSlice_apply _ _ _ _ (ValueIdx.ix2 (part n e) l) (fun a => match a with
      | ⟨0, _⟩ => rfl
      | ⟨1, _⟩ => by show l.val = 0 + l.val; omega)).trans (zb_apply arg2 harg2 x0 _ l)

/-- The scratch read after codebook `n`'s store is that store's payload. -/
theorem stores_canon (n : ℕ) : View.canon (stores arg2 harg2 arg3 harg3 x0 x1 n) = inter arg2 harg2 arg3 harg3 x0 x1 (fin16 n) := by
  cases n with
  | zero => exact View.canon_cons_unit_lit' (S := S512x1024) inb_S512x1024_S512x1024_0_0 _ _ (by decide)
  | succ n => exact View.canon_cons_unit_lit' (S := S512x1024) inb_S512x1024_S512x1024_0_0 _ _ (by decide)

theorem stores_cover (n : ℕ) (y : S512x1024.Idx) : ∃ p ∈ stores arg2 harg2 arg3 harg3 x0 x1 n, y ∈ p.1.set := by
  have h : y ∈ (Rect.unit (s := S512x1024) ![0, 0] S512x1024.size inb_S512x1024_S512x1024_0_0).set := by
    exact Rect.mem_set_unit.mpr fun a => match a with
      | ⟨0, _⟩ => ⟨Nat.zero_le _, by show (y 0).val < 0 + 512; exact (Nat.zero_add 512).symm ▸ (y 0).isLt⟩
      | ⟨1, _⟩ => ⟨Nat.zero_le _, by show (y 1).val < 0 + 1024; exact (Nat.zero_add 1024).symm ▸ (y 1).isLt⟩
  cases n with
  | zero => exact ⟨_, List.mem_cons_self, h⟩
  | succ n => exact ⟨_, List.mem_cons_self, h⟩

/-- A row of distances read at a code. -/
theorem row_apply (n : ℕ) (l : Fin 1024) (m : Fin 512) :
    row (rowDist arg2 harg2 arg3 harg3 arg4 harg4 arg7 x0 x1 x2 n) l m = formed x0 x1 x2 (fin16 n) l m := by
  have hm : 8 * (m.val / 8 % 64) + m.val % 8 = m.val := by omega
  unfold row rowDist dist formed
  refine congrArg₂ (fun (a b : EReal) => a + b) (congrArg₂ (fun (a b : EReal) => a + b) (zsq_apply arg2 harg2 x0 (fin16 n) _ l) ?_) ?_
  · refine (broadcastTo_apply _ _ _ (ValueIdx.ix2 (⟨m.val % 8, Nat.mod_lt _ (by decide)⟩ : Fin 8) (0 : Fin 1)) (fun a => match a with | ⟨0, _⟩ => rfl | ⟨1, _⟩ => rfl)).trans ?_
    refine (shapeCast_apply _ _ _ _ rfl).trans ?_
    refine (harg4.readAt_unread x2 _ _).trans (congrArg x2 (funext fun a => Fin.ext ?_))
    match a with
    | ⟨0, _⟩ => show 8 * (m.val / 8 % 64) + 1 * (m.val % 8) = m.val; omega
    | ⟨1, _⟩ => rfl
  · refine (congrFun (View.readCov_eq_canon_ld _ _ _ (stores_cover arg2 harg2 arg3 harg3 x0 x1 n)) _).trans ?_
    rw [stores_canon]
    refine (congrArg (inter arg2 harg2 arg3 harg3 x0 x1 (fin16 n)) (funext fun a => Fin.ext ?_)).trans (inter_apply arg2 harg2 arg3 harg3 x0 x1 (fin16 n) m l)
    match a with
    | ⟨0, _⟩ => show 8 * (m.val / 8 % 64) + 1 * (m.val % 8) = m.val; omega
    | ⟨1, _⟩ => show 0 + 1 * l.val = l.val; omega

theorem codes_zero : codes arg2 harg2 arg3 harg3 arg4 harg4 arg7 x0 x1 x2 0
    = [⟨Rect.unit (s := S1x16x1024) ![0, (fin16 0).val, 0] S1x1x1024.size (inb_o (fin16 0)), code (rowDist arg2 harg2 arg3 harg3 arg4 harg4 arg7 x0 x1 x2 0)⟩] := rfl

theorem codes_succ (n : ℕ) : codes arg2 harg2 arg3 harg3 arg4 harg4 arg7 x0 x1 x2 (n + 1)
    = ⟨Rect.unit (s := S1x16x1024) ![0, (fin16 (n + 1)).val, 0] S1x1x1024.size (inb_o (fin16 (n + 1))), code (rowDist arg2 harg2 arg3 harg3 arg4 harg4 arg7 x0 x1 x2 (n + 1))⟩
      :: codes arg2 harg2 arg3 harg3 arg4 harg4 arg7 x0 x1 x2 n := rfl

theorem leasts_zero : leasts arg2 harg2 arg3 harg3 arg4 harg4 arg7 x0 x1 x2 0
    = addf (broadcast S1024 (Scalar.ofBits .f32 0x00000000#32)) (least (rowDist arg2 harg2 arg3 harg3 arg4 harg4 arg7 x0 x1 x2 0)) := rfl

theorem leasts_succ (n : ℕ) : leasts arg2 harg2 arg3 harg3 arg4 harg4 arg7 x0 x1 x2 (n + 1)
    = addf (leasts arg2 harg2 arg3 harg3 arg4 harg4 arg7 x0 x1 x2 n) (least (rowDist arg2 harg2 arg3 harg3 arg4 harg4 arg7 x0 x1 x2 (n + 1))) := rfl

theorem codes_cover (y : S1x16x1024.Idx) : ∃ p ∈ codes arg2 harg2 arg3 harg3 arg4 harg4 arg7 x0 x1 x2 15, y ∈ p.1.set :=
  View.cover_of_tiled _ ![1, 1, 1024] rfl y

attribute [local irreducible] codes leasts rowDist code least

/-- The piece of row `k`. -/
def piece (k : ℕ) (w : S1x1x1024.Idx → BitVec 32) : View.Piece (Elt Ideal) S1x16x1024 .i32 :=
  ⟨Rect.unit (s := S1x16x1024) ![0, (fin16 k).val, 0] S1x1x1024.size (inb_o (fin16 k)), w⟩

/-- Under the last piece the contents are its payload. -/
theorem canon_at {Val : EltTy → Type} [∀ e, Nonempty (Val e)] {s : Shape} {e : EltTy} (p : View.Piece Val s e) (L : List (View.Piece Val s e))
    (y : s.Idx) (x : p.1.shape.Idx) (h : p.1.emb x = y) : View.canon (p :: L) y = p.2 x := by
  subst h
  exact View.canon_cons_emb p.1 p.2 L x

theorem piece_mem (k : ℕ) (hk : k < 16) (w : S1x1x1024.Idx → BitVec 32) (L : List (View.Piece (Elt Ideal) S1x16x1024 .i32)) (l : Fin 1024) :
    View.canon (piece k w :: L) (ValueIdx.ix3 (0 : Fin 1) (⟨k, hk⟩ : Fin 16) l) = w (ValueIdx.ix3 (0 : Fin 1) (0 : Fin 1) l) := by
  have e : (ValueIdx.ix3 (0 : Fin 1) (⟨k, hk⟩ : Fin 16) l : S1x16x1024.Idx)
      = (Rect.unit (s := S1x16x1024) ![0, (fin16 k).val, 0] S1x1x1024.size (inb_o (fin16 k))).emb (ValueIdx.ix3 (0 : Fin 1) (0 : Fin 1) l) := by
    funext a
    apply Fin.ext
    match a with
    | ⟨0, _⟩ => rfl
    | ⟨1, _⟩ => show k = k % 16 + 1 * 0; omega
    | ⟨2, _⟩ => show l.val = 0 + 1 * l.val; omega
  exact canon_at (piece k w) L _ (ValueIdx.ix3 (0 : Fin 1) (0 : Fin 1) l) e.symm

theorem piece_not_mem (k n : ℕ) (hk : k < 16) (hn : n < 16) (h : n ≠ k) (w : S1x1x1024.Idx → BitVec 32) (L : List (View.Piece (Elt Ideal) S1x16x1024 .i32)) (l : Fin 1024) :
    View.canon (piece k w :: L) (ValueIdx.ix3 (0 : Fin 1) (⟨n, hn⟩ : Fin 16) l) = View.canon L (ValueIdx.ix3 (0 : Fin 1) (⟨n, hn⟩ : Fin 16) l) := by
  refine View.canon_cons_of_not_mem _ _ ?_
  intro hy
  have h1 : k % 16 ≤ n ∧ n < k % 16 + 1 := (Rect.mem_set_unit (inb := inb_o (fin16 k))).mp hy 1
  omega

theorem codes_zero' : codes arg2 harg2 arg3 harg3 arg4 harg4 arg7 x0 x1 x2 0
    = [piece 0 (code (rowDist arg2 harg2 arg3 harg3 arg4 harg4 arg7 x0 x1 x2 0))] := codes_zero ..

theorem codes_succ' (n : ℕ) : codes arg2 harg2 arg3 harg3 arg4 harg4 arg7 x0 x1 x2 (n + 1)
    = piece (n + 1) (code (rowDist arg2 harg2 arg3 harg3 arg4 harg4 arg7 x0 x1 x2 (n + 1))) :: codes arg2 harg2 arg3 harg3 arg4 harg4 arg7 x0 x1 x2 n := codes_succ ..

/-- The block of indices read at row `n`. -/
theorem codes_canon (N n : ℕ) (hN : N < 16) (hn : n ≤ N) (hn' : n < 16) (l : Fin 1024) :
    View.canon (codes arg2 harg2 arg3 harg3 arg4 harg4 arg7 x0 x1 x2 N) (ValueIdx.ix3 (0 : Fin 1) (⟨n, hn'⟩ : Fin 16) l)
      = code (rowDist arg2 harg2 arg3 harg3 arg4 harg4 arg7 x0 x1 x2 n) (ValueIdx.ix3 (0 : Fin 1) (0 : Fin 1) l) := by
  induction N with
  | zero =>
    have h0 : n = 0 := by omega
    subst h0
    rw [codes_zero', piece_mem]
  | succ N ih =>
    rw [codes_succ']
    by_cases h : n = N + 1
    · subst h
      rw [piece_mem]
    · rw [piece_not_mem _ _ hN hn' h]
      exact ih (by omega) (by omega)

/-- The sum of the minima read at a vector. -/
theorem leasts_apply (N : ℕ) (l : Fin 1024) :
    leasts arg2 harg2 arg3 harg3 arg4 harg4 arg7 x0 x1 x2 N (ValueIdx.ix1 l)
      = ∑ n ∈ Finset.range (N + 1), least (rowDist arg2 harg2 arg3 harg3 arg4 harg4 arg7 x0 x1 x2 n) (ValueIdx.ix1 l) := by
  induction N with
  | zero =>
    rw [Finset.sum_range_one, leasts_zero]
    show Ideal.ofBits .f32 0x00000000#32 + _ = _
    rw [Ideal.ofBits_zero_f32, zero_add]
  | succ N ih =>
    rw [Finset.sum_range_succ, ← ih, leasts_succ]
    rfl

/-- What the body adds to the loss's word. -/
theorem lossSum_eq :
    lossSum arg2 harg2 arg3 harg3 arg4 harg4 arg7 x0 x1 x2
      = ∑ l : Fin 1024, ∑ n : Fin 16, least (rowDist arg2 harg2 arg3 harg3 arg4 harg4 arg7 x0 x1 x2 n.val) (ValueIdx.ix1 l) := by
  unfold lossSum extractAt
  refine (shapeCast_apply _ _ _ (ValueIdx.ix1 (0 : Fin 1)) rfl).trans ?_
  refine (Ideal.multiReduction_add_single _ _ _ _ _ _).trans ?_
  refine Finset.sum_congr rfl fun (l : Fin 1024) _ => ?_
  refine (shapeCast_apply _ _ _ (ValueIdx.ix1 l) (by rw [Shape.rowMajor_val_one, Shape.rowMajor_val_two]; show l.val = 0 * 1024 + l.val; omega)).trans ?_
  rw [leasts_apply, Finset.sum_range]

end Cert.ArgminIdeal.Row

end
-- ==== Proof.Pick.lean ====
/-
  What a point of either call leaves at the ideal values, whatever the point: in the block of indices the place of
  each row's first least distance, and in the loss's word the sum of those distances.
-/
module

public import proofs.«01_k».proof.Proof.RowVal

@[expose] public section

noncomputable section

namespace Cert.ArgminIdeal.Row

open Cert.ArgminIdeal Cert.ArgminIdeal.Gen
open Idealize.ShloMosaic Idealize.ShloMosaic.TcCoe Idealize.SL.Sem

/-- The first place of the least of 512 distances. -/
def first (D : Fin 512 → EReal) : Fin 512 := Classical.choose (First.exists D)

theorem first_spec (D : Fin 512 → EReal) : First D (first D) := Classical.choose_spec (First.exists D)

theorem first_eq {D : Fin 512 → EReal} {m : Fin 512} (h : First D m) : m = first D := h.unique (first_spec D)

variable (arg2 : Memref sig .tc .vmem S1x128x1024 .f32) (harg2 : arg2.IsWhole) (arg3 : Memref sig .tc .vmem S16x512x8 .f32) (harg3 : arg3.IsWhole) (arg4 : Memref sig .tc .vmem S512x16 .f32) (harg4 : arg4.IsWhole) (arg7 : Memref sig .tc .vmem S512x1024 .f32)
  (x0 : Vec Ideal S1x128x1024 .f32) (x1 : Vec Ideal S16x512x8 .f32) (x2 : Vec Ideal S512x16 .f32)

/-- The sum of the least distances of a block's parts. -/
def low : EReal := ∑ l : Fin 1024, ∑ n : Fin 16, formed x0 x1 x2 n l (first (formed x0 x1 x2 n l))

theorem row_eq (n : ℕ) (l : Fin 1024) : row (rowDist arg2 harg2 arg3 harg3 arg4 harg4 arg7 x0 x1 x2 n) l = formed x0 x1 x2 (fin16 n) l :=
  funext fun m => row_apply arg2 harg2 arg3 harg3 arg4 harg4 arg7 x0 x1 x2 n l m

theorem fin16_val (n : Fin 16) : fin16 n.val = n := Fin.ext (Nat.mod_eq_of_lt n.isLt)

theorem pick (n : Fin 16) (l : Fin 1024) :
    least (rowDist arg2 harg2 arg3 harg3 arg4 harg4 arg7 x0 x1 x2 n.val) (ValueIdx.ix1 l) = formed x0 x1 x2 n l (first (formed x0 x1 x2 n l))
    ∧ code (rowDist arg2 harg2 arg3 harg3 arg4 harg4 arg7 x0 x1 x2 n.val) (ValueIdx.ix3 (0 : Fin 1) (0 : Fin 1) l) = BitVec.ofNat 32 (first (formed x0 x1 x2 n l)).val := by
  obtain ⟨m, hm, hl, hc⟩ := code_spec (rowDist arg2 harg2 arg3 harg3 arg4 harg4 arg7 x0 x1 x2 n.val) l
  rw [row_eq, fin16_val] at hm hl
  rw [← first_eq hm]
  exact ⟨hl, hc⟩

theorem lossSum_low : lossSum arg2 harg2 arg3 harg3 arg4 harg4 arg7 x0 x1 x2 = low x0 x1 x2 := by
  rw [lossSum_eq]
  exact Finset.sum_congr rfl fun l _ => Finset.sum_congr rfl fun n _ => (pick arg2 harg2 arg3 harg3 arg4 harg4 arg7 x0 x1 x2 n l).1

/-- The block of indices read back. -/
theorem codes_read {sp : Space} (v : View sig .tc sp S1x16x1024 .i32) (L : List (View.Piece (Elt Ideal) S1x16x1024 .i32))
    (h : L = codes arg2 harg2 arg3 harg3 arg4 harg4 arg7 x0 x1 x2 15) (n : Fin 16) (l : Fin 1024) :
    v.read (Elt Ideal) (v.writes (Elt Ideal) v.junk L) (ValueIdx.ix3 (0 : Fin 1) n l) = BitVec.ofNat 32 (first (formed x0 x1 x2 n l)).val := by
  rw [View.read_writes_junk_eq_canon, h]
  exact (codes_canon arg2 harg2 arg3 harg3 arg4 harg4 arg7 x0 x1 x2 15 n.val (by decide) (by omega) n.isLt l).trans (pick arg2 harg2 arg3 harg3 arg4 harg4 arg7 x0 x1 x2 n l).2

theorem one (y y' : S1x1.Idx) : y = y' := funext fun a => Fin.ext (by
  match a with
  | ⟨0, _⟩ => have h : (y 0).val < 1 := (y 0).isLt; have h' : (y' 0).val < 1 := (y' 0).isLt; show (y 0).val = (y' 0).val; omega
  | ⟨1, _⟩ => have h : (y 1).val < 1 := (y 1).isLt; have h' : (y' 1).val < 1 := (y' 1).isLt; show (y 1).val = (y' 1).val; omega)

/-- The loss's word read back is what was stored last. -/
theorem word_read {sp : Space} (v : View sig .tc sp S1x1 .f32) (L L' : List (View.Piece (Elt Ideal) S1x1 .f32)) (w : EReal)
    (h : L = ⟨Rect.unit (s := S1x1) ![0, 0] ![1, 1] inb_S1x1_S1x1_0_0, fun _ => w⟩ :: L') (y : S1x1.Idx) :
    v.read (Elt Ideal) (v.writes (Elt Ideal) v.junk L) y = w := by
  rw [View.read_writes_junk_eq_canon, h]
  exact canon_at _ L' y (ValueIdx.ix2 (0 : Fin 1) (0 : Fin 1)) (one _ _)

/-- The distance between part `n` of vector `l` of the half's image `t` and code `m`, of the arrays the call is given. -/
def distOf (Z : FVec Ideal S32x128x1024 .f32) (C : FVec Ideal S16x512x8 .f32) (Q : FVec Ideal S512x16 .f32) (t : Fin 32) (n : Fin 16) (l : Fin 1024) (m : Fin 512) : EReal :=
  ((∑ e : Fin 8, Z (ValueIdx.ix3 t (part n e) l) * Z (ValueIdx.ix3 t (part n e) l)) + Q (ValueIdx.ix2 m n))
  + ∑ e : Fin 8, C (ValueIdx.ix3 n m e) * Z (ValueIdx.ix3 t (part n e) l)

end Cert.ArgminIdeal.Row

end
-- ==== Proof.Blocks.lean ====
/-
  What the two calls leave in their output arrays at the ideal values: the indices of the first least distances, and
  the sum of those distances.
-/
module

public import proofs.«01_k».proof.Proof.RowEq
public import proofs.«01_k».proof.Proof.Pick
public import Idealize.ShloMosaic.Lib.Pipeline.Value

@[expose] public section

noncomputable section

namespace Cert.ArgminIdeal.Row

open Cert.ArgminIdeal Cert.ArgminIdeal.Gen
open Idealize.ShloMosaic Idealize.ShloMosaic.TcCoe Idealize.SL.Sem

/-- What a call's region finds in each buffer. -/
abbrev Held := (c : Dev nD) → (b : Ref sig .tc) → Buf (Elt Ideal) ((c : Thread nD τ).loc b)

attribute [local irreducible] codes lossSum first

variable (V : Held) (c : Dev nD)

/-! ## The first call -/

theorem index0_0 : ∀ t : Fin cfg0.N, win0_0.index t = ![t.val, 0, 0] := (by decide +kernel : ∀ t : Fin grid0.N, _)
theorem index0_1 : ∀ t : Fin cfg0.N, win0_1.index t = ![0, 0, 0] := (by decide +kernel : ∀ t : Fin grid0.N, _)
theorem index0_2 : ∀ t : Fin cfg0.N, win0_2.index t = ![0, 0] := (by decide +kernel : ∀ t : Fin grid0.N, _)
theorem index0_3 : ∀ t : Fin cfg0.N, win0_3.index t = ![t.val, 0, 0] := (by decide +kernel : ∀ t : Fin grid0.N, _)
theorem flush0_3' : ∀ t : Fin cfg0.N, (cfg0.win 3).flush t = true := (by decide +kernel : ∀ t : Fin grid0.N, win0_3.flush t = true)
theorem flush0_4' : ∀ t : Fin cfg0.N, (cfg0.win 4).flush t = true ↔ t.val = 31 := (by decide +kernel : ∀ t : Fin grid0.N, win0_4.flush t = true ↔ t.val = 31)

theorem block0_0 (t : Fin cfg0.N) (r : Fin 128) (l : Fin 1024) :
    iblk0 V c 0 t (ValueIdx.ix3 (0 : Fin 1) r l) = V c main_v6 (ValueIdx.ix3 (n0 := 32) (n1 := 128) (n2 := 1024) t r l) := by
  have e := index0_0 t
  show V c main_v6 (((cfg0.win 0).blk t).view.emb _) = _
  refine congrArg (V c main_v6) (funext fun a => Fin.ext ?_)
  match a with
  | ⟨0, _⟩ => show win0_0.index t (0 : Fin 3) * 1 + 1 * 0 = t.val; rw [e]; show t.val * 1 + _ = _; omega
  | ⟨1, _⟩ => show win0_0.index t (1 : Fin 3) * 128 + 1 * r.val = r.val; rw [e]; show 0 * 128 + _ = _; omega
  | ⟨2, _⟩ => show win0_0.index t (2 : Fin 3) * 1024 + 1 * l.val = l.val; rw [e]; show 0 * 1024 + _ = _; omega

theorem block0_1 (t : Fin cfg0.N) (j : S16x512x8.Idx) : iblk0 V c 1 t j = V c main_v4 j := by
  have e := index0_1 t
  show V c main_v4 (((cfg0.win 1).blk t).view.emb j) = _
  refine congrArg (V c main_v4) (funext fun a => Fin.ext ?_)
  match a with
  | ⟨0, _⟩ => show win0_1.index t (0 : Fin 3) * 16 + 1 * (j 0).val = (j 0).val; rw [e]; show 0 * 16 + _ = _; omega
  | ⟨1, _⟩ => show win0_1.index t (1 : Fin 3) * 512 + 1 * (j 1).val = (j 1).val; rw [e]; show 0 * 512 + _ = _; omega
  | ⟨2, _⟩ => show win0_1.index t (2 : Fin 3) * 8 + 1 * (j 2).val = (j 2).val; rw [e]; show 0 * 8 + _ = _; omega

theorem block0_2 (t : Fin cfg0.N) (j : S512x16.Idx) : iblk0 V c 2 t j = V c main_v5 j := by
  have e := index0_2 t
  show V c main_v5 (((cfg0.win 2).blk t).view.emb j) = _
  refine congrArg (V c main_v5) (funext fun a => Fin.ext ?_)
  match a with
  | ⟨0, _⟩ => show win0_2.index t (0 : Fin 2) * 512 + 1 * (j 0).val = (j 0).val; rw [e]; show 0 * 512 + _ = _; omega
  | ⟨1, _⟩ => show win0_2.index t (1 : Fin 2) * 16 + 1 * (j 1).val = (j 1).val; rw [e]; show 0 * 16 + _ = _; omega

theorem formed0 (t : Fin cfg0.N) (n : Fin 16) (l : Fin 1024) :
    formed (iblk0 V c 0 t) (iblk0 V c 1 t) (iblk0 V c 2 t) n l = distOf (V c main_v6) (V c main_v4) (V c main_v5) t n l := by
  funext m
  exact congrArg₂ (fun (a b : EReal) => a + b)
    (congrArg₂ (fun (a b : EReal) => a + b)
      (Finset.sum_congr rfl fun e _ => congrArg₂ (fun (a b : EReal) => a * b) (block0_0 V c t _ l) (block0_0 V c t _ l)) (block0_2 V c t _))
    (Finset.sum_congr rfl fun e _ => congrArg₂ (fun (a b : EReal) => a * b) (block0_1 V c t _) (block0_0 V c t _ l))

/-- The sum of the least distances of the first call's image `t`. -/
def low0 (t : Fin cfg0.N) : EReal := low (iblk0 V c 0 t) (iblk0 V c 1 t) (iblk0 V c 2 t)

section
variable (i : grid0.Coords) (arg2 : Memref sig .tc .vmem S1x128x1024 .f32) (harg2 : arg2.IsWhole) (arg3 : Memref sig .tc .vmem S16x512x8 .f32) (harg3 : arg3.IsWhole) (arg4 : Memref sig .tc .vmem S512x16 .f32) (harg4 : arg4.IsWhole)
  (arg5 : Memref sig .tc .vmem S1x16x1024 .i32) (harg5 : arg5.IsWhole) (arg6 : Memref sig .tc .smem S1x1 .f32) (harg6 : arg6.IsWhole) (arg7 : Memref sig .tc .vmem S512x1024 .f32) (harg7 : arg7.IsWhole)
  (x0 : Vec Ideal S1x128x1024 .f32) (x1 : Vec Ideal S16x512x8 .f32) (x2 : Vec Ideal S512x16 .f32) (xo4 : Vec Ideal S1x1 .f32)

theorem out0_A_3_apply (hc0 : cond0_0 i) (n : Fin 16) (l : Fin 1024) :
    out0_A_3 c i arg2 harg2 arg3 harg3 arg4 harg4 arg5 harg5 arg6 harg6 arg7 harg7 hc0 x0 x1 x2 (ValueIdx.ix3 (0 : Fin 1) n l)
      = BitVec.ofNat 32 (first (formed x0 x1 x2 n l)).val := by
  unfold out0_A_3
  exact codes_read arg2 harg2 arg3 harg3 arg4 harg4 arg7 x0 x1 x2 VO0_3 _ (codes_A arg2 harg2 arg3 harg3 arg4 harg4 arg7 x0 x1 x2 arg5 harg5 arg6 harg6 harg7 c i hc0) n l

theorem out0_B_3_apply (hc0 : ¬cond0_0 i) (n : Fin 16) (l : Fin 1024) :
    out0_B_3 c i arg2 harg2 arg3 harg3 arg4 harg4 arg5 harg5 arg6 harg6 arg7 harg7 hc0 x0 x1 x2 xo4 (ValueIdx.ix3 (0 : Fin 1) n l)
      = BitVec.ofNat 32 (first (formed x0 x1 x2 n l)).val := by
  unfold out0_B_3
  exact codes_read arg2 harg2 arg3 harg3 arg4 harg4 arg7 x0 x1 x2 VO0_3 _ (codes_B arg2 harg2 arg3 harg3 arg4 harg4 arg7 x0 x1 x2 arg5 harg5 arg6 harg6 harg7 c i hc0 xo4) n l

theorem out0_A_4_apply (hc0 : cond0_0 i) (y : S1x1.Idx) :
    out0_A_4 c i arg2 harg2 arg3 harg3 arg4 harg4 arg5 harg5 arg6 harg6 arg7 harg7 hc0 x0 x1 x2 y = low x0 x1 x2 := by
  unfold out0_A_4
  refine (word_read VO0_4 _ _ _ (loss_A arg2 harg2 arg3 harg3 arg4 harg4 arg7 x0 x1 x2 arg5 harg5 arg6 harg6 harg7 c i hc0) y).trans ?_
  rw [lossSum_low]
  exact (congrArg (fun a : EReal => a + low x0 x1 x2) Ideal.ofBits_zero_f32).trans (zero_add _)

theorem out0_B_4_apply (hc0 : ¬cond0_0 i) (y y' : S1x1.Idx) :
    out0_B_4 c i arg2 harg2 arg3 harg3 arg4 harg4 arg5 harg5 arg6 harg6 arg7 harg7 hc0 x0 x1 x2 xo4 y = xo4 y' + low x0 x1 x2 := by
  unfold out0_B_4
  refine (word_read VO0_4 _ _ _ (loss_B arg2 harg2 arg3 harg3 arg4 harg4 arg7 x0 x1 x2 arg5 harg5 arg6 harg6 harg7 c i hc0 xo4) y).trans ?_
  rw [lossSum_low]
  exact congrArg (fun a : EReal => a + low x0 x1 x2) ((harg6.readAt_unread xo4 _ _).trans (congrArg xo4 (one _ y')))

end

/-- The block of indices after point `t`. -/
theorem codes0 (t : Fin cfg0.N) (n : Fin 16) (l : Fin 1024) :
    (outsAt0 V c t.val t.isLt).1 (ValueIdx.ix3 (0 : Fin 1) n l)
      = BitVec.ofNat 32 (first (formed (iblk0 V c 0 t) (iblk0 V c 1 t) (iblk0 V c 2 t) n l)).val := by
  by_cases h0 : t.val % 32 = 0
  · rw [outsAt0_A V c t h0]
    dsimp only
    rw [out0_A_3_apply]
  · rw [outsAt0_B V c t h0]
    dsimp only
    rw [out0_B_3_apply]

/-- The loss's word after point `k`: the sum up to there. -/
theorem word0 : ∀ (k : ℕ) (hk : k < cfg0.N) (y : S1x1.Idx),
    (outsAt0 V c k hk).2 y = ∑ s : Fin (k + 1), low0 V c ⟨s.val, Nat.lt_of_le_of_lt (Nat.le_of_lt_succ s.isLt) hk⟩
  | 0, hk, y => by
    rw [Fin.sum_univ_one, outsAt0_A V c ⟨0, hk⟩ rfl]
    dsimp only
    rw [out0_A_4_apply]
    rfl
  | k + 1, hk, y => by
    have h0 : ¬(k + 1) % 32 = 0 := by have h : k + 1 < 32 := Nat.lt_of_lt_of_eq hk N_0; omega
    rw [Fin.sum_univ_castSucc, outsAt0_B V c ⟨k + 1, hk⟩ h0]
    dsimp only
    rw [out0_B_4_apply (y' := y)]
    exact congrArg (fun a : EReal => a + low0 V c ⟨k + 1, hk⟩) (word0 k (Nat.lt_of_succ_lt hk) y)

/-- The first call's array of indices. -/
theorem indices0 (t : Fin 32) (n : Fin 16) (l : Fin 1024) :
    (dat0 V c).arrAt 3 cfg0.N (ValueIdx.ix3 (n0 := 32) (n1 := 16) (n2 := 1024) t n l)
      = BitVec.ofNat 32 (first (distOf (V c main_v6) (V c main_v4) (V c main_v5) t n l)).val := by
  have e := index0_3 t
  have he : ((cfg0.win 3).blk t).view.emb (ValueIdx.ix3 (0 : Fin 1) n l) = ValueIdx.ix3 (n0 := 32) (n1 := 16) (n2 := 1024) t n l := by
    refine funext fun a => Fin.ext ?_
    match a with
    | ⟨0, _⟩ => show win0_3.index t (0 : Fin 3) * 1 + 1 * 0 = t.val; rw [e]; show t.val * 1 + _ = _; omega
    | ⟨1, _⟩ => show win0_3.index t (1 : Fin 3) * 16 + 1 * n.val = n.val; rw [e]; show 0 * 16 + _ = _; omega
    | ⟨2, _⟩ => show win0_3.index t (2 : Fin 3) * 1024 + 1 * l.val = l.val; rw [e]; show 0 * 1024 + _ = _; omega
  have hinj : ∀ t t' : Fin cfg0.N, win0_3.index t = win0_3.index t' → t = t' := (by decide +kernel : ∀ t t' : Fin grid0.N, win0_3.index t = win0_3.index t' → t = t')
  have h := (dat0 V c).arrAt_emb_eq_flushed 3 (fun t t' _ _ hne => (cfg0.win 3).disjoint_blk fun h => hne (hinj t t' h)) t (flush0_3' t) (ValueIdx.ix3 (0 : Fin 1) n l)
  rw [he] at h
  refine h.trans ((cast_eq _ _).trans ?_)
  exact (congrFun (after0_3 V c t) _).trans ((codes0 V c t n l).trans (congrArg (fun D => BitVec.ofNat 32 (first D).val) (formed0 V c t n l)))

/-- The first call's sum. -/
theorem total0 (y : S1x1.Idx) : (dat0 V c).arrAt 4 cfg0.N y
    = ∑ t : Fin 32, ∑ l : Fin 1024, ∑ n : Fin 16,
        distOf (V c main_v6) (V c main_v4) (V c main_v5) t n l (first (distOf (V c main_v6) (V c main_v4) (V c main_v5) t n l)) := by
  have hd : ∀ t t' : Fin cfg0.N, (cfg0.win 4).flush t = true → (cfg0.win 4).flush t' = true → t ≠ t' →
      Disjoint ((cfg0.win 4).blk t).view.set ((cfg0.win 4).blk t').view.set :=
    fun t t' h h' hne => absurd (Fin.ext (((flush0_4' t).mp h).trans ((flush0_4' t').mp h').symm)) hne
  have h := (dat0 V c).arrAt_emb_eq_flushed 4 hd (⟨31, Nat.lt_of_lt_of_eq (by decide) N_0.symm⟩ : Fin cfg0.N) ((flush0_4' _).mpr rfl) (ValueIdx.ix2 (0 : Fin 1) (0 : Fin 1))
  refine (congrArg ((dat0 V c).arrAt 4 cfg0.N) (one y _)).trans (h.trans ((cast_eq _ _).trans ?_))
  refine (congrFun (after0_4 V c _) _).trans ((word0 V c 31 _ _).trans ?_)
  refine Finset.sum_congr rfl fun (t : Fin 32) _ => ?_
  unfold low0 low
  exact Finset.sum_congr rfl fun l _ => Finset.sum_congr rfl fun n _ =>
    congrArg (fun D => D (first D)) (formed0 V c t n l)

end Cert.ArgminIdeal.Row

end
-- ==== Proof.BlocksTwo.lean ====
/-
  What the second call leaves in its output arrays: the same as the first, of its own half of the images.
-/
module

public import proofs.«01_k».proof.Proof.Blocks

@[expose] public section

noncomputable section

namespace Cert.ArgminIdeal.Row

open Cert.ArgminIdeal Cert.ArgminIdeal.Gen
open Idealize.ShloMosaic Idealize.ShloMosaic.TcCoe Idealize.SL.Sem

attribute [local irreducible] codes lossSum first

variable (V : Held) (c : Dev nD)

/-! ## The second call -/

theorem index1_0 : ∀ t : Fin cfg1.N, win1_0.index t = ![t.val, 0, 0] := (by decide +kernel : ∀ t : Fin grid1.N, _)
theorem index1_1 : ∀ t : Fin cfg1.N, win1_1.index t = ![0, 0, 0] := (by decide +kernel : ∀ t : Fin grid1.N, _)
theorem index1_2 : ∀ t : Fin cfg1.N, win1_2.index t = ![0, 0] := (by decide +kernel : ∀ t : Fin grid1.N, _)
theorem index1_3 : ∀ t : Fin cfg1.N, win1_3.index t = ![t.val, 0, 0] := (by decide +kernel : ∀ t : Fin grid1.N, _)
theorem flush1_3' : ∀ t : Fin cfg1.N, (cfg1.win 3).flush t = true := (by decide +kernel : ∀ t : Fin grid1.N, win1_3.flush t = true)
theorem flush1_4' : ∀ t : Fin cfg1.N, (cfg1.win 4).flush t = true ↔ t.val = 31 := (by decide +kernel : ∀ t : Fin grid1.N, win1_4.flush t = true ↔ t.val = 31)

theorem block1_0 (t : Fin cfg1.N) (r : Fin 128) (l : Fin 1024) :
    iblk1 V c 0 t (ValueIdx.ix3 (0 : Fin 1) r l) = V c main_v10 (ValueIdx.ix3 (n0 := 32) (n1 := 128) (n2 := 1024) t r l) := by
  have e := index1_0 t
  show V c main_v10 (((cfg1.win 0).blk t).view.emb _) = _
  refine congrArg (V c main_v10) (funext fun a => Fin.ext ?_)
  match a with
  | ⟨0, _⟩ => show win1_0.index t (0 : Fin 3) * 1 + 1 * 0 = t.val; rw [e]; show t.val * 1 + _ = _; omega
  | ⟨1, _⟩ => show win1_0.index t (1 : Fin 3) * 128 + 1 * r.val = r.val; rw [e]; show 0 * 128 + _ = _; omega
  | ⟨2, _⟩ => show win1_0.index t (2 : Fin 3) * 1024 + 1 * l.val = l.val; rw [e]; show 0 * 1024 + _ = _; omega

theorem block1_1 (t : Fin cfg1.N) (j : S16x512x8.Idx) : iblk1 V c 1 t j = V c main_v4 j := by
  have e := index1_1 t
  show V c main_v4 (((cfg1.win 1).blk t).view.emb j) = _
  refine congrArg (V c main_v4) (funext fun a => Fin.ext ?_)
  match a with
  | ⟨0, _⟩ => show win1_1.index t (0 : Fin 3) * 16 + 1 * (j 0).val = (j 0).val; rw [e]; show 0 * 16 + _ = _; omega
  | ⟨1, _⟩ => show win1_1.index t (1 : Fin 3) * 512 + 1 * (j 1).val = (j 1).val; rw [e]; show 0 * 512 + _ = _; omega
  | ⟨2, _⟩ => show win1_1.index t (2 : Fin 3) * 8 + 1 * (j 2).val = (j 2).val; rw [e]; show 0 * 8 + _ = _; omega

theorem block1_2 (t : Fin cfg1.N) (j : S512x16.Idx) : iblk1 V c 2 t j = V c main_v5 j := by
  have e := index1_2 t
  show V c main_v5 (((cfg1.win 2).blk t).view.emb j) = _
  refine congrArg (V c main_v5) (funext fun a => Fin.ext ?_)
  match a with
  | ⟨0, _⟩ => show win1_2.index t (0 : Fin 2) * 512 + 1 * (j 0).val = (j 0).val; rw [e]; show 0 * 512 + _ = _; omega
  | ⟨1, _⟩ => show win1_2.index t (1 : Fin 2) * 16 + 1 * (j 1).val = (j 1).val; rw [e]; show 0 * 16 + _ = _; omega

theorem formed1 (t : Fin cfg1.N) (n : Fin 16) (l : Fin 1024) :
    formed (iblk1 V c 0 t) (iblk1 V c 1 t) (iblk1 V c 2 t) n l = distOf (V c main_v10) (V c main_v4) (V c main_v5) t n l := by
  funext m
  exact congrArg₂ (fun (a b : EReal) => a + b)
    (congrArg₂ (fun (a b : EReal) => a + b)
      (Finset.sum_congr rfl fun e _ => congrArg₂ (fun (a b : EReal) => a * b) (block1_0 V c t _ l) (block1_0 V c t _ l)) (block1_2 V c t _))
    (Finset.sum_congr rfl fun e _ => congrArg₂ (fun (a b : EReal) => a * b) (block1_1 V c t _) (block1_0 V c t _ l))

/-- The sum of the least distances of the second call's image `t`. -/
def low1 (t : Fin cfg1.N) : EReal := low (iblk1 V c 0 t) (iblk1 V c 1 t) (iblk1 V c 2 t)

section
variable (i : grid1.Coords) (arg2 : Memref sig .tc .vmem S1x128x1024 .f32) (harg2 : arg2.IsWhole) (arg3 : Memref sig .tc .vmem S16x512x8 .f32) (harg3 : arg3.IsWhole) (arg4 : Memref sig .tc .vmem S512x16 .f32) (harg4 : arg4.IsWhole)
  (arg5 : Memref sig .tc .vmem S1x16x1024 .i32) (harg5 : arg5.IsWhole) (arg6 : Memref sig .tc .smem S1x1 .f32) (harg6 : arg6.IsWhole) (arg7 : Memref sig .tc .vmem S512x1024 .f32) (harg7 : arg7.IsWhole)
  (x0 : Vec Ideal S1x128x1024 .f32) (x1 : Vec Ideal S16x512x8 .f32) (x2 : Vec Ideal S512x16 .f32) (xo4 : Vec Ideal S1x1 .f32)

theorem out1_A_3_apply (hc0 : cond1_0 i) (n : Fin 16) (l : Fin 1024) :
    out1_A_3 c i arg2 harg2 arg3 harg3 arg4 harg4 arg5 harg5 arg6 harg6 arg7 harg7 hc0 x0 x1 x2 (ValueIdx.ix3 (0 : Fin 1) n l)
      = BitVec.ofNat 32 (first (formed x0 x1 x2 n l)).val := by
  unfold out1_A_3
  exact codes_read arg2 harg2 arg3 harg3 arg4 harg4 arg7 x0 x1 x2 VO1_3 _ (codes_A₁ arg2 harg2 arg3 harg3 arg4 harg4 arg7 x0 x1 x2 arg5 harg5 arg6 harg6 harg7 c i hc0) n l

theorem out1_B_3_apply (hc0 : ¬cond1_0 i) (n : Fin 16) (l : Fin 1024) :
    out1_B_3 c i arg2 harg2 arg3 harg3 arg4 harg4 arg5 harg5 arg6 harg6 arg7 harg7 hc0 x0 x1 x2 xo4 (ValueIdx.ix3 (0 : Fin 1) n l)
      = BitVec.ofNat 32 (first (formed x0 x1 x2 n l)).val := by
  unfold out1_B_3
  exact codes_read arg2 harg2 arg3 harg3 arg4 harg4 arg7 x0 x1 x2 VO1_3 _ (codes_B₁ arg2 harg2 arg3 harg3 arg4 harg4 arg7 x0 x1 x2 arg5 harg5 arg6 harg6 harg7 c i hc0 xo4) n l

theorem out1_A_4_apply (hc0 : cond1_0 i) (y : S1x1.Idx) :
    out1_A_4 c i arg2 harg2 arg3 harg3 arg4 harg4 arg5 harg5 arg6 harg6 arg7 harg7 hc0 x0 x1 x2 y = low x0 x1 x2 := by
  unfold out1_A_4
  refine (word_read VO1_4 _ _ _ (loss_A₁ arg2 harg2 arg3 harg3 arg4 harg4 arg7 x0 x1 x2 arg5 harg5 arg6 harg6 harg7 c i hc0) y).trans ?_
  rw [lossSum_low]
  exact (congrArg (fun a : EReal => a + low x0 x1 x2) Ideal.ofBits_zero_f32).trans (zero_add _)

theorem out1_B_4_apply (hc0 : ¬cond1_0 i) (y y' : S1x1.Idx) :
    out1_B_4 c i arg2 harg2 arg3 harg3 arg4 harg4 arg5 harg5 arg6 harg6 arg7 harg7 hc0 x0 x1 x2 xo4 y = xo4 y' + low x0 x1 x2 := by
  unfold out1_B_4
  refine (word_read VO1_4 _ _ _ (loss_B₁ arg2 harg2 arg3 harg3 arg4 harg4 arg7 x0 x1 x2 arg5 harg5 arg6 harg6 harg7 c i hc0 xo4) y).trans ?_
  rw [lossSum_low]
  exact congrArg (fun a : EReal => a + low x0 x1 x2) ((harg6.readAt_unread xo4 _ _).trans (congrArg xo4 (one _ y')))

end

/-- The block of indices after point `t`. -/
theorem codes1 (t : Fin cfg1.N) (n : Fin 16) (l : Fin 1024) :
    (outsAt1 V c t.val t.isLt).1 (ValueIdx.ix3 (0 : Fin 1) n l)
      = BitVec.ofNat 32 (first (formed (iblk1 V c 0 t) (iblk1 V c 1 t) (iblk1 V c 2 t) n l)).val := by
  by_cases h0 : t.val % 32 = 0
  · rw [outsAt1_A V c t h0]
    dsimp only
    rw [out1_A_3_apply]
  · rw [outsAt1_B V c t h0]
    dsimp only
    rw [out1_B_3_apply]

/-- The loss's word after point `k`: the sum up to there. -/
theorem word1 : ∀ (k : ℕ) (hk : k < cfg1.N) (y : S1x1.Idx),
    (outsAt1 V c k hk).2 y = ∑ s : Fin (k + 1), low1 V c ⟨s.val, Nat.lt_of_le_of_lt (Nat.le_of_lt_succ s.isLt) hk⟩
  | 0, hk, y => by
    rw [Fin.sum_univ_one, outsAt1_A V c ⟨0, hk⟩ rfl]
    dsimp only
    rw [out1_A_4_apply]
    rfl
  | k + 1, hk, y => by
    have h0 : ¬(k + 1) % 32 = 0 := by have h : k + 1 < 32 := Nat.lt_of_lt_of_eq hk N_1; omega
    rw [Fin.sum_univ_castSucc, outsAt1_B V c ⟨k + 1, hk⟩ h0]
    dsimp only
    rw [out1_B_4_apply (y' := y)]
    exact congrArg (fun a : EReal => a + low1 V c ⟨k + 1, hk⟩) (word1 k (Nat.lt_of_succ_lt hk) y)

/-- The second call's array of indices. -/
theorem indices1 (t : Fin 32) (n : Fin 16) (l : Fin 1024) :
    (dat1 V c).arrAt 3 cfg1.N (ValueIdx.ix3 (n0 := 32) (n1 := 16) (n2 := 1024) t n l)
      = BitVec.ofNat 32 (first (distOf (V c main_v10) (V c main_v4) (V c main_v5) t n l)).val := by
  have e := index1_3 t
  have he : ((cfg1.win 3).blk t).view.emb (ValueIdx.ix3 (0 : Fin 1) n l) = ValueIdx.ix3 (n0 := 32) (n1 := 16) (n2 := 1024) t n l := by
    refine funext fun a => Fin.ext ?_
    match a with
    | ⟨0, _⟩ => show win1_3.index t (0 : Fin 3) * 1 + 1 * 0 = t.val; rw [e]; show t.val * 1 + _ = _; omega
    | ⟨1, _⟩ => show win1_3.index t (1 : Fin 3) * 16 + 1 * n.val = n.val; rw [e]; show 0 * 16 + _ = _; omega
    | ⟨2, _⟩ => show win1_3.index t (2 : Fin 3) * 1024 + 1 * l.val = l.val; rw [e]; show 0 * 1024 + _ = _; omega
  have hinj : ∀ t t' : Fin cfg1.N, win1_3.index t = win1_3.index t' → t = t' := (by decide +kernel : ∀ t t' : Fin grid1.N, win1_3.index t = win1_3.index t' → t = t')
  have h := (dat1 V c).arrAt_emb_eq_flushed 3 (fun t t' _ _ hne => (cfg1.win 3).disjoint_blk fun h => hne (hinj t t' h)) t (flush1_3' t) (ValueIdx.ix3 (0 : Fin 1) n l)
  rw [he] at h
  refine h.trans ((cast_eq _ _).trans ?_)
  exact (congrFun (after1_3 V c t) _).trans ((codes1 V c t n l).trans (congrArg (fun D => BitVec.ofNat 32 (first D).val) (formed1 V c t n l)))

/-- The second call's sum. -/
theorem total1 (y : S1x1.Idx) : (dat1 V c).arrAt 4 cfg1.N y
    = ∑ t : Fin 32, ∑ l : Fin 1024, ∑ n : Fin 16,
        distOf (V c main_v10) (V c main_v4) (V c main_v5) t n l (first (distOf (V c main_v10) (V c main_v4) (V c main_v5) t n l)) := by
  have hd : ∀ t t' : Fin cfg1.N, (cfg1.win 4).flush t = true → (cfg1.win 4).flush t' = true → t ≠ t' →
      Disjoint ((cfg1.win 4).blk t).view.set ((cfg1.win 4).blk t').view.set :=
    fun t t' h h' hne => absurd (Fin.ext (((flush1_4' t).mp h).trans ((flush1_4' t').mp h').symm)) hne
  have h := (dat1 V c).arrAt_emb_eq_flushed 4 hd (⟨31, Nat.lt_of_lt_of_eq (by decide) N_1.symm⟩ : Fin cfg1.N) ((flush1_4' _).mpr rfl) (ValueIdx.ix2 (0 : Fin 1) (0 : Fin 1))
  refine (congrArg ((dat1 V c).arrAt 4 cfg1.N) (one y _)).trans (h.trans ((cast_eq _ _).trans ?_))
  refine (congrFun (after1_4 V c _) _).trans ((word1 V c 31 _ _).trans ?_)
  refine Finset.sum_congr rfl fun (t : Fin 32) _ => ?_
  unfold low1 low
  exact Finset.sum_congr rfl fun l _ => Finset.sum_congr rfl fun n _ =>
    congrArg (fun D => D (first D)) (formed1 V c t n l)

end Cert.ArgminIdeal.Row

end
-- ==== Proof.ArgHost.lean ====
/-
  What the host operations around the two calls leave, as functions of what they are given.
-/
module

public import proofs.«01_k».proof.Proof.Gen.ArgminIdeal.Frame

@[expose] public section

noncomputable section

namespace Cert.ArgminIdeal.Row

open Cert.ArgminIdeal Cert.ArgminIdeal.Gen
open Idealize.ShloMosaic Idealize.ShloMosaic.TcCoe Idealize.SL.Sem

variable {F : FTy → Type} [FloatOps F]

/-- The vectors of an image in a row. -/
def rows (z : FVec F S64x128x32x32 .f32) : FVec F S64x128x1024 .f32 := shapeCast _ z shapeCasts_S64x128x32x32_S64x128x1024

/-- The first and the second half of the images. -/
def half₀ (z : FVec F S64x128x32x32 .f32) : FVec F S32x128x1024 .f32 := extractStridedSlice S32x128x1024 ![0, 0, 0] (rows z) slices_S64x128x1024_S32x128x1024_0_0_0
def half₁ (z : FVec F S64x128x32x32 .f32) : FVec F S32x128x1024 .f32 := extractStridedSlice S32x128x1024 ![32, 0, 0] (rows z) slices_S64x128x1024_S32x128x1024_32_0_0

/-- The codes scaled by minus two, and the sums of their squares. -/
def scaled (cb : FVec F S16x512x8 .f32) : FVec F S16x512x8 .f32 := mulf (broadcastInDim S16x512x8 ![] bcast_S_S16x512x8 (constant S_ .f32 0xC0000000#32)) cb
def norms (cb : FVec F S16x512x8 .f32) : FVec F S512x16 .f32 :=
  transpose S512x16 [1, 0] (Host.reduceAdd (mulf cb cb) (constant S_ .f32 0x00000000#32) reducesTo_S16x512x8_S16x512_d2 h_S_) transposes_S16x512_S512x16_1_0

/-- The two halves' indices in one array. -/
def both (a b : IVec S32x1024x16 32) : IVec S64x32x32x16 32 :=
  shapeCast _ (concatenate S64x1024x16 0 [⟨S32x1024x16, a⟩, ⟨S32x1024x16, b⟩] concatenates_S32x1024x16_S32x1024x16_S64x1024x16_d0) shapeCasts_S64x1024x16_S64x32x32x16
def joined (p q : IVec S32x16x1024 32) : IVec S64x32x32x16 32 :=
  both (transpose S32x1024x16 [0, 2, 1] p transposes_S32x16x1024_S32x1024x16_0_2_1) (transpose S32x1024x16 [0, 2, 1] q transposes_S32x16x1024_S32x1024x16_0_2_1)

/-- The loss of the two halves' sums. -/
def lossOf (a b : FVec F S1x1 .f32) : FVec F S_ .f32 :=
  Host.divf (mulf (constant S_ .f32 0x3E800000#32) (addf (shapeCast _ a shapeCasts_S1x1_S_) (shapeCast _ b shapeCasts_S1x1_S_))) (constant S_ .f32 0x4B000000#32)

variable (W : Valuation τ sig (Elt F))

theorem after0_v0 : StableHlo.after hostOps0 W (Proc.devRef .tc main_v0) = rows (W (Proc.devRef .tc main_arg0)) := by
  simp only [hostOps0]
  after_results_simp <;> rfl
theorem after0_v6 : StableHlo.after hostOps0 W (Proc.devRef .tc main_v6) = half₀ (W (Proc.devRef .tc main_arg0)) := by
  simp only [hostOps0]
  after_results_simp <;> rfl
theorem after0_v4 : StableHlo.after hostOps0 W (Proc.devRef .tc main_v4) = scaled (W (Proc.devRef .tc main_arg1)) := by
  simp only [hostOps0]
  after_results_simp <;> rfl
theorem after0_v5 : StableHlo.after hostOps0 W (Proc.devRef .tc main_v5) = norms (W (Proc.devRef .tc main_arg1)) := by
  simp only [hostOps0]
  after_results_simp <;> rfl
theorem after1_v8 : StableHlo.after hostOps1 W (Proc.devRef .tc main_v8)
    = transpose S32x1024x16 [0, 2, 1] (W (Proc.devRef .tc main_v7_0) : IVec S32x16x1024 32) transposes_S32x16x1024_S32x1024x16_0_2_1 := by
  simp only [hostOps1]
  after_results_simp <;> rfl
theorem after1_v9 : StableHlo.after hostOps1 W (Proc.devRef .tc main_v9) = shapeCast S_ (W (Proc.devRef .tc main_v7_1) : FVec F S1x1 .f32) shapeCasts_S1x1_S_ := by
  simp only [hostOps1]
  after_results_simp <;> rfl
theorem after1_v10 : StableHlo.after hostOps1 W (Proc.devRef .tc main_v10)
    = extractStridedSlice S32x128x1024 ![32, 0, 0] (W (Proc.devRef .tc main_v0) : FVec F S64x128x1024 .f32) slices_S64x128x1024_S32x128x1024_32_0_0 := by
  simp only [hostOps1]
  after_results_simp <;> rfl
theorem after2_v15 (p : IVec S32x16x1024 32) (h : W (Proc.devRef .tc main_v8) = transpose S32x1024x16 [0, 2, 1] p transposes_S32x16x1024_S32x1024x16_0_2_1) :
    StableHlo.after hostOps2 W (Proc.devRef .tc main_v15) = joined p (W (Proc.devRef .tc main_v11_0)) := by
  simp only [hostOps2]
  after_results_simp
  refine congrArg₂ both (Eq.trans ?_ h) ?_ <;> after_results_simp
theorem after2_v18 (a : FVec F S1x1 .f32) (h : W (Proc.devRef .tc main_v9) = shapeCast S_ a shapeCasts_S1x1_S_) :
    StableHlo.after hostOps2 W (Proc.devRef .tc main_v18) = lossOf a (W (Proc.devRef .tc main_v11_1)) := by
  simp only [hostOps2]
  after_results_simp
  rw [h]
  rfl

end Cert.ArgminIdeal.Row

end
-- ==== Proof.Near.lean ====
/-
  Two ways of forming the squared distance of two finite vectors of eight numbers, and the literals that occur.
-/
module

public import Idealize.ShloMosaic.PureOps.Ideal.Laws
public import Idealize.ShloMosaic.Lib.IdealHost
public import Idealize.ShloMosaic.Lib.ValueIdx

@[expose] public section

noncomputable section

namespace Cert.Near

open Idealize.ShloMosaic

theorem neg_two : Ideal.ofBits .f32 0xC0000000#32 = ((-2 : ℝ) : EReal) := by
  simp [Ideal.ofBits, Ideal.ieee, -EReal.coe_mul, -EReal.coe_neg]; norm_num
theorem two : Ideal.ofBits .f32 0x40000000#32 = ((2 : ℝ) : EReal) := by
  simp [Ideal.ofBits, Ideal.ieee, -EReal.coe_mul, -EReal.coe_neg]; norm_num
theorem large : Ideal.ofBits .f32 0x4B000000#32 = ((8388608 : ℝ) : EReal) := by
  simp [Ideal.ofBits, Ideal.ieee, -EReal.coe_mul, -EReal.coe_neg]
theorem top : Ideal.ofBits .f32 0x7F800000#32 = (⊤ : EReal) := by
  simp [Ideal.ofBits, Ideal.ieee, BitVec.toNat_ofNat]

/-- Part `n` of the vector at place `l` of image `b`. -/
def zv (z : (⟨4, ![64, 128, 32, 32]⟩ : Shape).Idx → EReal) (b : Fin 64) (n : Fin 16) (l : Fin 1024) (e : Fin 8) : EReal :=
  z (ValueIdx.ix4 (n0 := 64) (n1 := 128) (n2 := 32) (n3 := 32) b ⟨8 * n.val + e.val, by omega⟩ ⟨l.val / 32, by omega⟩ ⟨l.val % 32, by omega⟩)

/-- Code `m` of codebook `n`. -/
def cv (cb : (⟨3, ![16, 512, 8]⟩ : Shape).Idx → EReal) (n : Fin 16) (m : Fin 512) (e : Fin 8) : EReal :=
  cb (ValueIdx.ix3 (n0 := 16) (n1 := 512) (n2 := 8) n m e)

/-- The distance as the kernel forms it: the product is with the code scaled by minus two. -/
def kd (u v : Fin 8 → EReal) : EReal :=
  ((∑ e, u e * u e) + ∑ e, v e * v e) + ∑ e, (Ideal.ofBits .f32 0xC0000000#32 * v e) * u e

/-- The distance as the reference forms it: twice the product is taken off. -/
def rd (u v : Fin 8 → EReal) : EReal :=
  ((∑ e, u e * u e) + ∑ e, v e * v e) - Ideal.ofBits .f32 0x40000000#32 * ∑ e, v e * u e

/-- The square of the difference. -/
def sd (u v : Fin 8 → EReal) : EReal := ∑ e, (v e - u e) * (v e - u e)

theorem kd_coe (u v : Fin 8 → ℝ) : kd (fun e => (u e : EReal)) (fun e => (v e : EReal)) = ((∑ e, (v e - u e) * (v e - u e) : ℝ) : EReal) := by
  unfold kd
  rw [neg_two]
  simp only [Fin.sum_univ_eight, ← EReal.coe_mul, ← EReal.coe_add]
  exact congrArg _ (by ring)

theorem rd_coe (u v : Fin 8 → ℝ) : rd (fun e => (u e : EReal)) (fun e => (v e : EReal)) = ((∑ e, (v e - u e) * (v e - u e) : ℝ) : EReal) := by
  unfold rd
  rw [two]
  simp only [Fin.sum_univ_eight, ← EReal.coe_mul, ← EReal.coe_add, ← EReal.coe_sub]
  exact congrArg _ (by ring)

theorem sd_coe (u v : Fin 8 → ℝ) : sd (fun e => (u e : EReal)) (fun e => (v e : EReal)) = ((∑ e, (v e - u e) * (v e - u e) : ℝ) : EReal) := by
  unfold sd
  simp only [Fin.sum_univ_eight, ← EReal.coe_mul, ← EReal.coe_add, ← EReal.coe_sub]

theorem real_of {x : EReal} (h : max x (-x) < ⊤) : ∃ r : ℝ, x = r := by
  induction x using EReal.rec with
  | bot => simp at h
  | coe r => exact ⟨r, rfl⟩
  | top => simp at h

variable {u v : Fin 8 → EReal} (hu : ∀ e, max (u e) (-u e) < ⊤) (hv : ∀ e, max (v e) (-v e) < ⊤)
include hu hv

/-- Of finite numbers the two ways give the same. -/
theorem kd_eq_rd : kd u v = rd u v := by
  choose a ha using fun e => real_of (hu e)
  choose b hb using fun e => real_of (hv e)
  rw [show u = fun e => (a e : EReal) from funext ha, show v = fun e => (b e : EReal) from funext hb, kd_coe, rd_coe]

/-- Of finite numbers it is the square of the difference. -/
theorem kd_eq_sd : kd u v = sd u v := by
  choose a ha using fun e => real_of (hu e)
  choose b hb using fun e => real_of (hv e)
  rw [show u = fun e => (a e : EReal) from funext ha, show v = fun e => (b e : EReal) from funext hb, kd_coe, sd_coe]

end Cert.Near

end
-- ==== Proof.ArgOut.lean ====
/-
  The two results of the program of the two calls read at an index: the first place of the least distance,
  and a quarter of the sum of the distances there over the number of coordinates.
-/
module

public import proofs.«01_k».proof.Proof.BlocksTwo
public import proofs.«01_k».proof.Proof.ArgHost
public import proofs.«01_k».proof.Proof.Near
public import Idealize.ShloMosaic.Lib.Pointwise.Index
public import Idealize.ShloMosaic.Lib.IdealHost

@[expose] public section

noncomputable section

namespace Cert.ArgminIdeal.Row

open Cert.ArgminIdeal Cert.ArgminIdeal.Gen Cert.Near
open Idealize.ShloMosaic Idealize.ShloMosaic.TcCoe Idealize.SL.Sem

section
variable (z : FVec Ideal S64x128x32x32 .f32) (cb : FVec Ideal S16x512x8 .f32)

theorem rows_at (b : Fin 64) (n : Fin 16) (e : Fin 8) (l : Fin 1024) :
    rows z (ValueIdx.ix3 (n0 := 64) (n1 := 128) (n2 := 1024) b (part n e) l) = zv z b n l e := by
  unfold rows zv
  refine shapeCast_apply _ _ _ _ ?_
  rw [Shape.rowMajor_val_four, Shape.rowMajor_val_three]
  show ((b.val * 128 + (8 * n.val + e.val)) * 32 + l.val / 32) * 32 + l.val % 32 = (b.val * 128 + (8 * n.val + e.val)) * 1024 + l.val
  omega

theorem half₀_at (t : Fin 32) (n : Fin 16) (e : Fin 8) (l : Fin 1024) :
    half₀ z (ValueIdx.ix3 (n0 := 32) (n1 := 128) (n2 := 1024) t (part n e) l) = zv z ⟨t.val, by omega⟩ n l e := by
  unfold half₀
  refine (extractStridedSlice_apply _ _ _ _ (ValueIdx.ix3 (n0 := 64) (n1 := 128) (n2 := 1024) ⟨t.val, by omega⟩ (part n e) l) ?_).trans (rows_at ..)
  intro a
  match a with
  | ⟨0, _⟩ => exact (Nat.zero_add _).symm
  | ⟨1, _⟩ => exact (Nat.zero_add _).symm
  | ⟨2, _⟩ => exact (Nat.zero_add _).symm

theorem half₁_at (t : Fin 32) (n : Fin 16) (e : Fin 8) (l : Fin 1024) :
    half₁ z (ValueIdx.ix3 (n0 := 32) (n1 := 128) (n2 := 1024) t (part n e) l) = zv z ⟨32 + t.val, by omega⟩ n l e := by
  unfold half₁
  refine (extractStridedSlice_apply _ _ _ _ (ValueIdx.ix3 (n0 := 64) (n1 := 128) (n2 := 1024) ⟨32 + t.val, by omega⟩ (part n e) l) ?_).trans (rows_at ..)
  intro a
  match a with
  | ⟨0, _⟩ => rfl
  | ⟨1, _⟩ => exact (Nat.zero_add _).symm
  | ⟨2, _⟩ => exact (Nat.zero_add _).symm

theorem scaled_at (n : Fin 16) (m : Fin 512) (e : Fin 8) :
    scaled cb (ValueIdx.ix3 (n0 := 16) (n1 := 512) (n2 := 8) n m e) = Ideal.ofBits .f32 0xC0000000#32 * cv cb n m e := by
  unfold scaled cv
  refine congrArg (fun a : EReal => a * cb (ValueIdx.ix3 (n0 := 16) (n1 := 512) (n2 := 8) n m e)) ?_
  exact ValueIdx.broadcastInDim_scalar_apply _ _ _

theorem norms_at (n : Fin 16) (m : Fin 512) : norms cb (ValueIdx.ix2 (n0 := 512) (n1 := 16) m n) = ∑ e, cv cb n m e * cv cb n m e := by
  unfold norms
  refine (transpose_apply _ _ _ _ (ValueIdx.ix2 (n0 := 16) (n1 := 512) n m) (fun b => match b with | ⟨0, _⟩ => rfl | ⟨1, _⟩ => rfl)).trans ?_
  refine (Ideal.hostReduceAdd_single reducesTo_S16x512x8_S16x512_d2 (by decide) _ _ _).trans ?_
  refine (congrArg (fun a : EReal => a + _) Ideal.ofBits_zero_f32).trans ((zero_add _).trans ?_)
  refine Finset.sum_congr rfl fun (e : Fin 8) _ => ?_
  have h : Shape.Reduces.lift (s := S16x512x8) (a := 2) (t := S16x512) (by decide) (ValueIdx.ix2 (n0 := 16) (n1 := 512) n m) e = ValueIdx.ix3 (n0 := 16) (n1 := 512) (n2 := 8) n m e :=
    funext fun a => Fin.ext (match a with | ⟨0, _⟩ => rfl | ⟨1, _⟩ => rfl | ⟨2, _⟩ => rfl)
  rw [h]
  rfl

/-- A distance of a call is formed of its arrays' part and code. -/
theorem distOf_eq (Z : FVec Ideal S32x128x1024 .f32) (b : Fin 64) (t : Fin 32) (n : Fin 16) (l : Fin 1024)
    (h : ∀ e, Z (ValueIdx.ix3 t (part n e) l) = zv z b n l e) :
    distOf Z (scaled cb) (norms cb) t n l = fun m => kd (zv z b n l) (cv cb n m) := by
  funext m
  unfold distOf kd
  rw [norms_at]
  simp only [h, scaled_at]

end

section
variable (p q : IVec S32x16x1024 32)

theorem joined_left (b : Fin 64) (t : Fin 32) (hb : b.val = t.val) (h w : Fin 32) (n : Fin 16) :
    joined p q (ValueIdx.ix4 (n0 := 64) (n1 := 32) (n2 := 32) (n3 := 16) b h w n) = p (ValueIdx.ix3 (n0 := 32) (n1 := 16) (n2 := 1024) t n ⟨h.val * 32 + w.val, by omega⟩) := by
  unfold joined both
  refine (shapeCast_apply _ _ _ (ValueIdx.ix3 (n0 := 64) (n1 := 1024) (n2 := 16) b ⟨h.val * 32 + w.val, by omega⟩ n) ?_).trans ?_
  · rw [Shape.rowMajor_val_three, Shape.rowMajor_val_four]
    show (b.val * 1024 + (h.val * 32 + w.val)) * 16 + n.val = ((b.val * 32 + h.val) * 32 + w.val) * 16 + n.val
    omega
  refine (concatenate_pair_apply_left (t := S64x1024x16) 0 _ _ concatenates_S32x1024x16_S32x1024x16_S64x1024x16_d0 (ValueIdx.ix3 (n0 := 64) (n1 := 1024) (n2 := 16) b ⟨h.val * 32 + w.val, by omega⟩ n) rfl (ValueIdx.ix3 (n0 := 32) (n1 := 1024) (n2 := 16) t ⟨h.val * 32 + w.val, by omega⟩ n)
    (fun a => match a with | ⟨0, _⟩ => hb.symm | ⟨1, _⟩ => rfl | ⟨2, _⟩ => rfl)).trans ?_
  exact transpose_apply _ _ _ _ _ (fun a => match a with | ⟨0, _⟩ => rfl | ⟨1, _⟩ => rfl | ⟨2, _⟩ => rfl)

theorem joined_right (b : Fin 64) (t : Fin 32) (hb : b.val = 32 + t.val) (h w : Fin 32) (n : Fin 16) :
    joined p q (ValueIdx.ix4 (n0 := 64) (n1 := 32) (n2 := 32) (n3 := 16) b h w n) = q (ValueIdx.ix3 (n0 := 32) (n1 := 16) (n2 := 1024) t n ⟨h.val * 32 + w.val, by omega⟩) := by
  unfold joined both
  refine (shapeCast_apply _ _ _ (ValueIdx.ix3 (n0 := 64) (n1 := 1024) (n2 := 16) b ⟨h.val * 32 + w.val, by omega⟩ n) ?_).trans ?_
  · rw [Shape.rowMajor_val_three, Shape.rowMajor_val_four]
    show (b.val * 1024 + (h.val * 32 + w.val)) * 16 + n.val = ((b.val * 32 + h.val) * 32 + w.val) * 16 + n.val
    omega
  refine (concatenate_pair_apply_right (t := S64x1024x16) 0 _ _ concatenates_S32x1024x16_S32x1024x16_S64x1024x16_d0 (ValueIdx.ix3 (n0 := 64) (n1 := 1024) (n2 := 16) b ⟨h.val * 32 + w.val, by omega⟩ n) rfl rfl (ValueIdx.ix3 (n0 := 32) (n1 := 1024) (n2 := 16) t ⟨h.val * 32 + w.val, by omega⟩ n)
    (fun a => match a with | ⟨0, _⟩ => fun hne => absurd rfl hne | ⟨1, _⟩ => fun _ => rfl | ⟨2, _⟩ => fun _ => rfl)
    (by show t.val + 32 = b.val; omega)).trans ?_
  exact transpose_apply _ _ _ _ _ (fun a => match a with | ⟨0, _⟩ => rfl | ⟨1, _⟩ => rfl | ⟨2, _⟩ => rfl)

theorem lossOf_at (a b : FVec Ideal S1x1 .f32) (y : S_.Idx) (k : S1x1.Idx) : lossOf a b y
    = Ideal.div (Ideal.ofBits .f32 0x3E800000#32 * (a k + b k)) (Ideal.ofBits .f32 0x4B000000#32) := by
  have e : ∀ x : FVec Ideal S1x1 .f32, shapeCast S_ x shapeCasts_S1x1_S_ y = x k := fun x => congrArg x (one _ _)
  unfold lossOf
  have hm : ∀ u v : FVec Ideal S_ .f32, Host.divf (mulf (constant S_ .f32 0x3E800000#32) (addf u v)) (constant S_ .f32 0x4B000000#32) y
      = Ideal.div (Ideal.ofBits .f32 0x3E800000#32 * (u y + v y)) (Ideal.ofBits .f32 0x4B000000#32) := fun _ _ => rfl
  rw [hm, e, e]

end

section
variable (m : (ℓ : Loc nD τ sig) → Buf (Elt Ideal) ℓ) (ρ : Dev nD → PrngReg) (c : Dev nD)

theorem v6_eq : V1 m ρ c main_v6 = half₀ (F := Ideal) (m ((c.tc : Thread nD τ).loc main_arg0)) := (after0_v6 (W0 m ρ c)).trans rfl
theorem v4_eq : V1 m ρ c main_v4 = scaled (F := Ideal) (m ((c.tc : Thread nD τ).loc main_arg1)) := (after0_v4 (W0 m ρ c)).trans rfl
theorem v5_eq : V1 m ρ c main_v5 = norms (F := Ideal) (m ((c.tc : Thread nD τ).loc main_arg1)) := (after0_v5 (W0 m ρ c)).trans rfl

theorem v4_eq' : V3 m ρ c main_v4 = scaled (F := Ideal) (m ((c.tc : Thread nD τ).loc main_arg1)) :=
  (W3_of m ρ c main_v4 (by decide +kernel)).trans ((W2_of m ρ c main_v4 (by decide +kernel)).trans (v4_eq m ρ c))
theorem v5_eq' : V3 m ρ c main_v5 = norms (F := Ideal) (m ((c.tc : Thread nD τ).loc main_arg1)) :=
  (W3_of m ρ c main_v5 (by decide +kernel)).trans ((W2_of m ρ c main_v5 (by decide +kernel)).trans (v5_eq m ρ c))
theorem v10_eq : V3 m ρ c main_v10 = half₁ (F := Ideal) (m ((c.tc : Thread nD τ).loc main_arg0)) := by
  refine (after1_v10 (W2 m ρ c)).trans ?_
  unfold half₁
  refine congrArg (fun x : FVec Ideal S64x128x1024 .f32 => extractStridedSlice S32x128x1024 ![32, 0, 0] x slices_S64x128x1024_S32x128x1024_32_0_0) ?_
  exact (W2_of m ρ c main_v0 (by decide +kernel)).trans (after0_v0 (W0 m ρ c))

theorem out15 : W5 m ρ c (Proc.devRef .tc main_v15) = joined ((dat0 (V1 m ρ) c).arrAt 3 cfg0.N) ((dat1 (V3 m ρ) c).arrAt 3 cfg1.N) := by
  refine (after2_v15 (W4 m ρ c) ((dat0 (V1 m ρ) c).arrAt 3 cfg0.N) ?_).trans ?_
  · refine (W4_of m ρ c main_v8 (by decide +kernel)).trans ((after1_v8 (W2 m ρ c)).trans ?_)
    exact congrArg (fun x : IVec S32x16x1024 32 => transpose S32x1024x16 [0, 2, 1] x transposes_S32x16x1024_S32x1024x16_0_2_1) (W2_arr m ρ c 3)
  · exact congrArg (joined _) (W4_arr m ρ c 3)

theorem out18 : W5 m ρ c (Proc.devRef .tc main_v18) = lossOf (F := Ideal) ((dat0 (V1 m ρ) c).arrAt 4 cfg0.N) ((dat1 (V3 m ρ) c).arrAt 4 cfg1.N) := by
  refine (after2_v18 (W4 m ρ c) ((dat0 (V1 m ρ) c).arrAt 4 cfg0.N) ?_).trans ?_
  · refine (W4_of m ρ c main_v9 (by decide +kernel)).trans ((after1_v9 (W2 m ρ c)).trans ?_)
    exact congrArg (fun x : FVec Ideal S1x1 .f32 => shapeCast S_ x shapeCasts_S1x1_S_) (W2_arr m ρ c 4)
  · exact congrArg (lossOf (F := Ideal) _) (W4_arr m ρ c 4)

/-- The distances of a part to the codes of its codebook. -/
def near (z : FVec Ideal S64x128x32x32 .f32) (cb : FVec Ideal S16x512x8 .f32) (b : Fin 64) (n : Fin 16) (l : Fin 1024) (k : Fin 512) : EReal := kd (zv z b n l) (cv cb n k)

theorem dist₀ (t : Fin 32) (n : Fin 16) (l : Fin 1024) : distOf (V1 m ρ c main_v6) (V1 m ρ c main_v4) (V1 m ρ c main_v5) t n l
    = near (m ((c.tc : Thread nD τ).loc main_arg0)) (m ((c.tc : Thread nD τ).loc main_arg1)) ⟨t.val, by omega⟩ n l := by
  rw [v6_eq, v4_eq, v5_eq]
  exact distOf_eq _ _ _ _ t n l fun e => half₀_at _ t n e l
theorem dist₁ (t : Fin 32) (n : Fin 16) (l : Fin 1024) : distOf (V3 m ρ c main_v10) (V3 m ρ c main_v4) (V3 m ρ c main_v5) t n l
    = near (m ((c.tc : Thread nD τ).loc main_arg0)) (m ((c.tc : Thread nD τ).loc main_arg1)) ⟨32 + t.val, by omega⟩ n l := by
  rw [v10_eq, v4_eq', v5_eq']
  exact distOf_eq _ _ _ _ t n l fun e => half₁_at _ t n e l

/-- The second result. -/
theorem out15_at (b : Fin 64) (h w : Fin 32) (n : Fin 16) :
    (W5 m ρ c (Proc.devRef .tc main_v15) : IVec S64x32x32x16 32) (ValueIdx.ix4 (n0 := 64) (n1 := 32) (n2 := 32) (n3 := 16) b h w n)
      = BitVec.ofNat 32 (first (near (m ((c.tc : Thread nD τ).loc main_arg0)) (m ((c.tc : Thread nD τ).loc main_arg1)) b n ⟨h.val * 32 + w.val, by omega⟩)).val := by
  refine (congrFun (out15 m ρ c) _).trans ?_
  rcases Nat.lt_or_ge b.val 32 with hb | hb
  · refine (joined_left _ _ b ⟨b.val, hb⟩ rfl h w n).trans ((indices0 (V1 m ρ) c _ n _).trans ?_)
    rw [dist₀]
  · refine (joined_right _ _ b ⟨b.val - 32, by omega⟩ (by show b.val = 32 + (b.val - 32); omega) h w n).trans ((indices1 (V3 m ρ) c _ n _).trans ?_)
    rw [dist₁]
    have e : (⟨32 + (b.val - 32), by omega⟩ : Fin 64) = b := Fin.ext (by show 32 + (b.val - 32) = b.val; omega)
    show BitVec.ofNat 32 (first (near _ _ ⟨32 + (b.val - 32), _⟩ n _)).val = _
    rw [e]

theorem sum₀ : (∑ t : Fin 32, ∑ l : Fin 1024, ∑ n : Fin 16, distOf (V1 m ρ c main_v6) (V1 m ρ c main_v4) (V1 m ρ c main_v5) t n l (first (distOf (V1 m ρ c main_v6) (V1 m ρ c main_v4) (V1 m ρ c main_v5) t n l)) : EReal)
    = ∑ t : Fin 32, ∑ l : Fin 1024, ∑ n : Fin 16, near (m ((c.tc : Thread nD τ).loc main_arg0)) (m ((c.tc : Thread nD τ).loc main_arg1)) ⟨t.val, by omega⟩ n l (first (near (m ((c.tc : Thread nD τ).loc main_arg0)) (m ((c.tc : Thread nD τ).loc main_arg1)) ⟨t.val, by omega⟩ n l)) :=
  Finset.sum_congr rfl fun t _ => Finset.sum_congr rfl fun l _ => Finset.sum_congr rfl fun n _ => congrArg (fun D : Fin 512 → EReal => D (first D)) (dist₀ m ρ c t n l)

theorem sum₁ : (∑ t : Fin 32, ∑ l : Fin 1024, ∑ n : Fin 16, distOf (V3 m ρ c main_v10) (V3 m ρ c main_v4) (V3 m ρ c main_v5) t n l (first (distOf (V3 m ρ c main_v10) (V3 m ρ c main_v4) (V3 m ρ c main_v5) t n l)) : EReal)
    = ∑ t : Fin 32, ∑ l : Fin 1024, ∑ n : Fin 16, near (m ((c.tc : Thread nD τ).loc main_arg0)) (m ((c.tc : Thread nD τ).loc main_arg1)) ⟨32 + t.val, by omega⟩ n l (first (near (m ((c.tc : Thread nD τ).loc main_arg0)) (m ((c.tc : Thread nD τ).loc main_arg1)) ⟨32 + t.val, by omega⟩ n l)) :=
  Finset.sum_congr rfl fun t _ => Finset.sum_congr rfl fun l _ => Finset.sum_congr rfl fun n _ => congrArg (fun D : Fin 512 → EReal => D (first D)) (dist₁ m ρ c t n l)

/-- The first result. -/
theorem out18_at (y : S_.Idx) : (W5 m ρ c (Proc.devRef .tc main_v18) : FVec Ideal S_ .f32) y
    = Ideal.div (Ideal.ofBits .f32 0x3E800000#32 * ∑ b : Fin 64, ∑ l : Fin 1024, ∑ n : Fin 16,
        near (m ((c.tc : Thread nD τ).loc main_arg0)) (m ((c.tc : Thread nD τ).loc main_arg1)) b n l
          (first (near (m ((c.tc : Thread nD τ).loc main_arg0)) (m ((c.tc : Thread nD τ).loc main_arg1)) b n l))) (Ideal.ofBits .f32 0x4B000000#32) := by
  refine (congrFun (out18 m ρ c) y).trans ((lossOf_at _ _ y (ValueIdx.ix2 (0 : Fin 1) (0 : Fin 1))).trans ?_)
  refine congrArg (fun a : EReal => Ideal.div (Ideal.ofBits .f32 0x3E800000#32 * a) (Ideal.ofBits .f32 0x4B000000#32)) ?_
  refine Eq.trans ?_ (Fin.sum_univ_add (a := 32) (b := 32) (f := fun b : Fin (32 + 32) => ∑ l : Fin 1024, ∑ n : Fin 16,
        near (m ((c.tc : Thread nD τ).loc main_arg0)) (m ((c.tc : Thread nD τ).loc main_arg1)) b n l
          (first (near (m ((c.tc : Thread nD τ).loc main_arg0)) (m ((c.tc : Thread nD τ).loc main_arg1)) b n l)))).symm
  exact congrArg₂ (fun a b : EReal => a + b) ((total0 (V1 m ρ) c _).trans (sum₀ m ρ c)) ((total1 (V3 m ρ) c _).trans (sum₁ m ρ c))

end

end Cert.ArgminIdeal.Row

end
-- ==== Proof.Ref.lean ====
/-
  The reference's run, and its result as one function of the arguments: the index of each token and codebook is in
  range, so the wrapped and masked row lookup is a plain one, and the transposes and reshapes cancel.
-/
module

public import proofs.«01_k».proof.Proof.Gen.ReferenceIdeal
public import proofs.«01_k».proof.Proof.Gen.ReferenceIdeal.Run
public import Idealize.ShloMosaic.Lib.Quiescent
public import Idealize.ShloMosaic.Lib.ValueIdxCore
public import Idealize.ShloMosaic.Lib.ReduceAll
public import Idealize.ShloMosaic.Lib.Pipeline.ValueKit.Geometry

@[expose] public section

noncomputable section

namespace Cert.ReferenceIdeal.Run

open Cert.ReferenceIdeal Cert.ReferenceIdeal.Gen
open Idealize.ShloMosaic Idealize.ShloMosaic.TcCoe Idealize.SL.Sem

variable {F : FTy → Type} [FloatOps F]

theorem ofBool_eq_one_iff (p : Bool) : (BitVec.ofBool p = 1#1) ↔ p = true := by cases p <;> decide
theorem andi_ofBool (p q : Bool) : IntOp.andi (BitVec.ofBool p) (BitVec.ofBool q) = BitVec.ofBool (p && q) := by
  cases p <;> cases q <;> decide

/-- The indices as the lookup takes them: codebook, token, one. -/
def codes (ix : IVec S64x32x32x16 32) : IVec S16x65536x1 32 :=
  broadcastInDim S16x65536x1 ![0, 1] bcast_S16x65536_S16x65536x1_0_1 (transpose S16x65536 [1, 0] (shapeCast _ ix shapeCasts_S64x32x32x16_S65536x16) transposes_S65536x16_S16x65536_1_0)

/-- The indices with a negative one counted from the table's end. -/
def wrapped (ix : IVec S64x32x32x16 32) : IVec S16x65536x1 32 :=
  select (cmpi .slt (codes ix) (broadcastInDim S16x65536x1 ![] bcast_S_S16x65536x1 (constantI S_ 32 0#32)))
    (addi (codes ix) (broadcastInDim S16x65536x1 ![] bcast_S_S16x65536x1 (constantI S_ 32 512#32))) (codes ix)

/-- Whether each wrapped index names a row of its table. -/
def valid (ix : IVec S64x32x32x16 32) : IVec S16x65536 1 :=
  Host.reduce IntOp.andi (andi (cmpi .sge (wrapped ix) (broadcastInDim S16x65536x1 ![] bcast_S_S16x65536x1 (constantI S_ 32 0#32)))
    (cmpi .sle (wrapped ix) (broadcastInDim S16x65536x1 ![0, 1, 2] bcast_S1x1x1_S16x65536x1_0_1_2 (broadcastInDim S1x1x1 ![2] bcast_S1_S1x1x1_2 (constantI S1 32 511#32)))))
    (constantI S_ 1 1#1) reducesTo_S16x65536x1_S16x65536_d2 h_S_

/-- The rows looked up, a NaN where the index names none. -/
def picked (cb : FVec F S16x512x8 .f32) (ix : IVec S64x32x32x16 32) : FVec F S16x65536x8 .f32 :=
  select (broadcastInDim S16x65536x8 ![0, 1] bcast_S16x65536_S16x65536x8_0_1 (valid ix))
    (Host.gather gather_S16x512x8_S16x65536x1_S16x65536x8_2_1_0_0_1_2_118 cb (wrapped ix))
    (broadcastInDim S16x65536x8 ![] bcast_S_S16x65536x8 (constant S_ .f32 0x7FC00000#32))

/-- The vectors by token: codebook and coordinate last. -/
def flat (z : FVec F S64x128x32x32 .f32) : FVec F S65536x16x8 .f32 :=
  shapeCast _ (transpose S64x32x32x128 [0, 2, 3, 1] z transposes_S64x128x32x32_S64x32x32x128_0_2_3_1) shapeCasts_S64x32x32x128_S65536x16x8

/-- The reference's result. -/
def refOut (z : FVec F S64x128x32x32 .f32) (cb : FVec F S16x512x8 .f32) (ix : IVec S64x32x32x16 32) : FVec F S64x128x32x32 .f32 :=
  transpose S64x128x32x32 [0, 3, 1, 2] (shapeCast _ (addf (flat z)
    (subf (transpose S65536x16x8 [1, 0, 2] (picked cb ix) transposes_S16x65536x8_S65536x16x8_1_0_2) (flat z)))
    shapeCasts_S65536x16x8_S64x32x32x128) transposes_S64x32x32x128_S64x128x32x32_0_3_1_2

section
variable (ix : IVec S64x32x32x16 32)

theorem codes_apply (p : S16x65536x1.Idx) (a t : ℕ) (ha : a < 16) (ht : t < 65536) (h0 : (p 0).val = a) (h1 : (p 1).val = t) :
    codes ix p = ix (ValueIdx.ix4 (n0 := 64) (n1 := 32) (n2 := 32) (n3 := 16) ⟨t / 1024, by omega⟩ ⟨t / 32 % 32, by omega⟩ ⟨t % 32, by omega⟩ ⟨a, ha⟩) := by
  unfold codes
  rw [broadcastInDim_apply ![0, 1] bcast_S16x65536_S16x65536x1_0_1 _ p (ValueIdx.ix2 (n0 := 16) (n1 := 65536) ⟨a, ha⟩ ⟨t, ht⟩) (by exact fun b => match b with
      | ⟨0, _⟩ => h0.symm | ⟨1, _⟩ => h1.symm),
    transpose_apply _ _ _ _ (ValueIdx.ix2 (n0 := 65536) (n1 := 16) ⟨t, ht⟩ ⟨a, ha⟩) (fun b => match b with
      | ⟨0, _⟩ => rfl | ⟨1, _⟩ => rfl)]
  refine shapeCast_apply _ _ _ _ ?_
  rw [Shape.rowMajor_val_two, Shape.rowMajor_val_four]
  show ((t / 1024 * 32 + t / 32 % 32) * 32 + t % 32) * 16 + a = t * 16 + a
  omega

variable (hr : ∀ j, (ix j).toNat < 512)
include hr

theorem codes_lt (p : S16x65536x1.Idx) : (codes ix p).toNat < 512 := by
  rw [codes_apply ix p _ _ (p 0).isLt (p 1).isLt rfl rfl]
  exact hr _

theorem wrapped_eq : wrapped ix = codes ix := by
  funext p
  have h := codes_lt ix hr p
  show (if IntOp.cmpi .slt (codes ix p) 0#32 = 1#1 then _ else codes ix p) = codes ix p
  rw [if_neg]
  intro e
  simp only [IntOp.cmpi, ofBool_eq_one_iff, BitVec.slt_eq_decide, decide_eq_true_eq, BitVec.toInt_eq_toNat_cond, BitVec.toNat_ofNat, Nat.reducePow, Nat.reduceMod] at e
  omega

theorem valid_eq (j : S16x65536.Idx) : valid ix j = 1#1 := by
  unfold valid
  rw [wrapped_eq ix hr]
  refine Host.reduce_andi_one _ _ _ _ j rfl fun p => ?_
  have h := codes_lt ix hr p
  show IntOp.andi (IntOp.cmpi .sge (codes ix p) 0#32) (IntOp.cmpi .sle (codes ix p) 511#32) = 1#1
  simp only [IntOp.cmpi, andi_ofBool, ofBool_eq_one_iff, Bool.and_eq_true, BitVec.sle_eq_decide, decide_eq_true_eq, BitVec.toInt_eq_toNat_cond, BitVec.toNat_ofNat, Nat.reducePow, Nat.reduceMod]
  omega

theorem picked_apply (cb : FVec F S16x512x8 .f32) (q : S16x65536x8.Idx) :
    picked cb ix q = cb (ValueIdx.ix3 (n0 := 16) (n1 := 512) (n2 := 8) (q 0)
      ⟨(codes ix (ValueIdx.ix3 (n0 := 16) (n1 := 65536) (n2 := 1) (q 0) (q 1) 0)).toNat % 512, by omega⟩ (q 2)) := by
  unfold picked
  unfold select
  rw [broadcastInDim_apply ![0, 1] bcast_S16x65536_S16x65536x8_0_1 _ q (ValueIdx.ix2 (n0 := 16) (n1 := 65536) (q 0) (q 1)) (by exact fun b => match b with | ⟨0, _⟩ => rfl | ⟨1, _⟩ => rfl),
    valid_eq ix hr _, wrapped_eq ix hr]
  refine (if_pos rfl).trans ?_
  have hb := codes_lt ix hr (ValueIdx.ix3 (n0 := 16) (n1 := 65536) (n2 := 1) (q 0) (q 1) 0)
  unfold Host.gather
  congr 1
  funext a
  refine Fin.ext ?_
  show GatherDims.start _ q (codes ix) a + GatherDims.batchCoord _ q a + GatherDims.offCoord _ q a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    refine (dif_pos (List.mem_singleton.mpr rfl)).trans ?_
    rfl
  | ⟨1, _⟩ =>
    rw [GatherDims.batchCoord_eq_zero _ _ _ (fun h => by simp [gather_S16x512x8_S16x65536x1_S16x65536x8_2_1_0_0_1_2_118] at h),
      GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    refine Eq.trans (b := min (codes ix (ValueIdx.ix3 (n0 := 16) (n1 := 65536) (n2 := 1) (q 0) (q 1) 0)).toInt.toNat 511) ?_ ?_
    · congr 4
      funext b; refine Fin.ext ?_
      match b with
      | ⟨0, _⟩ => rfl
      | ⟨1, _⟩ => rfl
      | ⟨2, _⟩ => rfl
    · show _ = (codes ix (ValueIdx.ix3 (n0 := 16) (n1 := 65536) (n2 := 1) (q 0) (q 1) 0)).toNat % 512
      rw [BitVec.toInt_eq_toNat_cond]
      split <;> omega
  | ⟨2, _⟩ =>
    rw [GatherDims.batchCoord_eq_zero _ _ _ (fun h => by simp [gather_S16x512x8_S16x65536x1_S16x65536x8_2_1_0_0_1_2_118] at h)]
    unfold GatherDims.start GatherDims.offCoord
    refine (congrArg₂ (fun x y => x + 0 + y) (dif_neg (by decide +revert)) (dif_pos (by decide +revert))).trans ?_
    refine (Nat.zero_add _).trans ?_
    rfl

omit hr in
theorem flat_apply (z : FVec F S64x128x32x32 .f32) (p : S65536x16x8.Idx) (j : S64x128x32x32.Idx)
    (h0 : (p 0).val = ((j 0).val * 32 + (j 2).val) * 32 + (j 3).val) (h1 : (p 1).val * 8 + (p 2).val = (j 1).val) : flat z p = z j := by
  unfold flat
  rw [shapeCast_apply _ _ p (ValueIdx.ix4 (n0 := 64) (n1 := 32) (n2 := 32) (n3 := 128) (j 0) (j 2) (j 3) (j 1)) (by
    rw [Shape.rowMajor_val_four, Shape.rowMajor_val_three]
    show (((j 0).val * 32 + (j 2).val) * 32 + (j 3).val) * 128 + (j 1).val = ((p 0).val * 16 + (p 1).val) * 8 + (p 2).val
    omega)]
  exact transpose_apply _ _ _ _ j (fun b => match b with | ⟨0, _⟩ => rfl | ⟨1, _⟩ => rfl | ⟨2, _⟩ => rfl | ⟨3, _⟩ => rfl)

theorem refOut_apply (z : FVec F S64x128x32x32 .f32) (cb : FVec F S16x512x8 .f32) (j : S64x128x32x32.Idx) :
    refOut z cb ix j = FloatOps.addf (z j) (FloatOps.subf
    (cb (ValueIdx.ix3 (n0 := 16) (n1 := 512) (n2 := 8) ⟨(j 1).val / 8, by have h : (j 1).val < 128 := (j 1).isLt; omega⟩
      ⟨(ix (ValueIdx.ix4 (n0 := 64) (n1 := 32) (n2 := 32) (n3 := 16) (j 0) (j 2) (j 3) ⟨(j 1).val / 8, by have h : (j 1).val < 128 := (j 1).isLt; omega⟩)).toNat % 512, by omega⟩
      ⟨(j 1).val % 8, by omega⟩)) (z j)) := by
  have h0 : (j 0).val < 64 := (j 0).isLt
  have h1 : (j 1).val < 128 := (j 1).isLt
  have h2 : (j 2).val < 32 := (j 2).isLt
  have h3 : (j 3).val < 32 := (j 3).isLt
  unfold refOut
  rw [transpose_apply _ _ _ j (ValueIdx.ix4 (n0 := 64) (n1 := 32) (n2 := 32) (n3 := 128) (j 0) (j 2) (j 3) (j 1))
      (fun b => match b with | ⟨0, _⟩ => rfl | ⟨1, _⟩ => rfl | ⟨2, _⟩ => rfl | ⟨3, _⟩ => rfl),
    shapeCast_apply _ _ _ (ValueIdx.ix3 (n0 := 65536) (n1 := 16) (n2 := 8) ⟨((j 0).val * 32 + (j 2).val) * 32 + (j 3).val, by omega⟩ ⟨(j 1).val / 8, by omega⟩ ⟨(j 1).val % 8, by omega⟩) (by
      rw [Shape.rowMajor_val_three, Shape.rowMajor_val_four]
      show ((((j 0).val * 32 + (j 2).val) * 32 + (j 3).val) * 16 + (j 1).val / 8) * 8 + (j 1).val % 8 = (((j 0).val * 32 + (j 2).val) * 32 + (j 3).val) * 128 + (j 1).val
      omega)]
  show FloatOps.addf (flat z _) (FloatOps.subf (transpose _ _ _ _ _) (flat z _)) = _
  rw [flat_apply z _ j rfl (by show (j 1).val / 8 * 8 + (j 1).val % 8 = (j 1).val; omega),
    transpose_apply _ _ _ _ (ValueIdx.ix3 (n0 := 16) (n1 := 65536) (n2 := 8) ⟨(j 1).val / 8, by omega⟩ ⟨((j 0).val * 32 + (j 2).val) * 32 + (j 3).val, by omega⟩ ⟨(j 1).val % 8, by omega⟩)
      (fun b => match b with | ⟨0, _⟩ => rfl | ⟨1, _⟩ => rfl | ⟨2, _⟩ => rfl), picked_apply ix hr]
  refine congrArg (fun x => FloatOps.addf (z j) (FloatOps.subf (cb x) (z j))) ?_
  funext a; apply Fin.ext
  match a with
  | ⟨0, _⟩ => rfl
  | ⟨2, _⟩ => rfl
  | ⟨1, _⟩ =>
    refine congrArg (fun x : BitVec 32 => x.toNat % 512) ?_
    rw [codes_apply ix _ ((j 1).val / 8) (((j 0).val * 32 + (j 2).val) * 32 + (j 3).val) (by omega) (by omega) rfl rfl]
    refine congrArg ix ?_
    funext b; apply Fin.ext
    match b with
    | ⟨0, _⟩ => show (((j 0).val * 32 + (j 2).val) * 32 + (j 3).val) / 1024 = (j 0).val; omega
    | ⟨1, _⟩ => show (((j 0).val * 32 + (j 2).val) * 32 + (j 3).val) / 32 % 32 = (j 2).val; omega
    | ⟨2, _⟩ => show (((j 0).val * 32 + (j 2).val) * 32 + (j 3).val) % 32 = (j 3).val; omega
    | ⟨3, _⟩ => rfl

end

/-- The reference runs, its result is `refOut` of the arguments, they end unchanged, and no counter is up. -/
theorem run_main (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_v10) = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run (defs (F := F)) _ _).mono (fun r h => ⟨h, sem_eq_zero_of_no_sems (by decide) r.2⟩) (Value.run m ρ)

end Cert.ReferenceIdeal.Run

end
-- ==== Proof.ArgRun.lean ====
/-
  The distances' reference: its run, and its two results as functions of the arguments.
-/
module

public import proofs.«01_k».proof.Proof.Gen.ArgminReferenceIdeal
public import proofs.«01_k».proof.Proof.Ref
public import Idealize.ShloMosaic.Lib.Claim
public import Idealize.ShloMosaic.Lib.Quiescent

@[expose] public section

noncomputable section

namespace Cert.ArgminReferenceIdeal.Run

open Cert.ArgminReferenceIdeal Cert.ArgminReferenceIdeal.Gen
open Idealize.ShloMosaic Idealize.ShloMosaic.TcCoe Idealize.SL.Sem

variable {F : FTy → Type} [FloatOps F]

/-- The vectors by token: codebook and coordinate last. -/
def flat (z : FVec F S64x128x32x32 .f32) : FVec F S65536x16x8 .f32 :=
  shapeCast _ (transpose S64x32x32x128 [0, 2, 3, 1] z transposes_S64x128x32x32_S64x32x32x128_0_2_3_1) shapeCasts_S64x32x32x128_S65536x16x8

/-- The distance of each token's part to each code of its codebook. -/
def dists (z : FVec F S64x128x32x32 .f32) (cb : FVec F S16x512x8 .f32) : FVec F S65536x16x512 .f32 :=
  subf
    (addf
      (broadcastInDim S65536x16x512 ![0, 1, 2] bcast_S65536x16x1_S65536x16x512_0_1_2 (broadcastInDim S65536x16x1 ![0, 1] bcast_S65536x16_S65536x16x1_0_1
        (Host.reduceAdd (mulf (flat z) (flat z)) (constant S_ .f32 0x00000000#32) reducesTo_S65536x16x8_S65536x16_d2 h_S_)))
      (broadcastInDim S65536x16x512 ![0, 1, 2] bcast_S1x16x512_S65536x16x512_0_1_2 (broadcastInDim S1x16x512 ![1, 2] bcast_S16x512_S1x16x512_1_2
        (Host.reduceAdd (mulf cb cb) (constant S_ .f32 0x00000000#32) reducesTo_S16x512x8_S16x512_d2 h_S_))))
    (mulf (broadcastInDim S65536x16x512 ![] bcast_S_S65536x16x512 (constant S_ .f32 0x40000000#32))
      (transpose S65536x16x512 [2, 0, 1] (Host.dotGeneral dot_S16x512x8_S65536x16x8_S16x512x65536_2_2_1_0_0_1 none cb (flat z)) transposes_S16x512x65536_S65536x16x512_2_0_1))

/-- The nearest code of each token's part. -/
def picks (z : FVec F S64x128x32x32 .f32) (cb : FVec F S16x512x8 .f32) : IVec S65536x16 32 :=
  fun j => (Host.argReduce reducer_argmin_f32_i32 (dists z cb) (iotaInDim S65536x16x512 32 2) (constant S_ .f32 0x7F800000#32) (constantI S_ 32 0#32)
    reducesTo_S65536x16x512_S65536x16_d2 h_S_ j).2

/-- The second result: the picks in the vectors' order. -/
def refIdx (z : FVec F S64x128x32x32 .f32) (cb : FVec F S16x512x8 .f32) : IVec S64x32x32x16 32 :=
  shapeCast _ (picks z cb) shapeCasts_S65536x16_S64x32x32x16

/-- The looked-up rows less the vectors. -/
def diff (z : FVec F S64x128x32x32 .f32) (cb : FVec F S16x512x8 .f32) : FVec F S65536x16x8 .f32 :=
  subf (transpose S65536x16x8 [1, 0, 2] (Cert.ReferenceIdeal.Run.picked cb (refIdx z cb)) transposes_S16x65536x8_S65536x16x8_1_0_2) (flat z)

/-- The first result: a quarter of the mean square of those. -/
def refLoss (z : FVec F S64x128x32x32 .f32) (cb : FVec F S16x512x8 .f32) : FVec F S_ .f32 :=
  mulf (constant S_ .f32 0x3E800000#32)
    (Host.divf (Host.reduceAdd (mulf (diff z cb) (diff z cb)) (constant S_ .f32 0x00000000#32) reducesTo_S65536x16x8_S_d0_1_2 h_S_) (constant S_ .f32 0x4B000000#32))

/-- The picks as the lookup takes them are the second result's. -/
theorem codes_eq (p : IVec S65536x16 32) :
    broadcastInDim S16x65536x1 ![0, 1] bcast_S16x65536_S16x65536x1_0_1 (transpose S16x65536 [1, 0] p transposes_S65536x16_S16x65536_1_0)
      = Cert.ReferenceIdeal.Run.codes (shapeCast _ p shapeCasts_S65536x16_S64x32x32x16) := by
  have e : shapeCast S65536x16 (shapeCast S64x32x32x16 p shapeCasts_S65536x16_S64x32x32x16) Cert.ReferenceIdeal.Gen.shapeCasts_S64x32x32x16_S65536x16 = p := by
    funext j
    rw [shapeCast_apply _ _ j (S64x32x32x16.rowMajor.symm (Fin.cast shapeCasts_S65536x16_S64x32x32x16 (S65536x16.rowMajor j))) (by simp; rfl), shapeCast_apply _ _ _ j (by simp; rfl)]
  unfold Cert.ReferenceIdeal.Run.codes
  rw [e]

section

/-- The reference runs, its results are `refLoss` and `refIdx` of the arguments, they end unchanged, and no counter is up. -/
theorem run_main (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_v25) = refLoss (m ((c.tc : Thread nD τ).loc main_arg0)) (m ((c.tc : Thread nD τ).loc main_arg1))
      ∧ r.2.mem ((c.tc : Thread nD τ).loc main_v26) = refIdx (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  refine (θ_run (defs (F := F)) _ _).mono (fun r h => ⟨h, sem_eq_zero_of_no_sems (by decide) r.2⟩) ?_
  hlo_run
  · have h16 : ∀ p : IVec S65536x16 32, (StableHlo.TRef.of (T := ⟨S65536x16, .i32⟩) main_v16).toBuf (Val := Elt F) p = p := fun _ => rfl
    have h15 : ∀ p : FVec F S65536x16x512 .f32, (StableHlo.TRef.of (T := ⟨S65536x16x512, .f32⟩) main_v15).ofBuf (Val := Elt F) p = p := fun _ => rfl
    have h18 : ∀ p : IVec S16x65536x1 32, (StableHlo.TRef.of (T := ⟨S16x65536x1, .i32⟩) main_v18).ofBuf (Val := Elt F) p = p := fun _ => rfl
    have h19 : ∀ p : FVec F S16x65536x8 .f32, (StableHlo.TRef.of (T := ⟨S16x65536x8, .f32⟩) main_v19).toBuf (Val := Elt F) p = p := fun _ => rfl
    have h1 : ∀ p : FVec F S16x512x8 .f32, (StableHlo.TRef.of (T := ⟨S16x512x8, .f32⟩) main_arg1).ofBuf (Val := Elt F) p = p := fun _ => rfl
    generalize m (c.tc.loc main_arg0) = z
    generalize m (c.tc.loc main_arg1) = cb
    simp only [StableHlo.TRef.ofBuf_toBuf]
    unfold refLoss diff Cert.ReferenceIdeal.Run.picked Cert.ReferenceIdeal.Run.valid Cert.ReferenceIdeal.Run.wrapped refIdx
    rw [← codes_eq]
    rw [h19]
    rw [h1]
    rw [h16]
    simp only [h18]
    rw [h15]
    rfl
  · repeat rw [StableHlo.TRef.ofBuf_toBuf]
    generalize m (c.tc.loc main_arg0) = z
    generalize m (c.tc.loc main_arg1) = cb
    unfold refIdx
    refine congrArg (fun v : IVec S65536x16 32 => shapeCast S64x32x32x16 v shapeCasts_S65536x16_S64x32x32x16) ?_
    refine ((fun _ => rfl : ∀ p : IVec S65536x16 32, (StableHlo.TRef.of (T := ⟨S65536x16, .i32⟩) main_v16).toBuf (Val := Elt F) p = p) _).trans ?_
    unfold picks
    funext j
    congr 4

end

end Cert.ArgminReferenceIdeal.Run

end
-- ==== Proof.ArgPick.lean ====
/-
  The reference's choice of a code: the pair reduction with the least value, and of equal ones the least index, ends
  with the first place at which the distance is least.
-/
module

public import proofs.«01_k».proof.Proof.ArgRun
public import proofs.«01_k».proof.Proof.Near
public import Idealize.ShloMosaic.Lib.ValueIdx
public import Idealize.ShloMosaic.Lib.Pipeline.ValueKit
public import Idealize.ShloMosaic.PureOps.Reduce
public import Idealize.ShloMosaic.PureOps.Ideal.Laws

@[expose] public section

noncomputable section

namespace Cert.ArgminReferenceIdeal.Run

open Cert.ArgminReferenceIdeal Cert.ArgminReferenceIdeal.Gen
open Idealize.ShloMosaic Idealize.ShloMosaic.TcCoe Idealize.SL.Sem

/-- `r` stands before or at `p`: its value is less, or the same with an index no greater. -/
def Before (r p : EReal × BitVec 32) : Prop := r.1 < p.1 ∨ (r.1 = p.1 ∧ r.2.toNat ≤ p.2.toNat)

theorem Before.refl (r : EReal × BitVec 32) : Before r r := .inr ⟨rfl, le_rfl⟩

theorem Before.trans {p q r : EReal × BitVec 32} (h : Before p q) (h' : Before q r) : Before p r := by
  rcases h with h | ⟨h, hi⟩ <;> rcases h' with h' | ⟨h', hi'⟩
  · exact .inl (h.trans h')
  · exact .inl (h' ▸ h)
  · exact .inl (h ▸ h')
  · exact .inr ⟨h.trans h', hi.trans hi'⟩

theorem slt_small {a b : BitVec 32} (ha : a.toNat < 512) (hb : b.toNat < 512) : a.slt b = decide (a.toNat < b.toNat) := by
  rw [BitVec.slt_eq_decide, BitVec.toInt_eq_toNat_cond, BitVec.toInt_eq_toNat_cond]
  congr 1
  apply propext
  omega

theorem reducer_spec (a b : EReal × BitVec 32) (ha : a.2.toNat < 512) (hb : b.2.toNat < 512) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  obtain ⟨x, i⟩ := a
  obtain ⟨y, j⟩ := b
  have hs := slt_small ha hb
  dsimp only at hs
  have e : reducer_argmin_f32_i32 (F := Ideal) (x, i) (y, j)
      = if x < y then (x, i) else if x = y ∧ i.toNat < j.toNat then (x, i) else (y, j) := by
    show (Scalar.select (IntOp.ori (Ideal.cmp .olt x y) (Ideal.cmp .une x x)) x y,
      Scalar.select (IntOp.ori (IntOp.ori (Ideal.cmp .olt x y) (Ideal.cmp .une x x)) (IntOp.andi (Ideal.cmp .oeq x y) (IntOp.cmpi .slt i j))) i j) = _
    rcases lt_trichotomy x y with h | h | h
    · simp [Ideal.cmp, Scalar.select, IntOp.ori, IntOp.andi, IntOp.cmpi, h, h.ne]
    · subst h
      by_cases hij : i.toNat < j.toNat <;> simp [Ideal.cmp, Scalar.select, IntOp.ori, IntOp.andi, IntOp.cmpi, hs, hij]
    · simp [Ideal.cmp, Scalar.select, IntOp.ori, IntOp.andi, IntOp.cmpi, h.not_gt, h.ne']
  rw [e]
  split
  · rename_i h
    exact ⟨.inl rfl, .refl _, .inl h⟩
  · rename_i h
    split
    · rename_i h'
      exact ⟨.inl rfl, .refl _, .inr ⟨h'.1, h'.2.le⟩⟩
    · rename_i h'
      refine ⟨.inr rfl, ?_, .refl _⟩
      rcases lt_or_eq_of_le (not_lt.mp h) with hl | hl
      · exact .inl hl
      · exact .inr ⟨hl, not_lt.mp fun hc => h' ⟨hl.symm, hc⟩⟩

theorem fold_spec (L : List (EReal × BitVec 32)) : ∀ a : EReal × BitVec 32, a.2.toNat < 512 → (∀ p ∈ L, p.2.toNat < 512) →
    (L.foldl (reducer_argmin_f32_i32 (F := Ideal)) a = a ∨ L.foldl (reducer_argmin_f32_i32 (F := Ideal)) a ∈ L)
      ∧ Before (L.foldl (reducer_argmin_f32_i32 (F := Ideal)) a) a ∧ ∀ p ∈ L, Before (L.foldl (reducer_argmin_f32_i32 (F := Ideal)) a) p := by
  induction L with
  | nil => exact fun a _ _ => ⟨.inl rfl, .refl _, fun p hp => absurd hp (List.not_mem_nil)⟩
  | cons b L ih =>
    intro a ha hL
    have hb := hL b (List.mem_cons_self ..)
    obtain ⟨h1, h2, h3⟩ := reducer_spec a b ha hb
    have hs : (reducer_argmin_f32_i32 (F := Ideal) a b).2.toNat < 512 := by
      rcases h1 with h | h <;> rw [h] <;> assumption
    obtain ⟨g1, g2, g3⟩ := ih _ hs fun p hp => hL p (List.mem_cons_of_mem _ hp)
    rw [List.foldl_cons]
    refine ⟨?_, g2.trans h2, fun p hp => ?_⟩
    · rcases g1 with g | g
      · rcases h1 with h | h
        · exact .inl (g.trans h)
        · exact .inr (by rw [g, h]; exact List.mem_cons_self ..)
      · exact .inr (List.mem_cons_of_mem _ g)
    · rcases List.mem_cons.mp hp with h | h
      · rw [h]; exact g2.trans h3
      · exact g3 p h

variable (x : FVec Ideal S65536x16x512 .f32) (t : Fin 65536) (n : Fin 16)

/-- The value a pick is made from. -/
abbrev at3 (m : Fin 512) : EReal := x (ValueIdx.ix3 (n0 := 65536) (n1 := 16) (n2 := 512) t n m)

theorem mem_fiber (p : EReal × BitVec 32) :
    p ∈ Host.argReduceFiber x (iotaInDim S65536x16x512 32 2) reducesTo_S65536x16x512_S65536x16_d2 (ValueIdx.ix2 (n0 := 65536) (n1 := 16) t n)
      ↔ ∃ m : Fin 512, p = (at3 x t n m, BitVec.ofNat 32 m.val) := by
  unfold Host.argReduceFiber
  simp only [List.mem_map, List.mem_filter, List.mem_finRange, true_and, decide_eq_true_eq]
  constructor
  · rintro ⟨k, hk, rfl⟩
    have h0 : (S65536x16x512.rowMajor.symm k 0).val = t.val :=
      (Shape.ReducesTo.drop_apply_val_of_eq reducesTo_S65536x16x512_S65536x16_d2 (S65536x16x512.rowMajor.symm k) 0 0).symm.trans (congrArg Fin.val (congrFun hk 0))
    have h1 : (S65536x16x512.rowMajor.symm k 1).val = n.val :=
      (Shape.ReducesTo.drop_apply_val_of_eq reducesTo_S65536x16x512_S65536x16_d2 (S65536x16x512.rowMajor.symm k) 1 1).symm.trans (congrArg Fin.val (congrFun hk 1))
    have e : S65536x16x512.rowMajor.symm k = ValueIdx.ix3 (n0 := 65536) (n1 := 16) (n2 := 512) t n (S65536x16x512.rowMajor.symm k 2) := by
      funext a; apply Fin.ext
      match a with
      | ⟨0, _⟩ => exact h0
      | ⟨1, _⟩ => exact h1
      | ⟨2, _⟩ => rfl
    exact ⟨S65536x16x512.rowMajor.symm k 2, Prod.ext (congrArg x e) rfl⟩
  · rintro ⟨m, rfl⟩
    refine ⟨S65536x16x512.rowMajor (ValueIdx.ix3 (n0 := 65536) (n1 := 16) (n2 := 512) t n m), ?_, ?_⟩
    · rw [Equiv.symm_apply_apply]
      funext a; apply Fin.ext
      match a with
      | ⟨0, _⟩ => exact Shape.ReducesTo.drop_apply_val_of_eq reducesTo_S65536x16x512_S65536x16_d2 (ValueIdx.ix3 (n0 := 65536) (n1 := 16) (n2 := 512) t n m) 0 0
      | ⟨1, _⟩ => exact Shape.ReducesTo.drop_apply_val_of_eq reducesTo_S65536x16x512_S65536x16_d2 (ValueIdx.ix3 (n0 := 65536) (n1 := 16) (n2 := 512) t n m) 1 1
    · rw [Equiv.symm_apply_apply]
      rfl

/-- The pick is the first place of the least value. -/
theorem pick_spec : ∃ m : Fin 512,
    (Host.argReduce (reducer_argmin_f32_i32 (F := Ideal)) x (iotaInDim S65536x16x512 32 2) (constant S_ .f32 0x7F800000#32) (constantI S_ 32 0#32)
      reducesTo_S65536x16x512_S65536x16_d2 h_S_ (ValueIdx.ix2 (n0 := 65536) (n1 := 16) t n)).2 = BitVec.ofNat 32 m.val
      ∧ (∀ i, at3 x t n m ≤ at3 x t n i) ∧ ∀ i, i < m → at3 x t n m < at3 x t n i := by
  rw [Ideal.argReduce_eq_reduce2, Host.reduce2_eq_foldl_fiber]
  obtain ⟨h1, h2, h3⟩ := fold_spec (Host.argReduceFiber x (iotaInDim S65536x16x512 32 2) reducesTo_S65536x16x512_S65536x16_d2 (ValueIdx.ix2 (n0 := 65536) (n1 := 16) t n))
    (Ideal.ofBits .f32 0x7F800000#32, 0#32) (by decide) (by
      intro p hp
      obtain ⟨m, hm⟩ := (mem_fiber x t n p).mp hp
      rw [hm]
      show m.val % 2 ^ 32 < 512
      omega)
  have hr : ∃ m : Fin 512, List.foldl (reducer_argmin_f32_i32 (F := Ideal)) (Ideal.ofBits .f32 0x7F800000#32, 0#32)
      (Host.argReduceFiber x (iotaInDim S65536x16x512 32 2) reducesTo_S65536x16x512_S65536x16_d2 (ValueIdx.ix2 (n0 := 65536) (n1 := 16) t n))
        = (at3 x t n m, BitVec.ofNat 32 m.val) := by
    rcases h1 with h | h
    · refine ⟨0, h.trans (Prod.ext ?_ rfl)⟩
      have g := h3 _ ((mem_fiber x t n _).mpr ⟨0, rfl⟩)
      rw [h] at g
      rcases g with g | g
      · rw [Near.top] at g
        exact absurd g not_top_lt
      · exact g.1
    · exact (mem_fiber x t n _).mp h
  obtain ⟨m, hm⟩ := hr
  have hle : ∀ i : Fin 512, at3 x t n m < at3 x t n i ∨ (at3 x t n m = at3 x t n i ∧ m.val ≤ i.val) := by
    intro i
    have g := h3 _ ((mem_fiber x t n _).mpr ⟨i, rfl⟩)
    rw [hm] at g
    rcases g with g | ⟨g, g'⟩
    · exact .inl g
    · refine .inr ⟨g, ?_⟩
      have g'' : m.val % 2 ^ 32 ≤ i.val % 2 ^ 32 := g'
      omega
  refine ⟨m, congrArg Prod.snd hm, fun i => ?_, fun i hi => ?_⟩
  · rcases hle i with g | g
    · exact g.le
    · exact g.1.le
  · rcases hle i with g | g
    · exact g
    · exact absurd g.2 (not_le.mpr hi)

end Cert.ArgminReferenceIdeal.Run

end
-- ==== Proof.ArgVal.lean ====
/-
  The reference's two results read at an index: the first place of the least distance, and a quarter of the mean of the
  squares of the differences there.
-/
module

public import proofs.«01_k».proof.Proof.ArgPick
public import Idealize.ShloMosaic.Lib.Pointwise.Index
public import Idealize.ShloMosaic.Lib.IdealHost
public import Idealize.ShloMosaic.Lib.Pointwise.Contract

@[expose] public section

noncomputable section

namespace Cert.ArgminReferenceIdeal.Run

open Cert.ArgminReferenceIdeal Cert.ArgminReferenceIdeal.Gen Cert.Near
open Idealize.ShloMosaic Idealize.ShloMosaic.TcCoe Idealize.SL.Sem

variable (z : FVec Ideal S64x128x32x32 .f32) (cb : FVec Ideal S16x512x8 .f32)

/-- The image and the place of token `t`. -/
abbrev im (t : Fin 65536) : Fin 64 := ⟨t.val / 1024, by omega⟩
abbrev pl (t : Fin 65536) : Fin 1024 := ⟨t.val % 1024, by omega⟩

theorem flat_at (t : Fin 65536) (n : Fin 16) (e : Fin 8) :
    flat z (ValueIdx.ix3 (n0 := 65536) (n1 := 16) (n2 := 8) t n e) = zv z (im t) n (pl t) e := by
  refine (Cert.ReferenceIdeal.Run.flat_apply (F := Ideal) z _ _ ?_ ?_).trans rfl
  · show t.val = (t.val / 1024 * 32 + t.val % 1024 / 32) * 32 + t.val % 1024 % 32
    omega
  · show n.val * 8 + e.val = 8 * n.val + e.val
    omega

theorem square_at (t : Fin 65536) (n : Fin 16) :
    Host.reduceAdd (F := Ideal) (mulf (flat z) (flat z)) (constant S_ .f32 0x00000000#32) reducesTo_S65536x16x8_S65536x16_d2 h_S_ (ValueIdx.ix2 (n0 := 65536) (n1 := 16) t n)
      = ∑ e, zv z (im t) n (pl t) e * zv z (im t) n (pl t) e := by
  refine (Ideal.hostReduceAdd_single reducesTo_S65536x16x8_S65536x16_d2 (by decide) _ _ _).trans ?_
  refine (congrArg (fun a : EReal => a + _) Ideal.ofBits_zero_f32).trans ((zero_add _).trans ?_)
  refine Finset.sum_congr rfl fun (e : Fin 8) _ => ?_
  rw [← flat_at]
  have h : Shape.Reduces.lift (s := S65536x16x8) (a := 2) (t := S65536x16) (by decide) (ValueIdx.ix2 (n0 := 65536) (n1 := 16) t n) e = ValueIdx.ix3 (n0 := 65536) (n1 := 16) (n2 := 8) t n e :=
    funext fun a => Fin.ext (match a with | ⟨0, _⟩ => rfl | ⟨1, _⟩ => rfl | ⟨2, _⟩ => rfl)
  rw [h]
  rfl

theorem codes_square_at (n : Fin 16) (m : Fin 512) :
    Host.reduceAdd (F := Ideal) (mulf cb cb) (constant S_ .f32 0x00000000#32) reducesTo_S16x512x8_S16x512_d2 h_S_ (ValueIdx.ix2 (n0 := 16) (n1 := 512) n m)
      = ∑ e, cv cb n m e * cv cb n m e := by
  refine (Ideal.hostReduceAdd_single reducesTo_S16x512x8_S16x512_d2 (by decide) _ _ _).trans ?_
  refine (congrArg (fun a : EReal => a + _) Ideal.ofBits_zero_f32).trans ((zero_add _).trans ?_)
  refine Finset.sum_congr rfl fun (e : Fin 8) _ => ?_
  have h : Shape.Reduces.lift (s := S16x512x8) (a := 2) (t := S16x512) (by decide) (ValueIdx.ix2 (n0 := 16) (n1 := 512) n m) e = ValueIdx.ix3 (n0 := 16) (n1 := 512) (n2 := 8) n m e :=
    funext fun a => Fin.ext (match a with | ⟨0, _⟩ => rfl | ⟨1, _⟩ => rfl | ⟨2, _⟩ => rfl)
  rw [h]
  rfl

theorem product_at (t : Fin 65536) (n : Fin 16) (m : Fin 512) :
    Host.dotGeneral (F := Ideal) dot_S16x512x8_S65536x16x8_S16x512x65536_2_2_1_0_0_1 none cb (flat z) (ValueIdx.ix3 (n0 := 16) (n1 := 512) (n2 := 65536) n m t)
      = ∑ e, cv cb n m e * zv z (im t) n (pl t) e := by
  simp only [Host.dotGeneral]
  rw [Ideal.dotGeneral_def]
  refine (Ideal.matmul_apply₁_of _ (a := 2) rfl (K := 8) rfl _ _ _ _ (fun e => ValueIdx.ix3 (n0 := 16) (n1 := 512) (n2 := 8) n m e) (fun e => ValueIdx.ix3 (n0 := 65536) (n1 := 16) (n2 := 8) t n e)
    (fun e => funext fun a => match a with | ⟨0, _⟩ => rfl | ⟨1, _⟩ => rfl | ⟨2, _⟩ => rfl)
    (fun e => funext fun a => match a with | ⟨0, _⟩ => rfl | ⟨1, _⟩ => rfl | ⟨2, _⟩ => rfl)).trans ?_
  refine (zero_add _).trans (Finset.sum_congr rfl fun e _ => ?_)
  rw [flat_at]
  rfl

/-- A distance is formed of the token's part and the code. -/
theorem dists_at (t : Fin 65536) (n : Fin 16) (m : Fin 512) :
    dists z cb (ValueIdx.ix3 (n0 := 65536) (n1 := 16) (n2 := 512) t n m) = rd (zv z (im t) n (pl t)) (cv cb n m) := by
  have e1 := square_at z t n
  have e2 := codes_square_at cb n m
  have e3 := product_at z cb t n m
  unfold dists rd
  refine congrArg₂ (fun a b : EReal => a - b) (congrArg₂ (fun a b : EReal => a + b) ?_ ?_) (congrArg₂ (fun a b : EReal => a * b) ?_ ?_)
  · rw [← e1, broadcastInDim_apply ![0, 1, 2] bcast_S65536x16x1_S65536x16x512_0_1_2 _ _ (ValueIdx.ix3 (n0 := 65536) (n1 := 16) (n2 := 1) t n 0) (by exact fun b => match b with | ⟨0, _⟩ => rfl | ⟨1, _⟩ => rfl | ⟨2, _⟩ => rfl),
      broadcastInDim_apply ![0, 1] bcast_S65536x16_S65536x16x1_0_1 _ _ (ValueIdx.ix2 (n0 := 65536) (n1 := 16) t n) (by exact fun b => match b with | ⟨0, _⟩ => rfl | ⟨1, _⟩ => rfl)]
  · rw [← e2, broadcastInDim_apply ![0, 1, 2] bcast_S1x16x512_S65536x16x512_0_1_2 _ _ (ValueIdx.ix3 (n0 := 1) (n1 := 16) (n2 := 512) 0 n m) (by exact fun b => match b with | ⟨0, _⟩ => rfl | ⟨1, _⟩ => rfl | ⟨2, _⟩ => rfl),
      broadcastInDim_apply ![1, 2] bcast_S16x512_S1x16x512_1_2 _ _ (ValueIdx.ix2 (n0 := 16) (n1 := 512) n m) (by exact fun b => match b with | ⟨0, _⟩ => rfl | ⟨1, _⟩ => rfl)]
  · exact ValueIdx.broadcastInDim_scalar_apply _ _ _
  · rw [← e3]
    exact transpose_apply _ _ _ _ (ValueIdx.ix3 (n0 := 16) (n1 := 512) (n2 := 65536) n m t) (fun b => match b with | ⟨0, _⟩ => rfl | ⟨1, _⟩ => rfl | ⟨2, _⟩ => rfl)

/-- The token at place `l` of image `b`. -/
abbrev tok (b : Fin 64) (l : Fin 1024) : Fin 65536 := ⟨b.val * 1024 + l.val, by omega⟩
theorem im_tok (b : Fin 64) (l : Fin 1024) : im (tok b l) = b := Fin.ext (by show (b.val * 1024 + l.val) / 1024 = b.val; omega)
theorem pl_tok (b : Fin 64) (l : Fin 1024) : pl (tok b l) = l := Fin.ext (by show (b.val * 1024 + l.val) % 1024 = l.val; omega)

theorem picks_eq : picks z cb = fun j => (Host.argReduce reducer_argmin_f32_i32 (dists z cb) (iotaInDim S65536x16x512 32 2) (constant S_ .f32 0x7F800000#32) (constantI S_ 32 0#32)
    reducesTo_S65536x16x512_S65536x16_d2 h_S_ j).2 := rfl

attribute [local irreducible] flat dists picks refIdx diff

theorem picks_spec (b : Fin 64) (n : Fin 16) (l : Fin 1024) : ∃ m : Fin 512,
    picks z cb (ValueIdx.ix2 (n0 := 65536) (n1 := 16) (tok b l) n) = BitVec.ofNat 32 m.val
      ∧ (∀ i, rd (zv z b n l) (cv cb n m) ≤ rd (zv z b n l) (cv cb n i)) ∧ ∀ i, i < m → rd (zv z b n l) (cv cb n m) < rd (zv z b n l) (cv cb n i) := by
  obtain ⟨m, h1, h2, h3⟩ := pick_spec (dists z cb) (tok b l) n
  refine ⟨m, (congrFun (picks_eq z cb) _).trans h1, fun i => ?_, fun i hi => ?_⟩
  · have h := h2 i
    rw [at3, at3, dists_at, dists_at, im_tok, pl_tok] at h
    exact h
  · have h := h3 i hi
    rw [at3, at3, dists_at, dists_at, im_tok, pl_tok] at h
    exact h

/-- The code picked. -/
def pick (b : Fin 64) (n : Fin 16) (l : Fin 1024) : Fin 512 := Classical.choose (picks_spec z cb b n l)
theorem pick_eq (b : Fin 64) (n : Fin 16) (l : Fin 1024) :
    picks z cb (ValueIdx.ix2 (n0 := 65536) (n1 := 16) (tok b l) n) = BitVec.ofNat 32 (pick z cb b n l).val := (Classical.choose_spec (picks_spec z cb b n l)).1
theorem pick_least (b : Fin 64) (n : Fin 16) (l : Fin 1024) : (∀ i, rd (zv z b n l) (cv cb n (pick z cb b n l)) ≤ rd (zv z b n l) (cv cb n i))
    ∧ ∀ i, i < pick z cb b n l → rd (zv z b n l) (cv cb n (pick z cb b n l)) < rd (zv z b n l) (cv cb n i) := (Classical.choose_spec (picks_spec z cb b n l)).2

attribute [local irreducible] pick

/-- The second result. -/
theorem refIdx_at (b : Fin 64) (h w : Fin 32) (n : Fin 16) :
    refIdx z cb (ValueIdx.ix4 (n0 := 64) (n1 := 32) (n2 := 32) (n3 := 16) b h w n) = BitVec.ofNat 32 (pick z cb b n ⟨h.val * 32 + w.val, by omega⟩).val := by
  unfold refIdx
  refine (shapeCast_apply _ _ _ (ValueIdx.ix2 (n0 := 65536) (n1 := 16) (tok b ⟨h.val * 32 + w.val, by omega⟩) n) ?_).trans (pick_eq ..)
  rw [Shape.rowMajor_val_two, Shape.rowMajor_val_four]
  show (b.val * 1024 + (h.val * 32 + w.val)) * 16 + n.val = ((b.val * 32 + h.val) * 32 + w.val) * 16 + n.val
  omega

theorem refIdx_lt (j : S64x32x32x16.Idx) : (refIdx z cb j).toNat < 512 := by
  have e : j = ValueIdx.ix4 (n0 := 64) (n1 := 32) (n2 := 32) (n3 := 16) (j 0) (j 1) (j 2) (j 3) :=
    funext fun a => match a with | ⟨0, _⟩ => rfl | ⟨1, _⟩ => rfl | ⟨2, _⟩ => rfl | ⟨3, _⟩ => rfl
  rw [e]
  refine (congrArg BitVec.toNat (refIdx_at z cb (j 0) (j 1) (j 2) (j 3))).trans_lt ?_
  rw [BitVec.toNat_ofNat]
  omega

theorem diff_at (b : Fin 64) (l : Fin 1024) (n : Fin 16) (e : Fin 8) :
    diff z cb (ValueIdx.ix3 (n0 := 65536) (n1 := 16) (n2 := 8) (tok b l) n e) = cv cb n (pick z cb b n l) e - zv z b n l e := by
  have ef : flat z (ValueIdx.ix3 (n0 := 65536) (n1 := 16) (n2 := 8) (tok b l) n e) = zv z b n l e := by rw [flat_at, im_tok, pl_tok]
  unfold diff
  have hs : ∀ (x y : FVec Ideal S65536x16x8 .f32) (j : S65536x16x8.Idx), subf x y j = ((x j : EReal) - y j : EReal) := fun _ _ _ => rfl
  rw [hs, ef]
  refine congrArg (fun a : EReal => a - zv z b n l e) ?_
  rw [transpose_apply _ _ _ _ (ValueIdx.ix3 (n0 := 16) (n1 := 65536) (n2 := 8) n (tok b l) e) (fun b => match b with | ⟨0, _⟩ => rfl | ⟨1, _⟩ => rfl | ⟨2, _⟩ => rfl),
    Cert.ReferenceIdeal.Run.picked_apply _ (refIdx_lt z cb)]
  unfold cv
  refine congrArg cb (funext fun a => Fin.ext ?_)
  match a with
  | ⟨0, _⟩ => rfl
  | ⟨2, _⟩ => rfl
  | ⟨1, _⟩ =>
    refine (congrArg (fun x : BitVec 32 => x.toNat % 512) ((Cert.ReferenceIdeal.Run.codes_apply (refIdx z cb) _ n.val (b.val * 1024 + l.val) n.isLt (by omega) rfl rfl).trans (refIdx_at ..))).trans ?_
    have e1 : (⟨(b.val * 1024 + l.val) / 1024, by omega⟩ : Fin 64) = b := Fin.ext (by show (b.val * 1024 + l.val) / 1024 = b.val; omega)
    have e2 : (⟨(b.val * 1024 + l.val) / 32 % 32 * 32 + (b.val * 1024 + l.val) % 32, by omega⟩ : Fin 1024) = l :=
      Fin.ext (by show (b.val * 1024 + l.val) / 32 % 32 * 32 + (b.val * 1024 + l.val) % 32 = l.val; omega)
    show (BitVec.ofNat 32 (pick z cb ⟨(b.val * 1024 + l.val) / 1024, _⟩ n ⟨(b.val * 1024 + l.val) / 32 % 32 * 32 + (b.val * 1024 + l.val) % 32, _⟩).val).toNat % 512 = (pick z cb b n l).val
    rw [e1, e2, BitVec.toNat_ofNat]
    omega

/-- A sum over the tokens is one over the images and their places. -/
theorem sum_tok (f : Fin 65536 → EReal) : ∑ t, f t = ∑ b : Fin 64, ∑ l : Fin 1024, f (tok b l) := by
  rw [← Fintype.sum_prod_type' (f := fun (b : Fin 64) (l : Fin 1024) => f (tok b l))]
  refine (Fintype.sum_equiv ⟨fun p : Fin 64 × Fin 1024 => tok p.1 p.2, fun t => (im t, pl t), fun p => Prod.ext (im_tok ..) (pl_tok ..), fun t => Fin.ext ?_⟩ _ _ fun p => rfl).symm
  show t.val / 1024 * 1024 + t.val % 1024 = t.val
  omega

/-- The first result. -/
theorem refLoss_at (y : S_.Idx) : refLoss z cb y = Ideal.ofBits .f32 0x3E800000#32
    * Ideal.div (∑ b : Fin 64, ∑ l : Fin 1024, ∑ n : Fin 16, sd (zv z b n l) (cv cb n (pick z cb b n l))) (Ideal.ofBits .f32 0x4B000000#32) := by
  unfold refLoss
  have hm : ∀ x : FVec Ideal S_ .f32, mulf (constant S_ .f32 0x3E800000#32) (Host.divf x (constant S_ .f32 0x4B000000#32)) y
      = (Ideal.ofBits .f32 0x3E800000#32 * Ideal.div (x y) (Ideal.ofBits .f32 0x4B000000#32) : EReal) := fun _ => rfl
  have hq : ∀ (x : FVec Ideal S65536x16x8 .f32) (j : S65536x16x8.Idx), mulf x x j = (x j * x j : EReal) := fun _ _ => rfl
  rw [hm]
  refine congrArg (fun a : EReal => Ideal.ofBits .f32 0x3E800000#32 * a) (congrArg (fun a : EReal => Ideal.div a (Ideal.ofBits .f32 0x4B000000#32)) ?_)
  refine (Ideal.hostReduceAdd_total reducesTo_S65536x16x8_S_d0_1_2 (fun b => b.elim0) _ _ _).trans ?_
  refine (congrArg (fun a : EReal => a + _) Ideal.ofBits_zero_f32).trans ((zero_add _).trans ?_)
  refine (sum_idx3 _).trans ((sum_tok _).trans ?_)
  refine Finset.sum_congr rfl fun b _ => Finset.sum_congr rfl fun l _ => Finset.sum_congr rfl fun n _ => Finset.sum_congr rfl fun e _ => ?_
  exact (hq _ _).trans (congrArg (fun a : EReal => a * a) (diff_at z cb b l n e))

end Cert.ArgminReferenceIdeal.Run

end
-- ==== Proof.Agree.lean ====
/-
  The program of the two calls and its reference give the same two results of finite arguments: the distances are the
  same numbers, so the first least one is at the same place, and the distance there is the sum of the squared differences.
-/
module

public import proofs.«01_k».proof.Pre_finite
public import proofs.«01_k».proof.Proof.ArgLaunch
public import proofs.«01_k».proof.Proof.ArgOut
public import proofs.«01_k».proof.Proof.ArgVal
public import Idealize.ShloMosaic.Lib.ReduceAll

@[expose] public section

noncomputable section

namespace Cert.Agree

open Cert.Near Cert.ArgminIdeal.Row
open Idealize.ShloMosaic Idealize.ShloMosaic.TcCoe Idealize.SL.Sem

/-- The precondition's side conditions. -/
instance preFacts : Cert.Pre_finite.Facts where
  bcast_S_S64x128x32x32 := by decide
  reducesTo_S64x128x32x32_S_d0_1_2_3 := by decide
  h_S_ := by decide
  bcast_S_S16x512x8 := by decide
  reducesTo_S16x512x8_S_d0_1_2 := by decide

variable (z : FVec Ideal Cert.Pre_finite.S64x128x32x32 .f32) (cb : FVec Ideal Cert.Pre_finite.S16x512x8 .f32)

theorem and_one (a b : BitVec 1) (h : IntOp.andi a b = 1#1) : a = 1#1 ∧ b = 1#1 := by
  revert a b; decide

theorem lt_top (x : EReal) (h : Ideal.cmp .olt (max x (-x)) (Ideal.ofBits .f32 0x7F800000#32) = 1#1) : max x (-x) < ⊤ := by
  rw [top] at h
  exact (cmp_olt _ _).mp h

/-- The precondition, all ones, says that every number is finite. -/
theorem finite_of_pre (h : Cert.Pre_finite.fn z cb = fun _ => 1#1) : (∀ j, max (z j) (-(z j)) < (⊤ : EReal)) ∧ ∀ j, max (cb j) (-(cb j)) < (⊤ : EReal) := by
  have : Subsingleton Cert.Pre_finite.S_.Idx := ⟨fun a b => funext fun i => i.elim0⟩
  obtain ⟨h1, h2⟩ := and_one _ _ (congrFun h (fun i => i.elim0))
  exact ⟨fun j => lt_top _ (Host.reduce_andi_all _ _ _ _ _ h1 j), fun j => lt_top _ (Host.reduce_andi_all _ _ _ _ _ h2 j)⟩

variable (hz : ∀ j, max (z j) (-(z j)) < (⊤ : EReal)) (hcb : ∀ j, max (cb j) (-(cb j)) < (⊤ : EReal))
include hz hcb

theorem near_rd (b : Fin 64) (n : Fin 16) (l : Fin 1024) (k : Fin 512) : near z cb b n l k = rd (zv z b n l) (cv cb n k) :=
  kd_eq_rd (fun _ => hz _) fun _ => hcb _

/-- The two pick the same code. -/
theorem first_pick (b : Fin 64) (n : Fin 16) (l : Fin 1024) : first (near z cb b n l) = Cert.ArgminReferenceIdeal.Run.pick z cb b n l := by
  obtain ⟨h1, h2⟩ := Cert.ArgminReferenceIdeal.Run.pick_least z cb b n l
  refine (first_eq ⟨fun i => ?_, fun i hi => ?_⟩).symm
  · rw [near_rd z cb hz hcb, near_rd z cb hz hcb]
    exact h1 i
  · rw [near_rd z cb hz hcb, near_rd z cb hz hcb]
    exact h2 i hi

theorem near_first (b : Fin 64) (n : Fin 16) (l : Fin 1024) :
    near z cb b n l (first (near z cb b n l)) = sd (zv z b n l) (cv cb n (Cert.ArgminReferenceIdeal.Run.pick z cb b n l)) := by
  rw [first_pick z cb hz hcb]
  exact kd_eq_sd (fun _ => hz _) fun _ => hcb _

omit hz hcb in
/-- A quarter is taken before or after the division. -/
theorem quarter (a s : EReal) : Ideal.div (a * s) (Ideal.ofBits .f32 0x4B000000#32) = a * Ideal.div s (Ideal.ofBits .f32 0x4B000000#32) := by
  have h : Ideal.ofBits .f32 0x4B000000#32 ≠ 0 := by
    rw [large]
    exact_mod_cast (by norm_num : (8388608 : ℝ) ≠ 0)
  unfold Ideal.div
  rw [if_neg h, if_neg h, mul_assoc]

variable (m : (ℓ : Loc Cert.ArgminIdeal.nD Cert.ArgminIdeal.τ Cert.ArgminIdeal.sig) → Buf (Elt Ideal) ℓ) (ρ : Dev Cert.ArgminIdeal.nD → PrngReg) (c : Dev Cert.ArgminIdeal.nD)
  (h0 : m ((c.tc : Thread Cert.ArgminIdeal.nD Cert.ArgminIdeal.τ).loc Cert.ArgminIdeal.main_arg0) = z)
  (h1 : m ((c.tc : Thread Cert.ArgminIdeal.nD Cert.ArgminIdeal.τ).loc Cert.ArgminIdeal.main_arg1) = cb)
include h0 h1

/-- The indices are the reference's. -/
theorem indices_eq : Cert.ArgminIdeal.Gen.W5 m ρ c (Proc.devRef .tc Cert.ArgminIdeal.main_v15) = Cert.ArgminReferenceIdeal.Run.refIdx (F := Ideal) z cb := by
  refine funext fun (j : Cert.ArgminIdeal.S64x32x32x16.Idx) => ?_
  have e : j = ValueIdx.ix4 (n0 := 64) (n1 := 32) (n2 := 32) (n3 := 16) (j 0) (j 1) (j 2) (j 3) :=
    funext fun a => match a with | ⟨0, _⟩ => rfl | ⟨1, _⟩ => rfl | ⟨2, _⟩ => rfl | ⟨3, _⟩ => rfl
  rw [e]
  refine (out15_at m ρ c (j 0) (j 1) (j 2) (j 3)).trans (Eq.trans ?_ (Cert.ArgminReferenceIdeal.Run.refIdx_at z cb (j 0) (j 1) (j 2) (j 3)).symm)
  rw [h0, h1]
  exact congrArg (fun k : Fin 512 => BitVec.ofNat 32 k.val) (first_pick z cb hz hcb ..)

/-- The loss is the reference's. -/
theorem loss_eq : Cert.ArgminIdeal.Gen.W5 m ρ c (Proc.devRef .tc Cert.ArgminIdeal.main_v18) = Cert.ArgminReferenceIdeal.Run.refLoss (F := Ideal) z cb := by
  refine funext fun (y : Cert.ArgminIdeal.S_.Idx) => ?_
  refine (out18_at m ρ c y).trans (Eq.trans ?_ (Cert.ArgminReferenceIdeal.Run.refLoss_at z cb y).symm)
  rw [h0, h1, quarter]
  refine congrArg (fun s : EReal => Ideal.ofBits .f32 0x3E800000#32 * Ideal.div s (Ideal.ofBits .f32 0x4B000000#32)) ?_
  exact Finset.sum_congr rfl fun b _ => Finset.sum_congr rfl fun l _ => Finset.sum_congr rfl fun n _ => near_first z cb hz hcb b n l

end Cert.Agree

end
-- ==== Proof.TileEq.lean ====
module

public import proofs.«01_k».proof.Proof.Tile

@[expose] public section
noncomputable section
namespace Cert.Kernel.Tile
open Cert.Kernel Cert.Kernel.Gen
open Idealize.ShloMosaic
open Idealize.SL Idealize.SL.Sem
variable {F : FTy → Type} [FloatOps F]

set_option maxHeartbeats 4000000
set_option maxRecDepth 100000
theorem cc0_eq (i : grid0.Coords) (arg2 : Memref sig .scVector .hbm S65536 .f32) (harg2 : arg2.IsWhole) (arg3 : Memref sig .scVector .hbm S524288 .i32) (harg3 : arg3.IsWhole) (arg4 : Memref sig .scVector .hbm S4194304 .f32) (harg4 : arg4.IsWhole) (arg5 : Memref sig .scVector .vmem S65536 .f32) (harg5 : arg5.IsWhole) (arg6 : Memref sig .scVector .vmem S4096 .i32) (harg6 : arg6.IsWhole) (arg7 : Memref sig .scVector .vmem S32768 .f32) (harg7 : arg7.IsWhole) (arg8 r0 r1 r2 : DmaSems sig S_) :
    cc0__sc_gather_body (F := F) i arg2 harg2 arg3 harg3 arg4 harg4 arg5 harg5 arg6 harg6 arg7 harg7 arg8 r0 r1 r2 = task i arg2 harg2 arg3 arg4 arg5 harg5 arg6 harg6 arg7 harg7 r0 r1 r2 := rfl

theorem cc2_eq (i : grid2.Coords) (arg2 : Memref sig .scVector .hbm S65536 .f32) (harg2 : arg2.IsWhole) (arg3 : Memref sig .scVector .hbm S524288 .i32) (harg3 : arg3.IsWhole) (arg4 : Memref sig .scVector .hbm S4194304 .f32) (harg4 : arg4.IsWhole) (arg5 : Memref sig .scVector .vmem S65536 .f32) (harg5 : arg5.IsWhole) (arg6 : Memref sig .scVector .vmem S4096 .i32) (harg6 : arg6.IsWhole) (arg7 : Memref sig .scVector .vmem S32768 .f32) (harg7 : arg7.IsWhole) (arg8 r0 r1 r2 : DmaSems sig S_) :
    cc2__sc_gather_body (F := F) i arg2 harg2 arg3 harg3 arg4 harg4 arg5 harg5 arg6 harg6 arg7 harg7 arg8 r0 r1 r2 = task i arg2 harg2 arg3 arg4 arg5 harg5 arg6 harg6 arg7 harg7 r0 r1 r2 := rfl
end Cert.Kernel.Tile
end
-- ==== Proof.Ideal.Tile.lean ====
/-
  The gather task of one vector subcore, written once: the printed task bodies of both SparseCore calls
  unroll sixteen tokens of eight table reads and eight stores each; here a token and a read-and-store pair are
  definitions, and both printed bodies are this program.
-/
module

public import proofs.«01_k».proof.Proof.Gen.KernelIdeal
public import Idealize.ShloMosaic.Lib.SparseCore.Ops

@[expose] public section

noncomputable section

namespace Cert.KernelIdeal.Tile

open Cert.KernelIdeal Cert.KernelIdeal.Gen
open Idealize.ShloMosaic
open Idealize.SL Idealize.SL.Sem

variable {F : FTy → Type} [FloatOps F]

/-- The programs of the vector subcore `(c, s)`. -/
abbrev TP (F : FTy → Type) [FloatOps F] (c : Fin τ.nSC) (s : Fin τ.nSub) (α : Type) := Prog (TpuEff nD τ sig (Elt F) Λ₀ (.scVector c s)) α

/-- Every lane of `v` names an element of the table. -/
def InTbl (v : IVec S16 32) : Prop := ∀ a x, ((![v] : Fin 1 → IVec S16 32) a x).toNat < S65536.size a
def InTbl.dec (v : IVec S16 32) : Decidable (InTbl v) := decidable_of_iff' _ (Iff.of_eq (InTbl.eq_1 v))
/-- Every lane of `v` names an element of the rows' buffer. -/
def InRows (v : IVec S16 32) : Prop := ∀ a x, ((![v] : Fin 1 → IVec S16 32) a x).toNat < S32768.size a
def InRows.dec (v : IVec S16 32) : Decidable (InRows v) := decidable_of_iff' _ (Iff.of_eq (InRows.eq_1 v))

variable {c : Fin τ.nSC} {s : Fin τ.nSub}

/-- Feature `d` of a token's sixteen subvectors: read the table at `va + d`, store into the rows at `vb + d`. -/
def pair (tbl : Memref sig .scVector .vmem S65536 .f32) (rows : Memref sig .scVector .vmem S32768 .f32) (va vb : IVec S16 32)
    (d : BitVec 32) (k : TP F c s PUnit) : TP F c s PUnit :=
  .op (.assume (InTbl (addi va (broadcast S16 d))) (InTbl.dec _)) fun h =>
  SparseCore.vectorLoadIdx tbl ![addi va (broadcast S16 d)] h.down (View.loads_vmem h_S65536) >>= fun x =>
  .op (.assume (InRows (addi vb (broadcast S16 d))) (InRows.dec _)) fun h' =>
  SparseCore.vectorStoreIdx rows ![addi vb (broadcast S16 d)] x (fun _ => 1#1) false h'.down (View.stores_vmem_bits_univ h_S32768 rfl) >>= fun _ =>
  k

/-- Token `u` of the sixteen of pass `t`: its position in the chunk, as the kernel computes it. -/
def tokPos (t : BitVec 32) (u : BitVec 32) : BitVec 32 := Scalar.addi (Scalar.muli t 16#32) u
/-- Where its sixteen indices start in the chunk's index buffer. -/
def tokOff (t : BitVec 32) (u : BitVec 32) : Fin 1 → Nat := ![(Scalar.indexCast (Scalar.muli (tokPos t u) 16#32) : Index).toNat]

/-- One token: its sixteen indices loaded, then its eight features. -/
def tok (tbl : Memref sig .scVector .vmem S65536 .f32) (gix : Memref sig .scVector .vmem S4096 .i32)
    (rows : Memref sig .scVector .vmem S32768 .f32) (v2 : IVec S16 32) (t u : BitVec 32)
    (inb : ∀ a, tokOff t u a + S16.size a ≤ S4096.size a) (k : TP F c s PUnit) : TP F c s PUnit :=
  .op (.load gix (Rect.unit (s := S4096) (tokOff t u) S16.size inb).toLoadRect (View.loadsAt_vmem h_S16)) fun (g : Vec F S16 .i32) =>
  let va : IVec S16 32 := shli g (broadcast S16 3#32)
  let vb : IVec S16 32 := addi (broadcast S16 (Scalar.muli (tokPos t u) 128#32)) (muli v2 (broadcast S16 8#32))
  pair tbl rows va vb 0#32 <| pair tbl rows va vb 1#32 <| pair tbl rows va vb 2#32 <| pair tbl rows va vb 3#32 <|
  pair tbl rows va vb 4#32 <| pair tbl rows va vb 5#32 <| pair tbl rows va vb 6#32 <| pair tbl rows va vb 7#32 k

/-- The task of the tile at grid point `i`: the table fetched whole, then four chunks, each its indices fetched, its 256 tokens
    gathered, its rows written out. -/
def task (i : grid0.Coords) (arg2 : Memref sig .scVector .hbm S65536 .f32) (harg2 : arg2.IsWhole) (arg3 : Memref sig .scVector .hbm S524288 .i32)
    (arg4 : Memref sig .scVector .hbm S4194304 .f32) (arg5 : Memref sig .scVector .vmem S65536 .f32) (harg5 : arg5.IsWhole)
    (arg6 : Memref sig .scVector .vmem S4096 .i32) (harg6 : arg6.IsWhole) (arg7 : Memref sig .scVector .vmem S32768 .f32) (harg7 : arg7.IsWhole)
    (r0 r1 r2 : DmaSems sig S_) : TP F ((i 0).castLE hcore0) ((i 1).castLE hsub0) PUnit := do
  Prog.lift (.enqueueDma arg2 (.here arg5) (.dma r0.sem) harg2.wordExact harg5.wordExact ⟨Or.inl rfl, trivial⟩)
  Prog.lift (.waitDma2 r0.sem arg2 arg5 harg2.wordExact harg5.wordExact)
  have v2 : IVec S16 32 := iota .scVector S16 32 [0] iota_S16_d0_w32_scVector
  Scf.Loop.for k0_t1_loop k0_t1_ok ⟨⟩ fun t1 _ => do
    Prog.lift (.enqueueDma (arg3.slice (Rect.unit (s := S524288) (k0_off1 i t1) S4096.size (k0_off1_inb i t1)) (fun _ => rfl)) (.here arg6) (.dma r1.sem) (View.wordExact_bits rfl) harg6.wordExact ⟨Or.inl rfl, trivial⟩)
    Prog.lift (.waitDma2 r1.sem (arg3.slice (Rect.unit (s := S524288) (k0_off1 i t1) S4096.size (k0_off1_inb i t1)) (fun _ => rfl)) arg6 (View.wordExact_bits rfl) harg6.wordExact)
    Scf.Loop.for k0_t2_loop k0_t2_ok ⟨⟩ fun t2 _ =>
      tok arg5 arg6 arg7 v2 (Scf.iv 0#32 1#32 t2) 0#32 (k0_off2_inb t2) <|
      tok arg5 arg6 arg7 v2 (Scf.iv 0#32 1#32 t2) 1#32 (k0_off3_inb t2) <|
      tok arg5 arg6 arg7 v2 (Scf.iv 0#32 1#32 t2) 2#32 (k0_off4_inb t2) <|
      tok arg5 arg6 arg7 v2 (Scf.iv 0#32 1#32 t2) 3#32 (k0_off5_inb t2) <|
      tok arg5 arg6 arg7 v2 (Scf.iv 0#32 1#32 t2) 4#32 (k0_off6_inb t2) <|
      tok arg5 arg6 arg7 v2 (Scf.iv 0#32 1#32 t2) 5#32 (k0_off7_inb t2) <|
      tok arg5 arg6 arg7 v2 (Scf.iv 0#32 1#32 t2) 6#32 (k0_off8_inb t2) <|
      tok arg5 arg6 arg7 v2 (Scf.iv 0#32 1#32 t2) 7#32 (k0_off9_inb t2) <|
      tok arg5 arg6 arg7 v2 (Scf.iv 0#32 1#32 t2) 8#32 (k0_off10_inb t2) <|
      tok arg5 arg6 arg7 v2 (Scf.iv 0#32 1#32 t2) 9#32 (k0_off11_inb t2) <|
      tok arg5 arg6 arg7 v2 (Scf.iv 0#32 1#32 t2) 10#32 (k0_off12_inb t2) <|
      tok arg5 arg6 arg7 v2 (Scf.iv 0#32 1#32 t2) 11#32 (k0_off13_inb t2) <|
      tok arg5 arg6 arg7 v2 (Scf.iv 0#32 1#32 t2) 12#32 (k0_off14_inb t2) <|
      tok arg5 arg6 arg7 v2 (Scf.iv 0#32 1#32 t2) 13#32 (k0_off15_inb t2) <|
      tok arg5 arg6 arg7 v2 (Scf.iv 0#32 1#32 t2) 14#32 (k0_off16_inb t2) <|
      tok arg5 arg6 arg7 v2 (Scf.iv 0#32 1#32 t2) 15#32 (k0_off17_inb t2) <|
      .ret ⟨⟩
    Prog.lift (.enqueueDma arg7 (.here (arg4.slice (Rect.unit (s := S4194304) (k0_off18 i t1) S32768.size (k0_off18_inb i t1)) (fun _ => rfl))) (.dma r2.sem) harg7.wordExact (View.wordExact_bits rfl) ⟨Or.inl rfl, trivial⟩)
    Prog.lift (.waitDma2 r2.sem arg7 (arg4.slice (Rect.unit (s := S4194304) (k0_off18 i t1) S32768.size (k0_off18_inb i t1)) (fun _ => rfl)) harg7.wordExact (View.wordExact_bits rfl))
    pure ⟨⟩
  pure ⟨⟩

end Cert.KernelIdeal.Tile

end
-- ==== Proof.Ideal.TileEq.lean ====
module

public import proofs.«01_k».proof.Proof.Ideal.Tile

@[expose] public section
noncomputable section
namespace Cert.KernelIdeal.Tile
open Cert.KernelIdeal Cert.KernelIdeal.Gen
open Idealize.ShloMosaic
open Idealize.SL Idealize.SL.Sem
variable {F : FTy → Type} [FloatOps F]

set_option maxHeartbeats 4000000
set_option maxRecDepth 100000
theorem cc0_eq (i : grid0.Coords) (arg2 : Memref sig .scVector .hbm S65536 .f32) (harg2 : arg2.IsWhole) (arg3 : Memref sig .scVector .hbm S524288 .i32) (harg3 : arg3.IsWhole) (arg4 : Memref sig .scVector .hbm S4194304 .f32) (harg4 : arg4.IsWhole) (arg5 : Memref sig .scVector .vmem S65536 .f32) (harg5 : arg5.IsWhole) (arg6 : Memref sig .scVector .vmem S4096 .i32) (harg6 : arg6.IsWhole) (arg7 : Memref sig .scVector .vmem S32768 .f32) (harg7 : arg7.IsWhole) (arg8 r0 r1 r2 : DmaSems sig S_) :
    cc0__sc_gather_body (F := F) i arg2 harg2 arg3 harg3 arg4 harg4 arg5 harg5 arg6 harg6 arg7 harg7 arg8 r0 r1 r2 = task i arg2 harg2 arg3 arg4 arg5 harg5 arg6 harg6 arg7 harg7 r0 r1 r2 := rfl

theorem cc2_eq (i : grid2.Coords) (arg2 : Memref sig .scVector .hbm S65536 .f32) (harg2 : arg2.IsWhole) (arg3 : Memref sig .scVector .hbm S524288 .i32) (harg3 : arg3.IsWhole) (arg4 : Memref sig .scVector .hbm S4194304 .f32) (harg4 : arg4.IsWhole) (arg5 : Memref sig .scVector .vmem S65536 .f32) (harg5 : arg5.IsWhole) (arg6 : Memref sig .scVector .vmem S4096 .i32) (harg6 : arg6.IsWhole) (arg7 : Memref sig .scVector .vmem S32768 .f32) (harg7 : arg7.IsWhole) (arg8 r0 r1 r2 : DmaSems sig S_) :
    cc2__sc_gather_body (F := F) i arg2 harg2 arg3 harg3 arg4 harg4 arg5 harg5 arg6 harg6 arg7 harg7 arg8 r0 r1 r2 = task i arg2 harg2 arg3 arg4 arg5 harg5 arg6 harg6 arg7 harg7 r0 r1 r2 := rfl
end Cert.KernelIdeal.Tile
end
-- ==== Proof.Ideal.TileVal.lean ====
/-
  What one read-and-store pair of the gather task does to the rows: the scatter's closed reading, and the
  invariant on the rows' buffer that the pairs of a chunk carry forward.
-/
module

public import proofs.«01_k».proof.Proof.Ideal.Tile

@[expose] public section

noncomputable section

namespace Cert.KernelIdeal.Tile

open Cert.KernelIdeal Cert.KernelIdeal.Gen
open Idealize.ShloMosaic

variable {F : FTy → Type} [FloatOps F]

theorem foldl_put {A B N : Type} [DecidableEq A] (idx : N → A) (v : N → B) (f : A → B) (l : List N) (j : A) :
    (∃ k ∈ l, idx k = j ∧ l.foldl (fun g k => fun j => if j = idx k then v k else g j) f j = v k)
      ∨ ((∀ k ∈ l, idx k ≠ j) ∧ l.foldl (fun g k => fun j => if j = idx k then v k else g j) f j = f j) := by
  induction l using List.reverseRecOn with
  | nil => exact .inr ⟨fun _ h => absurd h List.not_mem_nil, rfl⟩
  | append_singleton l a ih =>
    rw [List.foldl_append]
    by_cases h : j = idx a
    · exact .inl ⟨a, by simp, h.symm, by simp [h]⟩
    · rcases ih with ⟨k, hk, hi, he⟩ | ⟨hn, he⟩
      · exact .inl ⟨k, by simp [hk], hi, by simpa [h] using he⟩
      · refine .inr ⟨fun k hk => ?_, by simpa [h] using he⟩
        rcases List.mem_append.mp hk with hk | hk
        · exact hn k hk
        · rw [List.mem_singleton.mp hk]; exact fun e => h e.symm

/-- A whole-mask scatter at `j`: the value of a lane that names `j`, else what was there. -/
theorem storeIdx_cases {s : Shape} {e : EltTy} {n : Fin 1 → Nat} (f : Vec F s e) (idxs : Fin s.rank → IVec ⟨1, n⟩ 32) (v : Vec F ⟨1, n⟩ e)
    (h : ∀ a x, (idxs a x).toNat < s.size a) (j : s.Idx) :
    (∃ x : (⟨1, n⟩ : Shape).Idx, idxAt idxs h x = j ∧ storeIdx f idxs v (fun _ => 1#1) false h j = v x)
      ∨ ((∀ x : (⟨1, n⟩ : Shape).Idx, idxAt idxs h x ≠ j) ∧ storeIdx f idxs v (fun _ => 1#1) false h j = f j) := by
  have e : storeIdx f idxs v (fun _ => 1#1) false h
      = (List.finRange (n 0)).foldl (fun g k => fun j => if j = idxAt idxs h (Shape.ofLane k) then v (Shape.ofLane k) else g j) f := by
    unfold storeIdx
    congr 1
    funext g k j
    simp only [if_true, Bool.false_eq_true, if_false]
    congr 1
    exact propext ⟨fun h => funext fun a => Fin.ext (h a), fun h a => by rw [h]⟩
  have hl : ∀ x : (⟨1, n⟩ : Shape).Idx, ∃ k : Fin (n 0), x = Shape.ofLane k := fun x =>
    ⟨x 0, funext fun a => by rw [Fin.eq_zero a]; rfl⟩
  rw [e]
  rcases foldl_put (fun k => idxAt idxs h (Shape.ofLane k)) (fun k => v (Shape.ofLane k)) f (List.finRange (n 0)) j with ⟨k, -, hi, he⟩ | ⟨hn, he⟩
  · exact .inl ⟨_, hi, he⟩
  · refine .inr ⟨fun x => ?_, he⟩
    obtain ⟨k, rfl⟩ := hl x
    exact hn k (List.mem_finRange k)

/-- The rows' buffer `R` of a chunk with indices `G`, gathered from the table `T`, is right at every token before `tk` and,
    at token `tk`, at every feature before `d`. -/
def Good (T : S65536.Idx → Elt F .f32) (G : S4096.Idx → BitVec 32) (tk d : Nat) (R : S32768.Idx → Elt F .f32) : Prop :=
  ∀ (p : S32768.Idx) (g : S4096.Idx) (y : S65536.Idx), (g 0).val = (p 0).val / 8 → (y 0).val = (G g).toNat * 8 + (p 0).val % 8 →
    ((p 0).val / 128 < tk ∨ (p 0).val / 128 = tk ∧ (p 0).val % 8 < d) → R p = T y

theorem Good.zero (T : S65536.Idx → Elt F .f32) (G : S4096.Idx → BitVec 32) (R : S32768.Idx → Elt F .f32) : Good T G 0 0 R :=
  fun _ _ _ _ _ h => by omega

theorem Good.next {T : S65536.Idx → Elt F .f32} {G : S4096.Idx → BitVec 32} {tk : Nat} {R : S32768.Idx → Elt F .f32} (h : Good T G tk 8 R) :
    Good T G (tk + 1) 0 R :=
  fun p g y hg hy hd => h p g y hg hy (by have := Nat.mod_lt (p 0).val (show 0 < 8 by decide); omega)

/-- The table addresses and the row addresses of token `tk`'s sixteen lanes. -/
def AddrT (G : S4096.Idx → BitVec 32) (tk : Nat) (va : IVec S16 32) : Prop :=
  ∀ (x : S16.Idx) (g : S4096.Idx), (g 0).val = tk * 16 + (x 0).val → (va x).toNat = (G g).toNat * 8
def AddrR (tk : Nat) (vb : IVec S16 32) : Prop := ∀ x : S16.Idx, (vb x).toNat = tk * 128 + 8 * (x 0).val

theorem lane_lt (x : S16.Idx) : (x 0).val < 16 := (x 0).isLt

/-- The index of lane `x` of token `tk` in the chunk's index buffer. -/
def gAt (tk : Nat) (h : tk < 256) (x : S16.Idx) : S4096.Idx :=
  fun a => ⟨tk * 16 + (x 0).val, by have := lane_lt x; rw [Fin.eq_zero a]; show _ < 4096; omega⟩

theorem add_bcast_toNat (v : IVec S16 32) (d : BitVec 32) (x : S16.Idx) (h : (v x).toNat + d.toNat < 2 ^ 32) :
    (addi v (broadcast S16 d) x).toNat = (v x).toNat + d.toNat := by
  show (v x + d).toNat = _
  rw [BitVec.toNat_add, Nat.mod_eq_of_lt h]

section
variable {G : S4096.Idx → BitVec 32} (hG : ∀ g, (G g).toNat < 8192) {tk : Nat} (htk : tk < 256) {va vb : IVec S16 32}
  (hva : AddrT G tk va) (hvb : AddrR tk vb) (d : BitVec 32) (hd : d.toNat < 8)
include hG htk hva hd in
theorem va_toNat (x : S16.Idx) : (addi va (broadcast S16 d) x).toNat = (G (gAt tk htk x)).toNat * 8 + d.toNat := by
  have := hG (gAt tk htk x)
  have e := hva x (gAt tk htk x) rfl
  rw [add_bcast_toNat _ _ _ (by omega), e]
include htk hvb hd in
theorem vb_toNat (x : S16.Idx) : (addi vb (broadcast S16 d) x).toNat = tk * 128 + 8 * (x 0).val + d.toNat := by
  have e := hvb x
  have := lane_lt x
  rw [add_bcast_toNat _ _ _ (by omega), e]
include hG htk hva hd in
theorem inTbl : InTbl (addi va (broadcast S16 d)) := fun a x => by
  rw [Fin.eq_zero a]
  show (addi va (broadcast S16 d) x).toNat < 65536
  rw [va_toNat hG htk hva d hd]
  have := hG (gAt tk htk x); omega
include htk hvb hd in
theorem inRows : InRows (addi vb (broadcast S16 d)) := fun a x => by
  rw [Fin.eq_zero a]
  show (addi vb (broadcast S16 d) x).toNat < 32768
  rw [vb_toNat htk hvb d hd]
  have := lane_lt x; omega

include hG htk hva hvb hd in
/-- One pair carries the invariant over feature `d`. -/
theorem Good.step {T : S65536.Idx → Elt F .f32} {R : S32768.Idx → Elt F .f32} (h : InTbl (addi va (broadcast S16 d)))
    (h' : InRows (addi vb (broadcast S16 d))) (hR : Good T G tk d.toNat R) :
    Good T G tk (d.toNat + 1) (storeIdx (F := F) (e := .f32) R ![addi vb (broadcast S16 d)] (loadIdx (F := F) (e := .f32) T ![addi va (broadcast S16 d)] h) (fun _ => 1#1) false h') := by
  intro p g y hg hy hp
  rcases storeIdx_cases (F := F) (e := .f32) R ![addi vb (broadcast S16 d)] (loadIdx (F := F) (e := .f32) T ![addi va (broadcast S16 d)] h) h' p with ⟨x, hi, he⟩ | ⟨hn, he⟩
  · rw [he]
    have e0 : (p 0).val = tk * 128 + 8 * (x 0).val + d.toNat := by
      rw [← vb_toNat htk hvb d hd x, ← hi]; rfl
    have hgx : g = gAt tk htk x := funext fun a => by
      rw [Fin.eq_zero a]; apply Fin.ext; rw [hg]; show _ = tk * 16 + (x 0).val; omega
    show T (idxAt _ h x) = T y
    congr 1
    funext a
    rw [Fin.eq_zero a]
    apply Fin.ext
    show (addi va (broadcast S16 d) x).toNat = _
    rw [va_toNat hG htk hva d hd, hy, hgx]
    omega
  · rw [he]
    refine hR p g y hg hy ?_
    rcases hp with hp | ⟨hp, hp'⟩
    · exact .inl hp
    · refine .inr ⟨hp, ?_⟩
      by_contra hc
      have hl : (p 0).val % 128 / 8 < 16 := by omega
      refine hn (fun a => ⟨(p 0).val % 128 / 8, by rw [Fin.eq_zero a]; exact hl⟩) ?_
      funext a
      rw [Fin.eq_zero a]
      apply Fin.ext
      show (addi vb (broadcast S16 d) _).toNat = _
      rw [vb_toNat htk hvb d hd]
      show tk * 128 + 8 * ((p 0).val % 128 / 8) + d.toNat = (p 0).val
      omega
end

end Cert.KernelIdeal.Tile

end
-- ==== Proof.Ideal.SetUp.lean ====
/-
  The launch's set-up: the configuration, the body table, the levels' variants, the resource algebra (the
  handshakes' rounds, the pipelines' rounds, the local transfers' counters) and the buffers by name.
-/
module

public import proofs.«01_k».proof.Proof.Ideal.TileEq
public import proofs.«01_k».proof.Proof.Ideal.TileVal
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

/-- The machine's resources at this certificate's algebra. -/
abbrev MM (F : FTy → Type) : Type := MT nD τ sig (HIx 2) (Elt F) ℕ UU ℕ

abbrev uu : UEmb UU (MM F) := uEmb (nD := nD) (τ := τ) (sig := sig) (Ix := HIx 2) (Val := Elt F) (Name := ℕ) (U := UU) (Lvl := ℕ)
def EH : Emb UH (MM F) := (Emb.inl : Emb UH UU).trans (uu (F := F)).toEmb
def EP : Emb UP (MM F) := ((Emb.inl : Emb UP (UP × Counters)).trans (Emb.inr : Emb (UP × Counters) UU)).trans (uu (F := F)).toEmb

instance EH_landsIn : (EH : Emb UH (MM F)).LandsIn (upEmb : UEmb _ (MM F)) := by unfold EH; infer_instance
instance EP_landsIn : (EP : Emb UP (MM F)).LandsIn (upEmb : UEmb _ (MM F)) := by unfold EP; infer_instance

end Cert.KernelIdeal.Run

end
-- ==== Proof.Ideal.TileWp.lean ====
/-
  The gather task's run: from the table, the indices and the output's chunks owned, every chunk of the output
  is left at the gathered rows.
-/
module

public import proofs.«01_k».proof.Proof.Ideal.SetUp
public import Idealize.ShloMosaic.Lib.Memref

@[expose] public section

noncomputable section

namespace Cert.KernelIdeal.Tile

open Cert.KernelIdeal Cert.KernelIdeal.Gen Cert.KernelIdeal.Run

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

section Access
variable {κ : Kind} {sp : Space} {sh : Shape} {e : EltTy} (m : Memref sig κ sp sh e)

theorem access_whole_set : (m.access (.whole sh)).set = m.view.set := by
  rw [View.set_slice, Rect.set_whole]; rfl

theorem access_whole_read (f : m.view.ty.Contents (Elt F)) : (m.access (.whole sh)).read (Elt F) f = m.view.read (Elt F) f := by
  funext x
  have e : (Rect.whole sh).emb x = x := Rect.emb_whole_apply sh x
  exact congrArg (m.view.read (Elt F) f) e

end Access

theorem owns_open (t : Thread nD τ) {sp : Space} {sh : Shape} {e : EltTy} (m : Memref sig t.2.kind sp sh e) (q : PosShare TreeShare) (X : sh.Idx → Elt F e) :
    (owns t m q X : sProp 𝕄) ⊢ iprop(∃ f, ⌜m.view.read (Elt F) f = X⌝ ∗ (m.view.loc t ↦[m.view.set]{q} f)) := by
  unfold owns; exact .rfl

theorem owns_close (t : Thread nD τ) {sp : Space} {sh : Shape} {e : EltTy} (m : Memref sig t.2.kind sp sh e) (q : PosShare TreeShare) {X : sh.Idx → Elt F e}
    {f : m.view.ty.Contents (Elt F)} (h : m.view.read (Elt F) f = X) : (m.view.loc t ↦[m.view.set]{q} f : sProp 𝕄) ⊢ owns t m q X :=
  h ▸ owns_intro t m q f

variable {d : Dev nD} {c : Fin τ.nSC} {s : Fin τ.nSub} {Q : PUnit → sProp (MM F)}

/-- The run of a program of the vector subcore. -/
abbrev wpV (d : Dev nD) (p : TP F c s PUnit) (Q : PUnit → sProp (MM F)) : sProp (MM F) :=
  wp frame (wpE (defs₀ (F := F)) 𝒱₀ (V d c s) none) Set.univ p Q

theorem pair_wp (tbl : Memref sig .scVector .vmem S65536 .f32) (rows : Memref sig .scVector .vmem S32768 .f32) {va vb : IVec S16 32}
    {dd : BitVec 32} {k : TP F c s PUnit} {q : PosShare TreeShare} {T : S65536.Idx → Elt F .f32} {G : S4096.Idx → BitVec 32} {tk : Nat}
    (hG : ∀ g, (G g).toNat < 8192) (htk : tk < 256) (hva : AddrT G tk va) (hvb : AddrR tk vb) (hd : dd.toNat < 8) :
    iprop(owns (V d c s) tbl q T ∗ (∃ R, ⌜Good T G tk dd.toNat R⌝ ∗ owns (V d c s) rows fullShare R)
        ∗ ((owns (V d c s) tbl q T ∗ (∃ R, ⌜Good T G tk (dd.toNat + 1) R⌝ ∗ owns (V d c s) rows fullShare R)) -∗ wpV d k Q))
      ⊢ wpV d (pair tbl rows va vb dd k) Q := by
  unfold pair
  iintro ⟨Ht, ⟨%R, %hR, Hr⟩, Hk⟩
  unfold wpV
  rw [wp_assume_of _ _ _ _ (inTbl hG htk hva dd hd)]
  ihave Ht' := (owns_open _ _ _ _) $$ Ht
  ihave Hr' := (owns_open _ _ _ _) $$ Hr
  icases Ht' with ⟨%ft, %hft, Ht⟩
  icases Hr' with ⟨%fr, %hfr, Hr⟩
  iapply (SparseCore.wp_vectorLoadIdx 𝒱₀ (V d c s) none Set.univ (base := tbl) (S := tbl.view.set) (q := q) (by rw [access_whole_set])) $$ Ht; iintro Ht
  rw [wp_assume_of _ _ _ _ (inRows htk hvb dd hd)]
  iapply (SparseCore.wp_vectorStoreIdx 𝒱₀ (V d c s) none Set.univ (base := rows)) $$ [Hr]
  · rw [access_whole_set]; iexact Hr
  iintro Hr
  iapply Hk
  isplitl [Ht]
  · iapply (owns_close (V d c s) tbl q hft); iexact Ht
  iexists _; isplitr
  rotate_left
  · iapply (owns_close (V d c s) rows fullShare rfl)
    ihave Hr' := (Entails.of_eq (congrArg (fun S => pointsTo _ S _ _) (access_whole_set rows))) $$ Hr
    iexact Hr'
  ipureintro
  rw [← access_whole_read, View.read_write_univ, access_whole_read, access_whole_read, hft, hfr]
  exact Good.step hG htk hva hvb dd hd _ _ hR

theorem shl3 (b : BitVec 32) (h : b.toNat < 8192) : (b <<< (3#32)).toNat = b.toNat * 8 := by
  rw [BitVec.shiftLeft_eq', BitVec.toNat_shiftLeft]
  show (b.toNat <<< 3) % 2 ^ 32 = _
  rw [Nat.shiftLeft_eq, Nat.mod_eq_of_lt (by omega)]

theorem addrT_of {G : S4096.Idx → BitVec 32} (hG : ∀ g, (G g).toNat < 8192) {tk : Nat} {g : IVec S16 32}
    (h : ∀ (x : S16.Idx) (j : S4096.Idx), (j 0).val = tk * 16 + (x 0).val → g x = G j) : AddrT G tk (shli g (broadcast S16 3#32)) := by
  intro x j hj
  have e : shli g (broadcast S16 3#32) x = g x <<< (3#32) := by
    show IntOp.shli .vector (g x) 3#32 = _
    unfold IntOp.shli; rw [if_pos (by decide)]
  rw [e, h x j hj, shl3 _ (hG j)]

theorem addrR_of {b : BitVec 32} {tk : Nat} (hb : b.toNat = tk) (htk : tk < 256) :
    AddrR tk (addi (broadcast S16 (Scalar.muli b 128#32)) (muli (iota .scVector S16 32 [0] iota_S16_d0_w32_scVector) (broadcast S16 8#32))) := by
  intro x
  have hx := lane_lt x
  show (b * 128#32 + BitVec.ofNat 32 (0 * _ + (x 0).val) * 8#32).toNat = _
  rw [BitVec.toNat_add, BitVec.toNat_mul, BitVec.toNat_mul, BitVec.toNat_ofNat, hb, Nat.zero_mul, Nat.zero_add]
  show (tk * 128 % 2 ^ 32 + (x 0).val % 2 ^ 32 * 8 % 2 ^ 32) % 2 ^ 32 = _
  omega

/-- What the tile holds before token `tk` of a chunk. -/
def St (t : Thread nD τ) (ht : t.2.kind = .scVector) (tbl : Memref sig t.2.kind .vmem S65536 .f32) (gix : Memref sig t.2.kind .vmem S4096 .i32)
    (rows : Memref sig t.2.kind .vmem S32768 .f32) (T : S65536.Idx → Elt F .f32) (G : S4096.Idx → BitVec 32) (tk dd : Nat) : sProp (MM F) :=
  iprop(owns t tbl fullShare T ∗ owns (Val := Elt F) (e := .i32) t gix fullShare G ∗ ∃ R, ⌜Good T G tk dd R⌝ ∗ owns t rows fullShare R)

theorem St_next {t : Thread nD τ} {ht : t.2.kind = .scVector} {tbl : Memref sig t.2.kind .vmem S65536 .f32} {gix : Memref sig t.2.kind .vmem S4096 .i32}
    {rows : Memref sig t.2.kind .vmem S32768 .f32} {T : S65536.Idx → Elt F .f32} {G : S4096.Idx → BitVec 32} {tk : Nat} :
    (St t ht tbl gix rows T G tk 8 : sProp 𝕄) ⊢ St t ht tbl gix rows T G (tk + 1) 0 := by
  unfold St
  iintro ⟨Ht, Hg, %R, %hR, Hr⟩
  isplitl [Ht]; · iexact Ht
  isplitl [Hg]; · iexact Hg
  iexists R; isplitr
  · ipureintro; exact hR.next
  · iexact Hr

section Tok
variable {tbl : Memref sig .scVector .vmem S65536 .f32} {gix : Memref sig .scVector .vmem S4096 .i32} {rows : Memref sig .scVector .vmem S32768 .f32}
  {T : S65536.Idx → Elt F .f32} {G : S4096.Idx → BitVec 32} (hG : ∀ g, (G g).toNat < 8192)
include hG

theorem pair_St {va vb : IVec S16 32} {dd : BitVec 32} {k : TP F c s PUnit} {tk : Nat} (htk : tk < 256) (hva : AddrT G tk va) (hvb : AddrR tk vb)
    (n : Nat) (hn : dd.toNat = n) (h8 : n < 8) (hk : St (V d c s) rfl tbl gix rows T G tk (n + 1) ⊢ wpV d k Q) :
    St (V d c s) rfl tbl gix rows T G tk n ⊢ wpV d (pair tbl rows va vb dd k) Q := by
  subst hn
  unfold St at hk ⊢
  iintro ⟨Ht, Hg, Hr⟩
  iapply (pair_wp tbl rows hG htk hva hvb h8)
  isplitl [Ht]; · iexact Ht
  isplitl [Hr]; · iexact Hr
  iintro ⟨Ht, Hr⟩
  iapply hk
  isplitl [Ht]; · iexact Ht
  isplitl [Hg]; · iexact Hg
  iexact Hr

theorem tok_St {t u : BitVec 32} {inb : ∀ a, tokOff t u a + S16.size a ≤ S4096.size a} {k : TP F c s PUnit} {tk : Nat}
    (hpos : (tokPos t u).toNat = tk) (hoff : tokOff t u 0 = tk * 16) (htk : tk < 256)
    (hk : St (V d c s) rfl tbl gix rows T G (tk + 1) 0 ⊢ wpV d k Q) :
    St (V d c s) rfl tbl gix rows T G tk 0
      ⊢ wpV d (tok tbl gix rows (iota .scVector S16 32 [0] iota_S16_d0_w32_scVector) t u inb k) Q := by
  unfold tok
  unfold St
  iintro ⟨Ht, Hg, Hr⟩
  ihave Hg' := (owns_open _ _ _ _) $$ Hg
  icases Hg' with ⟨%f, %hf, Hg⟩
  unfold wpV
  iapply (wp_load 𝒱₀ (V d c s) none Set.univ (m := gix) (S := gix.view.set) (View.setOn_subset_set _ _)) $$ Hg; iintro Hg
  have hva : AddrT G tk (shli (gix.view.readAt (Elt F) (Rect.unit (s := S4096) (tokOff t u) S16.size inb).toLoadRect f) (broadcast S16 3#32)) := by
    refine addrT_of hG fun x j hj => ?_
    rw [View.readAt_apply, hf]
    congr 1
    funext a
    rw [Fin.eq_zero a]
    apply Fin.ext
    show tokOff t u 0 + 1 * (x 0).val = _
    rw [hj, hoff, Nat.one_mul]
  have hvb := addrR_of hpos htk
  have key : St (V d c s) rfl tbl gix rows T G tk 0 ⊢ wpV d (pair tbl rows _ _ 0#32 <| pair tbl rows _ _ 1#32 <| pair tbl rows _ _ 2#32 <| pair tbl rows _ _ 3#32 <|
      pair tbl rows _ _ 4#32 <| pair tbl rows _ _ 5#32 <| pair tbl rows _ _ 6#32 <| pair tbl rows _ _ 7#32 k) Q :=
    pair_St hG htk hva hvb 0 rfl (by decide) <| pair_St hG htk hva hvb 1 rfl (by decide) <| pair_St hG htk hva hvb 2 rfl (by decide) <|
    pair_St hG htk hva hvb 3 rfl (by decide) <| pair_St hG htk hva hvb 4 rfl (by decide) <| pair_St hG htk hva hvb 5 rfl (by decide) <|
    pair_St hG htk hva hvb 6 rfl (by decide) <| pair_St hG htk hva hvb 7 rfl (by decide) (St_next.trans hk)
  iapply key
  unfold St
  isplitl [Ht]; · iexact Ht
  isplitl [Hg]
  · iapply (owns_close (V d c s) gix fullShare hf); iexact Hg
  · iexact Hr
end Tok

/-- A local copy and its wait. -/
theorem copy_wp {sp sp' : Space} {sh : Shape} {e : EltTy} {src : Memref sig .scVector sp sh e} {dst : Memref sig .scVector sp' sh e} {sm : DmaSem sig}
    {h1 : src.view.WordExact} {h2 : dst.view.WordExact} {h3 : DmaTarget.Typed (nD := nD) (τ := τ) (p := .scVector c s) sp (.dma sm) (.here dst)} {h4 : src.view.WordExact} {h5 : dst.view.WordExact}
    {k : PUnit → TP F c s PUnit} {q : PosShare TreeShare} {X : sh.Idx → Elt F e} (hsh : 0 < sh.numel)
    {O : CellTallies nD τ sig (HIx 2)} {W : Waits sig (HIx 2)} :
    iprop(Transfers.MayWaits (V d c s) (default : HIx 2) O ∗ owns (V d c s) src q X ∗ (∃ Y, owns (V d c s) dst fullShare Y) ∗ semVal (V d c s, SemLoc.dma sm) 0 ∗ owes (V d c s) O W
        ∗ ((owns (V d c s) src q X ∗ owns (V d c s) dst fullShare X ∗ semVal (V d c s, SemLoc.dma sm) 0
            ∗ owes (V d c s) O (insert (SemLoc.dma sm, (default : HIx 2)) W)) -∗ wpV d (k ⟨⟩) Q))
      ⊢ wpV d (Prog.lift (.enqueueDma src (.here dst) (.dma sm) h1 h2 h3) >>= fun _ => Prog.lift (.waitDma2 sm src dst h4 h5) >>= k) Q := by
  iintro ⟨Hmw, Hs, ⟨%Y, Hd⟩, Hv, HO, Hk⟩
  ihave Hs' := (owns_open _ _ _ _) $$ Hs
  ihave Hd' := (owns_open _ _ _ _) $$ Hd
  icases Hs' with ⟨%fs, %hfs, Hs⟩
  icases Hd' with ⟨%fd, %hfd, Hd⟩
  unfold wpV
  iapply (Transfers.wp_dmaLocal countersEmb 𝒱₀ (V d c s) none (default : HIx 2) (dst.view.amount (SemLoc.dma sm)) rfl (View.amount_pos _ _ hsh) (Finset.Subset.refl _)) $$ [Hs Hd Hv]
  · isplitl [Hs]; · iexact Hs
    isplitl [Hd] <;> iassumption
  iintro Hf
  ihave Hm := (Transfers.MayWaits.elim (SemLoc.dma sm)) $$ Hmw
  iapply (Transfers.wp_waitLocalO countersEmb 𝒱₀ (V d c s) none (default : HIx 2) rfl) $$ [Hf HO Hm]
  · isplitl [Hf]; · iexact Hf
    isplitl [HO] <;> iassumption
  iintro ⟨⟨Hd, Hs⟩, Hv, HO⟩
  iapply Hk
  isplitl [Hs]
  · iapply (owns_close (V d c s) src q hfs); iexact Hs
  isplitl [Hd]
  · have hx : dst.view.read (Elt F) (dst.view.write (Elt F) fd (ReadAs.same.apply (src.view.read (Elt F) fs)) Finset.univ) = X := by
      rw [View.read_write_univ, ← hfs]
    iapply (owns_close (V d c s) dst fullShare hx); iexact Hd
  isplitl [Hv] <;> iassumption

/-- A slice of a memref borrowed from it. -/
theorem owns_carve (t : Thread nD τ) {sp : Space} {sh : Shape} {e : EltTy} (m : Memref sig t.2.kind sp sh e) (q : PosShare TreeShare) (X : sh.Idx → Elt F e)
    (r : Rect sh) (hr : ∀ a, r.stride a = 1) :
    (owns t m q X : sProp 𝕄) ⊢ iprop(owns t (m.slice r hr) q (fun j => X (r.emb j)) ∗ (owns t (m.slice r hr) q (fun j => X (r.emb j)) -∗ owns t m q X)) := by
  iintro H
  ihave H' := (owns_open _ _ _ _) $$ H
  icases H' with ⟨%f, %hf, H⟩
  ihave H' := (pointsTo_split_subset (I := (m.slice r hr).view.set) (View.set_slice_subset m.view r)).1 $$ H
  icases H' with ⟨Hs, Hr⟩
  have hx : (fun j => X (r.emb j)) = fun j => m.view.read (Elt F) f (r.emb j) := by rw [hf]
  rw [hx, owns_slice_read]
  isplitl [Hs]; · iexact Hs
  iintro Hs
  iapply (owns_close t m q hf)
  iapply (pointsTo_split_subset (I := (m.slice r hr).view.set) (View.set_slice_subset m.view r)).2
  isplitl [Hs]; · iexact Hs
  iexact Hr

/-- The element at place `n` (modulo the extent) of a list of `N`. -/
def at1 (N : Nat) (h : 0 < N) (n : Nat) : (⟨1, ![N]⟩ : Shape).Idx :=
  fun a => ⟨n % N, by rw [Fin.eq_zero a]; exact Nat.mod_lt n h⟩

@[simp] theorem at1_val (N : Nat) (h : 0 < N) (n : Nat) : (at1 N h n 0).val = n % N := rfl

/-- The rows gathered from the table `T` at the indices `X`. -/
def rowsOf (T : S65536.Idx → Elt F .f32) (X : S524288.Idx → BitVec 32) : S4194304.Idx → Elt F .f32 :=
  fun p => T (at1 65536 (by decide) ((X (at1 524288 (by decide) ((p 0).val / 8))).toNat * 8 + (p 0).val % 8))

abbrev rIdx (i : grid0.Coords) (t1 : Fin k0_t1_loop.trips) : Rect S524288 := Rect.unit (s := S524288) (k0_off1 i t1) S4096.size (k0_off1_inb i t1)
abbrev rOut (i : grid0.Coords) (t1 : Fin k0_t1_loop.trips) : Rect S4194304 := Rect.unit (s := S4194304) (k0_off18 i t1) S32768.size (k0_off18_inb i t1)

theorem good_rows {T : S65536.Idx → Elt F .f32} {X : S524288.Idx → BitVec 32} (hX : ∀ x, (X x).toNat < 8192) {i : grid0.Coords} {t1 : Fin k0_t1_loop.trips}
    {R : S32768.Idx → Elt F .f32} (hR : Good T (fun g => X ((rIdx i t1).emb g)) 256 0 R) : R = fun p => rowsOf T X ((rOut i t1).emb p) := by
  funext p
  have hp : (p 0).val < 32768 := (p 0).isLt
  have e18 : k0_off18 i t1 0 = 262144 * (i 1).val + 131072 * (i 0).val + 32768 * t1.val := congrFun (k0_off18_eq i t1) 0
  have e1 : k0_off1 i t1 0 = 32768 * (i 1).val + 16384 * (i 0).val + 4096 * t1.val := congrFun (k0_off1_eq i t1) 0
  have h18 : k0_off18 i t1 0 + 32768 ≤ 4194304 := k0_off18_inb i t1 0
  have eo : ((rOut i t1).emb p 0).val = k0_off18 i t1 0 + 1 * (p 0).val := rfl
  have ei : (rIdx i t1).emb (at1 4096 (by decide) ((p 0).val / 8)) = at1 524288 (by decide) (((rOut i t1).emb p 0).val / 8) := by
    funext a
    rw [Fin.eq_zero a]
    apply Fin.ext
    show k0_off1 i t1 0 + 1 * ((p 0).val / 8 % 4096) = ((rOut i t1).emb p 0).val / 8 % 524288
    omega
  refine hR p (at1 4096 (by decide) ((p 0).val / 8)) _ (Nat.mod_eq_of_lt (by omega)) ?_ (.inl (by omega))
  show ((X _).toNat * 8 + ((rOut i t1).emb p 0).val % 8) % 65536 = _
  show _ = (X ((rIdx i t1).emb (at1 4096 (by decide) ((p 0).val / 8)))).toNat * 8 + _
  rw [ei]
  have := hX (at1 524288 (by decide) (((rOut i t1).emb p 0).val / 8))
  omega

theorem trips1 : k0_t1_loop.trips = 4 := by decide
theorem trips2 : k0_t2_loop.trips = 16 := by decide
theorem pos_eq : ∀ (t2 : Fin k0_t2_loop.trips) (u : Fin 16), (tokPos (Scf.iv 0#32 1#32 t2) (BitVec.ofNat 32 u.val)).toNat = 16 * t2.val + u.val := by decide +kernel
theorem off_eq : ∀ (t2 : Fin k0_t2_loop.trips) (u : Fin 16), tokOff (Scf.iv 0#32 1#32 t2) (BitVec.ofNat 32 u.val) 0 = (16 * t2.val + u.val) * 16 := by decide +kernel

section Task
variable {i : grid0.Coords} {arg2 : Memref sig .scVector .hbm S65536 .f32} {harg2 : arg2.IsWhole} {arg3 : Memref sig .scVector .hbm S524288 .i32}
    {arg4 : Memref sig .scVector .hbm S4194304 .f32} {arg5 : Memref sig .scVector .vmem S65536 .f32} {harg5 : arg5.IsWhole}
    {arg6 : Memref sig .scVector .vmem S4096 .i32} {harg6 : arg6.IsWhole} {arg7 : Memref sig .scVector .vmem S32768 .f32} {harg7 : arg7.IsWhole}
    {r0 r1 r2 : DmaSems sig S_}

/-- The tile's thread. -/
abbrev VT (d : Dev nD) (i : grid0.Coords) : Thread nD τ := V d ((i 0).castLE hcore0) ((i 1).castLE hsub0)

/-- The tile's owes, with waits at index `none` recorded beyond `W`. -/
def owesFrom (t : Thread nD τ) (O : CellTallies nD τ sig (HIx 2)) (W : Waits sig (HIx 2)) : sProp (MM F) :=
  iprop(∃ W', ⌜∀ p ∈ W', p ∈ W ∨ p.2 = none⌝ ∗ owes t O W')

/-- Chunk `j` of the output: the gathered rows if it is done, anything if not. -/
def chunk (d : Dev nD) (i : grid0.Coords) (arg4 : Memref sig .scVector .hbm S4194304 .f32) (T : S65536.Idx → Elt F .f32) (X : S524288.Idx → BitVec 32)
    (n : Nat) (j : Fin k0_t1_loop.trips) : sProp (MM F) :=
  if j.val < n then owns (VT d i) (arg4.slice (rOut i j) (fun _ => rfl)) fullShare (fun p => rowsOf T X ((rOut i j).emb p))
  else iprop(∃ Y, owns (VT d i) (arg4.slice (rOut i j) (fun _ => rfl)) fullShare Y)

/-- Before chunk `n`. -/
def Iout (d : Dev nD) (i : grid0.Coords) (arg3 : Memref sig .scVector .hbm S524288 .i32) (arg4 : Memref sig .scVector .hbm S4194304 .f32) (arg5 : Memref sig .scVector .vmem S65536 .f32)
    (arg6 : Memref sig .scVector .vmem S4096 .i32) (arg7 : Memref sig .scVector .vmem S32768 .f32) (r1 r2 : DmaSems sig S_) (q : PosShare TreeShare)
    (T : S65536.Idx → Elt F .f32) (X : S524288.Idx → BitVec 32) (O : CellTallies nD τ sig (HIx 2)) (W : Waits sig (HIx 2)) (n : Nat) : sProp (MM F) :=
  iprop(Transfers.MayWaits (VT d i) (default : HIx 2) O ∗ owns (VT d i) arg5 fullShare T ∗ owns (Val := Elt F) (e := .i32) (VT d i) arg3 q X
    ∗ (∃ G, owns (Val := Elt F) (e := .i32) (VT d i) arg6 fullShare G) ∗ (∃ R, owns (VT d i) arg7 fullShare R)
    ∗ semVal (VT d i, SemLoc.dma r1.sem) 0 ∗ semVal (VT d i, SemLoc.dma r2.sem) 0 ∗ owesFrom (VT d i) O W
    ∗ bigSep Finset.univ fun j => chunk d i arg4 T X n j)

theorem owesFrom_insert {t : Thread nD τ} {O : CellTallies nD τ sig (HIx 2)} {W W' : Waits sig (HIx 2)} (h : ∀ p ∈ W', p ∈ W ∨ p.2 = none) (sm : SemLoc sig) :
    (owes t O (insert (sm, (default : HIx 2)) W') : sProp 𝕄) ⊢ owesFrom t O W := by
  unfold owesFrom
  iintro H
  iexists _; isplitr
  rotate_left
  · iexact H
  ipureintro
  intro p hp
  rcases Finset.mem_insert.mp hp with hp | hp
  · exact .inr (hp ▸ rfl)
  · exact h p hp

theorem inner_wp {T : S65536.Idx → Elt F .f32} {G : S4096.Idx → BitVec 32} (hG : ∀ g, (G g).toNat < 8192) (t2 : Fin k0_t2_loop.trips) :
    St (V d c s) rfl arg5 arg6 arg7 T G (16 * t2.val) 0
      ⊢ wpV d (tok arg5 arg6 arg7 (iota .scVector S16 32 [0] iota_S16_d0_w32_scVector) (Scf.iv 0#32 1#32 t2) 0#32 (k0_off2_inb t2) <|
      tok arg5 arg6 arg7 (iota .scVector S16 32 [0] iota_S16_d0_w32_scVector) (Scf.iv 0#32 1#32 t2) 1#32 (k0_off3_inb t2) <|
      tok arg5 arg6 arg7 (iota .scVector S16 32 [0] iota_S16_d0_w32_scVector) (Scf.iv 0#32 1#32 t2) 2#32 (k0_off4_inb t2) <|
      tok arg5 arg6 arg7 (iota .scVector S16 32 [0] iota_S16_d0_w32_scVector) (Scf.iv 0#32 1#32 t2) 3#32 (k0_off5_inb t2) <|
      tok arg5 arg6 arg7 (iota .scVector S16 32 [0] iota_S16_d0_w32_scVector) (Scf.iv 0#32 1#32 t2) 4#32 (k0_off6_inb t2) <|
      tok arg5 arg6 arg7 (iota .scVector S16 32 [0] iota_S16_d0_w32_scVector) (Scf.iv 0#32 1#32 t2) 5#32 (k0_off7_inb t2) <|
      tok arg5 arg6 arg7 (iota .scVector S16 32 [0] iota_S16_d0_w32_scVector) (Scf.iv 0#32 1#32 t2) 6#32 (k0_off8_inb t2) <|
      tok arg5 arg6 arg7 (iota .scVector S16 32 [0] iota_S16_d0_w32_scVector) (Scf.iv 0#32 1#32 t2) 7#32 (k0_off9_inb t2) <|
      tok arg5 arg6 arg7 (iota .scVector S16 32 [0] iota_S16_d0_w32_scVector) (Scf.iv 0#32 1#32 t2) 8#32 (k0_off10_inb t2) <|
      tok arg5 arg6 arg7 (iota .scVector S16 32 [0] iota_S16_d0_w32_scVector) (Scf.iv 0#32 1#32 t2) 9#32 (k0_off11_inb t2) <|
      tok arg5 arg6 arg7 (iota .scVector S16 32 [0] iota_S16_d0_w32_scVector) (Scf.iv 0#32 1#32 t2) 10#32 (k0_off12_inb t2) <|
      tok arg5 arg6 arg7 (iota .scVector S16 32 [0] iota_S16_d0_w32_scVector) (Scf.iv 0#32 1#32 t2) 11#32 (k0_off13_inb t2) <|
      tok arg5 arg6 arg7 (iota .scVector S16 32 [0] iota_S16_d0_w32_scVector) (Scf.iv 0#32 1#32 t2) 12#32 (k0_off14_inb t2) <|
      tok arg5 arg6 arg7 (iota .scVector S16 32 [0] iota_S16_d0_w32_scVector) (Scf.iv 0#32 1#32 t2) 13#32 (k0_off15_inb t2) <|
      tok arg5 arg6 arg7 (iota .scVector S16 32 [0] iota_S16_d0_w32_scVector) (Scf.iv 0#32 1#32 t2) 14#32 (k0_off16_inb t2) <|
      tok arg5 arg6 arg7 (iota .scVector S16 32 [0] iota_S16_d0_w32_scVector) (Scf.iv 0#32 1#32 t2) 15#32 (k0_off17_inb t2) <|
      (.ret ⟨⟩ : TP F c s PUnit)) fun _ => St (V d c s) rfl arg5 arg6 arg7 T G (16 * (t2.val + 1)) 0 := by
  have h2 : t2.val < 16 := lt_of_lt_of_eq t2.isLt trips2
  have hp := pos_eq t2
  have ho := off_eq t2
  refine tok_St hG (hp 0) (ho 0) (by omega) <| tok_St hG (hp 1) (ho 1) (by omega) <| tok_St hG (hp 2) (ho 2) (by omega) <| tok_St hG (hp 3) (ho 3) (by omega) <|
    tok_St hG (hp 4) (ho 4) (by omega) <| tok_St hG (hp 5) (ho 5) (by omega) <| tok_St hG (hp 6) (ho 6) (by omega) <| tok_St hG (hp 7) (ho 7) (by omega) <|
    tok_St hG (hp 8) (ho 8) (by omega) <| tok_St hG (hp 9) (ho 9) (by omega) <| tok_St hG (hp 10) (ho 10) (by omega) <| tok_St hG (hp 11) (ho 11) (by omega) <|
    tok_St hG (hp 12) (ho 12) (by omega) <| tok_St hG (hp 13) (ho 13) (by omega) <| tok_St hG (hp 14) (ho 14) (by omega) <| tok_St hG (hp 15) (ho 15) (by omega) ?_
  unfold wpV
  rw [wp_ret]
  iintro H
  imodintro
  iexact H

theorem ret_wp {Q : PUnit → sProp (MM F)} : Q ⟨⟩ ⊢ wpV d (pure ⟨⟩ : TP F c s PUnit) Q := by
  unfold wpV
  show Q ⟨⟩ ⊢ wp _ _ _ (Prog.ret _) _
  rw [wp_ret]
  iintro H
  imodintro
  iexact H

theorem chunk_done (T : S65536.Idx → Elt F .f32) (X : S524288.Idx → BitVec 32) (n : Nat) (j : Fin k0_t1_loop.trips) (h : j.val < n) :
    (chunk d i arg4 T X n j : sProp 𝕄) = owns (VT d i) (arg4.slice (rOut i j) (fun _ => rfl)) fullShare (fun p => rowsOf T X ((rOut i j).emb p)) := if_pos h
theorem chunk_todo (T : S65536.Idx → Elt F .f32) (X : S524288.Idx → BitVec 32) (n : Nat) (j : Fin k0_t1_loop.trips) (h : ¬ j.val < n) :
    (chunk d i arg4 T X n j : sProp 𝕄) = iprop(∃ Y, owns (VT d i) (arg4.slice (rOut i j) (fun _ => rfl)) fullShare Y) := if_neg h

theorem chunks_step (T : S65536.Idx → Elt F .f32) (X : S524288.Idx → BitVec 32) (j : Fin k0_t1_loop.trips) :
    (bigSep Finset.univ fun j' => chunk d i arg4 T X j.val j' : sProp 𝕄)
      ⊢ iprop((∃ Y, owns (VT d i) (arg4.slice (rOut i j) (fun _ => rfl)) fullShare Y)
          ∗ (owns (VT d i) (arg4.slice (rOut i j) (fun _ => rfl)) fullShare (fun p => rowsOf T X ((rOut i j).emb p))
            -∗ bigSep Finset.univ fun j' => chunk d i arg4 T X (j.val + 1) j')) := by
  have h := bigSep_univ_update (Φ := fun j' => (chunk d i arg4 T X j.val j' : sProp 𝕄)) (Ψ := fun j' => chunk d i arg4 T X (j.val + 1) j') j fun j' hj => by
    have : j'.val ≠ j.val := fun e => hj (Fin.ext e)
    show chunk _ _ _ _ _ _ _ = chunk _ _ _ _ _ _ _
    by_cases hlt : j'.val < j.val
    · rw [chunk_done _ _ _ _ hlt, chunk_done _ _ _ _ (by omega)]
    · rw [chunk_todo _ _ _ _ hlt, chunk_todo _ _ _ _ (by omega)]
  rw [chunk_todo _ _ _ _ (lt_irrefl _), chunk_done _ _ _ _ (Nat.lt_succ_self _)] at h
  exact h

theorem outer_wp (hq : PosShare TreeShare) {T : S65536.Idx → Elt F .f32} {X : S524288.Idx → BitVec 32} (hX : ∀ x, (X x).toNat < 8192)
    (O : CellTallies nD τ sig (HIx 2)) (W : Waits sig (HIx 2)) :
    iprop(Transfers.MayWaits (VT d i) (default : HIx 2) O ∗ owns (VT d i) arg2 hq T ∗ owns (Val := Elt F) (e := .i32) (VT d i) arg3 hq X
        ∗ (∃ Y, owns (VT d i) arg5 fullShare Y) ∗ (∃ G, owns (Val := Elt F) (e := .i32) (VT d i) arg6 fullShare G) ∗ (∃ R, owns (VT d i) arg7 fullShare R)
        ∗ semVal (VT d i, SemLoc.dma r0.sem) 0 ∗ semVal (VT d i, SemLoc.dma r1.sem) 0 ∗ semVal (VT d i, SemLoc.dma r2.sem) 0 ∗ owes (VT d i) O W
        ∗ bigSep Finset.univ fun j => chunk d i arg4 T X 0 j)
      ⊢ wpV d (task (F := F) i arg2 harg2 arg3 arg4 arg5 harg5 arg6 harg6 arg7 harg7 r0 r1 r2) fun _ =>
          iprop(owns (VT d i) arg2 hq T ∗ owns (Val := Elt F) (e := .i32) (VT d i) arg3 hq X
        ∗ (∃ Y, owns (VT d i) arg5 fullShare Y) ∗ (∃ G, owns (Val := Elt F) (e := .i32) (VT d i) arg6 fullShare G) ∗ (∃ R, owns (VT d i) arg7 fullShare R)
        ∗ semVal (VT d i, SemLoc.dma r0.sem) 0 ∗ semVal (VT d i, SemLoc.dma r1.sem) 0 ∗ semVal (VT d i, SemLoc.dma r2.sem) 0 ∗ owesFrom (VT d i) O W
        ∗ bigSep Finset.univ fun j => chunk d i arg4 T X 4 j) := by
  unfold task
  iintro ⟨#Hmw, H2, H3, H5, H6, H7, Hv0, Hv1, Hv2, HO, Hout⟩
  iapply (copy_wp (by decide))
  isplitr; · iexact Hmw
  isplitl [H2]; · iexact H2
  isplitl [H5]; · iexact H5
  isplitl [Hv0]; · iexact Hv0
  isplitl [HO]; · iexact HO
  iintro ⟨H2, H5, Hv0, HO⟩
  unfold wpV
  iapply (Scf.wp_for_bind frame (wpE (defs₀ (F := F)) 𝒱₀ (VT d i) none) Set.univ k0_t1_loop.lb k0_t1_loop.ub k0_t1_loop.st k0_t1_ok ⟨⟩ _
    (fun n _ => Iout d i arg3 arg4 arg5 arg6 arg7 r1 r2 hq T X O W n) ?_) $$ [H3 H5 H6 H7 Hv1 Hv2 HO Hout]
  rotate_left
  · unfold Iout
    isplitr; · iexact Hmw
    isplitl [H5]; · iexact H5
    isplitl [H3]; · iexact H3
    isplitl [H6]; · iexact H6
    isplitl [H7]; · iexact H7
    isplitl [Hv1]; · iexact Hv1
    isplitl [Hv2]; · iexact Hv2
    isplitl [HO]
    · iapply (owesFrom_insert (fun p hp => .inl hp) _); iexact HO
    · iexact Hout
  · iintro %_ HI
    unfold Iout
    icases HI with ⟨-, H5, H3, H6, H7, Hv1, Hv2, HO, Hout⟩
    iapply ret_wp
    isplitl [H2]; · iexact H2
    isplitl [H3]; · iexact H3
    isplitl [H5]; · iexists _; iexact H5
    isplitl [H6]; · iexact H6
    isplitl [H7]; · iexact H7
    isplitl [Hv0]; · iexact Hv0
    isplitl [Hv1]; · iexact Hv1
    isplitl [Hv2]; · iexact Hv2
    isplitl [HO]; · iexact HO
    iexact Hout
  · intro t1 _
    unfold Iout
    iintro ⟨#Hmw, H5, H3, H6, H7, Hv1, Hv2, HO, Hout⟩
    unfold owesFrom
    icases HO with ⟨%W1, %hW1, HO⟩
    ihave H3' := (owns_carve (VT d i) arg3 hq X (rIdx i t1) (fun _ => rfl)) $$ H3
    icases H3' with ⟨H3s, H3k⟩
    iapply (copy_wp (show 0 < S4096.numel by decide))
    isplitr; · iexact Hmw
    isplitl [H3s]; · iexact H3s
    isplitl [H6]; · iexact H6
    isplitl [Hv1]; · iexact Hv1
    isplitl [HO]; · iexact HO
    iintro ⟨H3s, H6, Hv1, HO⟩
    ihave H3 := H3k $$ H3s
    unfold wpV
    icases H7 with ⟨%R, H7⟩
    iapply (Scf.wp_for_bind frame (wpE (defs₀ (F := F)) 𝒱₀ (VT d i) none) Set.univ k0_t2_loop.lb k0_t2_loop.ub k0_t2_loop.st k0_t2_ok ⟨⟩ _
      (fun n _ => St (VT d i) rfl arg5 arg6 arg7 T (fun j => X ((rIdx i t1).emb j)) (16 * n) 0) ?_) $$ [H5 H6 H7]
    rotate_left
    · unfold St
      isplitl [H5]; · iexact H5
      isplitl [H6]; · iexact H6
      iexists R; isplitr
      · ipureintro; exact Good.zero _ _ _
      · iexact H7
    · iintro %_ HI
      unfold St
      icases HI with ⟨H5, H6, %R', %hR, H7⟩
      have hR' := good_rows hX (i := i) (t1 := t1) hR
      rw [hR']
      ihave Hout' := (chunks_step T X t1) $$ Hout
      icases Hout' with ⟨Ho, Hok⟩
      iapply (copy_wp (by decide))
      isplitr; · iexact Hmw
      isplitl [H7]; · iexact H7
      isplitl [Ho]; · iexact Ho
      isplitl [Hv2]; · iexact Hv2
      isplitl [HO]; · iexact HO
      iintro ⟨H7, Ho, Hv2, HO⟩
      ihave Hout := Hok $$ Ho
      iapply ret_wp
      isplitr; · iexact Hmw
      isplitl [H5]; · iexact H5
      isplitl [H3]; · iexact H3
      isplitl [H6]; · iexists _; iexact H6
      isplitl [H7]; · iexists _; iexact H7
      isplitl [Hv1]; · iexact Hv1
      isplitl [Hv2]; · iexact Hv2
      isplitl [HO]
      · ihave HO' := (owesFrom_insert (W := W) (fun p hp => by
            rcases Finset.mem_insert.mp hp with hp | hp
            · exact .inr (hp ▸ rfl)
            · exact hW1 p hp) _) $$ HO
        unfold owesFrom
        iexact HO'
      · iexact Hout
    · intro t2 _
      have hin := inner_wp (d := d) (c := (i 0).castLE hcore0) (s := (i 1).castLE hsub0) (arg5 := arg5) (arg6 := arg6) (arg7 := arg7) (T := T)
        (G := fun j => X ((rIdx i t1).emb j)) (fun g => hX _) t2
      unfold wpV at hin
      with_reducible exact hin

end Task

end Cert.KernelIdeal.Tile

end
-- ==== Proof.Ideal.TileBody.lean ====
/-
  One vector subcore's task at each of the two calls: from its shares of the table and of the indices, its four
  chunks of the output and its own buffers and semaphores, to the same with the chunks gathered.
-/
module

public import proofs.«01_k».proof.Proof.Ideal.TileWp
public import Idealize.ShloMosaic.Lib.ShareLeaves

@[expose] public section

noncomputable section

namespace Cert.KernelIdeal.Run

open Cert.KernelIdeal Cert.KernelIdeal.Gen Cert.KernelIdeal.Tile

open Idealize.ShloMosaic
open Idealize.ShloMosaic.SparseCore (S V T)
open Idealize.ShloMosaic.SparseCore.Cfg (HIx ownBufs ownSems0 ownRefs ownCells mem_ownCells)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-- Tile `i`'s read share. -/
abbrev sh (i : grid0.Coords) : PosShare TreeShare := ShareLeaves.leaf 4 (ShareLeaves.leaf 1 fullShare (i 0)) (i 1)

/-- What the tile at `i` is handed of the call's operands (`n = 0`) and hands back (`n = 4`). -/
def tileRes (d : Dev nD) (i : grid0.Coords) (a2 : Memref sig .scVector .hbm S65536 .f32) (a3 : Memref sig .scVector .hbm S524288 .i32) (a4 : Memref sig .scVector .hbm S4194304 .f32)
    (T : S65536.Idx → Elt F .f32) (X : S524288.Idx → BitVec 32) (n : Nat) : sProp (MM F) :=
  iprop(owns (VT d i) a2 (sh i) T ∗ owns (Val := Elt F) (e := .i32) (VT d i) a3 (sh i) X ∗ bigSep Finset.univ fun j => chunk d i a4 T X n j)

instance chunk_storable (d : Dev nD) (i : grid0.Coords) (a4 : Memref sig .scVector .hbm S4194304 .f32) (T : S65536.Idx → Elt F .f32) (X : S524288.Idx → BitVec 32)
    (n : Nat) (j : Fin k0_t1_loop.trips) : BI.Storable (upEmb : UEmb _ 𝕄) (chunk d i a4 T X n j) := by
  unfold chunk; split <;> infer_instance

instance tileRes_storable (d : Dev nD) (i : grid0.Coords) (a2 : Memref sig .scVector .hbm S65536 .f32) (a3 : Memref sig .scVector .hbm S524288 .i32) (a4 : Memref sig .scVector .hbm S4194304 .f32)
    (T : S65536.Idx → Elt F .f32) (X : S524288.Idx → BitVec 32) (n : Nat) : BI.Storable (upEmb : UEmb _ 𝕄) (tileRes d i a2 a3 a4 T X n) := by
  unfold tileRes; infer_instance

/-- The subcore's own semaphores at zero: three of them one by one, and the rest. -/
theorem ownSems_three (thr : Thread nD τ) (s0 s1 s2 : DmaSem sig) (hs : ∀ s : DmaSem sig, (SemLoc.dma s : SemLoc sig).isScoped thr.2.kind = true)
    (h01 : s0 ≠ s1) (h02 : s0 ≠ s2) (h12 : s1 ≠ s2) :
    (ownSems0 thr : sProp 𝕄) = iprop((semVal (thr, SemLoc.dma s0) 0 ∗ semVal (thr, SemLoc.dma s1) 0 ∗ semVal (thr, SemLoc.dma s2) 0)
        ∗ bigSep (ownCells thr \ {((thr, SemLoc.dma s0) : GSem nD τ sig), (thr, SemLoc.dma s1), (thr, SemLoc.dma s2)}) fun g => semVal g 0) := by
  have inj : ∀ a b : DmaSem sig, a ≠ b → ((thr, SemLoc.dma a) : GSem nD τ sig) ≠ (thr, SemLoc.dma b) := fun a b h e => by
    have := congrArg (fun g : GSem nD τ sig => g.2) e
    simp only [SemLoc.dma.injEq] at this; exact h this
  have hm : ∀ a : DmaSem sig, ((thr, SemLoc.dma a) : GSem nD τ sig) ∈ ownCells thr := fun a => mem_ownCells.mpr ⟨rfl, hs a⟩
  unfold SparseCore.Cfg.ownSems0
  rw [SparseCore.bigSep_sdiff_split' (t := {((thr, SemLoc.dma s0) : GSem nD τ sig), (thr, SemLoc.dma s1), (thr, SemLoc.dma s2)}) (by
      intro g hg
      simp only [Finset.mem_insert, Finset.mem_singleton] at hg
      rcases hg with rfl | rfl | rfl <;> exact hm _),
    SparseCore.bigSep_insert' (by simp only [Finset.mem_insert, Finset.mem_singleton, not_or]; exact ⟨inj _ _ h01, inj _ _ h02⟩),
    SparseCore.bigSep_insert' (by simp only [Finset.mem_singleton]; exact inj _ _ h12), bigSep_singleton]

/-- The subcore's own buffers: three of them one by one, and the rest. -/
theorem ownBufs_three (d : Dev nD) (c : Fin τ.nSC) (i : Fin τ.nSub) (b5 b6 b7 : Ref sig .scVector)
    (o5 : ((Proc.scVector c i).devRef b5 : DevRef τ sig).owner = .proc (.scVector c i)) (o6 : ((Proc.scVector c i).devRef b6 : DevRef τ sig).owner = .proc (.scVector c i))
    (o7 : ((Proc.scVector c i).devRef b7 : DevRef τ sig).owner = .proc (.scVector c i)) (h56 : b6 ≠ b5) (h57 : b7 ≠ b5) (h67 : b7 ≠ b6) :
    (ownBufs (V d c i) : sProp 𝕄)
      = iprop((∃ f, (V d c i).loc b5 ↦{fullShare} f) ∗ (∃ f, (V d c i).loc b6 ↦{fullShare} f) ∗ (∃ f, (V d c i).loc b7 ↦{fullShare} f)
          ∗ bigSep ((((ownRefs (τ := τ) (.scVector c i)).erase ((Proc.scVector c i).devRef b5)).erase ((Proc.scVector c i).devRef b6)).erase ((Proc.scVector c i).devRef b7))
              fun b => iprop(∃ f, ((d, b) : Loc nD τ sig) ↦{fullShare} f)) := by
  have ne : ∀ {a b : Ref sig .scVector}, a ≠ b → ((Proc.scVector c i).devRef a : DevRef τ sig) ≠ (Proc.scVector c i).devRef b := fun h e => h (Proc.devRef_injective _ e)
  unfold SparseCore.Cfg.ownBufs
  refine (SparseCore.bigSep_erase' (SparseCore.Cfg.mem_ownRefs_of_owner (p := Proc.scVector c i) (b := (Proc.scVector c i).devRef b5) o5)).trans ?_
  rw [SparseCore.bigSep_erase' (Finset.mem_erase.mpr ⟨ne h56, SparseCore.Cfg.mem_ownRefs_of_owner (p := Proc.scVector c i) (b := (Proc.scVector c i).devRef b6) o6⟩),
    SparseCore.bigSep_erase' (Finset.mem_erase.mpr ⟨ne h67, Finset.mem_erase.mpr ⟨ne h57, SparseCore.Cfg.mem_ownRefs_of_owner (p := Proc.scVector c i) (b := (Proc.scVector c i).devRef b7) o7⟩⟩)]

/-- The task in the launch's terms, whichever call's buffers and semaphores it is handed: `Bufs` and `Sems` are what of
    the subcore's own it leaves alone. -/
theorem tile_gen (d : Dev nD) (i : grid0.Coords) (arg2 : Memref sig .scVector .hbm S65536 .f32) (harg2 : arg2.IsWhole) (arg3 : Memref sig .scVector .hbm S524288 .i32)
    (arg4 : Memref sig .scVector .hbm S4194304 .f32) (arg5 : Memref sig .scVector .vmem S65536 .f32) (harg5 : arg5.IsWhole)
    (arg6 : Memref sig .scVector .vmem S4096 .i32) (harg6 : arg6.IsWhole) (arg7 : Memref sig .scVector .vmem S32768 .f32) (harg7 : arg7.IsWhole)
    (r0 r1 r2 : DmaSems sig S_) (T : S65536.Idx → Elt F .f32) (X : S524288.Idx → BitVec 32) (hX : ∀ x, (X x).toNat < 8192) (Bufs Sems : sProp (MM F))
    (hB : (ownBufs (VT d i) : sProp 𝕄) = iprop((∃ Y, owns (VT d i) arg5 fullShare Y) ∗ (∃ G, owns (Val := Elt F) (e := .i32) (VT d i) arg6 fullShare G) ∗ (∃ R, owns (VT d i) arg7 fullShare R) ∗ Bufs))
    (hS : (ownSems0 (VT d i) : sProp 𝕄) = iprop((semVal (VT d i, SemLoc.dma r0.sem) 0 ∗ semVal (VT d i, SemLoc.dma r1.sem) 0 ∗ semVal (VT d i, SemLoc.dma r2.sem) 0) ∗ Sems))
    (hF : (K (F := F)).Facts) (O : CellTallies nD τ sig (HIx 2)) (W : Waits sig (HIx 2)) (hO : ∀ g, O g none = 0) (q : Fin 2) :
    iprop(levAts (K (F := F)).L (K (F := F)).lev ∗ emp ∗ tileRes d i arg2 arg3 arg4 T X 0
        ∗ scopedBufs (VT d i) ∗ scopedSems0 (VT d i) ∗ owes (VT d i) O W)
      ⊢ wp frame (wpE (defs₀ (F := F)) 𝒱₀ (VT d i) none) Set.univ (task (F := F) i arg2 harg2 arg3 arg4 arg5 harg5 arg6 harg6 arg7 harg7 r0 r1 r2)
          fun _ => iprop(tileRes d i arg2 arg3 arg4 T X 4 ∗ scopedBufs (VT d i) ∗ scopedSems0 (VT d i)
            ∗ ∃ W', ⌜∀ p ∈ W', p ∈ W ∨ p.2 = none ∨ p.2 = some q⌝ ∗ owes (VT d i) O W') := by
  rw [(K (F := F)).scopedBufs_V hF d ((i 0).castLE hcore0) ((i 1).castLE hsub0), SparseCore.Cfg.scopedSems0_V (Val := Elt F) d ((i 0).castLE hcore0) ((i 1).castLE hsub0), hB, hS]
  unfold tileRes
  iintro ⟨#Hlv, -, ⟨H2, H3, Ho⟩, ⟨H5, H6, H7, HB⟩, ⟨⟨Hv0, Hv1, Hv2⟩, HS⟩, HO⟩
  ihave Hmw := (show levAts (K (F := F)).L (K (F := F)).lev ⊢ Transfers.MayWaits (VT d i) (default : HIx 2) O from
    (K (F := F)).mayWaits_none (thr := VT d i) hO) $$ Hlv
  iapply (wp_wand_r Idealize.ShloMosaic.frame (wpE (defs₀ (F := F)) 𝒱₀ (VT d i) none) Set.univ)
  isplitl [H2 H3 Ho H5 H6 H7 Hv0 Hv1 Hv2 HO]
  · iapply (outer_wp (i := i) (d := d) (sh i) hX O W)
    isplitr; · iexact Hmw
    isplitl [H2]; · iexact H2
    isplitl [H3]; · iexact H3
    isplitl [H5]; · iexact H5
    isplitl [H6]; · iexact H6
    isplitl [H7]; · iexact H7
    isplitl [Hv0]; · iexact Hv0
    isplitl [Hv1]; · iexact Hv1
    isplitl [Hv2]; · iexact Hv2
    isplitl [HO]; · iexact HO
    iexact Ho
  iintro %_ ⟨H2, H3, H5, H6, H7, Hv0, Hv1, Hv2, HO, Ho⟩
  isplitl [H2 H3 Ho]
  · isplitl [H2]; · iexact H2
    isplitl [H3]; · iexact H3
    iexact Ho
  isplitl [H5 H6 H7 HB]
  · isplitl [H5]; · iexact H5
    isplitl [H6]; · iexact H6
    isplitl [H7]; · iexact H7
    iexact HB
  isplitl [Hv0 Hv1 Hv2 HS]
  · isplitl [Hv0 Hv1 Hv2]
    · isplitl [Hv0]; · iexact Hv0
      isplitl [Hv1]; · iexact Hv1
      iexact Hv2
    iexact HS
  unfold owesFrom
  icases HO with ⟨%W', %hW', HO⟩
  iexists W'; isplitr
  · ipureintro; exact fun p hp => (hW' p hp).imp id .inl
  · iexact HO

end Cert.KernelIdeal.Run

end
-- ==== Proof.Ideal.Tiles.lean ====
/-
  The two calls' obligations: what the handshakes carry (each tile's shares and chunks), and that every tile's task,
  as printed, meets them.
-/
module

public import proofs.«01_k».proof.Proof.Ideal.TileBody
public import proofs.«01_k».proof.Proof.Ideal.TileEq

@[expose] public section

noncomputable section

namespace Cert.KernelIdeal.Run

open Cert.KernelIdeal Cert.KernelIdeal.Gen Cert.KernelIdeal.Tile

open Idealize.ShloMosaic
open Idealize.ShloMosaic.SparseCore (S V T)
open Idealize.ShloMosaic.SparseCore.Cfg (HIx Pay ownBufs ownSems0 ownRefs ownCells)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

def coordsV (c : Fin (grid0.bound 0)) (s : Fin (grid0.bound 1)) : grid0.Coords :=
  fun | 0 => c | 1 => s | ⟨_ + 2, h⟩ => absurd h (Nat.not_lt.2 (Nat.le_add_left _ _))

/-! ## The operands' contents and the payloads -/

/-- The flat table every call reads, and the flat addresses each call reads, per device. -/
structure Ops (F : FTy → Type) where
  tab : Dev nD → S65536.Idx → Elt F .f32
  adr : Fin 2 → Dev nD → S524288.Idx → BitVec 32

/-- Call 0's operands at tile `(c, s)`. -/
def res0 (o : Ops F) (d : Dev nD) (c : Fin 2) (s : Fin 16) (n : Nat) : sProp 𝕄 :=
  tileRes d (coordsV c s) (Memref.whole main_v1_scv) (Memref.whole main_v11_scv) (Memref.whole main_v12_scv) (o.tab d) (o.adr 0 d) n
/-- Call 1's. -/
def res1 (o : Ops F) (d : Dev nD) (c : Fin 2) (s : Fin 16) (n : Nat) : sProp 𝕄 :=
  tileRes d (coordsV c s) (Memref.whole main_v1_scv) (Memref.whole main_v19_scv) (Memref.whole main_v20_scv) (o.tab d) (o.adr 1 d) n

instance res0_storable (o : Ops F) (d : Dev nD) (c : Fin 2) (s : Fin 16) (n : Nat) : BI.Storable (upEmb : UEmb _ 𝕄) (res0 o d c s n) := by
  unfold res0; infer_instance
instance res1_storable (o : Ops F) (d : Dev nD) (c : Fin 2) (s : Fin 16) (n : Nat) : BI.Storable (upEmb : UEmb _ 𝕄) (res1 o d c s n) := by
  unfold res1; infer_instance
theorem res0s_storable (o : Ops F) (d : Dev nD) (c : Fin 2) (n : Nat) : BI.Storable (upEmb : UEmb _ 𝕄) (bigSep Finset.univ fun s : Fin 16 => res0 o d c s n) :=
  inferInstance
theorem res1s_storable (o : Ops F) (d : Dev nD) (c : Fin 2) (n : Nat) : BI.Storable (upEmb : UEmb _ 𝕄) (bigSep Finset.univ fun s : Fin 16 => res1 o d c s n) :=
  inferInstance

/-- What the handshakes carry: a sequencer's share is its tiles' together. -/
def P (o : Ops F) : (K (F := F)).Pay (nD := nD) (Val := Elt F) (Name := ℕ) (U := UU) where
  st := fun q d c => match q, c with
    | 0, c => bigSep Finset.univ fun s : Fin 16 => res0 o d c s 0
    | 1, c => bigSep Finset.univ fun s : Fin 16 => res1 o d c s 0
  dn := fun q d c => match q, c with
    | 0, c => bigSep Finset.univ fun s : Fin 16 => res0 o d c s 4
    | 1, c => bigSep Finset.univ fun s : Fin 16 => res1 o d c s 4
  go := fun q d c i => match q, c, i with
    | 0, c, i => res0 o d c i 0
    | 1, c, i => res1 o d c i 0
  td := fun q d c i => match q, c, i with
    | 0, c, i => res0 o d c i 4
    | 1, c, i => res1 o d c i 4
  x := fun _ _ => iprop(emp)

instance P_storable (o : Ops F) : (P o).IsStorable where
  st q d c := match q, c with
    | 0, c => res0s_storable o d c 0
    | 1, c => res1s_storable o d c 0
  dn q d c := match q, c with
    | 0, c => res0s_storable o d c 4
    | 1, c => res1s_storable o d c 4
  go q d c i := match q, c, i with
    | 0, c, i => res0_storable o d c i 0
    | 1, c, i => res1_storable o d c i 0
  td q d c i := match q, c, i with
    | 0, c, i => res0_storable o d c i 4
    | 1, c, i => res1_storable o d c i 4

theorem vecSplit0 (o : Ops F) : (K (F := F)).VecSplit' (P o) 0 := by
  intro d c
  show (bigSep Finset.univ fun s : Fin 16 => res0 o d c s 0) ⊢ |={Set.univ}=> iprop((bigSep Finset.univ fun s : Fin 16 => res0 o d c s 0)
    ∗ ((bigSep Finset.univ fun s : Fin 16 => res0 o d c s 4) -∗ (bigSep Finset.univ fun s : Fin 16 => res0 o d c s 4)))
  iintro H; imodintro
  isplitl [H]; · iexact H
  iintro H; iexact H
theorem vecSplit1 (o : Ops F) : (K (F := F)).VecSplit' (P o) 1 := by
  intro d c
  show (bigSep Finset.univ fun s : Fin 16 => res1 o d c s 0) ⊢ |={Set.univ}=> iprop((bigSep Finset.univ fun s : Fin 16 => res1 o d c s 0)
    ∗ ((bigSep Finset.univ fun s : Fin 16 => res1 o d c s 4) -∗ (bigSep Finset.univ fun s : Fin 16 => res1 o d c s 4)))
  iintro H; imodintro
  isplitl [H]; · iexact H
  iintro H; iexact H

/-! ## The tasks -/

/-- Every address either call reads is inside the table. -/
def Ops.Ok (o : Ops F) : Prop := ∀ q d x, (o.adr q d x).toNat < 8192

omit [FloatOps F] in
theorem owns_whole_ex (c : Thread nD τ) (b : Ref sig c.2.kind) :
    (iprop(∃ f, owns (Val := Elt F) c (Memref.whole b) fullShare f) : sProp 𝕄) = iprop(∃ f, c.loc b ↦{fullShare} f) := by
  congr 1; funext f; exact owns_whole c b fullShare f

theorem tile0 (o : Ops F) (ho : o.Ok) (d : Dev nD) (c : Fin (grid0.bound 0)) (s : Fin (grid0.bound 1)) (hF : (K (F := F)).Facts)
    (O : CellTallies nD τ sig (HIx 2)) (W : Waits sig (HIx 2)) (hO : ∀ g, O g none = 0) :
    iprop(levAts (K (F := F)).L (K (F := F)).lev ∗ emp ∗ res0 o d c s 0
        ∗ scopedBufs (VT d (coordsV c s)) ∗ scopedSems0 (VT d (coordsV c s)) ∗ owes (VT d (coordsV c s)) O W)
      ⊢ wp frame (wpE (defs₀ (F := F)) 𝒱₀ (VT d (coordsV c s)) none) Set.univ
          (cc0__sc_gather_body (F := F) (coordsV c s) (Memref.whole main_v1_scv) (Memref.isWhole_whole _) (Memref.whole main_v11_scv) (Memref.isWhole_whole _)
            (Memref.whole main_v12_scv) (Memref.isWhole_whole _) (Memref.whole cc0_scratch0) (Memref.isWhole_whole _) (Memref.whole cc0_scratch1) (Memref.isWhole_whole _)
            (Memref.whole cc0_scratch2) (Memref.isWhole_whole _) cc0_scratch3 cc0_scoped0 cc0_scoped1 cc0_scoped2)
          fun _ => iprop(res0 o d c s 4 ∗ scopedBufs (VT d (coordsV c s)) ∗ scopedSems0 (VT d (coordsV c s))
            ∗ ∃ W', ⌜∀ p ∈ W', p ∈ W ∨ p.2 = none ∨ p.2 = some (0 : Fin 2)⌝ ∗ owes (VT d (coordsV c s)) O W') := by
  rw [cc0_eq]
  have hB := ownBufs_three (F := F) d ((coordsV c s 0).castLE hcore0) ((coordsV c s 1).castLE hsub0) cc0_scratch0 cc0_scratch1 cc0_scratch2 rfl rfl rfl
    (by decide) (by decide) (by decide)
  rw [← owns_whole_ex (VT d (coordsV c s)) cc0_scratch0, ← owns_whole_ex (VT d (coordsV c s)) cc0_scratch1, ← owns_whole_ex (VT d (coordsV c s)) cc0_scratch2] at hB
  exact tile_gen d (coordsV c s) _ _ _ _ _ _ _ _ _ _ _ _ _ _ _ (ho 0 d) _ _ hB
    (ownSems_three (VT d (coordsV c s)) cc0_scoped0.sem cc0_scoped1.sem cc0_scoped2.sem (fun _ => rfl) (by decide) (by decide) (by decide)) hF O W hO 0

theorem tile1 (o : Ops F) (ho : o.Ok) (d : Dev nD) (c : Fin (grid0.bound 0)) (s : Fin (grid0.bound 1)) (hF : (K (F := F)).Facts)
    (O : CellTallies nD τ sig (HIx 2)) (W : Waits sig (HIx 2)) (hO : ∀ g, O g none = 0) :
    iprop(levAts (K (F := F)).L (K (F := F)).lev ∗ emp ∗ res1 o d c s 0
        ∗ scopedBufs (VT d (coordsV c s)) ∗ scopedSems0 (VT d (coordsV c s)) ∗ owes (VT d (coordsV c s)) O W)
      ⊢ wp frame (wpE (defs₀ (F := F)) 𝒱₀ (VT d (coordsV c s)) none) Set.univ
          (cc2__sc_gather_body (F := F) (coordsV c s) (Memref.whole main_v1_scv) (Memref.isWhole_whole _) (Memref.whole main_v19_scv) (Memref.isWhole_whole _)
            (Memref.whole main_v20_scv) (Memref.isWhole_whole _) (Memref.whole cc2_scratch0) (Memref.isWhole_whole _) (Memref.whole cc2_scratch1) (Memref.isWhole_whole _)
            (Memref.whole cc2_scratch2) (Memref.isWhole_whole _) cc2_scratch3 cc2_scoped0 cc2_scoped1 cc2_scoped2)
          fun _ => iprop(res1 o d c s 4 ∗ scopedBufs (VT d (coordsV c s)) ∗ scopedSems0 (VT d (coordsV c s))
            ∗ ∃ W', ⌜∀ p ∈ W', p ∈ W ∨ p.2 = none ∨ p.2 = some (1 : Fin 2)⌝ ∗ owes (VT d (coordsV c s)) O W') := by
  rw [cc2_eq]
  have hB := ownBufs_three (F := F) d ((coordsV c s 0).castLE hcore0) ((coordsV c s 1).castLE hsub0) cc2_scratch0 cc2_scratch1 cc2_scratch2 rfl rfl rfl
    (by decide) (by decide) (by decide)
  rw [← owns_whole_ex (VT d (coordsV c s)) cc2_scratch0, ← owns_whole_ex (VT d (coordsV c s)) cc2_scratch1, ← owns_whole_ex (VT d (coordsV c s)) cc2_scratch2] at hB
  exact tile_gen d (coordsV c s) _ _ _ _ _ _ _ _ _ _ _ _ _ _ _ (ho 1 d) _ _ hB
    (ownSems_three (VT d (coordsV c s)) cc2_scoped0.sem cc2_scoped1.sem cc2_scoped2.sem (fun _ => rfl) (by decide) (by decide) (by decide)) hF O W hO 1

theorem defs₀_vector0 (c : Fin τ.nSC) (s : Fin τ.nSub) :
    defs₀ (F := F) (.scVector c s) 0 ()
      = SparseCore.onTile hcore0 hsub0 (fun c s => cc0__sc_gather_body (F := F) (coordsV c s) (Memref.whole main_v1_scv) (Memref.isWhole_whole _) (Memref.whole main_v11_scv) (Memref.isWhole_whole _)
            (Memref.whole main_v12_scv) (Memref.isWhole_whole _) (Memref.whole cc0_scratch0) (Memref.isWhole_whole _) (Memref.whole cc0_scratch1) (Memref.isWhole_whole _)
            (Memref.whole cc0_scratch2) (Memref.isWhole_whole _) cc0_scratch3 cc0_scoped0 cc0_scoped1 cc0_scoped2) ⟨⟩ c s := rfl
theorem defs₀_vector1 (c : Fin τ.nSC) (s : Fin τ.nSub) :
    defs₀ (F := F) (.scVector c s) 2 ()
      = SparseCore.onTile hcore2 hsub2 (fun c s => cc2__sc_gather_body (F := F) (coordsV c s) (Memref.whole main_v1_scv) (Memref.isWhole_whole _) (Memref.whole main_v19_scv) (Memref.isWhole_whole _)
            (Memref.whole main_v20_scv) (Memref.isWhole_whole _) (Memref.whole cc2_scratch0) (Memref.isWhole_whole _) (Memref.whole cc2_scratch1) (Memref.isWhole_whole _)
            (Memref.whole cc2_scratch2) (Memref.isWhole_whole _) cc2_scratch3 cc2_scoped0 cc2_scoped1 cc2_scoped2) ⟨⟩ c s := rfl

theorem tileObl0 (o : Ops F) (ho : o.Ok) (hF : (K (F := F)).Facts) : (K (F := F)).TileObl (D (F := F)) 𝒱 (P o) v₀ 0 := by
  intro d c i O W hO _ _
  simp only [show (P o).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact tile0 o ho d ⟨_, hci.1⟩ ⟨_, hci.2⟩ hF O W hO
theorem tileObl1 (o : Ops F) (ho : o.Ok) (hF : (K (F := F)).Facts) : (K (F := F)).TileObl (D (F := F)) 𝒱 (P o) v₀ 1 := by
  intro d c i O W hO _ _
  simp only [show (P o).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact tile1 o ho d ⟨_, hci.1⟩ ⟨_, hci.2⟩ hF O W hO

end Cert.KernelIdeal.Run

end
-- ==== Proof.Ideal.Split.lean ====
/-
  A call's operands whole are its tiles' shares and chunks together, before and after.
-/
module

public import proofs.«01_k».proof.Proof.Ideal.Tiles

@[expose] public section

noncomputable section

namespace Cert.KernelIdeal.Run

open Cert.KernelIdeal Cert.KernelIdeal.Gen Cert.KernelIdeal.Tile

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-! ## The chunks cut the output -/

abbrev CX : Type := Fin 2 × Fin 16 × Fin k0_t1_loop.trips
abbrev rO (p : CX) : Rect S4194304 := rOut (coordsV p.1 p.2.1) p.2.2

theorem mem_rO (p : CX) (x : S4194304.Idx) : x ∈ (rO p).set ↔
    262144 * p.2.1.val + 131072 * p.1.val + 32768 * p.2.2.val ≤ (x 0).val ∧ (x 0).val < 262144 * p.2.1.val + 131072 * p.1.val + 32768 * p.2.2.val + 32768 := by
  have e : k0_off18 (coordsV p.1 p.2.1) p.2.2 0 = 262144 * p.2.1.val + 131072 * p.1.val + 32768 * p.2.2.val := congrFun (k0_off18_eq (coordsV p.1 p.2.1) p.2.2) 0
  unfold rO
  rw [Rect.mem_set_unit]
  constructor
  · intro h; have := h 0; rw [e] at this; exact this
  · intro h a; rw [Fin.eq_zero a, e]; exact h

theorem rO_disjoint : ∀ p ∈ (Finset.univ : Finset CX), ∀ p' ∈ (Finset.univ : Finset CX), p ≠ p' → Disjoint (rO p).set (rO p').set := by
  intro p _ p' _ h
  rw [Finset.disjoint_left]
  intro x hx hx'
  rw [mem_rO] at hx hx'
  have t := trips1
  have a1 := p.1.isLt; have a2 := p.2.1.isLt; have a3 : p.2.2.val < 4 := t ▸ p.2.2.isLt
  have b1 := p'.1.isLt; have b2 := p'.2.1.isLt; have b3 : p'.2.2.val < 4 := t ▸ p'.2.2.isLt
  apply h
  have e1 : p.2.1.val = p'.2.1.val := by omega
  have e2 : p.1.val = p'.1.val := by omega
  have e3 : p.2.2.val = p'.2.2.val := by omega
  exact Prod.ext (Fin.ext e2) (Prod.ext (Fin.ext e1) (Fin.ext e3))

theorem rO_cover : (Finset.univ : Finset CX).biUnion (fun p => (rO p).set) = Finset.univ := by
  refine Finset.eq_univ_of_forall fun x => Finset.mem_biUnion.mpr ?_
  have h0 : (x 0).val < 4194304 := (x 0).isLt
  have h1 : (x 0).val / 131072 % 2 < 2 := by omega
  have h2 : (x 0).val / 262144 < 16 := by omega
  have h3 : (x 0).val / 32768 % 4 < k0_t1_loop.trips := by rw [trips1]; omega
  refine ⟨(⟨_, h1⟩, ⟨_, h2⟩, ⟨_, h3⟩), Finset.mem_univ _, ?_⟩
  rw [mem_rO]
  show 262144 * ((x 0).val / 262144) + 131072 * ((x 0).val / 131072 % 2) + 32768 * ((x 0).val / 32768 % 4) ≤ (x 0).val
    ∧ (x 0).val < 262144 * ((x 0).val / 262144) + 131072 * ((x 0).val / 131072 % 2) + 32768 * ((x 0).val / 32768 % 4) + 32768
  omega

/-! ## The shares cut a read operand -/

theorem shares_eq {ℓ : Loc nD τ sig} (f : Buf (Elt F) ℓ) :
    (ℓ ↦{fullShare} f : sProp 𝕄) = bigSep Finset.univ fun c : Fin 2 => bigSep Finset.univ fun s : Fin 16 => ℓ ↦{sh (coordsV c s)} f := by
  rw [ShareLeaves.pointsTo_leaves Finset.univ f 1 fullShare]
  exact bigSep_congr fun c _ => ShareLeaves.pointsTo_leaves Finset.univ f 4 (ShareLeaves.leaf 1 fullShare c)

/-! ## Each call's operands -/

section Call0

/-- The addresses are one buffer, seen from a tile and from the TensorCore. -/
theorem addr0 (d : Dev nD) (i : grid0.Coords) (q : PosShare TreeShare) (f : S524288.Idx → BitVec 32) :
    ((T d : Thread nD τ).loc main_v11 ↦{q} f : sProp 𝕄) ⊣⊢ ((VT d i).loc main_v11_scv ↦{q} f) := ⟨.rfl, .rfl⟩

theorem out0_eq (d : Dev nD) (f : Buf (Elt F) ((T d : Thread nD τ).loc main_v12)) :
    ((T d : Thread nD τ).loc main_v12 ↦{fullShare} f : sProp 𝕄) = bigSep Finset.univ fun p : CX => (T d : Thread nD τ).loc main_v12 ↦[(rO p).set]{fullShare} f := by
  rw [← pointsTo_biUnion Finset.univ (ℓ := (T d : Thread nD τ).loc main_v12) (fun p => (rO p).set) rO_disjoint, rO_cover]; try rfl

theorem set0_eq (p : CX) : ((Memref.whole main_v12_scv : Memref sig .scVector .hbm S4194304 .f32).slice (rO p) (fun _ => rfl)).view.set = (rO p).set := by
  show ((View.whole (main_v12_scv : Ref sig .scVector)).slice (rO p)).set = _
  rw [View.set_slice]; exact Finset.map_refl

theorem chunk0_in (d : Dev nD) (p : CX) (Tb : S65536.Idx → Elt F .f32) (X : S524288.Idx → BitVec 32) (f : Buf (Elt F) ((T d : Thread nD τ).loc main_v12)) :
    ((T d : Thread nD τ).loc main_v12 ↦[(rO p).set]{fullShare} f : sProp 𝕄) ⊢ chunk d (coordsV p.1 p.2.1) (Memref.whole main_v12_scv) Tb X 0 p.2.2 := by
  unfold chunk
  rw [if_neg (Nat.not_lt_zero _), ← set0_eq p]
  iintro H
  iexists _
  iapply (owns_intro (VT d (coordsV p.1 p.2.1)) ((Memref.whole main_v12_scv : Memref sig .scVector .hbm S4194304 .f32).slice (rO p) (fun _ => rfl)) fullShare f)
  iexact H

theorem chunk0_out (d : Dev nD) (p : CX) (Tb : S65536.Idx → Elt F .f32) (X : S524288.Idx → BitVec 32) :
    (chunk d (coordsV p.1 p.2.1) (Memref.whole main_v12_scv) Tb X 4 p.2.2 : sProp 𝕄) ⊢ ((T d : Thread nD τ).loc main_v12 ↦[(rO p).set]{fullShare} rowsOf Tb X) := by
  unfold chunk
  rw [if_pos (trips1 ▸ p.2.2.isLt)]
  iintro H
  ihave H' := (owns_open _ _ _ _) $$ H
  icases H' with ⟨%f, %hf, H⟩
  rw [← set0_eq p]
  iapply (Entails.of_eq (pointsTo_congr (ℓ := (T d : Thread nD τ).loc main_v12) (f := f) (g := rowsOf Tb X) ?_))
  · intro x hx
    obtain ⟨y, -, rfl⟩ := Finset.mem_map.mp hx
    exact congrFun hf y
  · iexact H

/-- What the call is handed. -/
theorem call0_in (o : Ops F) (d : Dev nD) (f : Buf (Elt F) ((T d : Thread nD τ).loc main_v12)) :
    iprop(((T d : Thread nD τ).loc main_v1 ↦{fullShare} o.tab d) ∗ ((T d : Thread nD τ).loc main_v11 ↦{fullShare} o.adr 0 d) ∗ ((T d : Thread nD τ).loc main_v12 ↦{fullShare} f))
      ⊢ (bigSep Finset.univ fun c : Fin ((K (F := F)).nCore 0) => (P o).st 0 d c : sProp 𝕄) := by
  show _ ⊢ bigSep Finset.univ fun c : Fin 2 => bigSep Finset.univ fun s : Fin 16 => res0 o d c s 0
  rw [shares_eq (ℓ := (T d : Thread nD τ).loc main_v1), shares_eq (ℓ := (T d : Thread nD τ).loc main_v11), out0_eq, BI.bigSep_univ_prod]
  simp only [BI.bigSep_univ_prod]
  rw [← bigSep_sep', ← bigSep_sep']
  refine bigSep_mono fun c _ => ?_
  rw [← bigSep_sep', ← bigSep_sep']
  refine bigSep_mono fun s _ => ?_
  unfold res0 tileRes
  rw [owns_whole, owns_whole]
  refine sep_mono (Entails.of_eq rfl) (sep_mono (addr0 d _ _ _).1 (bigSep_mono fun j _ => chunk0_in d (c, s, j) _ _ f))

/-- What it hands back. -/
theorem call0_out (o : Ops F) (d : Dev nD) :
    (bigSep Finset.univ fun c : Fin ((K (F := F)).nCore 0) => (P o).dn 0 d c : sProp 𝕄)
      ⊢ iprop(((T d : Thread nD τ).loc main_v1 ↦{fullShare} o.tab d) ∗ ((T d : Thread nD τ).loc main_v11 ↦{fullShare} o.adr 0 d)
          ∗ ((T d : Thread nD τ).loc main_v12 ↦{fullShare} rowsOf (o.tab d) (o.adr 0 d))) := by
  show (bigSep Finset.univ fun c : Fin 2 => bigSep Finset.univ fun s : Fin 16 => res0 o d c s 4) ⊢ _
  rw [shares_eq (ℓ := (T d : Thread nD τ).loc main_v1), shares_eq (ℓ := (T d : Thread nD τ).loc main_v11), out0_eq, BI.bigSep_univ_prod]
  simp only [BI.bigSep_univ_prod]
  rw [← bigSep_sep', ← bigSep_sep']
  refine bigSep_mono fun c _ => ?_
  rw [← bigSep_sep', ← bigSep_sep']
  refine bigSep_mono fun s _ => ?_
  unfold res0 tileRes
  rw [owns_whole, owns_whole]
  refine sep_mono (Entails.of_eq rfl) (sep_mono (addr0 d _ _ _).2 (bigSep_mono fun j _ => chunk0_out d (c, s, j) _ _))

end Call0

section Call1

/-- The addresses are one buffer, seen from a tile and from the TensorCore. -/
theorem addr1 (d : Dev nD) (i : grid0.Coords) (q : PosShare TreeShare) (f : S524288.Idx → BitVec 32) :
    ((T d : Thread nD τ).loc main_v19 ↦{q} f : sProp 𝕄) ⊣⊢ ((VT d i).loc main_v19_scv ↦{q} f) := ⟨.rfl, .rfl⟩

theorem out1_eq (d : Dev nD) (f : Buf (Elt F) ((T d : Thread nD τ).loc main_v20)) :
    ((T d : Thread nD τ).loc main_v20 ↦{fullShare} f : sProp 𝕄) = bigSep Finset.univ fun p : CX => (T d : Thread nD τ).loc main_v20 ↦[(rO p).set]{fullShare} f := by
  rw [← pointsTo_biUnion Finset.univ (ℓ := (T d : Thread nD τ).loc main_v20) (fun p => (rO p).set) rO_disjoint, rO_cover]; try rfl

theorem set1_eq (p : CX) : ((Memref.whole main_v20_scv : Memref sig .scVector .hbm S4194304 .f32).slice (rO p) (fun _ => rfl)).view.set = (rO p).set := by
  show ((View.whole (main_v20_scv : Ref sig .scVector)).slice (rO p)).set = _
  rw [View.set_slice]; exact Finset.map_refl

theorem chunk1_in (d : Dev nD) (p : CX) (Tb : S65536.Idx → Elt F .f32) (X : S524288.Idx → BitVec 32) (f : Buf (Elt F) ((T d : Thread nD τ).loc main_v20)) :
    ((T d : Thread nD τ).loc main_v20 ↦[(rO p).set]{fullShare} f : sProp 𝕄) ⊢ chunk d (coordsV p.1 p.2.1) (Memref.whole main_v20_scv) Tb X 0 p.2.2 := by
  unfold chunk
  rw [if_neg (Nat.not_lt_zero _), ← set1_eq p]
  iintro H
  iexists _
  iapply (owns_intro (VT d (coordsV p.1 p.2.1)) ((Memref.whole main_v20_scv : Memref sig .scVector .hbm S4194304 .f32).slice (rO p) (fun _ => rfl)) fullShare f)
  iexact H

theorem chunk1_out (d : Dev nD) (p : CX) (Tb : S65536.Idx → Elt F .f32) (X : S524288.Idx → BitVec 32) :
    (chunk d (coordsV p.1 p.2.1) (Memref.whole main_v20_scv) Tb X 4 p.2.2 : sProp 𝕄) ⊢ ((T d : Thread nD τ).loc main_v20 ↦[(rO p).set]{fullShare} rowsOf Tb X) := by
  unfold chunk
  rw [if_pos (trips1 ▸ p.2.2.isLt)]
  iintro H
  ihave H' := (owns_open _ _ _ _) $$ H
  icases H' with ⟨%f, %hf, H⟩
  rw [← set1_eq p]
  iapply (Entails.of_eq (pointsTo_congr (ℓ := (T d : Thread nD τ).loc main_v20) (f := f) (g := rowsOf Tb X) ?_))
  · intro x hx
    obtain ⟨y, -, rfl⟩ := Finset.mem_map.mp hx
    exact congrFun hf y
  · iexact H

/-- What the call is handed. -/
theorem call1_in (o : Ops F) (d : Dev nD) (f : Buf (Elt F) ((T d : Thread nD τ).loc main_v20)) :
    iprop(((T d : Thread nD τ).loc main_v1 ↦{fullShare} o.tab d) ∗ ((T d : Thread nD τ).loc main_v19 ↦{fullShare} o.adr 1 d) ∗ ((T d : Thread nD τ).loc main_v20 ↦{fullShare} f))
      ⊢ (bigSep Finset.univ fun c : Fin ((K (F := F)).nCore 1) => (P o).st 1 d c : sProp 𝕄) := by
  show _ ⊢ bigSep Finset.univ fun c : Fin 2 => bigSep Finset.univ fun s : Fin 16 => res1 o d c s 0
  rw [shares_eq (ℓ := (T d : Thread nD τ).loc main_v1), shares_eq (ℓ := (T d : Thread nD τ).loc main_v19), out1_eq, BI.bigSep_univ_prod]
  simp only [BI.bigSep_univ_prod]
  rw [← bigSep_sep', ← bigSep_sep']
  refine bigSep_mono fun c _ => ?_
  rw [← bigSep_sep', ← bigSep_sep']
  refine bigSep_mono fun s _ => ?_
  unfold res1 tileRes
  rw [owns_whole, owns_whole]
  refine sep_mono (Entails.of_eq rfl) (sep_mono (addr1 d _ _ _).1 (bigSep_mono fun j _ => chunk1_in d (c, s, j) _ _ f))

/-- What it hands back. -/
theorem call1_out (o : Ops F) (d : Dev nD) :
    (bigSep Finset.univ fun c : Fin ((K (F := F)).nCore 1) => (P o).dn 1 d c : sProp 𝕄)
      ⊢ iprop(((T d : Thread nD τ).loc main_v1 ↦{fullShare} o.tab d) ∗ ((T d : Thread nD τ).loc main_v19 ↦{fullShare} o.adr 1 d)
          ∗ ((T d : Thread nD τ).loc main_v20 ↦{fullShare} rowsOf (o.tab d) (o.adr 1 d))) := by
  show (bigSep Finset.univ fun c : Fin 2 => bigSep Finset.univ fun s : Fin 16 => res1 o d c s 4) ⊢ _
  rw [shares_eq (ℓ := (T d : Thread nD τ).loc main_v1), shares_eq (ℓ := (T d : Thread nD τ).loc main_v19), out1_eq, BI.bigSep_univ_prod]
  simp only [BI.bigSep_univ_prod]
  rw [← bigSep_sep', ← bigSep_sep']
  refine bigSep_mono fun c _ => ?_
  rw [← bigSep_sep', ← bigSep_sep']
  refine bigSep_mono fun s _ => ?_
  unfold res1 tileRes
  rw [owns_whole, owns_whole]
  refine sep_mono (Entails.of_eq rfl) (sep_mono (addr1 d _ _ _).2 (bigSep_mono fun j _ => chunk1_out d (c, s, j) _ _))

end Call1

end Cert.KernelIdeal.Run

end
-- ==== Proof.Ideal.Region.lean ====
/-
  The two straight-through calls: the body run at each point, the proof data from the arrays' contents at entry, and
  each call as one region, entered while the thread still owes the later SparseCore call's start signals.
-/
module

public import proofs.«01_k».proof.Proof.Ideal.SetUp
public import Idealize.ShloMosaic.Lib.Pipeline.Kit
public import Idealize.ShloMosaic.Lib.Pipeline.Regions
public import Idealize.ShloMosaic.Lib.Pipeline.RegionArrays
public import Idealize.ShloMosaic.Lib.Pipeline.FrameBody
public import Idealize.ShloMosaic.Lib.Pipeline.ValueKit

@[expose] public section

set_option maxRecDepth 16384

noncomputable section

namespace Cert.KernelIdeal.Run

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Blocks)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MM F

/-- A TensorCore's contents, buffer by buffer, on every device. -/
abbrev Held (F : FTy → Type) : Type := (c : Dev nD) → (b : Ref sig .tc) → Buf (Elt F) ((c : Thread nD τ).loc b)

/-- The pairs the thread may have waited on before call `n`. -/
def past (c : Dev nD) (n : ℕ) : Set (SemLoc sig × HIx 2) :=
  {x | (K (F := F)).lev (N := 2) (T c, x.1) x.2 ≤ 8 * Blocks.fst (Q := 2) (N := 2) n}

/-- The thread's debts before call `n`, its waits bounded. -/
def debts (c : Dev nD) (n : ℕ) : sProp 𝕄 :=
  iprop(∃ W, ⌜(K (F := F)).WBelow (T c) W (8 * Blocks.fst (Q := 2) (N := 2) n)⌝ ∗ owes (T c) ((K (F := F)).Otc c n) W)

/-- The one admissible choice of prefetched tables: there are none. -/
abbrev adm : (p : Fin 2) → (pcfgs (F := F) p).Adm := fun p => (cfgs p).toPCfg_adm

/-! ## Call 1 -/

/-- Window `w`'s block at point `t`, read off its array at entry. -/
def blk1 (Vv : Held F) (c : Dev nD) (w : Fin cfg1.W) (t : Fin cfg1.N) :
    ((cfg1.win w).xblock (cfg1.grid.coords t)).Idx → Elt F (cfg1.win w).elt :=
  ((cfg1.win w).blk t).view.read (Elt F) (Vv c (Pipeline.arrRef spec1 w))

set_option maxHeartbeats 1000000 in
/-- The body reads its two operands' staging buffers and leaves their straight-through combination in the third. -/
theorem body_wp1 (c : Dev nD) (E : Set ℕ) (i : grid1.Coords) (m1 : Memref sig .tc .vmem S1x128x1024 .f32) (h1 : m1.IsWhole)
    (m2 : Memref sig .tc .vmem S131072 .f32) (h2 : m2.IsWhole) (m3 : Memref sig .tc .vmem S1x128x1024 .f32) (h3 : m3.IsWhole)
    (x : Vec F S1x128x1024 .f32) (y : Vec F S131072 .f32) (Q : PUnit → sProp 𝕄) :
    iprop(owns (c : Thread nD τ) m1 fullShare x ∗ owns (c : Thread nD τ) m2 fullShare y ∗ (∃ z, owns (c : Thread nD τ) m3 fullShare z)
        ∗ (iprop(owns (c : Thread nD τ) m1 fullShare x ∗ owns (c : Thread nD τ) m2 fullShare y
            ∗ owns (c : Thread nD τ) m3 fullShare (k1_pay1 x y)) -∗ Q ⟨⟩))
      ⊢ wp frame (wpE (defs₀ (F := F)) 𝒱₀ c none) E (cc1__st_body i m1 h1 m2 h2 m3 h3) Q := by
  rw [cc1__st_body_eq_skeleton]; unfold cc1__st_body_skel owns
  iintro ⟨⟨%f1, %e1, H1⟩, ⟨%f2, %e2, H2⟩, ⟨%z, %f3, -, H3⟩, Hk⟩
  subst e1 e2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon m3.view _ [⟨Rect.unit (s := S1x128x1024) ![0, 0, 0] S1x128x1024.size inb_S1x128x1024_S1x128x1024_0_0_0, _⟩]
    (View.cover_of_tiled _ S1x128x1024.size (by rfl))).trans ?_
  refine (View.canon_cons_unit_lit _ _ [] (by decide)).trans ?_
  congr 1
  · exact View.ld_unit_lit _ (m1.view.read (Elt F) f1) (by decide)
  · exact View.ld_unit_lit _ (m2.view.read (Elt F) f2) (by decide)

/-- The call's proof data from the arrays' contents at entry. -/
def dat1 (Vv : Held F) (c : Dev nD) : Dat τ (Elt F) (HIx 2) ℕ UU ℕ cfg1 c where
  A w := Vv c (Pipeline.arrRef spec1 w)
  after w t := match w with
    | ⟨0, _⟩ => blk1 Vv c 0 t
    | ⟨1, _⟩ => blk1 Vv c 1 t
    | ⟨2, _⟩ => k1_pay1 (blk1 Vv c 0 t) (blk1 Vv c 1 t)
  Φ _ := Pipeline.scopedRest (Ix := HIx 2) (Name := ℕ) (U := UU) (Lvl := ℕ) (Val := Elt F) spec1 c
  q _ := fullShare
  owed _ := (K (F := F)).Otc c 1
  recorded _ := past (F := F) c 1

theorem dat1_A (Vv : Held F) (c : Dev nD) (w : Fin cfg1.W) : (dat1 Vv c).A w = Vv c (Pipeline.arrRef spec1 w) := by dsimp only [dat1]
theorem dat1_after0 (Vv : Held F) (c : Dev nD) (t : Fin cfg1.N) : (dat1 Vv c).after 0 t = blk1 Vv c 0 t := by dsimp only [dat1]
theorem dat1_after1 (Vv : Held F) (c : Dev nD) (t : Fin cfg1.N) : (dat1 Vv c).after 1 t = blk1 Vv c 1 t := by dsimp only [dat1]
theorem dat1_after2 (Vv : Held F) (c : Dev nD) (t : Fin cfg1.N) :
    (dat1 Vv c).after 2 t = k1_pay1 (blk1 Vv c 0 t) (blk1 Vv c 1 t) := by dsimp only [dat1]

/-- Each operand's staging buffer holds its block when the body starts. -/
theorem dat1_before0 (Vv : Held F) (c : Dev nD) (t : Fin cfg1.N) (d) : (dat1 Vv c).before 0 t d = blk1 Vv c 0 t :=
  ((dat1 Vv c).before_in_eq_fetched 0 rfl (fun _ => rfl) (fun _ _ _ => rfl)
    (fun t => by rw [dat1_after0]; unfold Dat.blockOf blk1; rw [dat1_A]) t d).trans (by unfold Dat.fetched Dat.blockOf blk1; rw [dat1_A]; try rfl)
theorem dat1_before1 (Vv : Held F) (c : Dev nD) (t : Fin cfg1.N) (d) : (dat1 Vv c).before 1 t d = blk1 Vv c 1 t :=
  ((dat1 Vv c).before_in_eq_fetched 1 rfl (fun _ => rfl) (fun _ _ _ => rfl)
    (fun t => by rw [dat1_after1]; unfold Dat.blockOf blk1; rw [dat1_A]) t d).trans (by unfold Dat.fetched Dat.blockOf blk1; rw [dat1_A]; try rfl)

theorem row1 (t : Fin cfg1.N) : defs₀ (F := F) .tc cfg1.body (cfg1.bodyArgs t (cfg1.slots t)) = bodyAt1 t := by
  rfl

/-- The body at every point takes the windows' buffers from what they hold to what the data says. -/
theorem point_wp1 (Vv : Held F) (c : Dev nD) (t : Fin cfg1.N) :
    iprop((dat1 Vv c).Φ t.castSucc ∗ (dat1 Vv c).owesAt none t.castSucc
      ∗ (∃ d, owns (c : Thread nD τ) (st1_0 t) fullShare ((dat1 Vv c).before 0 t d))
      ∗ (∃ d, owns (c : Thread nD τ) (st1_1 t) fullShare ((dat1 Vv c).before 1 t d))
      ∗ (∃ d, owns (c : Thread nD τ) (st1_2 t) fullShare ((dat1 Vv c).before 2 t d)))
    ⊢ wp frame (wpE (defs₀ (F := F)) 𝒱₀ c none) Set.univ (bodyAt1 t) (fun _ =>
      iprop((dat1 Vv c).Φ t.succ ∗ (dat1 Vv c).owesAt none t.succ
        ∗ owns (c : Thread nD τ) (st1_0 t) fullShare ((dat1 Vv c).after 0 t)
        ∗ owns (c : Thread nD τ) (st1_1 t) fullShare ((dat1 Vv c).after 1 t)
        ∗ owns (c : Thread nD τ) (st1_2 t) fullShare ((dat1 Vv c).after 2 t))) := by
  unfold bodyAt1
  simp only [dat1_before0, dat1_before1]
  rw [show (dat1 Vv c).Φ t.succ = (dat1 Vv c).Φ t.castSucc from rfl,
    show (dat1 Vv c).owesAt none t.succ = (dat1 Vv c).owesAt none t.castSucc from rfl, dat1_after0, dat1_after1, dat1_after2]
  iintro ⟨HΦ, HO, ⟨%a, Ha⟩, ⟨%b, Hb⟩, ⟨%r, Hr⟩⟩
  iapply (body_wp1 c Set.univ (grid1.coords t) _ _ _ _ _ _ (blk1 Vv c 0 t) (blk1 Vv c 1 t) _)
  isplitl [Ha]; · iexact Ha
  isplitl [Hb]; · iexact Hb
  isplitl [Hr]; · iexists _; iexact Hr
  iintro ⟨Ha, Hb, Hr⟩
  isplitl [HΦ]; · iexact HΦ
  isplitl [HO]; · iexact HO
  isplitl [Ha]; · iexact Ha
  isplitl [Hb]; · iexact Hb
  iexact Hr

theorem obligation1 (Vv : Held F) (c : Dev nD) : BodyObligation (dat1 Vv c) (defs₀ (F := F)) 𝒱₀ none Set.univ := fun t => by
  rw [bigSep_W1, bigSep_W1, row1]
  exact triple_restated (point_wp1 Vv c t) rfl .rfl fun _ => .rfl

/-! ## Call 3 -/

/-- Window `w`'s block at point `t`, read off its array at entry. -/
def blk3 (Vv : Held F) (c : Dev nD) (w : Fin cfg3.W) (t : Fin cfg3.N) :
    ((cfg3.win w).xblock (cfg3.grid.coords t)).Idx → Elt F (cfg3.win w).elt :=
  ((cfg3.win w).blk t).view.read (Elt F) (Vv c (Pipeline.arrRef spec3 w))

set_option maxHeartbeats 1000000 in
/-- The body reads its two operands' staging buffers and leaves their straight-through combination in the third. -/
theorem body_wp3 (c : Dev nD) (E : Set ℕ) (i : grid3.Coords) (m1 : Memref sig .tc .vmem S1x128x1024 .f32) (h1 : m1.IsWhole)
    (m2 : Memref sig .tc .vmem S131072 .f32) (h2 : m2.IsWhole) (m3 : Memref sig .tc .vmem S1x128x1024 .f32) (h3 : m3.IsWhole)
    (x : Vec F S1x128x1024 .f32) (y : Vec F S131072 .f32) (Q : PUnit → sProp 𝕄) :
    iprop(owns (c : Thread nD τ) m1 fullShare x ∗ owns (c : Thread nD τ) m2 fullShare y ∗ (∃ z, owns (c : Thread nD τ) m3 fullShare z)
        ∗ (iprop(owns (c : Thread nD τ) m1 fullShare x ∗ owns (c : Thread nD τ) m2 fullShare y
            ∗ owns (c : Thread nD τ) m3 fullShare (k3_pay1 x y)) -∗ Q ⟨⟩))
      ⊢ wp frame (wpE (defs₀ (F := F)) 𝒱₀ c none) E (cc3__st_body i m1 h1 m2 h2 m3 h3) Q := by
  rw [cc3__st_body_eq_skeleton]; unfold cc3__st_body_skel owns
  iintro ⟨⟨%f1, %e1, H1⟩, ⟨%f2, %e2, H2⟩, ⟨%z, %f3, -, H3⟩, Hk⟩
  subst e1 e2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon m3.view _ [⟨Rect.unit (s := S1x128x1024) ![0, 0, 0] S1x128x1024.size inb_S1x128x1024_S1x128x1024_0_0_0, _⟩]
    (View.cover_of_tiled _ S1x128x1024.size (by rfl))).trans ?_
  refine (View.canon_cons_unit_lit _ _ [] (by decide)).trans ?_
  congr 1
  · exact View.ld_unit_lit _ (m1.view.read (Elt F) f1) (by decide)
  · exact View.ld_unit_lit _ (m2.view.read (Elt F) f2) (by decide)

/-- The call's proof data from the arrays' contents at entry. -/
def dat3 (Vv : Held F) (c : Dev nD) : Dat τ (Elt F) (HIx 2) ℕ UU ℕ cfg3 c where
  A w := Vv c (Pipeline.arrRef spec3 w)
  after w t := match w with
    | ⟨0, _⟩ => blk3 Vv c 0 t
    | ⟨1, _⟩ => blk3 Vv c 1 t
    | ⟨2, _⟩ => k3_pay1 (blk3 Vv c 0 t) (blk3 Vv c 1 t)
  Φ _ := Pipeline.scopedRest (Ix := HIx 2) (Name := ℕ) (U := UU) (Lvl := ℕ) (Val := Elt F) spec3 c
  q _ := fullShare
  owed _ := (K (F := F)).Otc c 2
  recorded _ := past (F := F) c 2

theorem dat3_A (Vv : Held F) (c : Dev nD) (w : Fin cfg3.W) : (dat3 Vv c).A w = Vv c (Pipeline.arrRef spec3 w) := by dsimp only [dat3]
theorem dat3_after0 (Vv : Held F) (c : Dev nD) (t : Fin cfg3.N) : (dat3 Vv c).after 0 t = blk3 Vv c 0 t := by dsimp only [dat3]
theorem dat3_after1 (Vv : Held F) (c : Dev nD) (t : Fin cfg3.N) : (dat3 Vv c).after 1 t = blk3 Vv c 1 t := by dsimp only [dat3]
theorem dat3_after2 (Vv : Held F) (c : Dev nD) (t : Fin cfg3.N) :
    (dat3 Vv c).after 2 t = k3_pay1 (blk3 Vv c 0 t) (blk3 Vv c 1 t) := by dsimp only [dat3]

/-- Each operand's staging buffer holds its block when the body starts. -/
theorem dat3_before0 (Vv : Held F) (c : Dev nD) (t : Fin cfg3.N) (d) : (dat3 Vv c).before 0 t d = blk3 Vv c 0 t :=
  ((dat3 Vv c).before_in_eq_fetched 0 rfl (fun _ => rfl) (fun _ _ _ => rfl)
    (fun t => by rw [dat3_after0]; unfold Dat.blockOf blk3; rw [dat3_A]) t d).trans (by unfold Dat.fetched Dat.blockOf blk3; rw [dat3_A]; try rfl)
theorem dat3_before1 (Vv : Held F) (c : Dev nD) (t : Fin cfg3.N) (d) : (dat3 Vv c).before 1 t d = blk3 Vv c 1 t :=
  ((dat3 Vv c).before_in_eq_fetched 1 rfl (fun _ => rfl) (fun _ _ _ => rfl)
    (fun t => by rw [dat3_after1]; unfold Dat.blockOf blk3; rw [dat3_A]) t d).trans (by unfold Dat.fetched Dat.blockOf blk3; rw [dat3_A]; try rfl)

theorem row3 (t : Fin cfg3.N) : defs₀ (F := F) .tc cfg3.body (cfg3.bodyArgs t (cfg3.slots t)) = bodyAt3 t := by
  rfl

/-- The body at every point takes the windows' buffers from what they hold to what the data says. -/
theorem point_wp3 (Vv : Held F) (c : Dev nD) (t : Fin cfg3.N) :
    iprop((dat3 Vv c).Φ t.castSucc ∗ (dat3 Vv c).owesAt none t.castSucc
      ∗ (∃ d, owns (c : Thread nD τ) (st3_0 t) fullShare ((dat3 Vv c).before 0 t d))
      ∗ (∃ d, owns (c : Thread nD τ) (st3_1 t) fullShare ((dat3 Vv c).before 1 t d))
      ∗ (∃ d, owns (c : Thread nD τ) (st3_2 t) fullShare ((dat3 Vv c).before 2 t d)))
    ⊢ wp frame (wpE (defs₀ (F := F)) 𝒱₀ c none) Set.univ (bodyAt3 t) (fun _ =>
      iprop((dat3 Vv c).Φ t.succ ∗ (dat3 Vv c).owesAt none t.succ
        ∗ owns (c : Thread nD τ) (st3_0 t) fullShare ((dat3 Vv c).after 0 t)
        ∗ owns (c : Thread nD τ) (st3_1 t) fullShare ((dat3 Vv c).after 1 t)
        ∗ owns (c : Thread nD τ) (st3_2 t) fullShare ((dat3 Vv c).after 2 t))) := by
  unfold bodyAt3
  simp only [dat3_before0, dat3_before1]
  rw [show (dat3 Vv c).Φ t.succ = (dat3 Vv c).Φ t.castSucc from rfl,
    show (dat3 Vv c).owesAt none t.succ = (dat3 Vv c).owesAt none t.castSucc from rfl, dat3_after0, dat3_after1, dat3_after2]
  iintro ⟨HΦ, HO, ⟨%a, Ha⟩, ⟨%b, Hb⟩, ⟨%r, Hr⟩⟩
  iapply (body_wp3 c Set.univ (grid3.coords t) _ _ _ _ _ _ (blk3 Vv c 0 t) (blk3 Vv c 1 t) _)
  isplitl [Ha]; · iexact Ha
  isplitl [Hb]; · iexact Hb
  isplitl [Hr]; · iexists _; iexact Hr
  iintro ⟨Ha, Hb, Hr⟩
  isplitl [HΦ]; · iexact HΦ
  isplitl [HO]; · iexact HO
  isplitl [Ha]; · iexact Ha
  isplitl [Hb]; · iexact Hb
  iexact Hr

theorem obligation3 (Vv : Held F) (c : Dev nD) : BodyObligation (dat3 Vv c) (defs₀ (F := F)) 𝒱₀ none Set.univ := fun t => by
  rw [bigSep_W3, bigSep_W3, row3]
  exact triple_restated (point_wp3 Vv c t) rfl .rfl fun _ => .rfl

/-! ## Both calls' data together -/

def pdats (V0 V1 : Held F) : (p : Fin 2) → (c : Dev nD) → Dat τ (Elt F) (HIx 2) ℕ UU ℕ (Pipeline.pin (pcfgs (F := F)) adm p) c
  | ⟨0, _⟩ => fun c => dat1 V0 c
  | ⟨1, _⟩ => fun c => dat3 V1 c

/-- Waits within the past and the region's own are bounded as the past is. -/
theorem below_of_bound {cfg : Pipeline.Cfg sig Λ₀} (c : Dev nD) (n : ℕ) (W : Finset (SemLoc sig × HIx 2))
    (h : (↑W : Set (SemLoc sig × HIx 2)) ⊆ past (F := F) c n ∪ cfg.waitPairs none) :
    (K (F := F)).WBelow (T c) W (8 * Blocks.fst (Q := 2) (N := 2) n) := by
  intro x hx
  rcases h (Finset.mem_coe.mpr hx) with h | ⟨w, s, rfl⟩
  · exact h
  · exact Nat.zero_le _

/-- A debt on later calls sits above every wait the region makes. -/
theorem debt_above (c : Dev nD) (n : ℕ) (g : GSem nD τ sig) (i : HIx 2) (h : 0 < (K (F := F)).Otc c n g i) :
    i ∈ (K (F := F)).L g ∧ 8 * Blocks.fst (Q := 2) (N := 2) n < (K (F := F)).lev g i :=
  ⟨Finset.mem_univ _, SparseCore.Cfg.lev_of_Otc_pos h⟩

set_option backward.isDefEq.respectTransparency.types false in
/-- Call 1 as a region over the unscoped buffers: entered at `V0`, left at any contents agreeing with it off the
    result's array, which holds what the write-backs leave. -/
def region0 (V0 V1 Vn : Held F)
    (hout : ∀ c, Vn c main_v13 = (dat1 V0 c).arrAt 2 cfg1.N)
    (hoff : ∀ c (b : Ref sig .tc), b ≠ main_v13 → Vn c b = V0 c b) :
    Pipeline.RegionSeg (pcfgs (F := F)) adm (pdats V0 V1) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (obligation1 V0 c).loose
  hwaits c := Pipeline.cellsWaits_of_cut (Pipeline.pin (pcfgs (F := F)) adm) (pdats V0 V1) none 0 c
    (8 * Blocks.fst (Q := 2) (N := 2) 1) ((K (F := F)).Otc c 1) (fun _ => rfl) (fun _ _ => Finset.mem_univ _) (fun _ _ => Nat.zero_le _)
    (debt_above c 1)
  pre c := iprop(unscopedBufs c (V0 c) ∗ debts (F := F) c 1)
  post c := iprop(unscopedBufs c (Vn c) ∗ debts (F := F) c 1)
  X _ := BI.emp
  Y _ := BI.emp
  Z c := Pipeline.unscopedRest (Ix := HIx 2) (Name := ℕ) (U := UU) (Lvl := ℕ) spec1 c (V0 c)
  hentry c := by
    rw [Pipeline.ownSems0_none]
    have hs := Pipeline.arrays_of_unscopedBufs (p := 0) (pcfgs (F := F)) adm (pdats V0 V1) launch1.win launch1.arr_whole c
      ((pdats V0 V1 0 c).share_full fun _ => rfl) (V0 c) fun _ => rfl
    unfold debts
    iintro ⟨⟨Hub, ⟨%W, %hW, HO⟩⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun x hx => Or.inl (hW x (Finset.mem_coe.mp hx))
      iexact HO
    isplitr; · iempintro
    iexact Hrest
  hin c := by
    rw [show (pdats V0 V1 0 c).Φ 0 = Pipeline.scopedRest (Ix := HIx 2) (Name := ℕ) (U := UU) (Lvl := ℕ) (Val := Elt F) spec1 c from rfl]
    iintro ⟨-, -, Hr⟩; iexact Hr
  hout c := by
    rw [Pipeline.ownSems0_none, show (pdats V0 V1 0 c).Φ (Fin.last _) = Pipeline.scopedRest (Ix := HIx 2) (Name := ℕ) (U := UU) (Lvl := ℕ) (Val := Elt F) spec1 c from rfl]
    iintro Hr
    isplitr; · iempintro
    isplitr; · iempintro
    iexact Hr
  hexit c := by
    have hj := Pipeline.unscopedBufs_of_arrays (p := 0) (pcfgs (F := F)) adm (Ix := HIx 2) (Name := ℕ) (U := UU) (Lvl := ℕ) launch1.win launch1.arr_whole c
      (pdats V0 V1) ((pdats V0 V1 0 c).share_full fun _ => rfl) (V0 c) (Vn c) ((pdats V0 V1 0 c).arrAt · cfg1.N)
      (fun w => by
        fin_cases w
        · exact ((pdats V0 V1 0 c).arrAt_in 0 rfl _).trans (hoff c main_v6 (by decide)).symm
        · exact ((pdats V0 V1 0 c).arrAt_in 1 rfl _).trans (hoff c main_v12 (by decide)).symm
        · exact (hout c).symm)
      (fun b hb => hoff c b fun h => hb (h ▸ Finset.mem_image.mpr ⟨2, Finset.mem_univ _, rfl⟩))
    unfold debts
    iintro ⟨Ha, HO, -, Hrest⟩
    imodintro
    isplitl [Ha Hrest]
    · iapply hj; isplitl [Ha] <;> iassumption
    unfold Pipeline.Dat.owesAt Pipeline.owesWithin
    icases HO with ⟨%W, %hW, HO⟩; iexists W
    isplitr; · ipureintro; exact below_of_bound c 1 W hW
    iexact HO

/-- Call 1 from its step of the host program: the boundary, the buffers, the debts, the levels and the call's ghost
    state to the boundary, the buffers after it and the debts. -/
theorem region0_wp (V0 V1 Vn : Held F)
    (hout : ∀ c, Vn c main_v13 = (dat1 V0 c).arrAt 2 cfg1.N)
    (hoff : ∀ c (b : Ref sig .tc), b ≠ main_v13 → Vn c b = V0 c b) (c : Dev nD) (Q : PUnit → sProp 𝕄) :
    iprop((iprop(boundary (T c) ∗ unscopedBufs c (Vn c) ∗ debts (F := F) c 1) -∗ Q ⟨⟩)
        ∗ boundary (T c) ∗ (unscopedBufs c (V0 c) ∗ debts (F := F) c 1) ∗ levAts (K (F := F)).L (K (F := F)).lev
        ∗ Pipeline.cellsGhost (Pipeline.pin (pcfgs (F := F)) adm) (EP (F := F)) 0 c ∗ Pipeline.toksInit (Pipeline.pin (pcfgs (F := F)) adm) (EP (F := F)) 0 c)
      ⊢ wp frame (wpE ((K (F := F)).defs D) 𝒱 (T c) none) Set.univ
          (Prog.lift (.customCall (SparseCore.inner (Pipeline.entry 0)) ())) Q := by
  have hw := (region0 V0 V1 Vn hout hoff).wp (pcfgs (F := F)) adm (pdats V0 V1) none cellOf_inj (EP (F := F)) defs₀ 𝒱₀ (K (F := F)).L (K (F := F)).lev c
    none (fun u hu => nomatch hu) (fun _ => .ret ⟨⟩) Q
  refine BIBase.Entails.trans ?_ (hw.trans ((K (F := F)).wp_liftProg D 𝒱 (T c) Set.univ none _ Q))
  rw [show (region0 V0 V1 Vn hout hoff).post c = iprop(unscopedBufs c (Vn c) ∗ debts (F := F) c 1) from rfl,
    show (region0 V0 V1 Vn hout hoff).pre c = iprop(unscopedBufs c (V0 c) ∗ debts (F := F) c 1) from rfl]
  iintro ⟨Hk, H⟩
  isplitl [Hk]
  · iintro ⟨Hb, Hp⟩
    rw [wp_ret]; imodintro
    iapply Hk
    isplitl [Hb]; · iexact Hb
    iexact Hp
  iexact H

set_option backward.isDefEq.respectTransparency.types false in
/-- Call 3 as a region over the unscoped buffers: entered at `V1`, left at any contents agreeing with it off the
    result's array, which holds what the write-backs leave. -/
def region1 (V0 V1 Vn : Held F)
    (hout : ∀ c, Vn c main_v21 = (dat3 V1 c).arrAt 2 cfg3.N)
    (hoff : ∀ c (b : Ref sig .tc), b ≠ main_v21 → Vn c b = V1 c b) :
    Pipeline.RegionSeg (pcfgs (F := F)) adm (pdats V0 V1) none defs₀ 𝒱₀ (K (F := F)).L (K (F := F)).lev 1 where
  win := launch3.win.to₀
  block_pos := launch3.block_pos
  stage_whole := launch3.stage_whole
  K := PEmpty
  osem k := k.elim
  ho := Pipeline.OwnSemFacts.none _
  hbody c := (obligation3 V1 c).loose
  hwaits c := Pipeline.cellsWaits_of_cut (Pipeline.pin (pcfgs (F := F)) adm) (pdats V0 V1) none 1 c
    (8 * Blocks.fst (Q := 2) (N := 2) 2) ((K (F := F)).Otc c 2) (fun _ => rfl) (fun _ _ => Finset.mem_univ _) (fun _ _ => Nat.zero_le _)
    (debt_above c 2)
  pre c := iprop(unscopedBufs c (V1 c) ∗ debts (F := F) c 2)
  post c := iprop(unscopedBufs c (Vn c) ∗ debts (F := F) c 2)
  X _ := BI.emp
  Y _ := BI.emp
  Z c := Pipeline.unscopedRest (Ix := HIx 2) (Name := ℕ) (U := UU) (Lvl := ℕ) spec3 c (V1 c)
  hentry c := by
    rw [Pipeline.ownSems0_none]
    have hs := Pipeline.arrays_of_unscopedBufs (p := 1) (pcfgs (F := F)) adm (pdats V0 V1) launch3.win launch3.arr_whole c
      ((pdats V0 V1 1 c).share_full fun _ => rfl) (V1 c) fun _ => rfl
    unfold debts
    iintro ⟨⟨Hub, ⟨%W, %hW, HO⟩⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun x hx => Or.inl (hW x (Finset.mem_coe.mp hx))
      iexact HO
    isplitr; · iempintro
    iexact Hrest
  hin c := by
    rw [show (pdats V0 V1 1 c).Φ 0 = Pipeline.scopedRest (Ix := HIx 2) (Name := ℕ) (U := UU) (Lvl := ℕ) (Val := Elt F) spec3 c from rfl]
    iintro ⟨-, -, Hr⟩; iexact Hr
  hout c := by
    rw [Pipeline.ownSems0_none, show (pdats V0 V1 1 c).Φ (Fin.last _) = Pipeline.scopedRest (Ix := HIx 2) (Name := ℕ) (U := UU) (Lvl := ℕ) (Val := Elt F) spec3 c from rfl]
    iintro Hr
    isplitr; · iempintro
    isplitr; · iempintro
    iexact Hr
  hexit c := by
    have hj := Pipeline.unscopedBufs_of_arrays (p := 1) (pcfgs (F := F)) adm (Ix := HIx 2) (Name := ℕ) (U := UU) (Lvl := ℕ) launch3.win launch3.arr_whole c
      (pdats V0 V1) ((pdats V0 V1 1 c).share_full fun _ => rfl) (V1 c) (Vn c) ((pdats V0 V1 1 c).arrAt · cfg3.N)
      (fun w => by
        fin_cases w
        · exact ((pdats V0 V1 1 c).arrAt_in 0 rfl _).trans (hoff c main_v14 (by decide)).symm
        · exact ((pdats V0 V1 1 c).arrAt_in 1 rfl _).trans (hoff c main_v20 (by decide)).symm
        · exact (hout c).symm)
      (fun b hb => hoff c b fun h => hb (h ▸ Finset.mem_image.mpr ⟨2, Finset.mem_univ _, rfl⟩))
    unfold debts
    iintro ⟨Ha, HO, -, Hrest⟩
    imodintro
    isplitl [Ha Hrest]
    · iapply hj; isplitl [Ha] <;> iassumption
    unfold Pipeline.Dat.owesAt Pipeline.owesWithin
    icases HO with ⟨%W, %hW, HO⟩; iexists W
    isplitr; · ipureintro; exact below_of_bound c 2 W hW
    iexact HO

/-- Call 3 from its step of the host program: the boundary, the buffers, the debts, the levels and the call's ghost
    state to the boundary, the buffers after it and the debts. -/
theorem region1_wp (V0 V1 Vn : Held F)
    (hout : ∀ c, Vn c main_v21 = (dat3 V1 c).arrAt 2 cfg3.N)
    (hoff : ∀ c (b : Ref sig .tc), b ≠ main_v21 → Vn c b = V1 c b) (c : Dev nD) (Q : PUnit → sProp 𝕄) :
    iprop((iprop(boundary (T c) ∗ unscopedBufs c (Vn c) ∗ debts (F := F) c 2) -∗ Q ⟨⟩)
        ∗ boundary (T c) ∗ (unscopedBufs c (V1 c) ∗ debts (F := F) c 2) ∗ levAts (K (F := F)).L (K (F := F)).lev
        ∗ Pipeline.cellsGhost (Pipeline.pin (pcfgs (F := F)) adm) (EP (F := F)) 1 c ∗ Pipeline.toksInit (Pipeline.pin (pcfgs (F := F)) adm) (EP (F := F)) 1 c)
      ⊢ wp frame (wpE ((K (F := F)).defs D) 𝒱 (T c) none) Set.univ
          (Prog.lift (.customCall (SparseCore.inner (Pipeline.entry 1)) ())) Q := by
  have hw := (region1 V0 V1 Vn hout hoff).wp (pcfgs (F := F)) adm (pdats V0 V1) none cellOf_inj (EP (F := F)) defs₀ 𝒱₀ (K (F := F)).L (K (F := F)).lev c
    none (fun u hu => nomatch hu) (fun _ => .ret ⟨⟩) Q
  refine BIBase.Entails.trans ?_ (hw.trans ((K (F := F)).wp_liftProg D 𝒱 (T c) Set.univ none _ Q))
  rw [show (region1 V0 V1 Vn hout hoff).post c = iprop(unscopedBufs c (Vn c) ∗ debts (F := F) c 2) from rfl,
    show (region1 V0 V1 Vn hout hoff).pre c = iprop(unscopedBufs c (V1 c) ∗ debts (F := F) c 2) from rfl]
  iintro ⟨Hk, H⟩
  isplitl [Hk]
  · iintro ⟨Hb, Hp⟩
    rw [wp_ret]; imodintro
    iapply Hk
    isplitl [Hb]; · iexact Hb
    iexact Hp
  iexact H

end Cert.KernelIdeal.Run

end
-- ==== Proof.Ideal.Main.lean ====
/-
  The host program: its operations on the device's arrays, the two SparseCore calls and the two straight-through
  calls between them, and the run of the whole.
-/
module

public import proofs.«01_k».proof.Proof.Ideal.Split
public import proofs.«01_k».proof.Proof.Ideal.Region
public import Idealize.ShloMosaic.Lib.Pipeline.Frame
public import Idealize.ShloMosaic.Lib.StableHlo.Run

@[expose] public section

noncomputable section

namespace Cert.KernelIdeal.Run

open Cert.KernelIdeal Cert.KernelIdeal.Gen Cert.KernelIdeal.Tile

open Idealize.ShloMosaic Idealize.ShloMosaic.TcCoe
open Idealize.ShloMosaic.SparseCore (S V T)
open Idealize.ShloMosaic.SparseCore.Cfg (HIx Pay)
open Idealize.ShloMosaic.StableHlo (held held_sub_split held_congr after)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-- The host operations before the first call. -/
def opsA : List (HloOp τ sig (Elt F)) :=
  [StableHlo.reshape main_arg0 main_v0 (rfl : (.f32 : EltTy) = .f32) shapeCasts_S64x128x32x32_S64x128x1024,
   StableHlo.reshape main_arg1 main_v1 (rfl : (.f32 : EltTy) = .f32) shapeCasts_S16x512x8_S65536,
   StableHlo.nullary main_v2 (iotaInDim S16 32 0),
   StableHlo.nullary main_c (constantI S_ 32 512#32),
   StableHlo.unary main_c main_v3 (broadcastInDim S16 ![] bcast_S_S16 : (⟨S_, .i32⟩ : BufTy).Contents (Elt F) → (⟨S16, .i32⟩ : BufTy).Contents (Elt F)),
   StableHlo.binary main_v2 main_v3 main_v4 (muli : (⟨S16, .i32⟩ : BufTy).Contents (Elt F) → (⟨S16, .i32⟩ : BufTy).Contents (Elt F) → (⟨S16, .i32⟩ : BufTy).Contents (Elt F)),
   StableHlo.reshape main_arg2 main_v5 (rfl : (.i32 : EltTy) = .i32) shapeCasts_S64x32x32x16_S64x1024x16,
   StableHlo.unary main_v0 main_v6 ((extractStridedSlice S32x128x1024 ![0, 0, 0] · slices_S64x128x1024_S32x128x1024_0_0_0) : (⟨S64x128x1024, .f32⟩ : BufTy).Contents (Elt F) → (⟨S32x128x1024, .f32⟩ : BufTy).Contents (Elt F)),
   StableHlo.unary main_v5 main_v7 ((extractStridedSlice S32x1024x16 ![0, 0, 0] · slices_S64x1024x16_S32x1024x16_0_0_0) : (⟨S64x1024x16, .i32⟩ : BufTy).Contents (Elt F) → (⟨S32x1024x16, .i32⟩ : BufTy).Contents (Elt F)),
   StableHlo.unary main_v4 main_v8 (broadcastInDim S1x1x16 ![2] bcast_S16_S1x1x16_2 : (⟨S16, .i32⟩ : BufTy).Contents (Elt F) → (⟨S1x1x16, .i32⟩ : BufTy).Contents (Elt F)),
   StableHlo.unary main_v8 main_v9 (broadcastInDim S32x1024x16 ![0, 1, 2] bcast_S1x1x16_S32x1024x16_0_1_2 : (⟨S1x1x16, .i32⟩ : BufTy).Contents (Elt F) → (⟨S32x1024x16, .i32⟩ : BufTy).Contents (Elt F)),
   StableHlo.binary main_v7 main_v9 main_v10 (addi : (⟨S32x1024x16, .i32⟩ : BufTy).Contents (Elt F) → (⟨S32x1024x16, .i32⟩ : BufTy).Contents (Elt F) → (⟨S32x1024x16, .i32⟩ : BufTy).Contents (Elt F)),
   StableHlo.reshape main_v10 main_v11 (rfl : (.i32 : EltTy) = .i32) shapeCasts_S32x1024x16_S524288]

/-- The host operations between the two halves. -/
def opsB : List (HloOp τ sig (Elt F)) :=
  [StableHlo.unary main_v0 main_v14 ((extractStridedSlice S32x128x1024 ![32, 0, 0] · slices_S64x128x1024_S32x128x1024_32_0_0) : (⟨S64x128x1024, .f32⟩ : BufTy).Contents (Elt F) → (⟨S32x128x1024, .f32⟩ : BufTy).Contents (Elt F)),
   StableHlo.unary main_v5 main_v15 ((extractStridedSlice S32x1024x16 ![32, 0, 0] · slices_S64x1024x16_S32x1024x16_32_0_0) : (⟨S64x1024x16, .i32⟩ : BufTy).Contents (Elt F) → (⟨S32x1024x16, .i32⟩ : BufTy).Contents (Elt F)),
   StableHlo.unary main_v4 main_v16 (broadcastInDim S1x1x16 ![2] bcast_S16_S1x1x16_2 : (⟨S16, .i32⟩ : BufTy).Contents (Elt F) → (⟨S1x1x16, .i32⟩ : BufTy).Contents (Elt F)),
   StableHlo.unary main_v16 main_v17 (broadcastInDim S32x1024x16 ![0, 1, 2] bcast_S1x1x16_S32x1024x16_0_1_2 : (⟨S1x1x16, .i32⟩ : BufTy).Contents (Elt F) → (⟨S32x1024x16, .i32⟩ : BufTy).Contents (Elt F)),
   StableHlo.binary main_v15 main_v17 main_v18 (addi : (⟨S32x1024x16, .i32⟩ : BufTy).Contents (Elt F) → (⟨S32x1024x16, .i32⟩ : BufTy).Contents (Elt F) → (⟨S32x1024x16, .i32⟩ : BufTy).Contents (Elt F)),
   StableHlo.reshape main_v18 main_v19 (rfl : (.i32 : EltTy) = .i32) shapeCasts_S32x1024x16_S524288]

/-- The host operations after the second half. -/
def opsC : List (HloOp τ sig (Elt F)) :=
  [StableHlo.binary main_v13 main_v21 main_v22 ((fun a b => concatenate S64x128x1024 0 [⟨S32x128x1024, a⟩, ⟨S32x128x1024, b⟩] concatenates_S32x128x1024_S32x128x1024_S64x128x1024_d0) : (⟨S32x128x1024, .f32⟩ : BufTy).Contents (Elt F) → (⟨S32x128x1024, .f32⟩ : BufTy).Contents (Elt F) → (⟨S64x128x1024, .f32⟩ : BufTy).Contents (Elt F)),
   StableHlo.reshape main_v22 main_v23 (rfl : (.f32 : EltTy) = .f32) shapeCasts_S64x128x1024_S64x128x32x32]

theorem main_eq (d : Dev nD) : main (F := F) d =
    (StableHlo.seq opsA >>= fun _ => sc.run d 0 >>= fun _ => Prog.lift (.customCall (SparseCore.inner (Pipeline.entry 0)) ()) >>= fun _ =>
      StableHlo.seq opsB >>= fun _ => sc.run d 1 >>= fun _ => Prog.lift (.customCall (SparseCore.inner (Pipeline.entry 1)) ()) >>= fun _ =>
        StableHlo.seq opsC >>= fun _ => pure ⟨⟩) := by
  simp only [main, opsA, opsB, opsC, StableHlo.seq, bind_assoc, pure_bind]

theorem opsA_bufs : ∀ op ∈ opsA (F := F), op.bufs ⊆ Pipeline.ucRefs τ sig := by
  intro op h
  refine Pipeline.sub_ucRefs op ?_
  revert op
  rw [← List.forall_iff_forall_mem]
  unfold opsA
  repeat' constructor
  all_goals first
    | exact StableHlo.reshape_bufs_sub ..
    | exact StableHlo.nullary_bufs_sub ..
    | exact StableHlo.unary_bufs_sub ..
    | exact StableHlo.binary_bufs_sub ..

theorem opsA_fresh : ∀ op ∈ opsA (F := F), op.fresh = ∅ := by
  rw [← List.forall_iff_forall_mem]
  unfold opsA
  repeat' constructor

theorem opsB_bufs : ∀ op ∈ opsB (F := F), op.bufs ⊆ Pipeline.ucRefs τ sig := by
  intro op h
  refine Pipeline.sub_ucRefs op ?_
  revert op
  rw [← List.forall_iff_forall_mem]
  unfold opsB
  repeat' constructor
  all_goals first
    | exact StableHlo.reshape_bufs_sub ..
    | exact StableHlo.nullary_bufs_sub ..
    | exact StableHlo.unary_bufs_sub ..
    | exact StableHlo.binary_bufs_sub ..

theorem opsB_fresh : ∀ op ∈ opsB (F := F), op.fresh = ∅ := by
  rw [← List.forall_iff_forall_mem]
  unfold opsB
  repeat' constructor

theorem opsC_bufs : ∀ op ∈ opsC (F := F), op.bufs ⊆ Pipeline.ucRefs τ sig := by
  intro op h
  refine Pipeline.sub_ucRefs op ?_
  revert op
  rw [← List.forall_iff_forall_mem]
  unfold opsC
  repeat' constructor
  all_goals first
    | exact StableHlo.reshape_bufs_sub ..
    | exact StableHlo.nullary_bufs_sub ..
    | exact StableHlo.unary_bufs_sub ..
    | exact StableHlo.binary_bufs_sub ..

theorem opsC_fresh : ∀ op ∈ opsC (F := F), op.fresh = ∅ := by
  rw [← List.forall_iff_forall_mem]
  unfold opsC
  repeat' constructor

/-! ## The arrays' contents along the run -/

variable (m : (ℓ : Loc nD τ sig) → Buf (Elt F) ℓ) (ρ : Dev nD → PrngReg)

/-- A TensorCore's array as a device reference. -/
abbrev rv (b : Ref sig .tc) : DevRef τ sig := Proc.devRef .tc b

/-- At launch; after the first operations; after the first gather; after the first straight-through call. -/
def V0 (d : Dev nD) : Valuation τ sig (Elt F) := fun b => m (d, b)
def VA (d : Dev nD) : Valuation τ sig (Elt F) := after opsA (V0 m d)
def VA1 (d : Dev nD) : Valuation τ sig (Elt F) :=
  Function.update (VA m d) (rv main_v12) (rowsOf (VA m d (rv main_v1)) (VA m d (rv main_v11)))
def HA : Held F := fun c b => VA1 m c (rv b)
def VA2 (d : Dev nD) : Valuation τ sig (Elt F) :=
  Function.update (VA1 m d) (rv main_v13) ((dat1 (HA m) d).arrAt 2 cfg1.N)
/-- The same for the second half, and the end. -/
def VB (d : Dev nD) : Valuation τ sig (Elt F) := after opsB (VA2 m d)
def VB1 (d : Dev nD) : Valuation τ sig (Elt F) :=
  Function.update (VB m d) (rv main_v20) (rowsOf (VA m d (rv main_v1)) (VB m d (rv main_v19)))
def HB : Held F := fun c b => VB1 m c (rv b)
def VB2 (d : Dev nD) : Valuation τ sig (Elt F) :=
  Function.update (VB1 m d) (rv main_v21) ((dat3 (HB m) d).arrAt 2 cfg3.N)
def VC (d : Dev nD) : Valuation τ sig (Elt F) := after opsC (VB2 m d)

/-- What the two calls read. -/
def ops : Ops F where
  tab d := VA m d (rv main_v1)
  adr q d := match q with
    | 0 => VA m d (rv main_v11)
    | 1 => VB m d (rv main_v19)

/-- An array no operation of a line writes is as it was. -/
theorem kept {l : List (HloOp τ sig (Elt F))} {b : DevRef τ sig} (V : Valuation τ sig (Elt F)) (h : ∀ op ∈ l, b ∉ op.writes) :
    after l V b = V b := by
  induction l generalizing V with
  | nil => rfl
  | cons op l ih =>
    rw [StableHlo.after_cons, ih _ fun o ho => h o (List.mem_cons_of_mem _ ho)]
    exact op.result_of_not_mem V (h op List.mem_cons_self)

theorem VB_tab (d : Dev nD) : VB m d (rv main_v1) = VA m d (rv main_v1) := by
  unfold VB
  rw [kept]
  · unfold VA2 VA1
    rw [Function.update_of_ne (by decide), Function.update_of_ne (by decide)]
  · rw [← List.forall_iff_forall_mem]
    unfold opsB
    simp only [List.Forall, StableHlo.unary_writes, StableHlo.binary_writes, StableHlo.reshape_writes, Finset.mem_singleton]
    decide

/-- Call 0's operands among the arrays. -/
abbrev three0 : Finset (DevRef τ sig) := {rv main_v1, rv main_v11, rv main_v12}

theorem three0_sub : three0 ⊆ Pipeline.ucRefs τ sig := by
  intro b hb
  simp only [three0, Finset.mem_insert, Finset.mem_singleton] at hb
  rcases hb with rfl | rfl | rfl <;> exact Finset.mem_filter.mpr ⟨StableHlo.devRef_mem_tcRefs _, by decide⟩

theorem held_three0 (d : Dev nD) (W : Valuation τ sig (Elt F)) :
    (held (T d) three0 W : sProp 𝕄) = iprop(((T d : Thread nD τ).loc main_v1 ↦{fullShare} W (rv main_v1)) ∗ ((T d : Thread nD τ).loc main_v11 ↦{fullShare} W (rv main_v11))
      ∗ ((T d : Thread nD τ).loc main_v12 ↦{fullShare} W (rv main_v12))) := by
  unfold held three0
  rw [SparseCore.bigSep_insert' (by decide), SparseCore.bigSep_insert' (by decide), bigSep_singleton]

/-- Call 0 takes its operands out of the arrays and puts them back with the rows gathered. -/
theorem step0 (d : Dev nD) : (held (T d) (Pipeline.ucRefs τ sig) (VA m d) : sProp 𝕄)
    ⊢ iprop((bigSep Finset.univ fun c : Fin ((K (F := F)).nCore 0) => (P (ops m)).st 0 d c)
      ∗ ((bigSep Finset.univ fun c : Fin ((K (F := F)).nCore 0) => (P (ops m)).dn 0 d c) -∗ held (T d) (Pipeline.ucRefs τ sig) (VA1 m d))) := by
  rw [held_sub_split (T d) three0_sub (VA m d), held_sub_split (T d) three0_sub (VA1 m d), held_three0, held_three0,
    held_congr (T d) (S := Pipeline.ucRefs τ sig \ three0) (V := VA1 m d) (V' := VA m d) fun b hb =>
      Function.update_of_ne (fun e => (Finset.mem_sdiff.mp hb).2 (by rw [e]; simp [three0])) _ _]
  have e1 : VA1 m d (rv main_v1) = (ops m).tab d := (Function.update_of_ne (by decide) _ _)
  have e2 : VA1 m d (rv main_v11) = VA m d (rv main_v11) := Function.update_of_ne (by decide) _ _
  have e3 : VA1 m d (rv main_v12) = rowsOf ((ops m).tab d) ((ops m).adr 0 d) := Function.update_self _ _ _
  have e4 : VA m d (rv main_v1) = (ops m).tab d := rfl
  rw [e1, e2, e3, e4]
  iintro ⟨⟨H1, H2, H3⟩, Hr⟩
  isplitl [H1 H2 H3]
  · iapply (call0_in (ops m) d (VA m d (rv main_v12)))
    isplitl [H1]; · iexact H1
    isplitl [H2]; · iexact H2
    iexact H3
  iintro Hd
  ihave H := (call0_out (ops m) d) $$ Hd
  icases H with ⟨H1, H2, H3⟩
  isplitl [H1 H2 H3]
  · isplitl [H1]; · iexact H1
    isplitl [H2]; · iexact H2
    iexact H3
  iexact Hr

/-- Call 1's operands among the arrays. -/
abbrev three1 : Finset (DevRef τ sig) := {rv main_v1, rv main_v19, rv main_v20}

theorem three1_sub : three1 ⊆ Pipeline.ucRefs τ sig := by
  intro b hb
  simp only [three1, Finset.mem_insert, Finset.mem_singleton] at hb
  rcases hb with rfl | rfl | rfl <;> exact Finset.mem_filter.mpr ⟨StableHlo.devRef_mem_tcRefs _, by decide⟩

theorem held_three1 (d : Dev nD) (W : Valuation τ sig (Elt F)) :
    (held (T d) three1 W : sProp 𝕄) = iprop(((T d : Thread nD τ).loc main_v1 ↦{fullShare} W (rv main_v1)) ∗ ((T d : Thread nD τ).loc main_v19 ↦{fullShare} W (rv main_v19))
      ∗ ((T d : Thread nD τ).loc main_v20 ↦{fullShare} W (rv main_v20))) := by
  unfold held three1
  rw [SparseCore.bigSep_insert' (by decide), SparseCore.bigSep_insert' (by decide), bigSep_singleton]

/-- Call 1 takes its operands out of the arrays and puts them back with the rows gathered. -/
theorem step1 (d : Dev nD) : (held (T d) (Pipeline.ucRefs τ sig) (VB m d) : sProp 𝕄)
    ⊢ iprop((bigSep Finset.univ fun c : Fin ((K (F := F)).nCore 1) => (P (ops m)).st 1 d c)
      ∗ ((bigSep Finset.univ fun c : Fin ((K (F := F)).nCore 1) => (P (ops m)).dn 1 d c) -∗ held (T d) (Pipeline.ucRefs τ sig) (VB1 m d))) := by
  rw [held_sub_split (T d) three1_sub (VB m d), held_sub_split (T d) three1_sub (VB1 m d), held_three1, held_three1,
    held_congr (T d) (S := Pipeline.ucRefs τ sig \ three1) (V := VB1 m d) (V' := VB m d) fun b hb =>
      Function.update_of_ne (fun e => (Finset.mem_sdiff.mp hb).2 (by rw [e]; simp [three1])) _ _]
  have e1 : VB1 m d (rv main_v1) = (ops m).tab d := (Function.update_of_ne (by decide) _ _).trans (VB_tab m d)
  have e2 : VB1 m d (rv main_v19) = VB m d (rv main_v19) := Function.update_of_ne (by decide) _ _
  have e3 : VB1 m d (rv main_v20) = rowsOf ((ops m).tab d) ((ops m).adr 1 d) := Function.update_self _ _ _
  have e4 : VB m d (rv main_v1) = (ops m).tab d := VB_tab m d
  rw [e1, e2, e3, e4]
  iintro ⟨⟨H1, H2, H3⟩, Hr⟩
  isplitl [H1 H2 H3]
  · iapply (call1_in (ops m) d (VB m d (rv main_v20)))
    isplitl [H1]; · iexact H1
    isplitl [H2]; · iexact H2
    iexact H3
  iintro Hd
  ihave H := (call1_out (ops m) d) $$ Hd
  icases H with ⟨H1, H2, H3⟩
  isplitl [H1 H2 H3]
  · isplitl [H1]; · iexact H1
    isplitl [H2]; · iexact H2
    iexact H3
  iexact Hr

/-! ## The TensorCore's run -/

/-- The state before call `n` is its debts beside the rest. -/
def rest (d : Dev nD) (n : ℕ) : sProp 𝕄 :=
  iprop(Rounds.atPos (EH (F := F)) ((K (F := F)).doneCell d) n ∅ 0 ∗ Rounds.reached (EH (F := F)) ((K (F := F)).doneCell d) n
    ∗ (bigSep Finset.univ fun c : Fin τ.nSC => Rounds.reached (EH (F := F)) ((K (F := F)).startCell d c) ((K (F := F)).sRank c n))
    ∗ bigSep (SparseCore.Cfg.callsFrom n) fun q => bigSep Finset.univ fun c : Fin ((K (F := F)).nCore q) =>
        iprop(Rounds.dutyTok (EH (F := F)) ((K (F := F)).startCell d ((K (F := F)).core q c)) ((K (F := F)).sRank ((K (F := F)).core q c) q.val) 0
          ∗ cred (tallyAt ((K (F := F)).doneCell d) (some (SparseCore.Cfg.Blocks.last q)) 1)))

theorem tcSt_eq (d : Dev nD) (n : ℕ) : ((K (F := F)).tcSt (EH (F := F)) d n : sProp 𝕄) = iprop(debts (F := F) d n ∗ rest d n) := rfl

/-- Each straight-through call's ghost state. -/
def ghost (p : Fin 2) (d : Dev nD) : sProp 𝕄 :=
  iprop(Pipeline.cellsGhost (Pipeline.pin (pcfgs (F := F)) adm) (EP (F := F)) p d ∗ Pipeline.toksInit (Pipeline.pin (pcfgs (F := F)) adm) (EP (F := F)) p d)

abbrev G (d : Dev nD) : sProp 𝕄 := iprop(ghost 0 d ∗ ghost 1 d)
abbrev FIN (d : Dev nD) : sProp 𝕄 := held (T d) (Pipeline.ucRefs τ sig) (VC m d)

theorem launch_held (d : Dev nD) : (unscopedBufs d (fun b => m ((T d : Thread nD τ).loc b)) : sProp 𝕄) = held (T d) (Pipeline.ucRefs τ sig) (V0 m d) :=
  Pipeline.unscopedBufs_held (Ix := HIx 2) (Name := ℕ) (U := UU) (Lvl := ℕ) d (fun b => m (d, b))

theorem hmain (κ : GSem nD τ sig → ℕ) (d : Dev nD) :
    iprop((K (F := F)).ctx (EH (F := F)) (P (ops m)) κ ∗ (K (F := F)).tcSt (EH (F := F)) d 0 ∗ (K (F := F)).tcRes m ρ d ∗ G d)
      ⊢ wp frame (wpE ((K (F := F)).defs D) 𝒱 (T d) none) Set.univ (main d)
          fun _ => iprop((K (F := F)).tcSt (EH (F := F)) d 2 ∗ FIN m d ∗ (K (F := F)).tcEnd d) := by
  unfold SparseCore.Cfg.tcRes SparseCore.Cfg.tcEnd
  rw [launch_held m d, main_eq]
  iintro ⟨#Hctx, Hst, ⟨Hb, Hh, Hts, -⟩, HG0, HG1⟩
  iapply (StableHlo.wp_seq 𝒱 none Set.univ d (Pipeline.ucRefs τ sig) _ opsA opsA_bufs opsA_fresh (V0 m d)) $$ [Hb Hh]
  · isplitl [Hb] <;> iassumption
  iintro ⟨Hb, Hh⟩
  -- the first gather
  rw [wp_bind]
  ihave Hs := (show (held d.tc (Pipeline.ucRefs τ sig) (after opsA (V0 m d)) : sProp 𝕄) ⊢ _ from step0 m d) $$ Hh
  icases Hs with ⟨Hop, Hback⟩
  iapply ((K (F := F)).wp_run D 𝒱 (EH := EH (F := F)) (P := P (ops m)) κ d 0) $$ [Hst Hop Hback Hb Hts HG0 HG1]
  isplitr; · iexact Hctx
  isplitl [Hst]; · iexact Hst
  isplitl [Hop]; · iexact Hop
  iintro ⟨Hst, Hdn⟩
  ihave Hh := Hback $$ Hdn
  -- the first straight-through call
  rw [wp_bind]
  ihave Hst' := (show ((K (F := F)).tcSt (EH (F := F)) d ((0 : Fin 2).val + 1) : sProp 𝕄) ⊢ _ from Entails.of_eq (tcSt_eq (F := F) d 1)) $$ Hst
  icases Hst' with ⟨Hdebt, Hrest⟩
  ihave Hlev := (SparseCore.Cfg.ctx_levAts κ) $$ Hctx
  iapply (region0_wp (HA m) (HB m) (fun c b => VA2 m c (rv b)) (fun c => Function.update_self _ _ _) (fun c b hb => Function.update_of_ne (fun e => hb (Proc.devRef_injective _ e)) _ _) d)
  unfold ghost
  icases HG0 with ⟨HGa, HGb⟩
  isplitr [Hb Hh Hdebt Hlev HGa HGb]
  swap
  · isplitl [Hb]; · iexact Hb
    isplitl [Hh Hdebt]
    · isplitl [Hh]
      · iapply (Entails.of_eq (Pipeline.unscopedBufs_held (Ix := HIx 2) (Name := ℕ) (U := UU) (Lvl := ℕ) d (VA1 m d)).symm); iexact Hh
      iexact Hdebt
    isplitl [Hlev]; · iexact Hlev
    isplitl [HGa]; · iexact HGa
    iexact HGb
  iintro ⟨Hb, Hh, Hdebt⟩
  ihave Hh := (Entails.of_eq (Pipeline.unscopedBufs_held (Ix := HIx 2) (Name := ℕ) (U := UU) (Lvl := ℕ) d (VA2 m d))) $$ Hh
  iapply (StableHlo.wp_seq 𝒱 none Set.univ d (Pipeline.ucRefs τ sig) _ opsB opsB_bufs opsB_fresh (VA2 m d)) $$ [Hb Hh]
  · isplitl [Hb] <;> iassumption
  iintro ⟨Hb, Hh⟩
  -- the second gather
  rw [wp_bind]
  ihave Hs := (show (held d.tc (Pipeline.ucRefs τ sig) (after opsB (VA2 m d)) : sProp 𝕄) ⊢ _ from step1 m d) $$ Hh
  icases Hs with ⟨Hop, Hback⟩
  iapply ((K (F := F)).wp_run D 𝒱 (EH := EH (F := F)) (P := P (ops m)) κ d 1) $$ [Hdebt Hrest Hop Hback Hb Hts HG1]
  isplitr; · iexact Hctx
  isplitl [Hdebt Hrest]
  · iapply (show _ ⊢ ((K (F := F)).tcSt (EH (F := F)) d (1 : Fin 2).val : sProp 𝕄) from Entails.of_eq (tcSt_eq (F := F) d 1).symm)
    isplitl [Hdebt] <;> iassumption
  isplitl [Hop]; · iexact Hop
  iintro ⟨Hst, Hdn⟩
  ihave Hh := Hback $$ Hdn
  -- the second straight-through call
  rw [wp_bind]
  ihave Hst' := (show ((K (F := F)).tcSt (EH (F := F)) d ((1 : Fin 2).val + 1) : sProp 𝕄) ⊢ _ from Entails.of_eq (tcSt_eq (F := F) d 2)) $$ Hst
  icases Hst' with ⟨Hdebt, Hrest⟩
  ihave Hlev := (SparseCore.Cfg.ctx_levAts κ) $$ Hctx
  iapply (region1_wp (HA m) (HB m) (fun c b => VB2 m c (rv b)) (fun c => Function.update_self _ _ _) (fun c b hb => Function.update_of_ne (fun e => hb (Proc.devRef_injective _ e)) _ _) d)
  icases HG1 with ⟨HGa, HGb⟩
  isplitr [Hb Hh Hdebt Hlev HGa HGb]
  swap
  · isplitl [Hb]; · iexact Hb
    isplitl [Hh Hdebt]
    · isplitl [Hh]
      · iapply (Entails.of_eq (Pipeline.unscopedBufs_held (Ix := HIx 2) (Name := ℕ) (U := UU) (Lvl := ℕ) d (VB1 m d)).symm); iexact Hh
      iexact Hdebt
    isplitl [Hlev]; · iexact Hlev
    isplitl [HGa]; · iexact HGa
    iexact HGb
  iintro ⟨Hb, Hh, Hdebt⟩
  ihave Hh := (Entails.of_eq (Pipeline.unscopedBufs_held (Ix := HIx 2) (Name := ℕ) (U := UU) (Lvl := ℕ) d (VB2 m d))) $$ Hh
  iapply (StableHlo.wp_seq 𝒱 none Set.univ d (Pipeline.ucRefs τ sig) _ opsC opsC_bufs opsC_fresh (VB2 m d)) $$ [Hb Hh]
  · isplitl [Hb] <;> iassumption
  iintro ⟨Hb, Hh⟩
  rw [wp_pure]; imodintro
  isplitl [Hdebt Hrest]
  · iapply (Entails.of_eq (tcSt_eq (F := F) d 2).symm)
    isplitl [Hdebt] <;> iassumption
  isplitl [Hh]; · iexact Hh
  isplitl [Hb] <;> iassumption

/-! ## The launch -/

abbrev cs : Fin 2 → Pipeline.Cfg sig Λ₀ := Pipeline.pin (pcfgs (F := F)) adm
def uP : UP := Rounds.initOf (Pipeline.cells (nD := nD) (τ := τ) (cs (F := F)) cellOf_inj) (Pipeline.launchToks (nD := nD) (τ := τ) (cs (F := F)) cellOf_inj)
def u₀ : UU := (Rounds.initOf (K (F := F)).hsCells (K (F := F)).hsToks, (uP (F := F), 1))

theorem funds (Pp : (K (F := F)).Pay (nD := nD) (Val := Elt F) (Name := ℕ) (U := UU)) (hx : ∀ q thr, Pp.x q thr = iprop(emp)) :
    (ownU (u₀ (F := F)) : sProp 𝕄)
    ⊢ |={Set.univ}=> iprop(BI.own (EH (F := F) (Rounds.initOf (K (F := F)).hsCells (K (F := F)).hsToks)) ∗ (bigSep Finset.univ fun d : Dev nD => G d)
        ∗ bigSep Finset.univ fun thr : Thread nD τ => bigSep Finset.univ fun q : Fin 2 => Pp.x q thr) := by
  unfold u₀
  iintro Hu
  ihave H := (ownU_pair _ _) $$ Hu
  icases H with ⟨HH, Hr⟩
  ihave H := (own_pair_emb _ _ _) $$ Hr
  icases H with ⟨HP, -⟩
  ihave HP := (Entails.of_eq (PROP := sProp 𝕄) (show BI.own (((Emb.inl : Emb UP (UP × Counters)).trans embR) (uP (F := F)))
    = BI.own (EP (F := F) (uP (F := F))) from rfl)) $$ HP
  unfold uP
  imod (Pipeline.fund_ghost (cs (F := F)) (EP (F := F)) cellOf_inj) $$ HP with ⟨Hg, Ht⟩
  imodintro
  isplitl [HH]; · iexact HH
  isplitl [Hg Ht]
  · rw [show (bigSep Finset.univ fun d : Dev nD => (G d : sProp 𝕄))
        = iprop((bigSep Finset.univ fun c : Dev nD => bigSep Finset.univ fun p => Pipeline.cellsGhost (cs (F := F)) (EP (F := F)) p c)
          ∗ (bigSep Finset.univ fun c : Dev nD => bigSep Finset.univ fun p => Pipeline.toksInit (cs (F := F)) (EP (F := F)) p c)) from by
      rw [← bigSep_sep']
      refine bigSep_congr fun c _ => ?_
      rw [← bigSep_sep', show (Finset.univ : Finset (Fin 2)) = {0, 1} by decide, SparseCore.bigSep_insert' (by decide), bigSep_singleton]
      rfl]
    isplitl [Hg] <;> iassumption
  rw [show (bigSep Finset.univ fun thr : Thread nD τ => bigSep Finset.univ fun q : Fin 2 => (Pp.x q thr : sProp 𝕄)) = iprop(emp) from by
    simp only [hx]
    exact (bigSep_congr fun _ _ => bigSep_emp_const _).trans (bigSep_emp_const _)]
  iempintro

def fq (d : Dev nD) (s' : Phys nD τ sig (Elt F)) : Prop :=
  ∀ b ∈ Pipeline.ucRefs τ sig, s'.mem.mem (d, b) = VC m d b

theorem hfin (d : Dev nD) (s' : Phys nD τ sig (Elt F)) : iprop(FIN m d ∗ SI s') ⊢ (⌜fq m d s'⌝ : sProp 𝕄) := by
  refine BIBase.Entails.trans ((forall_intro fun b : {b // b ∈ Pipeline.ucRefs τ sig} => ?_).trans pure_forall.2)
    (pure_mono (φ := ∀ b : {b // b ∈ Pipeline.ucRefs τ sig}, s'.mem.mem (d, b.1) = VC m d b.1) fun h b hb => h ⟨b, hb⟩)
  unfold FIN
  rw [held_sub_split (T d) (Finset.singleton_subset_iff.mpr b.2) (VC m d)]
  unfold held
  rw [bigSep_singleton]
  iintro ⟨⟨Hx, -⟩, HSI⟩
  ihave H := (SI_pointsTo_agree (st := s') (ℓ := (d, b.1)) (I := Finset.univ) (q := fullShare) (f := VC m d b.1)) $$ [HSI Hx]
  · isplitl [HSI] <;> iassumption
  icases H with %hx
  ipureintro; exact funext fun i => hx i (Finset.mem_univ i)

/-- Every run ends with the unscoped arrays at the contents computed above and every counter at zero. -/
theorem run [∀ e, Nonempty (Elt F e)] (ho : (ops m).Ok) : θ_run (Cert.KernelIdeal.defs (F := F)) (Cert.KernelIdeal.threads (F := F)) ⟨m, fun _ => 0, ρ⟩
    (fun r => (∀ d, ∀ b ∈ Pipeline.ucRefs τ sig, r.2.mem (d, b) = VC m d b) ∧ r.2.sem = fun _ => 0) :=
  SparseCore.Cfg.θ_run_sc_quiescent (K := K (F := F)) (D := D) (𝒱 := 𝒱) (EH := EH (F := F)) (P := P (ops m)) (A := ∅) facts v₀
    (fun q hq => match q with | 0 => nomatch hq | 1 => nomatch hq)
    (fun q _ => match q with | 0 => tileObl0 (ops m) ho facts | 1 => tileObl1 (ops m) ho facts)
    (fun q _ => match q with | 0 => SparseCore.Cfg.VecSplit.of_plain (vecSplit0 (ops m)) | 1 => SparseCore.Cfg.VecSplit.of_plain (vecSplit1 (ops m)))
    m ρ main (fun d => G d) (FIN m) (u₀ (F := F)) (sep_elim_left.trans (funds (P (ops m)) fun _ _ => rfl)) (hmain m ρ) (fq m) (hfin m) _ (fun _ h hz => ⟨h, hz⟩)

end Cert.KernelIdeal.Run

end
-- ==== Proof.Ideal.Val.lean ====
/-
  What the run leaves in each array, as a function of the arguments.
-/
module

public import proofs.«01_k».proof.Proof.Ideal.Main
public import Idealize.ShloMosaic.Lib.ValueIdxCore
public import Idealize.ShloMosaic.Lib.ReduceAll
public import Idealize.ShloMosaic.Lib.IdealHost

@[expose] public section

noncomputable section

namespace Cert.KernelIdeal.Run

open Cert.KernelIdeal Cert.KernelIdeal.Gen Cert.KernelIdeal.Tile

open Idealize.ShloMosaic Idealize.ShloMosaic.TcCoe
open Idealize.ShloMosaic.StableHlo (after)

variable {F : FTy → Type} [FloatOps F]
variable (m : (ℓ : Loc nD τ sig) → Buf (Elt F) ℓ)

/-- The codes' positions in the table, from the indices: token `i / 16` of the half starting at image `o`, codebook
    `i % 16`. -/
theorem gid_apply (o : ℕ) (ho : o ≤ 32) (X : IVec S64x32x32x16 32) (hs : S64x1024x16.Slices ![o, 0, 0] S32x1024x16) (i : S524288.Idx) :
    shapeCast S524288 (addi (extractStridedSlice S32x1024x16 ![o, 0, 0] (fun j => shapeCast S64x1024x16 X shapeCasts_S64x32x32x16_S64x1024x16 j) hs)
      (broadcastInDim S32x1024x16 ![0, 1, 2] bcast_S1x1x16_S32x1024x16_0_1_2 (broadcastInDim S1x1x16 ![2] bcast_S16_S1x1x16_2
        (muli (iotaInDim S16 32 0) (broadcastInDim S16 ![] bcast_S_S16 (constantI S_ 32 512#32)))))) shapeCasts_S32x1024x16_S524288 i
      = X (ValueIdx.ix4 ⟨o + (i 0).val / 16384, by have := (i 0).isLt; simp at this; omega⟩ ⟨(i 0).val / 512 % 32, by omega⟩ ⟨(i 0).val / 16 % 32, by omega⟩
          ⟨(i 0).val % 16, by omega⟩)
        + BitVec.ofNat 32 ((i 0).val % 16 * 512) := by
  have hi : (i 0).val < 524288 := (i 0).isLt
  rw [shapeCast_apply _ _ i (ValueIdx.ix3 (n0 := 32) (n1 := 1024) (n2 := 16) ⟨(i 0).val / 16384, by omega⟩ ⟨(i 0).val / 16 % 1024, by omega⟩ ⟨(i 0).val % 16, by omega⟩)
    (by rw [Shape.rowMajor_val_one, Shape.rowMajor_val_three]; show ((i 0).val / 16384 * 1024 + (i 0).val / 16 % 1024) * 16 + (i 0).val % 16 = (i 0).val; omega)]
  show _ + _ = _ + _
  congr 1
  · rw [extractStridedSlice_apply _ _ _ _ (ValueIdx.ix3 (n0 := 64) (n1 := 1024) (n2 := 16) ⟨o + (i 0).val / 16384, by omega⟩ ⟨(i 0).val / 16 % 1024, by omega⟩ ⟨(i 0).val % 16, by omega⟩)
      (fun a => match a with | ⟨0, _⟩ => rfl | ⟨1, _⟩ => (Nat.zero_add _).symm | ⟨2, _⟩ => (Nat.zero_add _).symm)]
    refine shapeCast_apply _ _ _ _ ?_
    rw [Shape.rowMajor_val_four, Shape.rowMajor_val_three]
    show (((o + (i 0).val / 16384) * 32 + (i 0).val / 512 % 32) * 32 + (i 0).val / 16 % 32) * 16 + (i 0).val % 16
      = ((o + (i 0).val / 16384) * 1024 + (i 0).val / 16 % 1024) * 16 + (i 0).val % 16
    omega
  · rw [broadcastInDim_apply _ _ _ _ (ValueIdx.ix3 (n0 := 1) (n1 := 1) (n2 := 16) 0 0 ⟨(i 0).val % 16, by omega⟩)
      (fun a => match a with | ⟨0, _⟩ => rfl | ⟨1, _⟩ => rfl | ⟨2, _⟩ => rfl),
      broadcastInDim_apply _ _ _ _ (ValueIdx.ix1 (n := 16) ⟨(i 0).val % 16, by omega⟩) (fun a => match a with | ⟨0, _⟩ => rfl)]
    show BitVec.ofNat 32 ((i 0).val % 16) * broadcastInDim S16 ![] bcast_S_S16 (constantI S_ 32 512#32) _ = _
    rw [broadcastInDim_apply _ _ _ _ ValueIdx.ix0 (fun a => a.elim0)]
    show BitVec.ofNat 32 ((i 0).val % 16) * 512#32 = _
    rw [← BitVec.ofNat_mul]

/-- The arguments. -/
abbrev zOf (d : Dev nD) : FVec F S64x128x32x32 .f32 := m (d, rv main_arg0)
abbrev cbOf (d : Dev nD) : FVec F S16x512x8 .f32 := m (d, rv main_arg1)
abbrev ixOf (d : Dev nD) : IVec S64x32x32x16 32 := m (d, rv main_arg2)

theorem adr0_apply (d : Dev nD) (i : S524288.Idx) : (ops m).adr 0 d i
    = ixOf m d (ValueIdx.ix4 ⟨0 + (i 0).val / 16384, by have := (i 0).isLt; simp at this; omega⟩ ⟨(i 0).val / 512 % 32, by omega⟩ ⟨(i 0).val / 16 % 32, by omega⟩
          ⟨(i 0).val % 16, by omega⟩)
        + BitVec.ofNat 32 ((i 0).val % 16 * 512) := by
  refine Eq.trans ?_ (gid_apply 0 (by omega) (ixOf m d) slices_S64x1024x16_S32x1024x16_0_0_0 i)
  show VA m d (rv main_v11) i = _
  unfold VA opsA V0
  after_results_simp
  rfl

theorem VA2_of_ne (d : Dev nD) (b : DevRef τ sig) (h : b ≠ rv main_v12) (h' : b ≠ rv main_v13) : VA2 m d b = VA m d b := by
  unfold VA2 VA1
  rw [Function.update_of_ne h', Function.update_of_ne h]

theorem adr1_apply (d : Dev nD) (i : S524288.Idx) : (ops m).adr 1 d i
    = ixOf m d (ValueIdx.ix4 ⟨32 + (i 0).val / 16384, by have := (i 0).isLt; simp at this; omega⟩ ⟨(i 0).val / 512 % 32, by omega⟩ ⟨(i 0).val / 16 % 32, by omega⟩
          ⟨(i 0).val % 16, by omega⟩)
        + BitVec.ofNat 32 ((i 0).val % 16 * 512) := by
  refine Eq.trans ?_ (gid_apply 32 (by omega) (ixOf m d) slices_S64x1024x16_S32x1024x16_32_0_0 i)
  show VB m d (rv main_v19) i = _
  unfold VB opsB
  after_results_simp
  rw [VA2_of_ne m d _ (by decide) (by decide), VA2_of_ne m d _ (by decide) (by decide)]
  unfold VA opsA V0
  after_results_simp
  rfl

/-- Every index names a code. -/
def InRange : Prop := ∀ (d : Dev nD) (j : S64x32x32x16.Idx), (ixOf m d j).toNat < 512

theorem toNat_gid (v : BitVec 32) (hv : v.toNat < 512) (k : ℕ) (hk : k < 16) : (v + BitVec.ofNat 32 (k * 512)).toNat = v.toNat + k * 512 := by
  rw [BitVec.toNat_add, BitVec.toNat_ofNat]; omega

theorem ops_ok (h : InRange m) : (ops m).Ok := by
  intro q d x
  match q with
  | 0 =>
    show ((ops m).adr 0 d x).toNat < 8192
    rw [adr0_apply, toNat_gid _ (h d _) _ (by omega)]
    have := h d (ValueIdx.ix4 ⟨0 + (x 0).val / 16384, by have := (x 0).isLt; simp at this; omega⟩ ⟨(x 0).val / 512 % 32, by omega⟩ ⟨(x 0).val / 16 % 32, by omega⟩
          ⟨(x 0).val % 16, by omega⟩)
    omega
  | 1 =>
    show ((ops m).adr 1 d x).toNat < 8192
    rw [adr1_apply, toNat_gid _ (h d _) _ (by omega)]
    have := h d (ValueIdx.ix4 ⟨32 + (x 0).val / 16384, by have := (x 0).isLt; simp at this; omega⟩ ⟨(x 0).val / 512 % 32, by omega⟩ ⟨(x 0).val / 16 % 32, by omega⟩
          ⟨(x 0).val % 16, by omega⟩)
    omega

/-- No line of the run writes an argument. -/
theorem VC_kept (d : Dev nD) (b : DevRef τ sig) (hA : ∀ op ∈ opsA (F := F), b ∉ op.writes) (hB : ∀ op ∈ opsB (F := F), b ∉ op.writes)
    (hC : ∀ op ∈ opsC (F := F), b ∉ op.writes) (h : b ≠ rv main_v12) (h' : b ≠ rv main_v13) (h2 : b ≠ rv main_v20) (h2' : b ≠ rv main_v21) :
    VC m d b = m (d, b) := by
  unfold VC
  rw [kept _ hC]
  unfold VB2 VB1
  rw [Function.update_of_ne h2', Function.update_of_ne h2]
  unfold VB
  rw [kept _ hB, VA2_of_ne m d b h h']
  unfold VA
  rw [kept _ hA]
  rfl

theorem VC_arg0 (d : Dev nD) : VC m d (rv main_arg0) = m (d, rv main_arg0) := by
  refine VC_kept m d _ ?_ ?_ ?_ (by decide) (by decide) (by decide) (by decide)
  all_goals
    rw [← List.forall_iff_forall_mem]
    first | unfold opsA | unfold opsB | unfold opsC
    simp only [List.Forall, StableHlo.nullary_writes, StableHlo.unary_writes, StableHlo.binary_writes, StableHlo.reshape_writes, Finset.mem_singleton]
    decide

theorem VC_arg1 (d : Dev nD) : VC m d (rv main_arg1) = m (d, rv main_arg1) := by
  refine VC_kept m d _ ?_ ?_ ?_ (by decide) (by decide) (by decide) (by decide)
  all_goals
    rw [← List.forall_iff_forall_mem]
    first | unfold opsA | unfold opsB | unfold opsC
    simp only [List.Forall, StableHlo.nullary_writes, StableHlo.unary_writes, StableHlo.binary_writes, StableHlo.reshape_writes, Finset.mem_singleton]
    decide

theorem VC_arg2 (d : Dev nD) : VC m d (rv main_arg2) = m (d, rv main_arg2) := by
  refine VC_kept m d _ ?_ ?_ ?_ (by decide) (by decide) (by decide) (by decide)
  all_goals
    rw [← List.forall_iff_forall_mem]
    first | unfold opsA | unfold opsB | unfold opsC
    simp only [List.Forall, StableHlo.nullary_writes, StableHlo.unary_writes, StableHlo.binary_writes, StableHlo.reshape_writes, Finset.mem_singleton]
    decide

/-- The run, read at the arguments and at the result. -/
theorem run_main [∀ e, Nonempty (Elt F e)] (ρ : Dev nD → PrngReg) (h : InRange m) :
    θ_run (Cert.KernelIdeal.defs (F := F)) (Cert.KernelIdeal.threads (F := F)) ⟨m, fun _ => 0, ρ⟩ (fun r => (∀ d : Dev nD,
      r.2.mem (d, rv main_v23) = VC m d (rv main_v23) ∧ r.2.mem (d, rv main_arg0) = m (d, rv main_arg0)
        ∧ r.2.mem (d, rv main_arg1) = m (d, rv main_arg1) ∧ r.2.mem (d, rv main_arg2) = m (d, rv main_arg2)) ∧ r.2.sem = fun _ => 0) :=
  (θ_run (Cert.KernelIdeal.defs (F := F)) _ _).mono (fun r hr => ⟨fun d => ⟨hr.1 d _ (Finset.mem_filter.mpr ⟨StableHlo.devRef_mem_tcRefs _, by decide⟩),
      (hr.1 d _ (Finset.mem_filter.mpr ⟨StableHlo.devRef_mem_tcRefs _, by decide⟩)).trans (VC_arg0 m d),
      (hr.1 d _ (Finset.mem_filter.mpr ⟨StableHlo.devRef_mem_tcRefs _, by decide⟩)).trans (VC_arg1 m d),
      (hr.1 d _ (Finset.mem_filter.mpr ⟨StableHlo.devRef_mem_tcRefs _, by decide⟩)).trans (VC_arg2 m d)⟩, hr.2⟩)
    (run m ρ (ops_ok m h))

end Cert.KernelIdeal.Run

end
-- ==== Proof.Ideal.Out.lean ====
/-
  What the straight-through calls leave, and the result array as one function of the arguments.
-/
module

public import proofs.«01_k».proof.Proof.Ideal.Val
public import Idealize.ShloMosaic.Lib.Pipeline.ValueKit.Geometry

@[expose] public section

noncomputable section

namespace Cert.KernelIdeal.Run

open Cert.KernelIdeal Cert.KernelIdeal.Gen Cert.KernelIdeal.Tile

open Idealize.ShloMosaic Idealize.ShloMosaic.TcCoe
open Idealize.ShloMosaic.StableHlo (after)

variable {F : FTy → Type} [FloatOps F]
variable (m : (ℓ : Loc nD τ sig) → Buf (Elt F) ℓ)

/-- The straight-through combination of a half of `z` with the rows laid flat. -/
def comb (x : FVec F S32x128x1024 .f32) (y : FVec F S4194304 .f32) : FVec F S32x128x1024 .f32 := fun j =>
  FloatOps.addf (x j) (FloatOps.subf
    (y (ValueIdx.ix1 ⟨((j 0).val * 1024 + (j 2).val) * 128 + (j 1).val, by
      have h0 : (j 0).val < 32 := (j 0).isLt
      have h1 : (j 1).val < 128 := (j 1).isLt
      have h2 : (j 2).val < 1024 := (j 2).isLt
      omega⟩)) (x j))

/-- The windows' blocks at point `t`. -/
theorem idx1_0 : ∀ t : Fin cfg1.N, win1_0.index t = ![t.val, 0, 0] := (by decide +kernel : ∀ t : Fin grid1.N, _)
theorem idx1_1 : ∀ t : Fin cfg1.N, win1_1.index t = ![t.val] := (by decide +kernel : ∀ t : Fin grid1.N, _)
theorem idx1_2 : ∀ t : Fin cfg1.N, win1_2.index t = ![t.val, 0, 0] := (by decide +kernel : ∀ t : Fin grid1.N, _)

theorem emb1_0 (t : Fin cfg1.N) (j : S1x128x1024.Idx) : ((cfg1.win 0).blk t).view.emb j = ValueIdx.ix3 (n0 := 32) (n1 := 128) (n2 := 1024) t (j 1) (j 2) := by
  have e := idx1_0 t
  have h0 : (j 0).val < 1 := (j 0).isLt
  funext a; apply Fin.ext
  match a with
  | ⟨0, _⟩ => show win1_0.index t (0 : Fin 3) * 1 + 1 * (j 0).val = t.val; rw [e]; show t.val * 1 + _ = _; omega
  | ⟨1, _⟩ => show win1_0.index t (1 : Fin 3) * 128 + 1 * (j 1).val = (j 1).val; rw [e]; show 0 * 128 + _ = _; omega
  | ⟨2, _⟩ => show win1_0.index t (2 : Fin 3) * 1024 + 1 * (j 2).val = (j 2).val; rw [e]; show 0 * 1024 + _ = _; omega

theorem emb1_2 (t : Fin cfg1.N) (j : S1x128x1024.Idx) : ((cfg1.win 2).blk t).view.emb j = ValueIdx.ix3 (n0 := 32) (n1 := 128) (n2 := 1024) t (j 1) (j 2) := by
  have e := idx1_2 t
  have h0 : (j 0).val < 1 := (j 0).isLt
  funext a; apply Fin.ext
  match a with
  | ⟨0, _⟩ => show win1_2.index t (0 : Fin 3) * 1 + 1 * (j 0).val = t.val; rw [e]; show t.val * 1 + _ = _; omega
  | ⟨1, _⟩ => show win1_2.index t (1 : Fin 3) * 128 + 1 * (j 1).val = (j 1).val; rw [e]; show 0 * 128 + _ = _; omega
  | ⟨2, _⟩ => show win1_2.index t (2 : Fin 3) * 1024 + 1 * (j 2).val = (j 2).val; rw [e]; show 0 * 1024 + _ = _; omega

theorem emb1_1 (t : Fin cfg1.N) (j : S131072.Idx) (h : t.val * 131072 + (j 0).val < 4194304) :
    ((cfg1.win 1).blk t).view.emb j = ValueIdx.ix1 (n := 4194304) ⟨t.val * 131072 + (j 0).val, h⟩ := by
  have e := idx1_1 t
  funext a; apply Fin.ext
  match a with
  | ⟨0, _⟩ => show win1_1.index t (0 : Fin 1) * 131072 + 1 * (j 0).val = t.val * 131072 + (j 0).val; rw [e]; show t.val * 131072 + _ = _; omega

/-- The body's result at an index of its block. -/
theorem pay1 (x : Vec F S1x128x1024 .f32) (y : Vec F S131072 .f32) (j : S1x128x1024.Idx) :
    k1_pay1 x y j = FloatOps.addf (x j) (FloatOps.subf
      (y (ValueIdx.ix1 ⟨(j 2).val * 128 + (j 1).val, by
        have h1 : (j 1).val < 128 := (j 1).isLt
        have h2 : (j 2).val < 1024 := (j 2).isLt
        omega⟩)) (x j)) := by
  have h0 : (j 0).val < 1 := (j 0).isLt
  have h1 : (j 1).val < 128 := (j 1).isLt
  have h2 : (j 2).val < 1024 := (j 2).isLt
  unfold k1_pay1
  rw [shapeCast_apply _ _ j (ValueIdx.ix2 (n0 := 128) (n1 := 1024) (j 1) (j 2)) (by
    rw [Shape.rowMajor_val_two, Shape.rowMajor_val_three]
    show (j 1).val * 1024 + (j 2).val = ((j 0).val * 128 + (j 1).val) * 1024 + (j 2).val; omega)]
  show FloatOps.addf (shapeCast S128x1024 x shapeCasts_S1x128x1024_S128x1024 _)
    (FloatOps.subf (transpose S128x1024 [1, 0] (shapeCast S1024x128 (shapeCast S131072 y shapeCasts_S131072_S131072) shapeCasts_S131072_S1024x128) transposes_S1024x128_p1_0_S128x1024 _)
      (shapeCast S128x1024 x shapeCasts_S1x128x1024_S128x1024 _)) = _
  rw [shapeCast_apply x _ _ j (by
      rw [Shape.rowMajor_val_two, Shape.rowMajor_val_three]
      show ((j 0).val * 128 + (j 1).val) * 1024 + (j 2).val = (j 1).val * 1024 + (j 2).val; omega),
    transpose_apply _ _ _ _ (ValueIdx.ix2 (n0 := 1024) (n1 := 128) (j 2) (j 1)) (fun b => match b with | ⟨0, _⟩ => rfl | ⟨1, _⟩ => rfl),
    shapeCast_apply _ _ (ValueIdx.ix2 (n0 := 1024) (n1 := 128) (j 2) (j 1)) (ValueIdx.ix1 (n := 131072) ⟨(j 2).val * 128 + (j 1).val, by omega⟩) (by
      rw [Shape.rowMajor_val_two, Shape.rowMajor_val_one]; rfl),
    shapeCast_apply y _ _ (ValueIdx.ix1 (n := 131072) ⟨(j 2).val * 128 + (j 1).val, by omega⟩) rfl]

theorem flushed1 (Vv : Held F) (c : Dev nD) (t : Fin cfg1.N) : (dat1 Vv c).flushed 2 t
    = ((cfg1.win 2).blk t).view.read (Elt F) (comb (Vv c main_v6) (Vv c main_v12)) := by
  funext j
  have h1 : (j 1).val < 128 := (j 1).isLt
  have h2 : (j 2).val < 1024 := (j 2).isLt
  have ht : t.val < 32 := t.isLt
  show k1_pay1 (blk1 Vv c 0 t) (blk1 Vv c 1 t) j = comb (Vv c main_v6) (Vv c main_v12) (((cfg1.win 2).blk t).view.emb j)
  rw [pay1, emb1_2]
  have e0 : blk1 Vv c 0 t j = Vv c main_v6 (ValueIdx.ix3 (n0 := 32) (n1 := 128) (n2 := 1024) t (j 1) (j 2)) := by
    show Vv c main_v6 (((cfg1.win 0).blk t).view.emb j) = _
    rw [emb1_0]
  have e1 : blk1 Vv c 1 t (ValueIdx.ix1 (n := 131072) ⟨(j 2).val * 128 + (j 1).val, by omega⟩)
      = Vv c main_v12 (ValueIdx.ix1 (n := 4194304) ⟨(t.val * 1024 + (j 2).val) * 128 + (j 1).val, by omega⟩) := by
    show Vv c main_v12 (((cfg1.win 1).blk t).view.emb _) = _
    rw [emb1_1 t _ (by show t.val * 131072 + ((j 2).val * 128 + (j 1).val) < _; omega)]
    congr 2
    apply Fin.ext
    show t.val * 131072 + ((j 2).val * 128 + (j 1).val) = _
    simp only; omega
  unfold comb
  exact congrArg₂ (FloatOps.addf (F := F) (φ := .f32)) e0 (congrArg₂ (FloatOps.subf (F := F) (φ := .f32)) e1 e0)

theorem cover1 (i : S32x128x1024.Idx) : ∃ t : Fin cfg1.N, (cfg1.win 2).flush t = true ∧ i ∈ ((cfg1.win 2).blk t).view.set :=
  ⟨(⟨(i 0).val, (i 0).isLt⟩ : Fin cfg1.N), flush1_2 _, by
    have h := ((cfg1.win 2).blk (⟨(i 0).val, (i 0).isLt⟩ : Fin cfg1.N)).view.emb_mem_set (ValueIdx.ix3 (n0 := 1) (n1 := 128) (n2 := 1024) 0 (i 1) (i 2))
    rw [emb1_2 ⟨(i 0).val, (i 0).isLt⟩ (ValueIdx.ix3 (n0 := 1) (n1 := 128) (n2 := 1024) 0 (i 1) (i 2))] at h
    exact (ValueIdx.eq_ix3 i) ▸ h⟩

theorem final1 (Vv : Held F) (c : Dev nD) : (dat1 Vv c).arrAt 2 cfg1.N = comb (Vv c main_v6) (Vv c main_v12) :=
  (dat1 Vv c).arrAt_eq_of_cover 2 _ (fun t _ => flushed1 Vv c t) (cover1)

/-- The windows' blocks at point `t`. -/
theorem idx3_0 : ∀ t : Fin cfg3.N, win3_0.index t = ![t.val, 0, 0] := (by decide +kernel : ∀ t : Fin grid3.N, _)
theorem idx3_1 : ∀ t : Fin cfg3.N, win3_1.index t = ![t.val] := (by decide +kernel : ∀ t : Fin grid3.N, _)
theorem idx3_2 : ∀ t : Fin cfg3.N, win3_2.index t = ![t.val, 0, 0] := (by decide +kernel : ∀ t : Fin grid3.N, _)

theorem emb3_0 (t : Fin cfg3.N) (j : S1x128x1024.Idx) : ((cfg3.win 0).blk t).view.emb j = ValueIdx.ix3 (n0 := 32) (n1 := 128) (n2 := 1024) t (j 1) (j 2) := by
  have e := idx3_0 t
  have h0 : (j 0).val < 1 := (j 0).isLt
  funext a; apply Fin.ext
  match a with
  | ⟨0, _⟩ => show win3_0.index t (0 : Fin 3) * 1 + 1 * (j 0).val = t.val; rw [e]; show t.val * 1 + _ = _; omega
  | ⟨1, _⟩ => show win3_0.index t (1 : Fin 3) * 128 + 1 * (j 1).val = (j 1).val; rw [e]; show 0 * 128 + _ = _; omega
  | ⟨2, _⟩ => show win3_0.index t (2 : Fin 3) * 1024 + 1 * (j 2).val = (j 2).val; rw [e]; show 0 * 1024 + _ = _; omega

theorem emb3_2 (t : Fin cfg3.N) (j : S1x128x1024.Idx) : ((cfg3.win 2).blk t).view.emb j = ValueIdx.ix3 (n0 := 32) (n1 := 128) (n2 := 1024) t (j 1) (j 2) := by
  have e := idx3_2 t
  have h0 : (j 0).val < 1 := (j 0).isLt
  funext a; apply Fin.ext
  match a with
  | ⟨0, _⟩ => show win3_2.index t (0 : Fin 3) * 1 + 1 * (j 0).val = t.val; rw [e]; show t.val * 1 + _ = _; omega
  | ⟨1, _⟩ => show win3_2.index t (1 : Fin 3) * 128 + 1 * (j 1).val = (j 1).val; rw [e]; show 0 * 128 + _ = _; omega
  | ⟨2, _⟩ => show win3_2.index t (2 : Fin 3) * 1024 + 1 * (j 2).val = (j 2).val; rw [e]; show 0 * 1024 + _ = _; omega

theorem emb3_1 (t : Fin cfg3.N) (j : S131072.Idx) (h : t.val * 131072 + (j 0).val < 4194304) :
    ((cfg3.win 1).blk t).view.emb j = ValueIdx.ix1 (n := 4194304) ⟨t.val * 131072 + (j 0).val, h⟩ := by
  have e := idx3_1 t
  funext a; apply Fin.ext
  match a with
  | ⟨0, _⟩ => show win3_1.index t (0 : Fin 1) * 131072 + 1 * (j 0).val = t.val * 131072 + (j 0).val; rw [e]; show t.val * 131072 + _ = _; omega

/-- The body's result at an index of its block. -/
theorem pay3 (x : Vec F S1x128x1024 .f32) (y : Vec F S131072 .f32) (j : S1x128x1024.Idx) :
    k3_pay1 x y j = FloatOps.addf (x j) (FloatOps.subf
      (y (ValueIdx.ix1 ⟨(j 2).val * 128 + (j 1).val, by
        have h1 : (j 1).val < 128 := (j 1).isLt
        have h2 : (j 2).val < 1024 := (j 2).isLt
        omega⟩)) (x j)) := by
  have h0 : (j 0).val < 1 := (j 0).isLt
  have h1 : (j 1).val < 128 := (j 1).isLt
  have h2 : (j 2).val < 1024 := (j 2).isLt
  unfold k3_pay1
  rw [shapeCast_apply _ _ j (ValueIdx.ix2 (n0 := 128) (n1 := 1024) (j 1) (j 2)) (by
    rw [Shape.rowMajor_val_two, Shape.rowMajor_val_three]
    show (j 1).val * 1024 + (j 2).val = ((j 0).val * 128 + (j 1).val) * 1024 + (j 2).val; omega)]
  show FloatOps.addf (shapeCast S128x1024 x shapeCasts_S1x128x1024_S128x1024 _)
    (FloatOps.subf (transpose S128x1024 [1, 0] (shapeCast S1024x128 (shapeCast S131072 y shapeCasts_S131072_S131072) shapeCasts_S131072_S1024x128) transposes_S1024x128_p1_0_S128x1024 _)
      (shapeCast S128x1024 x shapeCasts_S1x128x1024_S128x1024 _)) = _
  rw [shapeCast_apply x _ _ j (by
      rw [Shape.rowMajor_val_two, Shape.rowMajor_val_three]
      show ((j 0).val * 128 + (j 1).val) * 1024 + (j 2).val = (j 1).val * 1024 + (j 2).val; omega),
    transpose_apply _ _ _ _ (ValueIdx.ix2 (n0 := 1024) (n1 := 128) (j 2) (j 1)) (fun b => match b with | ⟨0, _⟩ => rfl | ⟨1, _⟩ => rfl),
    shapeCast_apply _ _ (ValueIdx.ix2 (n0 := 1024) (n1 := 128) (j 2) (j 1)) (ValueIdx.ix1 (n := 131072) ⟨(j 2).val * 128 + (j 1).val, by omega⟩) (by
      rw [Shape.rowMajor_val_two, Shape.rowMajor_val_one]; rfl),
    shapeCast_apply y _ _ (ValueIdx.ix1 (n := 131072) ⟨(j 2).val * 128 + (j 1).val, by omega⟩) rfl]

theorem flushed3 (Vv : Held F) (c : Dev nD) (t : Fin cfg3.N) : (dat3 Vv c).flushed 2 t
    = ((cfg3.win 2).blk t).view.read (Elt F) (comb (Vv c main_v14) (Vv c main_v20)) := by
  funext j
  have h1 : (j 1).val < 128 := (j 1).isLt
  have h2 : (j 2).val < 1024 := (j 2).isLt
  have ht : t.val < 32 := t.isLt
  show k3_pay1 (blk3 Vv c 0 t) (blk3 Vv c 1 t) j = comb (Vv c main_v14) (Vv c main_v20) (((cfg3.win 2).blk t).view.emb j)
  rw [pay3, emb3_2]
  have e0 : blk3 Vv c 0 t j = Vv c main_v14 (ValueIdx.ix3 (n0 := 32) (n1 := 128) (n2 := 1024) t (j 1) (j 2)) := by
    show Vv c main_v14 (((cfg3.win 0).blk t).view.emb j) = _
    rw [emb3_0]
  have e1 : blk3 Vv c 1 t (ValueIdx.ix1 (n := 131072) ⟨(j 2).val * 128 + (j 1).val, by omega⟩)
      = Vv c main_v20 (ValueIdx.ix1 (n := 4194304) ⟨(t.val * 1024 + (j 2).val) * 128 + (j 1).val, by omega⟩) := by
    show Vv c main_v20 (((cfg3.win 1).blk t).view.emb _) = _
    rw [emb3_1 t _ (by show t.val * 131072 + ((j 2).val * 128 + (j 1).val) < _; omega)]
    congr 2
    apply Fin.ext
    show t.val * 131072 + ((j 2).val * 128 + (j 1).val) = _
    simp only; omega
  unfold comb
  exact congrArg₂ (FloatOps.addf (F := F) (φ := .f32)) e0 (congrArg₂ (FloatOps.subf (F := F) (φ := .f32)) e1 e0)

theorem cover3 (i : S32x128x1024.Idx) : ∃ t : Fin cfg3.N, (cfg3.win 2).flush t = true ∧ i ∈ ((cfg3.win 2).blk t).view.set :=
  ⟨(⟨(i 0).val, (i 0).isLt⟩ : Fin cfg3.N), flush3_2 _, by
    have h := ((cfg3.win 2).blk (⟨(i 0).val, (i 0).isLt⟩ : Fin cfg3.N)).view.emb_mem_set (ValueIdx.ix3 (n0 := 1) (n1 := 128) (n2 := 1024) 0 (i 1) (i 2))
    rw [emb3_2 ⟨(i 0).val, (i 0).isLt⟩ (ValueIdx.ix3 (n0 := 1) (n1 := 128) (n2 := 1024) 0 (i 1) (i 2))] at h
    exact (ValueIdx.eq_ix3 i) ▸ h⟩

theorem final3 (Vv : Held F) (c : Dev nD) : (dat3 Vv c).arrAt 2 cfg3.N = comb (Vv c main_v14) (Vv c main_v20) :=
  (dat3 Vv c).arrAt_eq_of_cover 2 _ (fun t _ => flushed3 Vv c t) (cover3)

/-! ## The result -/

/-- The problem's result from its own arrays: each channel `c` of a token is `z` plus the difference of its code's
    coordinate and `z`, the code being the one the token's index in codebook `c / 8` names. -/
def quant (z : FVec F S64x128x32x32 .f32) (cb : FVec F S16x512x8 .f32) (ix : IVec S64x32x32x16 32) : FVec F S64x128x32x32 .f32 := fun j =>
  FloatOps.addf (z j) (FloatOps.subf
    (cb (ValueIdx.ix3 (n0 := 16) (n1 := 512) (n2 := 8) ⟨(j 1).val / 8, by have h : (j 1).val < 128 := (j 1).isLt; omega⟩
      ⟨(ix (ValueIdx.ix4 (n0 := 64) (n1 := 32) (n2 := 32) (n3 := 16) (j 0) (j 2) (j 3) ⟨(j 1).val / 8, by have h : (j 1).val < 128 := (j 1).isLt; omega⟩)).toNat % 512, by omega⟩
      ⟨(j 1).val % 8, by omega⟩)) (z j))

theorem tab_apply (d : Dev nD) (p : S65536.Idx) (a b c : ℕ) (ha : a < 16) (hb : b < 512) (hc : c < 8) (h : (p 0).val = (a * 512 + b) * 8 + c) :
    VA m d (rv main_v1) p = cbOf m d (ValueIdx.ix3 (n0 := 16) (n1 := 512) (n2 := 8) ⟨a, ha⟩ ⟨b, hb⟩ ⟨c, hc⟩) := by
  refine Eq.trans ?_ (shapeCast_apply (cbOf m d) shapeCasts_S16x512x8_S65536 p (ValueIdx.ix3 (n0 := 16) (n1 := 512) (n2 := 8) ⟨a, ha⟩ ⟨b, hb⟩ ⟨c, hc⟩) (by
    rw [Shape.rowMajor_val_three, Shape.rowMajor_val_one, h]; rfl))
  unfold VA opsA V0
  after_results_simp
  rfl

/-- A gathered row's element. -/
theorem rows_apply (hr : InRange m) (d : Dev nD) (o : ℕ) (ho : o ≤ 32) (X : IVec S524288 32)
    (hX : ∀ i : S524288.Idx, X i = ixOf m d (ValueIdx.ix4 ⟨o + (i 0).val / 16384, by have h : (i 0).val < 524288 := (i 0).isLt; omega⟩ ⟨(i 0).val / 512 % 32, by omega⟩
        ⟨(i 0).val / 16 % 32, by omega⟩ ⟨(i 0).val % 16, by omega⟩) + BitVec.ofNat 32 ((i 0).val % 16 * 512))
    (n c p : ℕ) (hn : n < 32) (hc : c < 128) (hp : p < 1024) :
    rowsOf (VA m d (rv main_v1)) X (ValueIdx.ix1 (n := 4194304) ⟨(n * 1024 + p) * 128 + c, by omega⟩)
      = cbOf m d (ValueIdx.ix3 (n0 := 16) (n1 := 512) (n2 := 8) ⟨c / 8, by omega⟩
          ⟨(ixOf m d (ValueIdx.ix4 (n0 := 64) (n1 := 32) (n2 := 32) (n3 := 16) ⟨o + n, by omega⟩ ⟨p / 32, by omega⟩ ⟨p % 32, by omega⟩ ⟨c / 8, by omega⟩)).toNat % 512, by omega⟩
          ⟨c % 8, by omega⟩) := by
  have e : (X (at1 524288 (by decide) (((n * 1024 + p) * 128 + c) / 8))).toNat
      = (ixOf m d (ValueIdx.ix4 (n0 := 64) (n1 := 32) (n2 := 32) (n3 := 16) ⟨o + n, by omega⟩ ⟨p / 32, by omega⟩ ⟨p % 32, by omega⟩ ⟨c / 8, by omega⟩)).toNat + c / 8 * 512 := by
    have hv : ((at1 524288 (by decide) (((n * 1024 + p) * 128 + c) / 8)) 0).val = (n * 1024 + p) * 16 + c / 8 := by
      rw [at1_val]; omega
    rw [hX, toNat_gid _ (hr d _) _ (by omega)]
    congr 1
    · congr 2
      funext a; apply Fin.ext
      match a with
      | ⟨0, _⟩ => show o + ((at1 524288 (by decide) (((n * 1024 + p) * 128 + c) / 8)) 0).val / 16384 = o + n; rw [hv]; omega
      | ⟨1, _⟩ => show ((at1 524288 (by decide) (((n * 1024 + p) * 128 + c) / 8)) 0).val / 512 % 32 = p / 32; rw [hv]; omega
      | ⟨2, _⟩ => show ((at1 524288 (by decide) (((n * 1024 + p) * 128 + c) / 8)) 0).val / 16 % 32 = p % 32; rw [hv]; omega
      | ⟨3, _⟩ => show ((at1 524288 (by decide) (((n * 1024 + p) * 128 + c) / 8)) 0).val % 16 = c / 8; rw [hv]; omega
    · rw [hv]; omega
  have hlt := hr d (ValueIdx.ix4 (n0 := 64) (n1 := 32) (n2 := 32) (n3 := 16) ⟨o + n, by omega⟩ ⟨p / 32, by omega⟩ ⟨p % 32, by omega⟩ ⟨c / 8, by omega⟩)
  show VA m d (rv main_v1) (at1 65536 (by decide) ((X (at1 524288 (by decide) (((n * 1024 + p) * 128 + c) / 8))).toNat * 8 + ((n * 1024 + p) * 128 + c) % 8)) = _
  refine tab_apply m d _ _ _ _ _ _ _ ?_
  rw [at1_val, e]
  omega

/-- Half the result. -/
theorem half_apply (hr : InRange m) (d : Dev nD) (o : ℕ) (ho : o ≤ 32) (X : IVec S524288 32)
    (hX : ∀ i : S524288.Idx, X i = ixOf m d (ValueIdx.ix4 ⟨o + (i 0).val / 16384, by have h : (i 0).val < 524288 := (i 0).isLt; omega⟩ ⟨(i 0).val / 512 % 32, by omega⟩
        ⟨(i 0).val / 16 % 32, by omega⟩ ⟨(i 0).val % 16, by omega⟩) + BitVec.ofNat 32 ((i 0).val % 16 * 512))
    (hs : S64x128x1024.Slices ![o, 0, 0] S32x128x1024)
    (n c p : ℕ) (hn : n < 32) (hc : c < 128) (hp : p < 1024) :
    comb (extractStridedSlice S32x128x1024 ![o, 0, 0] (fun j => shapeCast S64x128x1024 (zOf m d) shapeCasts_S64x128x32x32_S64x128x1024 j) hs)
        (rowsOf (VA m d (rv main_v1)) X) (ValueIdx.ix3 (n0 := 32) (n1 := 128) (n2 := 1024) ⟨n, hn⟩ ⟨c, hc⟩ ⟨p, hp⟩)
      = quant (zOf m d) (cbOf m d) (ixOf m d) (ValueIdx.ix4 (n0 := 64) (n1 := 128) (n2 := 32) (n3 := 32) ⟨o + n, by omega⟩ ⟨c, hc⟩ ⟨p / 32, by omega⟩ ⟨p % 32, by omega⟩) := by
  have ez : extractStridedSlice S32x128x1024 ![o, 0, 0] (fun j => shapeCast S64x128x1024 (zOf m d) shapeCasts_S64x128x32x32_S64x128x1024 j) hs
      (ValueIdx.ix3 (n0 := 32) (n1 := 128) (n2 := 1024) ⟨n, hn⟩ ⟨c, hc⟩ ⟨p, hp⟩)
      = zOf m d (ValueIdx.ix4 (n0 := 64) (n1 := 128) (n2 := 32) (n3 := 32) ⟨o + n, by omega⟩ ⟨c, hc⟩ ⟨p / 32, by omega⟩ ⟨p % 32, by omega⟩) := by
    rw [extractStridedSlice_apply _ _ _ _ (ValueIdx.ix3 (n0 := 64) (n1 := 128) (n2 := 1024) ⟨o + n, by omega⟩ ⟨c, hc⟩ ⟨p, hp⟩)
      (fun a => match a with | ⟨0, _⟩ => rfl | ⟨1, _⟩ => (Nat.zero_add _).symm | ⟨2, _⟩ => (Nat.zero_add _).symm)]
    refine shapeCast_apply _ _ _ _ ?_
    rw [Shape.rowMajor_val_four, Shape.rowMajor_val_three]
    show (((o + n) * 128 + c) * 32 + p / 32) * 32 + p % 32 = ((o + n) * 128 + c) * 1024 + p
    omega
  have er := rows_apply m hr d o ho X hX n c p hn hc hp
  exact congrArg₂ (FloatOps.addf (F := F) (φ := .f32)) ez (congrArg₂ (FloatOps.subf (F := F) (φ := .f32)) er ez)

theorem VB_of_A (d : Dev nD) : VB2 m d (rv main_v13) = comb (VA m d (rv main_v6)) (rowsOf (VA m d (rv main_v1)) ((ops m).adr 0 d)) := by
  unfold VB2 VB1
  rw [Function.update_of_ne (by decide), Function.update_of_ne (by decide)]
  unfold VB
  rw [kept]
  · unfold VA2
    rw [Function.update_self, final1]
    unfold HA VA1
    rw [Function.update_self, Function.update_of_ne (by decide)]
    rfl
  · rw [← List.forall_iff_forall_mem]
    unfold opsB
    simp only [List.Forall, StableHlo.unary_writes, StableHlo.binary_writes, StableHlo.reshape_writes, Finset.mem_singleton]
    decide

theorem VB_of_B (d : Dev nD) : VB2 m d (rv main_v21) = comb (VB m d (rv main_v14)) (rowsOf (VA m d (rv main_v1)) ((ops m).adr 1 d)) := by
  unfold VB2
  rw [Function.update_self, final3]
  unfold HB VB1
  rw [Function.update_self, Function.update_of_ne (by decide)]
  rfl

/-- The two halves of `z`. -/
theorem z0_eq (d : Dev nD) : VA m d (rv main_v6) = extractStridedSlice S32x128x1024 ![0, 0, 0]
    (fun j => shapeCast S64x128x1024 (zOf m d) shapeCasts_S64x128x32x32_S64x128x1024 j) slices_S64x128x1024_S32x128x1024_0_0_0 := by
  unfold VA opsA V0
  after_results_simp
  rfl
theorem z1_eq (d : Dev nD) : VB m d (rv main_v14) = extractStridedSlice S32x128x1024 ![32, 0, 0]
    (fun j => shapeCast S64x128x1024 (zOf m d) shapeCasts_S64x128x32x32_S64x128x1024 j) slices_S64x128x1024_S32x128x1024_32_0_0 := by
  unfold VB opsB
  after_results_simp
  rw [VA2_of_ne m d _ (by decide) (by decide)]
  unfold VA opsA V0
  after_results_simp
  rfl

theorem VC_out (d : Dev nD) : VC m d (rv main_v23) = shapeCast S64x128x32x32 (concatenate S64x128x1024 0
    [⟨S32x128x1024, VB2 m d (rv main_v13)⟩, ⟨S32x128x1024, VB2 m d (rv main_v21)⟩] concatenates_S32x128x1024_S32x128x1024_S64x128x1024_d0)
    shapeCasts_S64x128x1024_S64x128x32x32 := by
  unfold VC opsC
  after_results_simp
  rfl

/-- The result array at the end. -/
theorem VC_quant (hr : InRange m) (d : Dev nD) : VC m d (rv main_v23) = quant (zOf m d) (cbOf m d) (ixOf m d) := by
  rw [VC_out]
  funext j
  have h0 : (j 0).val < 64 := (j 0).isLt
  have h1 : (j 1).val < 128 := (j 1).isLt
  have h2 : (j 2).val < 32 := (j 2).isLt
  have h3 : (j 3).val < 32 := (j 3).isLt
  rw [shapeCast_apply _ _ j (ValueIdx.ix3 (n0 := 64) (n1 := 128) (n2 := 1024) ⟨(j 0).val, h0⟩ ⟨(j 1).val, h1⟩ ⟨(j 2).val * 32 + (j 3).val, by omega⟩) (by
    rw [Shape.rowMajor_val_three, Shape.rowMajor_val_four]
    show ((j 0).val * 128 + (j 1).val) * 1024 + ((j 2).val * 32 + (j 3).val) = (((j 0).val * 128 + (j 1).val) * 32 + (j 2).val) * 32 + (j 3).val
    omega)]
  by_cases hlt : (j 0).val < 32
  · rw [concatenate_pair_apply_left (t := S64x128x1024) (s₁ := S32x128x1024) (s₂ := S32x128x1024) _ _ _ _ _ rfl
      (ValueIdx.ix3 (n0 := 32) (n1 := 128) (n2 := 1024) ⟨(j 0).val, hlt⟩ ⟨(j 1).val, h1⟩ ⟨(j 2).val * 32 + (j 3).val, by omega⟩)
      (fun b => match b with | ⟨0, _⟩ => rfl | ⟨1, _⟩ => rfl | ⟨2, _⟩ => rfl), VB_of_A, z0_eq]
    refine (half_apply m hr d 0 (by omega) _ (adr0_apply m d) _ (j 0).val (j 1).val _ hlt h1 (by omega)).trans (congrArg _ ?_)
    funext a; apply Fin.ext
    match a with
    | ⟨0, _⟩ => exact Nat.zero_add _
    | ⟨1, _⟩ => rfl
    | ⟨2, _⟩ => show ((j 2).val * 32 + (j 3).val) / 32 = (j 2).val; omega
    | ⟨3, _⟩ => show ((j 2).val * 32 + (j 3).val) % 32 = (j 3).val; omega
  · rw [concatenate_pair_apply_right (t := S64x128x1024) (s₁ := S32x128x1024) (s₂ := S32x128x1024) _ _ _ _ _ rfl rfl
      (ValueIdx.ix3 (n0 := 32) (n1 := 128) (n2 := 1024) ⟨(j 0).val - 32, by omega⟩ ⟨(j 1).val, h1⟩ ⟨(j 2).val * 32 + (j 3).val, by omega⟩)
      (fun b hb => match b with | ⟨0, _⟩ => absurd rfl hb | ⟨1, _⟩ => rfl | ⟨2, _⟩ => rfl)
      (by show (j 0).val - 32 + 32 = (j 0).val; omega), VB_of_B, z1_eq]
    refine (half_apply m hr d 32 (by omega) _ (adr1_apply m d) _ ((j 0).val - 32) (j 1).val _ (by omega) h1 (by omega)).trans (congrArg _ ?_)
    funext a; apply Fin.ext
    match a with
    | ⟨0, _⟩ => show 32 + ((j 0).val - 32) = (j 0).val; omega
    | ⟨1, _⟩ => rfl
    | ⟨2, _⟩ => show ((j 2).val * 32 + (j 3).val) / 32 = (j 2).val; omega
    | ⟨3, _⟩ => show ((j 2).val * 32 + (j 3).val) % 32 = (j 3).val; omega

end Cert.KernelIdeal.Run

end
-- ==== Proof.lean ====
/-
  The claims. Of the gather with its straight-through sum, both halves: the precondition read as a bound on every index,
  the two programs' runs, and the two results as the same function of the arguments. Of the search for the nearest codes
  with its loss: the programs' runs, and the two results equal when the arguments are finite.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Argmin.Frame
public import proofs.«01_k».proof.Proof.Gen.ArgminIdeal.Frame
public import proofs.«01_k».proof.Proof.Gen.ArgminReferenceIdeal
public import proofs.«01_k».proof.Proof.Agree
public import proofs.«01_k».proof.Proof.Ref
public import proofs.«01_k».proof.Proof.Out
public import proofs.«01_k».proof.Proof.Ideal.Out

@[expose] public section

noncomputable section

namespace Cert.Proof

open Idealize.ShloMosaic Idealize.SL.Sem

/-- The precondition's side conditions. -/
instance preFacts : Cert.Pre_indices_in_range.Facts where
  bcast_S_S64x32x32x16 := by decide
  reducesTo_S64x32x32x16_S_d0_1_2_3 := by decide
  h_S_ := by decide

/-- The precondition, all ones, bounds every index. -/
theorem lt_of_pre {F : FTy → Type} [FloatOps F] (z : FVec F Cert.Pre_indices_in_range.S64x128x32x32 .f32)
    (cb : FVec F Cert.Pre_indices_in_range.S16x512x8 .f32) (ix : IVec Cert.Pre_indices_in_range.S64x32x32x16 32)
    (h : Cert.Pre_indices_in_range.fn z cb ix = fun _ => 1#1) (j : Cert.Pre_indices_in_range.S64x32x32x16.Idx) : (ix j).toNat < 512 := by
  have : Subsingleton Cert.Pre_indices_in_range.S_.Idx := ⟨fun a b => funext fun i => i.elim0⟩
  have e := Host.reduce_andi_all _ _ _ _ _ (congrFun h (fun i => i.elim0)) j
  change IntOp.andi (IntOp.cmpi .sge (ix j) 0#32) (IntOp.cmpi .slt (ix j) 512#32) = 1#1 at e
  simp only [IntOp.cmpi, Cert.ReferenceIdeal.Run.andi_ofBool, Cert.ReferenceIdeal.Run.ofBool_eq_one_iff, Bool.and_eq_true, BitVec.sle_eq_decide,
    BitVec.slt_eq_decide, decide_eq_true_eq, BitVec.toInt_eq_toNat_cond, BitVec.toNat_ofNat, Nat.reducePow, Nat.reduceMod] at e
  omega

theorem frame_P : Cert.quiescent_Kernel := fun m g h =>
  (θ_run (Cert.Kernel.defs (F := Bits)) _ _).mono (fun r hr => ⟨fun c => (hr.1 c).2, hr.2⟩)
    (Cert.Kernel.Run.run_main (F := Bits) m g fun d => lt_of_pre _ _ _ (h d))

theorem frame_PI : Cert.quiescent_KernelIdeal := fun m g h =>
  (θ_run (Cert.KernelIdeal.defs (F := Ideal)) _ _).mono (fun r hr => ⟨fun c => (hr.1 c).2, hr.2⟩)
    (Cert.KernelIdeal.Run.run_main (F := Ideal) m g fun d => lt_of_pre _ _ _ (h d))

theorem frame_RI : Cert.quiescent_ReferenceIdeal := fun m g _ =>
  (θ_run (Cert.ReferenceIdeal.defs (F := Ideal)) _ _).mono (fun r hr => ⟨fun c => (hr.1 c).2, hr.2⟩)
    (Cert.ReferenceIdeal.Run.run_main (F := Ideal) m g)

theorem frame_RI_pre : Cert.quiescent_ReferenceIdeal_pre_indices_in_range := fun m g _ =>
  (θ_run (Cert.ReferenceIdeal.defs (F := Ideal)) _ _).mono (fun r hr => ⟨fun c => (hr.1 c).2, hr.2⟩)
    (Cert.ReferenceIdeal.Run.run_main (F := Ideal) m g)

theorem equal : Cert.algebraic_KernelIdeal_ReferenceIdeal := fun m g m' g' h ha => by
  have hr : Cert.KernelIdeal.Run.InRange m := fun d => lt_of_pre _ _ _ (h d)
  refine ⟨fun c => Cert.KernelIdeal.Run.quant (Cert.KernelIdeal.Run.zOf m c) (Cert.KernelIdeal.Run.cbOf m c) (Cert.KernelIdeal.Run.ixOf m c), ?_, ?_⟩
  · exact (θ_run (Cert.KernelIdeal.defs (F := Ideal)) _ _).mono
      (fun r hq c => ⟨(hq.1 c).1.trans (Cert.KernelIdeal.Run.VC_quant m hr c), (hq.1 c).2⟩) (Cert.KernelIdeal.Run.run_main (F := Ideal) m g hr)
  · refine (θ_run (Cert.ReferenceIdeal.defs (F := Ideal)) _ _).mono (fun r hq c => ⟨(hq.1 c).1.trans ?_, (hq.1 c).2⟩)
      (Cert.ReferenceIdeal.Run.run_main (F := Ideal) m' g')
    obtain ⟨h0, h1, h2⟩ := ha c
    refine (congr (congr (congrArg Cert.ReferenceIdeal.Run.refOut h0) h1) h2).trans ?_
    exact funext fun j => Cert.ReferenceIdeal.Run.refOut_apply _ (hr c) _ _ j

theorem frame_A : Cert.quiescent_Argmin := fun m g _ => Cert.Argmin.Gen.frame (F := Bits) m g

theorem frame_AI : Cert.quiescent_ArgminIdeal := fun m g _ => Cert.ArgminIdeal.Gen.frame (F := Ideal) m g

theorem frame_AI_pre : Cert.quiescent_ArgminIdeal_pre_finite := fun m g _ => Cert.ArgminIdeal.Gen.frame (F := Ideal) m g

theorem frame_ARI : Cert.quiescent_ArgminReferenceIdeal := fun m g _ =>
  (θ_run (Cert.ArgminReferenceIdeal.defs (F := Ideal)) _ _).mono (fun r hr => ⟨fun c => (hr.1 c).2.2, hr.2⟩)
    (Cert.ArgminReferenceIdeal.Run.run_main (F := Ideal) m g)

theorem frame_ARI_pre : Cert.quiescent_ArgminReferenceIdeal_pre_finite := fun m g _ => frame_ARI m g trivial

theorem equal_A : Cert.algebraic_ArgminIdeal_ArgminReferenceIdeal_pre_finite := fun m g m' g' h ha => by
  refine ⟨fun c => Cert.ArgminIdeal.Gen.W5 m g c (Proc.devRef .tc Cert.ArgminIdeal.main_v18),
    fun c => Cert.ArgminIdeal.Gen.W5 m g c (Proc.devRef .tc Cert.ArgminIdeal.main_v15), ?_, ?_⟩
  · exact (θ_run (Cert.ArgminIdeal.defs (F := Ideal)) _ _).mono (fun r hq c => hq.1 c) (Cert.ArgminIdeal.Row.run_main (F := Ideal) m g)
  · refine (θ_run (Cert.ArgminReferenceIdeal.defs (F := Ideal)) _ _).mono (fun r hq c => ?_) (Cert.ArgminReferenceIdeal.Run.run_main (F := Ideal) m' g')
    obtain ⟨h0, h1⟩ := ha c
    obtain ⟨hz, hcb⟩ := Cert.Agree.finite_of_pre _ _ (h c)
    obtain ⟨e0, e1, e2⟩ := hq.1 c
    refine ⟨e0.trans ?_, e1.trans ?_, e2⟩
    · exact (congr (congrArg Cert.ArgminReferenceIdeal.Run.refLoss h0) h1).trans (Cert.Agree.loss_eq _ _ hz hcb m g c rfl rfl).symm
    · exact (congr (congrArg Cert.ArgminReferenceIdeal.Run.refIdx h0) h1).trans (Cert.Agree.indices_eq _ _ hz hcb m g c rfl rfl).symm

theorem claim : Cert.Claim :=
  ⟨inferInstance, inferInstance, inferInstance, inferInstance, inferInstance, inferInstance, preFacts, Cert.Agree.preFacts,
    frame_P, frame_PI, frame_RI, frame_RI_pre, frame_A, frame_AI, frame_AI_pre, frame_ARI, frame_ARI_pre, trivial, equal, trivial, equal_A⟩

end Cert.Proof

end
